-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 [hPre_routed : Cert.Pre_routed.Facts] (m : (ℓ : Loc Cert.Kernel2.nD Cert.Kernel2.τ Cert.Kernel2.sig) → Buf (Elt Bits) ℓ) : Prop :=
  ∀ c : Dev Cert.Kernel2.nD,
    (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))) = (fun _ => 1#1)

def Pre_Kernel2Ideal [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_routed [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 [hPre_routed_down : Cert.Pre_routed_down.Facts] (m : (ℓ : Loc Cert.Kernel3.nD Cert.Kernel3.τ Cert.Kernel3.sig) → Buf (Elt Bits) ℓ) : Prop :=
  ∀ c : Dev Cert.Kernel3.nD,
    (Cert.Pre_routed_down.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4))) = (fun _ => 1#1)

def Pre_Kernel3Ideal [hPre_routed_down : Cert.Pre_routed_down.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_routed_down.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_routed_down [hPre_routed_down : Cert.Pre_routed_down.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_routed_down.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_router [hPre_finite_router : Cert.Pre_finite_router.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_router.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_router [hPre_finite_router : Cert.Pre_finite_router.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_router.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_above_bottom [hPre_above_bottom : Cert.Pre_above_bottom.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_above_bottom.fn (F := Ideal) (m ((c.tc : Thread Cert.Kernel7Ideal.nD Cert.Kernel7Ideal.τ).loc Cert.Kernel7Ideal.main_arg0))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_above_bottom [hPre_above_bottom : Cert.Pre_above_bottom.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_above_bottom.fn (F := Ideal) (m ((c.tc : Thread Cert.Reference7Ideal.nD Cert.Reference7Ideal.τ).loc Cert.Reference7Ideal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_routed : Cert.Pre_routed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_routed [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] [hPre_routed_down : Cert.Pre_routed_down.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] [hPre_routed_down : Cert.Pre_routed_down.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_routed_down [hReference3Ideal : Cert.Reference3Ideal.Facts] [hPre_routed_down : Cert.Pre_routed_down.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_routed_down m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Kernel6Ideal_pre_finite_router [hKernel6Ideal : Cert.Kernel6Ideal.Facts] [hPre_finite_router : Cert.Pre_finite_router.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_router m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Reference6Ideal_pre_finite_router [hReference6Ideal : Cert.Reference6Ideal.Facts] [hPre_finite_router : Cert.Pre_finite_router.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_router m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

def quiescent_Kernel7Ideal_pre_above_bottom [hKernel7Ideal : Cert.Kernel7Ideal.Facts] [hPre_above_bottom : Cert.Pre_above_bottom.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_above_bottom m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0))
      ∧ r.2.sem = fun _ => 0)

def quiescent_Reference7Ideal_pre_above_bottom [hReference7Ideal : Cert.Reference7Ideal.Facts] [hPre_above_bottom : Cert.Pre_above_bottom.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_above_bottom m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_on_used_rows [hKernel2Ideal : Cert.Kernel2Ideal.Facts] [hReference2Ideal : Cert.Reference2Ideal.Facts] [hPre_routed : Cert.Pre_routed.Facts] [hOn_used_rows : Cert.On_used_rows.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![73728, 2048]⟩ : Shape).Idx, (Cert.On_used_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) i = 1#1 → r.2.mem ((c.tc : Thread Cert.Kernel2Ideal.nD Cert.Kernel2Ideal.τ).loc Cert.Kernel2Ideal.main_v0) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![73728, 2048]⟩ : Shape).Idx, (Cert.On_used_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) i = 1#1 → r.2.mem ((c.tc : Thread Cert.Reference2Ideal.nD Cert.Reference2Ideal.τ).loc Cert.Reference2Ideal.main_v47) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_on_used_rows_down [hKernel3Ideal : Cert.Kernel3Ideal.Facts] [hReference3Ideal : Cert.Reference3Ideal.Facts] [hPre_routed_down : Cert.Pre_routed_down.Facts] [hOn_used_rows_down : Cert.On_used_rows_down.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          (∀ i : (⟨2, ![73728, 2048]⟩ : Shape).Idx, (Cert.On_used_rows_down.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) i = 1#1 → r.2.mem ((c.tc : Thread Cert.Kernel3Ideal.nD Cert.Kernel3Ideal.τ).loc Cert.Kernel3Ideal.main_v0) i = v0 c i)
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          (∀ i : (⟨2, ![73728, 2048]⟩ : Shape).Idx, (Cert.On_used_rows_down.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) i = 1#1 → r.2.mem ((c.tc : Thread Cert.Reference3Ideal.nD Cert.Reference3Ideal.τ).loc Cert.Reference3Ideal.main_v21) i = v0 c i)
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)) (v4 : (c : Dev Cert.Kernel4Ideal.nD) → Buf (Elt Ideal) ((c.tc : Thread Cert.Kernel4Ideal.nD Cert.Kernel4Ideal.τ).loc Cert.Kernel4Ideal.main_v0_4)) (v5 : (c : Dev Cert.Kernel4Ideal.nD) → Buf (Elt Ideal) ((c.tc : Thread Cert.Kernel4Ideal.nD Cert.Kernel4Ideal.τ).loc Cert.Kernel4Ideal.main_v0_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_v0_4) = v4 c
          ∧ r.2.mem ((c.tc : Thread Cert.Kernel4Ideal.nD Cert.Kernel4Ideal.τ).loc Cert.Kernel4Ideal.main_v0_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_v30) = v1 c
          ∧ r.2.mem ((c.tc : Thread Cert.Reference4Ideal.nD Cert.Reference4Ideal.τ).loc Cert.Reference4Ideal.main_v32) = v2 c
          ∧ r.2.mem ((c.tc : Thread Cert.Reference4Ideal.nD Cert.Reference4Ideal.τ).loc Cert.Reference4Ideal.main_v33) = v3 c
          ∧ r.2.mem ((c.tc : Thread Cert.Reference4Ideal.nD Cert.Reference4Ideal.τ).loc Cert.Reference4Ideal.main_v34) = v4 c
          ∧ r.2.mem ((c.tc : Thread Cert.Reference4Ideal.nD Cert.Reference4Ideal.τ).loc Cert.Reference4Ideal.main_v35) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v55) = v0 c
          ∧ r.2.mem ((c.tc : Thread Cert.Reference5Ideal.nD Cert.Reference5Ideal.τ).loc Cert.Reference5Ideal.main_v57) = v1 c
          ∧ r.2.mem ((c.tc : Thread Cert.Reference5Ideal.nD Cert.Reference5Ideal.τ).loc Cert.Reference5Ideal.main_v58) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def preserves_Kernel6_Kernel6Ideal : Prop :=
  True

def algebraic_Kernel6Ideal_Reference6Ideal_pre_finite_router [hKernel6Ideal : Cert.Kernel6Ideal.Facts] [hReference6Ideal : Cert.Reference6Ideal.Facts] [hPre_finite_router : Cert.Pre_finite_router.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_router m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v27) = v0 c
          ∧ r.2.mem ((c.tc : Thread Cert.Reference6Ideal.nD Cert.Reference6Ideal.τ).loc Cert.Reference6Ideal.main_v46) = v1 c
          ∧ r.2.mem ((c.tc : Thread Cert.Reference6Ideal.nD Cert.Reference6Ideal.τ).loc Cert.Reference6Ideal.main_v45) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def preserves_Kernel7_Kernel7Ideal : Prop :=
  True

def algebraic_Kernel7Ideal_Reference7Ideal_pre_above_bottom [hKernel7Ideal : Cert.Kernel7Ideal.Facts] [hReference7Ideal : Cert.Reference7Ideal.Facts] [hPre_above_bottom : Cert.Pre_above_bottom.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_above_bottom m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_indices) = v0 c
          ∧ r.2.mem ((c.tc : Thread Cert.Reference7Ideal.nD Cert.Reference7Ideal.τ).loc Cert.Reference7Ideal.main_v23) = v1 c
          ∧ r.2.mem ((c.tc : Thread Cert.Reference7Ideal.nD Cert.Reference7Ideal.τ).loc Cert.Reference7Ideal.main_v19) = v2 c
          ∧ r.2.mem ((c.tc : Thread Cert.Reference7Ideal.nD Cert.Reference7Ideal.τ).loc Cert.Reference7Ideal.main_v26) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_scores : Cert.Pre_finite_scores.Facts) (hPre_routed : Cert.Pre_routed.Facts) (hPre_routed_down : Cert.Pre_routed_down.Facts) (hPre_finite_router : Cert.Pre_finite_router.Facts) (hPre_above_bottom : Cert.Pre_above_bottom.Facts) (hOn_used_rows : Cert.On_used_rows.Facts) (hOn_used_rows_down : Cert.On_used_rows_down.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2) (hPre_routed := hPre_routed)
    ∧ quiescent_Kernel2Ideal (hKernel2Ideal := hKernel2Ideal) (hPre_routed := hPre_routed)
    ∧ quiescent_Reference2Ideal (hReference2Ideal := hReference2Ideal)
    ∧ quiescent_Reference2Ideal_pre_routed (hReference2Ideal := hReference2Ideal) (hPre_routed := hPre_routed)
    ∧ quiescent_Kernel3 (hKernel3 := hKernel3) (hPre_routed_down := hPre_routed_down)
    ∧ quiescent_Kernel3Ideal (hKernel3Ideal := hKernel3Ideal) (hPre_routed_down := hPre_routed_down)
    ∧ quiescent_Reference3Ideal (hReference3Ideal := hReference3Ideal)
    ∧ quiescent_Reference3Ideal_pre_routed_down (hReference3Ideal := hReference3Ideal) (hPre_routed_down := hPre_routed_down)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_router (hKernel6Ideal := hKernel6Ideal) (hPre_finite_router := hPre_finite_router)
    ∧ quiescent_Reference6Ideal (hReference6Ideal := hReference6Ideal)
    ∧ quiescent_Reference6Ideal_pre_finite_router (hReference6Ideal := hReference6Ideal) (hPre_finite_router := hPre_finite_router)
    ∧ quiescent_Kernel7 (hKernel7 := hKernel7)
    ∧ quiescent_Kernel7Ideal (hKernel7Ideal := hKernel7Ideal)
    ∧ quiescent_Kernel7Ideal_pre_above_bottom (hKernel7Ideal := hKernel7Ideal) (hPre_above_bottom := hPre_above_bottom)
    ∧ quiescent_Reference7Ideal (hReference7Ideal := hReference7Ideal)
    ∧ quiescent_Reference7Ideal_pre_above_bottom (hReference7Ideal := hReference7Ideal) (hPre_above_bottom := hPre_above_bottom)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal_on_used_rows (hKernel2Ideal := hKernel2Ideal) (hReference2Ideal := hReference2Ideal) (hPre_routed := hPre_routed) (hOn_used_rows := hOn_used_rows)
    ∧ preserves_Kernel3_Kernel3Ideal
    ∧ algebraic_Kernel3Ideal_Reference3Ideal_on_used_rows_down (hKernel3Ideal := hKernel3Ideal) (hReference3Ideal := hReference3Ideal) (hPre_routed_down := hPre_routed_down) (hOn_used_rows_down := hOn_used_rows_down)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_router (hKernel6Ideal := hKernel6Ideal) (hReference6Ideal := hReference6Ideal) (hPre_finite_router := hPre_finite_router)
    ∧ preserves_Kernel7_Kernel7Ideal
    ∧ algebraic_Kernel7Ideal_Reference7Ideal_pre_above_bottom (hKernel7Ideal := hKernel7Ideal) (hReference7Ideal := hReference7Ideal) (hPre_above_bottom := hPre_above_bottom)
-- ==== On_used_rows.lean ====
abbrev S288 : Shape := ⟨1, ![288]⟩
abbrev S1 : Shape := ⟨1, ![1]⟩
abbrev S73728x1024 : Shape := ⟨2, ![73728, 1024]⟩
abbrev S32x2048x4096 : Shape := ⟨3, ![32, 2048, 4096]⟩
abbrev S32x1x4096 : Shape := ⟨3, ![32, 1, 4096]⟩
abbrev S73728 : Shape := ⟨1, ![73728]⟩
abbrev S_ : Shape := ⟨0, ![]⟩
abbrev S73728x1 : Shape := ⟨2, ![73728, 1]⟩
abbrev S73728x2048 : Shape := ⟨2, ![73728, 2048]⟩

class Facts : Prop where
  shapeCasts_S1_S_ : S1.ShapeCasts S_
  bcast_S_S73728 : S_.BroadcastsInDim S73728 (![] : Fin 0 → Fin S73728.rank)
  bcast_S73728_S73728x1_0 : S73728.BroadcastsInDim S73728x1 (![0] : Fin 1 → Fin S73728x1.rank)
  bcast_S73728x1_S73728x2048_0_1 : S73728x1.BroadcastsInDim S73728x2048 (![0, 1] : Fin 2 → Fin S73728x2048.rank)

variable [Facts]

def fn {F : FTy → Type} [FloatOps F] (main_arg0 : IVec S288 32) (main_arg1 : IVec S1 32) (main_arg2 : IVec S73728x1024 32) (main_arg3 : FVec F S32x2048x4096 .bf16) (main_arg4 : FVec F S32x1x4096 .f32) : IVec S73728x2048 1 :=
  let main_v0 : IVec S73728 32 := iotaInDim S73728 32 0
  let main_v1 : IVec S_ 32 := shapeCast S_ main_arg1 shapeCasts_S1_S_
  let main_c : IVec S_ 32 := constantI S_ 32 256#32
  let main_v2 : IVec S_ 32 := muli main_v1 main_c
  let main_v3 : IVec S73728 32 := broadcastInDim S73728 ![] bcast_S_S73728 main_v2
  let main_v4 : IVec S73728 1 := cmpi .slt main_v0 main_v3
  let main_v5 : IVec S73728x1 1 := broadcastInDim S73728x1 ![0] bcast_S73728_S73728x1_0 main_v4
  let main_v6 : IVec S73728x2048 1 := broadcastInDim S73728x2048 ![0, 1] bcast_S73728x1_S73728x2048_0_1 main_v5
  main_v6
-- ==== On_used_rows_down.lean ====
abbrev S288 : Shape := ⟨1, ![288]⟩
abbrev S1 : Shape := ⟨1, ![1]⟩
abbrev S73728x2048 : Shape := ⟨2, ![73728, 2048]⟩
abbrev S32x2048x2048 : Shape := ⟨3, ![32, 2048, 2048]⟩
abbrev S32x1x2048 : Shape := ⟨3, ![32, 1, 2048]⟩
abbrev S73728 : Shape := ⟨1, ![73728]⟩
abbrev S_ : Shape := ⟨0, ![]⟩
abbrev S73728x1 : Shape := ⟨2, ![73728, 1]⟩

class Facts : Prop where
  shapeCasts_S1_S_ : S1.ShapeCasts S_
  bcast_S_S73728 : S_.BroadcastsInDim S73728 (![] : Fin 0 → Fin S73728.rank)
  bcast_S73728_S73728x1_0 : S73728.BroadcastsInDim S73728x1 (![0] : Fin 1 → Fin S73728x1.rank)
  bcast_S73728x1_S73728x2048_0_1 : S73728x1.BroadcastsInDim S73728x2048 (![0, 1] : Fin 2 → Fin S73728x2048.rank)

variable [Facts]

def fn {F : FTy → Type} [FloatOps F] (main_arg0 : IVec S288 32) (main_arg1 : IVec S1 32) (main_arg2 : FVec F S73728x2048 .bf16) (main_arg3 : FVec F S32x2048x2048 .bf16) (main_arg4 : FVec F S32x1x2048 .f32) : IVec S73728x2048 1 :=
  let main_v0 : IVec S73728 32 := iotaInDim S73728 32 0
  let main_v1 : IVec S_ 32 := shapeCast S_ main_arg1 shapeCasts_S1_S_
  let main_c : IVec S_ 32 := constantI S_ 32 256#32
  let main_v2 : IVec S_ 32 := muli main_v1 main_c
  let main_v3 : IVec S73728 32 := broadcastInDim S73728 ![] bcast_S_S73728 main_v2
  let main_v4 : IVec S73728 1 := cmpi .slt main_v0 main_v3
  let main_v5 : IVec S73728x1 1 := broadcastInDim S73728x1 ![0] bcast_S73728_S73728x1_0 main_v4
  let main_v6 : IVec S73728x2048 1 := broadcastInDim S73728x2048 ![0, 1] bcast_S73728x1_S73728x2048_0_1 main_v5
  main_v6
-- ==== Pre_above_bottom.lean ====
abbrev S16384x128 : Shape := ⟨2, ![16384, 128]⟩
abbrev S16384x32 : Shape := ⟨2, ![16384, 32]⟩
abbrev S_ : Shape := ⟨0, ![]⟩

class Facts : Prop where
  slices_S16384x128_S16384x32_0_0 : S16384x128.Slices ![0, 0] S16384x32
  bcast_S_S16384x32 : S_.BroadcastsInDim S16384x32 (![] : Fin 0 → Fin S16384x32.rank)
  reducesTo_S16384x32_S_d0_1 : S16384x32.ReducesTo [0, 1] S_
  h_S_ : 0 < S_.numel

variable [Facts]

def fn {F : FTy → Type} [FloatOps F] (main_arg0 : FVec F S16384x128 .f32) : IVec S_ 1 :=
  let main_v0 : FVec F S16384x32 .f32 := (extractStridedSlice S16384x32 ![0, 0] · slices_S16384x128_S16384x32_0_0) main_arg0
  let main_cst : FVec F S_ .f32 := constant S_ .f32 0xFF800000#32
  let main_v1 : FVec F S16384x32 .f32 := broadcastInDim S16384x32 ![] bcast_S_S16384x32 main_cst
  let main_v2 : IVec S16384x32 1 := cmpf .ogt main_v0 main_v1
  let main_c : IVec S_ 1 := constantI S_ 1 1#1
  let main_v3 : IVec S_ 1 := (fun x v => Host.reduce IntOp.andi x v reducesTo_S16384x32_S_d0_1 h_S_) main_v2 main_c
  main_v3
-- ==== Pre_finite_router.lean ====
abbrev S16384x1024 : Shape := ⟨2, ![16384, 1024]⟩
abbrev S1x1024 : Shape := ⟨2, ![1, 1024]⟩
abbrev S2048x2048 : Shape := ⟨2, ![2048, 2048]⟩
abbrev S16384x2048 : Shape := ⟨2, ![16384, 2048]⟩
abbrev S1x2048 : Shape := ⟨2, ![1, 2048]⟩
abbrev S2048x128 : Shape := ⟨2, ![2048, 128]⟩
abbrev S1x128 : Shape := ⟨2, ![1, 128]⟩
abbrev S_ : Shape := ⟨0, ![]⟩

class Facts : Prop where
  bcast_S_S1x2048 : S_.BroadcastsInDim S1x2048 (![] : Fin 0 → Fin S1x2048.rank)
  reducesTo_S1x2048_S_d0_1 : S1x2048.ReducesTo [0, 1] S_
  h_S_ : 0 < S_.numel
  bitsLt_bf16_f32 : FTy.bits .bf16 < FTy.bits .f32
  bcast_S_S2048x128 : S_.BroadcastsInDim S2048x128 (![] : Fin 0 → Fin S2048x128.rank)
  reducesTo_S2048x128_S_d0_1 : S2048x128.ReducesTo [0, 1] S_

variable [Facts]

def fn {F : FTy → Type} [FloatOps F] (main_arg0 : FVec F S16384x1024 .f32) (main_arg1 : FVec F S16384x1024 .f32) (main_arg2 : FVec F S1x1024 .f32) (main_arg3 : FVec F S1x1024 .f32) (main_arg4 : FVec F S2048x2048 .bf16) (main_arg5 : FVec F S16384x2048 .f32) (main_arg6 : FVec F S1x2048 .f32) (main_arg7 : FVec F S2048x128 .bf16) (main_arg8 : FVec F S2048x128 .bf16) (main_arg9 : FVec F S1x128 .f32) : IVec S_ 1 :=
  let main_v0 : FVec F S1x2048 .f32 := Host.absf main_arg6
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_c : IVec S_ 1 := constantI S_ 1 1#1
  let main_v3 : IVec S_ 1 := (fun x v => Host.reduce IntOp.andi x v reducesTo_S1x2048_S_d0_1 h_S_) main_v2 main_c
  let main_v4 : FVec F S2048x128 .f32 := (extf .f32 · bitsLt_bf16_f32) main_arg8
  let main_v5 : FVec F S2048x128 .f32 := Host.absf main_v4
  let main_cst_0 : FVec F S_ .f32 := constant S_ .f32 0x7F800000#32
  let main_v6 : FVec F S2048x128 .f32 := broadcastInDim S2048x128 ![] bcast_S_S2048x128 main_cst_0
  let main_v7 : IVec S2048x128 1 := cmpf .olt main_v5 main_v6
  let main_c_1 : IVec S_ 1 := constantI S_ 1 1#1
  let main_v8 : IVec S_ 1 := (fun x v => Host.reduce IntOp.andi x v reducesTo_S2048x128_S_d0_1 h_S_) main_v7 main_c_1
  let main_v9 : IVec S_ 1 := andi main_v3 main_v8
  main_v9
-- ==== Pre_finite_scores.lean ====
abbrev S16384x2048 : Shape := ⟨2, ![16384, 2048]⟩
abbrev S16384x1024 : Shape := ⟨2, ![16384, 1024]⟩
abbrev S_ : Shape := ⟨0, ![]⟩

class Facts : Prop where
  bitsLt_bf16_f32 : FTy.bits .bf16 < FTy.bits .f32
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x2048 .bf16) (main_arg1 : FVec F S16384x2048 .bf16) (main_arg2 : FVec F S16384x1024 .bf16) : IVec S_ 1 :=
  let main_v0 : FVec F S16384x2048 .f32 := (extf .f32 · bitsLt_bf16_f32) main_arg0
  let main_v1 : FVec F S16384x2048 .f32 := Host.absf main_v0
  let main_cst : FVec F S_ .f32 := constant S_ .f32 0x7F800000#32
  let main_v2 : FVec F S16384x2048 .f32 := broadcastInDim S16384x2048 ![] bcast_S_S16384x2048 main_cst
  let main_v3 : IVec S16384x2048 1 := cmpf .olt main_v1 main_v2
  let main_c : IVec S_ 1 := constantI S_ 1 1#1
  let main_v4 : IVec S_ 1 := (fun x v => Host.reduce IntOp.andi x v reducesTo_S16384x2048_S_d0_1 h_S_) main_v3 main_c
  let main_v5 : FVec F S16384x2048 .f32 := (extf .f32 · bitsLt_bf16_f32) main_arg1
  let main_v6 : FVec F S16384x2048 .f32 := Host.absf main_v5
  let main_cst_0 : FVec F S_ .f32 := constant S_ .f32 0x7F800000#32
  let main_v7 : FVec F S16384x2048 .f32 := broadcastInDim S16384x2048 ![] bcast_S_S16384x2048 main_cst_0
  let main_v8 : IVec S16384x2048 1 := cmpf .olt main_v6 main_v7
  let main_c_1 : IVec S_ 1 := constantI S_ 1 1#1
  let main_v9 : IVec S_ 1 := (fun x v => Host.reduce IntOp.andi x v reducesTo_S16384x2048_S_d0_1 h_S_) main_v8 main_c_1
  let main_v10 : IVec S_ 1 := andi main_v4 main_v9
  main_v10
-- ==== Pre_routed.lean ====
abbrev S288 : Shape := ⟨1, ![288]⟩
abbrev S1 : Shape := ⟨1, ![1]⟩
abbrev S73728x1024 : Shape := ⟨2, ![73728, 1024]⟩
abbrev S32x2048x4096 : Shape := ⟨3, ![32, 2048, 4096]⟩
abbrev S32x1x4096 : Shape := ⟨3, ![32, 1, 4096]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bcast_S_S288 : S_.BroadcastsInDim S288 (![] : Fin 0 → Fin S288.rank)
  reducesTo_S288_S_d0 : S288.ReducesTo [0] S_

variable [Facts]

def fn {F : FTy → Type} [FloatOps F] (main_arg0 : IVec S288 32) (main_arg1 : IVec S1 32) (main_arg2 : IVec S73728x1024 32) (main_arg3 : FVec F S32x2048x4096 .bf16) (main_arg4 : FVec F S32x1x4096 .f32) : IVec S_ 1 :=
  let main_c : IVec S_ 32 := constantI S_ 32 1#32
  let main_v0 : IVec S1 32 := broadcastInDim S1 ![] bcast_S_S1 main_c
  let main_v1 : IVec S1 1 := cmpi .sge main_arg1 main_v0
  let main_c_0 : IVec S_ 1 := constantI S_ 1 1#1
  let main_v2 : IVec S_ 1 := (fun x v => Host.reduce IntOp.andi x v reducesTo_S1_S_d0 h_S_) main_v1 main_c_0
  let main_c_1 : IVec S_ 32 := constantI S_ 32 288#32
  let main_v3 : IVec S1 32 := broadcastInDim S1 ![] bcast_S_S1 main_c_1
  let main_v4 : IVec S1 1 := cmpi .sle main_arg1 main_v3
  let main_c_2 : IVec S_ 1 := constantI S_ 1 1#1
  let main_v5 : IVec S_ 1 := (fun x v => Host.reduce IntOp.andi x v reducesTo_S1_S_d0 h_S_) main_v4 main_c_2
  let main_v6 : IVec S_ 1 := andi main_v2 main_v5
  let main_c_3 : IVec S_ 32 := constantI S_ 32 0#32
  let main_v7 : IVec S288 32 := broadcastInDim S288 ![] bcast_S_S288 main_c_3
  let main_v8 : IVec S288 1 := cmpi .sge main_arg0 main_v7
  let main_c_4 : IVec S_ 1 := constantI S_ 1 1#1
  let main_v9 : IVec S_ 1 := (fun x v => Host.reduce IntOp.andi x v reducesTo_S288_S_d0 h_S_) main_v8 main_c_4
  let main_v10 : IVec S_ 1 := andi main_v6 main_v9
  let main_c_5 : IVec S_ 32 := constantI S_ 32 32#32
  let main_v11 : IVec S288 32 := broadcastInDim S288 ![] bcast_S_S288 main_c_5
  let main_v12 : IVec S288 1 := cmpi .slt main_arg0 main_v11
  let main_c_6 : IVec S_ 1 := constantI S_ 1 1#1
  let main_v13 : IVec S_ 1 := (fun x v => Host.reduce IntOp.andi x v reducesTo_S288_S_d0 h_S_) main_v12 main_c_6
  let main_v14 : IVec S_ 1 := andi main_v10 main_v13
  main_v14
-- ==== Pre_routed_down.lean ====
abbrev S288 : Shape := ⟨1, ![288]⟩
abbrev S1 : Shape := ⟨1, ![1]⟩
abbrev S73728x2048 : Shape := ⟨2, ![73728, 2048]⟩
abbrev S32x2048x2048 : Shape := ⟨3, ![32, 2048, 2048]⟩
abbrev S32x1x2048 : Shape := ⟨3, ![32, 1, 2048]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bcast_S_S288 : S_.BroadcastsInDim S288 (![] : Fin 0 → Fin S288.rank)
  reducesTo_S288_S_d0 : S288.ReducesTo [0] S_

variable [Facts]

def fn {F : FTy → Type} [FloatOps F] (main_arg0 : IVec S288 32) (main_arg1 : IVec S1 32) (main_arg2 : FVec F S73728x2048 .bf16) (main_arg3 : FVec F S32x2048x2048 .bf16) (main_arg4 : FVec F S32x1x2048 .f32) : IVec S_ 1 :=
  let main_c : IVec S_ 32 := constantI S_ 32 1#32
  let main_v0 : IVec S1 32 := broadcastInDim S1 ![] bcast_S_S1 main_c
  let main_v1 : IVec S1 1 := cmpi .sge main_arg1 main_v0
  let main_c_0 : IVec S_ 1 := constantI S_ 1 1#1
  let main_v2 : IVec S_ 1 := (fun x v => Host.reduce IntOp.andi x v reducesTo_S1_S_d0 h_S_) main_v1 main_c_0
  let main_c_1 : IVec S_ 32 := constantI S_ 32 288#32
  let main_v3 : IVec S1 32 := broadcastInDim S1 ![] bcast_S_S1 main_c_1
  let main_v4 : IVec S1 1 := cmpi .sle main_arg1 main_v3
  let main_c_2 : IVec S_ 1 := constantI S_ 1 1#1
  let main_v5 : IVec S_ 1 := (fun x v => Host.reduce IntOp.andi x v reducesTo_S1_S_d0 h_S_) main_v4 main_c_2
  let main_v6 : IVec S_ 1 := andi main_v2 main_v5
  let main_c_3 : IVec S_ 32 := constantI S_ 32 0#32
  let main_v7 : IVec S288 32 := broadcastInDim S288 ![] bcast_S_S288 main_c_3
  let main_v8 : IVec S288 1 := cmpi .sge main_arg0 main_v7
  let main_c_4 : IVec S_ 1 := constantI S_ 1 1#1
  let main_v9 : IVec S_ 1 := (fun x v => Host.reduce IntOp.andi x v reducesTo_S288_S_d0 h_S_) main_v8 main_c_4
  let main_v10 : IVec S_ 1 := andi main_v6 main_v9
  let main_c_5 : IVec S_ 32 := constantI S_ 32 32#32
  let main_v11 : IVec S288 32 := broadcastInDim S288 ![] bcast_S_S288 main_c_5
  let main_v12 : IVec S288 1 := cmpi .slt main_arg0 main_v11
  let main_c_6 : IVec S_ 1 := constantI S_ 1 1#1
  let main_v13 : IVec S_ 1 := (fun x v => Host.reduce IntOp.andi x v reducesTo_S288_S_d0 h_S_) main_v12 main_c_6
  let main_v14 : IVec S_ 1 := andi main_v10 main_v13
  main_v14
-- ==== Kernel.lean ====
abbrev S16384x2048 : Shape := ⟨2, ![16384, 2048]⟩
abbrev S16384x1024 : Shape := ⟨2, ![16384, 1024]⟩
abbrev S512x256 : Shape := ⟨2, ![512, 256]⟩
abbrev S8192x256 : Shape := ⟨2, ![8192, 256]⟩
abbrev S8192x128 : Shape := ⟨2, ![8192, 128]⟩
abbrev S512x128 : Shape := ⟨2, ![512, 128]⟩
abbrev S512x1 : Shape := ⟨2, ![512, 1]⟩
abbrev S512x512 : Shape := ⟨2, ![512, 512]⟩
abbrev S512 : Shape := ⟨1, ![512]⟩

abbrev nBuf : Space → Nat
  | .hbm => 4
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x1024, .bf16⟩
  | .hbm, ⟨3, _⟩ => ⟨S16384x1024, .f32⟩
  | .local _ .vmem, ⟨0, _⟩ => ⟨S512x256, .bf16⟩
  | .local _ .vmem, ⟨1, _⟩ => ⟨S512x256, .bf16⟩
  | .local _ .vmem, ⟨2, _⟩ => ⟨S8192x256, .bf16⟩
  | .local _ .vmem, ⟨3, _⟩ => ⟨S8192x256, .bf16⟩
  | .local _ .vmem, ⟨4, _⟩ => ⟨S8192x128, .bf16⟩
  | .local _ .vmem, ⟨5, _⟩ => ⟨S8192x128, .bf16⟩
  | .local _ .vmem, ⟨6, _⟩ => ⟨S512x128, .f32⟩
  | .local _ .vmem, ⟨7, _⟩ => ⟨S512x128, .f32⟩
  | .local _ .vmem, ⟨8, _⟩ => ⟨S512x1, .f32⟩
  | .local _ .vmem, ⟨9, _⟩ => ⟨S512x1, .f32⟩
  | .local _ .vmem, ⟨10, _⟩ => ⟨S512x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 16], ![false, false, false]⟩

def k0_mult1 (i : grid0.Coords) : BitVec 32 :=
  let arg2 : BitVec 32 := BitVec.ofNat 32 (i 2).val
  let c512_i32 : BitVec 32 := 512#32
  let v1 : BitVec 32 := Scalar.muli arg2 c512_i32
  v1
def k0_off1 (i : grid0.Coords) : Fin 2 → Nat :=
  let arg2 : BitVec 32 := BitVec.ofNat 32 (i 2).val
  let c512_i32 : BitVec 32 := 512#32
  let v1 : BitVec 32 := Scalar.muli arg2 c512_i32
  let v2 : BitVec 32 := v1
  let v6 : Index := Scalar.indexCast v2
  let c0_1 : Index := 0#32
  ![v6.toNat, 0]
def k0_off2 (i : grid0.Coords) : Fin 2 → Nat :=
  let arg2 : BitVec 32 := BitVec.ofNat 32 (i 2).val
  let c512_i32 : BitVec 32 := 512#32
  let v1 : BitVec 32 := Scalar.muli arg2 c512_i32
  let v2 : BitVec 32 := v1
  let v11 : Index := Scalar.indexCast v2
  let c0_3 : Index := 0#32
  ![v11.toNat, 0]
@[reducible] def k0_t1_loop (i : grid0.Coords) : Scf.Loop 32 :=
  let c0_i32_13 : BitVec 32 := 0#32
  let arg2 : BitVec 32 := BitVec.ofNat 32 (i 2).val
  let v31 : BitVec 32 := Scalar.subi arg2 c0_i32_13
  let c1_i32 : BitVec 32 := 1#32
  let v33 : BitVec 32 := Scalar.divsi v31 c1_i32
  let v34 : BitVec 32 := Scalar.muli v33 c1_i32
  let v35 : BitVec 32 := Scalar.addi c0_i32_13 v34
  let c1_i32_14 : BitVec 32 := 1#32
  ⟨c0_i32_13, v35, c1_i32_14⟩
def k0_mult2 (i : grid0.Coords) (k0_t1 : Fin (k0_t1_loop i).trips) : BitVec 32 :=
  let c0_i32_13 : BitVec 32 := 0#32
  let c1_i32_14 : BitVec 32 := 1#32
  let arg10 : BitVec 32 := Scf.iv c0_i32_13 c1_i32_14 k0_t1
  let c512_i32_22 : BitVec 32 := 512#32
  let v41 : BitVec 32 := Scalar.muli arg10 c512_i32_22
  v41
def k0_off3 (i : grid0.Coords) (k0_t1 : Fin (k0_t1_loop i).trips) : Fin 2 → Nat :=
  let c0_i32_13 : BitVec 32 := 0#32
  let c1_i32_14 : BitVec 32 := 1#32
  let arg10 : BitVec 32 := Scf.iv c0_i32_13 c1_i32_14 k0_t1
  let c512_i32_22 : BitVec 32 := 512#32
  let v41 : BitVec 32 := Scalar.muli arg10 c512_i32_22
  let v42 : BitVec 32 := v41
  let v43 : Index := Scalar.indexCast v42
  let c0_23 : Index := 0#32
  ![v43.toNat, 0]
def k0_off4 (i : grid0.Coords) (k0_t1 : Fin (k0_t1_loop i).trips) : Fin 2 → Nat :=
  let c0_i32_13 : BitVec 32 := 0#32
  let c1_i32_14 : BitVec 32 := 1#32
  let arg10 : BitVec 32 := Scf.iv c0_i32_13 c1_i32_14 k0_t1
  let c512_i32_22 : BitVec 32 := 512#32
  let v41 : BitVec 32 := Scalar.muli arg10 c512_i32_22
  let v42 : BitVec 32 := v41
  let v46 : Index := Scalar.indexCast v42
  let c0_25 : Index := 0#32
  ![v46.toNat, 0]
@[reducible] def k0_t2_loop (i : grid0.Coords) : Scf.Loop 32 :=
  let c0_i32_13 : BitVec 32 := 0#32
  let arg2 : BitVec 32 := BitVec.ofNat 32 (i 2).val
  let v31 : BitVec 32 := Scalar.subi arg2 c0_i32_13
  let c1_i32 : BitVec 32 := 1#32
  let v33 : BitVec 32 := Scalar.divsi v31 c1_i32
  let v34 : BitVec 32 := Scalar.muli v33 c1_i32
  let v35 : BitVec 32 := Scalar.addi c0_i32_13 v34
  let v32 : BitVec 32 := Scalar.addi c0_i32_13 v31
  let c1_i32_15 : BitVec 32 := 1#32
  ⟨v35, v32, c1_i32_15⟩
def k0_mult3 (i : grid0.Coords) (k0_t2 : Fin (k0_t2_loop i).trips) : BitVec 32 :=
  let c0_i32_13 : BitVec 32 := 0#32
  let arg2 : BitVec 32 := BitVec.ofNat 32 (i 2).val
  let v31 : BitVec 32 := Scalar.subi arg2 c0_i32_13
  let c1_i32 : BitVec 32 := 1#32
  let v33 : BitVec 32 := Scalar.divsi v31 c1_i32
  let v34 : BitVec 32 := Scalar.muli v33 c1_i32
  let v35 : BitVec 32 := Scalar.addi c0_i32_13 v34
  let c1_i32_15 : BitVec 32 := 1#32
  let arg10 : BitVec 32 := Scf.iv v35 c1_i32_15 k0_t2
  let c512_i32_22 : BitVec 32 := 512#32
  let v41 : BitVec 32 := Scalar.muli arg10 c512_i32_22
  v41
def k0_off5 (i : grid0.Coords) (k0_t2 : Fin (k0_t2_loop i).trips) : Fin 2 → Nat :=
  let c0_i32_13 : BitVec 32 := 0#32
  let arg2 : BitVec 32 := BitVec.ofNat 32 (i 2).val
  let v31 : BitVec 32 := Scalar.subi arg2 c0_i32_13
  let c1_i32 : BitVec 32 := 1#32
  let v33 : BitVec 32 := Scalar.divsi v31 c1_i32
  let v34 : BitVec 32 := Scalar.muli v33 c1_i32
  let v35 : BitVec 32 := Scalar.addi c0_i32_13 v34
  let c1_i32_15 : BitVec 32 := 1#32
  let arg10 : BitVec 32 := Scf.iv v35 c1_i32_15 k0_t2
  let c512_i32_22 : BitVec 32 := 512#32
  let v41 : BitVec 32 := Scalar.muli arg10 c512_i32_22
  let v42 : BitVec 32 := v41
  let v43 : Index := Scalar.indexCast v42
  let c0_23 : Index := 0#32
  ![v43.toNat, 0]
def k0_off6 (i : grid0.Coords) (k0_t2 : Fin (k0_t2_loop i).trips) : Fin 2 → Nat :=
  let c0_i32_13 : BitVec 32 := 0#32
  let arg2 : BitVec 32 := BitVec.ofNat 32 (i 2).val
  let v31 : BitVec 32 := Scalar.subi arg2 c0_i32_13
  let c1_i32 : BitVec 32 := 1#32
  let v33 : BitVec 32 := Scalar.divsi v31 c1_i32
  let v34 : BitVec 32 := Scalar.muli v33 c1_i32
  let v35 : BitVec 32 := Scalar.addi c0_i32_13 v34
  let c1_i32_15 : BitVec 32 := 1#32
  let arg10 : BitVec 32 := Scf.iv v35 c1_i32_15 k0_t2
  let c512_i32_22 : BitVec 32 := 512#32
  let v41 : BitVec 32 := Scalar.muli arg10 c512_i32_22
  let v42 : BitVec 32 := v41
  let v46 : Index := Scalar.indexCast v42
  let c0_25 : Index := 0#32
  ![v46.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16384x2048 : Shape := ⟨2, ![16384, 2048]⟩
abbrev S16384x1024 : Shape := ⟨2, ![16384, 1024]⟩
abbrev S2x8192x8x256 : Shape := ⟨4, ![2, 8192, 8, 256]⟩
abbrev S2x8x8192x256 : Shape := ⟨4, ![2, 8, 8192, 256]⟩
abbrev S2x8x8192x8192 : Shape := ⟨4, ![2, 8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S2x8x8192 : Shape := ⟨3, ![2, 8, 8192]⟩
abbrev S2x8x8192x1 : Shape := ⟨4, ![2, 8, 8192, 1]⟩
abbrev S2x8192x8x128 : Shape := ⟨4, ![2, 8192, 8, 128]⟩
abbrev S2x8x8192x128 : Shape := ⟨4, ![2, 8, 8192, 128]⟩

abbrev nBuf : Space → Nat
  | .hbm => 46
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x1024, .bf16⟩
  | .hbm, ⟨3, _⟩ => ⟨S16384x2048, .f32⟩
  | .hbm, ⟨4, _⟩ => ⟨S2x8192x8x256, .f32⟩
  | .hbm, ⟨5, _⟩ => ⟨S2x8x8192x256, .f32⟩
  | .hbm, ⟨6, _⟩ => ⟨S16384x2048, .f32⟩
  | .hbm, ⟨7, _⟩ => ⟨S2x8192x8x256, .f32⟩
  | .hbm, ⟨8, _⟩ => ⟨S2x8x8192x256, .f32⟩
  | .hbm, ⟨9, _⟩ => ⟨S2x8x8192x8192, .f32⟩
  | .hbm, ⟨10, _⟩ => ⟨S8192, .i32⟩
  | .hbm, ⟨11, _⟩ => ⟨S1x8192, .i32⟩
  | .hbm, ⟨12, _⟩ => ⟨S8192x1, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S_, .f32⟩
  | .hbm, ⟨17, _⟩ => ⟨S_, .f32⟩
  | .hbm, ⟨18, _⟩ => ⟨S2x8x8192x8192, .i1⟩
  | .hbm, ⟨19, _⟩ => ⟨S2x8x8192x8192, .f32⟩
  | .hbm, ⟨20, _⟩ => ⟨S2x8x8192x8192, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S2x8x8192x8192, .f32⟩
  | .hbm, ⟨25, _⟩ => ⟨S2x8x8192x8192, .f32⟩
  | .hbm, ⟨26, _⟩ => ⟨S_, .f32⟩
  | .hbm, ⟨27, _⟩ => ⟨S2x8x8192, .f32⟩
  | .hbm, ⟨28, _⟩ => ⟨S_, .f32⟩
  | .hbm, ⟨29, _⟩ => ⟨S2x8x8192, .f32⟩
  | .hbm, ⟨30, _⟩ => ⟨S2x8x8192, .f32⟩
  | .hbm, ⟨31, _⟩ => ⟨S2x8x8192x1, .f32⟩
  | .hbm, ⟨32, _⟩ => ⟨S2x8x8192x8192, .f32⟩
  | .hbm, ⟨33, _⟩ => ⟨S2x8x8192x8192, .f32⟩
  | .hbm, ⟨34, _⟩ => ⟨S2x8x8192x8192, .f32⟩
  | .hbm, ⟨35, _⟩ => ⟨S_, .f32⟩
  | .hbm, ⟨36, _⟩ => ⟨S2x8x8192, .f32⟩
  | .hbm, ⟨37, _⟩ => ⟨S2x8x8192x1, .f32⟩
  | .hbm, ⟨38, _⟩ => ⟨S2x8x8192x8192, .f32⟩
  | .hbm, ⟨39, _⟩ => ⟨S2x8x8192x8192, .f32⟩
  | .hbm, ⟨40, _⟩ => ⟨S16384x1024, .f32⟩
  | .hbm, ⟨41, _⟩ => ⟨S2x8192x8x128, .f32⟩
  | .hbm, ⟨42, _⟩ => ⟨S2x8x8192x128, .f32⟩
  | .hbm, ⟨43, _⟩ => ⟨S2x8x8192x128, .f32⟩
  | .hbm, ⟨44, _⟩ => ⟨S2x8192x8x128, .f32⟩
  | .hbm, ⟨45, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel2.lean ====
abbrev S288 : Shape := ⟨1, ![288]⟩
abbrev S1 : Shape := ⟨1, ![1]⟩
abbrev S73728x1024 : Shape := ⟨2, ![73728, 1024]⟩
abbrev S32x2048x4096 : Shape := ⟨3, ![32, 2048, 4096]⟩
abbrev S32x1x4096 : Shape := ⟨3, ![32, 1, 4096]⟩
abbrev S73728x2048 : Shape := ⟨2, ![73728, 2048]⟩
abbrev S256x1024 : Shape := ⟨2, ![256, 1024]⟩
abbrev S1x2048x4096 : Shape := ⟨3, ![1, 2048, 4096]⟩
abbrev S1x1x4096 : Shape := ⟨3, ![1, 1, 4096]⟩
abbrev S256x2048 : Shape := ⟨2, ![256, 2048]⟩
abbrev S1x1024x512 : Shape := ⟨3, ![1, 1024, 512]⟩
abbrev S1024x512 : Shape := ⟨2, ![1024, 512]⟩
abbrev S256x512 : Shape := ⟨2, ![256, 512]⟩
abbrev S1x1x512 : Shape := ⟨3, ![1, 1, 512]⟩
abbrev S1x512 : Shape := ⟨2, ![1, 512]⟩

abbrev nBuf : Space → Nat
  | .hbm => 4
  | .vmem => 8
  | .smem => 2
  | _ => 0

abbrev bufTy : (tb : Table) → Fin (tcTables nBuf tb) → BufTy
  | .hbm, ⟨0, _⟩ => ⟨S73728x1024, .i32⟩
  | .hbm, ⟨1, _⟩ => ⟨S32x2048x4096, .bf16⟩
  | .hbm, ⟨2, _⟩ => ⟨S32x1x4096, .f32⟩
  | .hbm, ⟨3, _⟩ => ⟨S73728x2048, .bf16⟩
  | .local _ .vmem, ⟨0, _⟩ => ⟨S256x1024, .i32⟩
  | .local _ .vmem, ⟨1, _⟩ => ⟨S256x1024, .i32⟩
  | .local _ .vmem, ⟨2, _⟩ => ⟨S1x2048x4096, .bf16⟩
  | .local _ .vmem, ⟨3, _⟩ => ⟨S1x2048x4096, .bf16⟩
  | .local _ .vmem, ⟨4, _⟩ => ⟨S1x1x4096, .f32⟩
  | .local _ .vmem, ⟨5, _⟩ => ⟨S1x1x4096, .f32⟩
  | .local _ .vmem, ⟨6, _⟩ => ⟨S256x2048, .bf16⟩
  | .local _ .vmem, ⟨7, _⟩ => ⟨S256x2048, .bf16⟩
  | .local _ .smem, ⟨0, _⟩ => ⟨S288, .i32⟩
  | .local _ .smem, ⟨1, _⟩ => ⟨S1, .i32⟩
  | _, _ => ⟨S73728x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S256x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S288 : Shape := ⟨1, ![288]⟩
abbrev S1 : Shape := ⟨1, ![1]⟩
abbrev S73728x1024 : Shape := ⟨2, ![73728, 1024]⟩
abbrev S32x2048x4096 : Shape := ⟨3, ![32, 2048, 4096]⟩
abbrev S32x1x4096 : Shape := ⟨3, ![32, 1, 4096]⟩
abbrev S_ : Shape := ⟨0, ![]⟩
abbrev S73728x2048 : Shape := ⟨2, ![73728, 2048]⟩
abbrev S288x256x2048 : Shape := ⟨3, ![288, 256, 2048]⟩
abbrev S288x1 : Shape := ⟨2, ![288, 1]⟩
abbrev S288x2048x4096 : Shape := ⟨3, ![288, 2048, 4096]⟩
abbrev S288x256x4096 : Shape := ⟨3, ![288, 256, 4096]⟩
abbrev S288x1x4096 : Shape := ⟨3, ![288, 1, 4096]⟩

abbrev nBuf : Space → Nat
  | .hbm => 71
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S73728x1024, .i32⟩
  | .hbm, ⟨3, _⟩ => ⟨S32x2048x4096, .bf16⟩
  | .hbm, ⟨4, _⟩ => ⟨S32x1x4096, .f32⟩
  | .hbm, ⟨5, _⟩ => ⟨S_, .i32⟩
  | .hbm, ⟨6, _⟩ => ⟨S73728x1024, .i32⟩
  | .hbm, ⟨7, _⟩ => ⟨S73728x1024, .i32⟩
  | .hbm, ⟨8, _⟩ => ⟨S73728x1024, .i16⟩
  | .hbm, ⟨9, _⟩ => ⟨S73728x1024, .bf16⟩
  | .hbm, ⟨10, _⟩ => ⟨S_, .i32⟩
  | .hbm, ⟨11, _⟩ => ⟨S73728x1024, .i32⟩
  | .hbm, ⟨12, _⟩ => ⟨S73728x1024, .i32⟩
  | .hbm, ⟨13, _⟩ => ⟨S73728x1024, .i16⟩
  | .hbm, ⟨14, _⟩ => ⟨S73728x1024, .bf16⟩
  | .hbm, ⟨15, _⟩ => ⟨S73728x2048, .bf16⟩
  | .hbm, ⟨16, _⟩ => ⟨S73728x2048, .f32⟩
  | .hbm, ⟨17, _⟩ => ⟨S288x256x2048, .f32⟩
  | .hbm, ⟨18, _⟩ => ⟨S32x2048x4096, .f32⟩
  | .hbm, ⟨19, _⟩ => ⟨S_, .i32⟩
  | .hbm, ⟨20, _⟩ => ⟨S288, .i32⟩
  | .hbm, ⟨21, _⟩ => ⟨S288, .i1⟩
  | .hbm, ⟨22, _⟩ => ⟨S_, .i32⟩
  | .hbm, ⟨23, _⟩ => ⟨S288, .i32⟩
  | .hbm, ⟨24, _⟩ => ⟨S288, .i32⟩
  | .hbm, ⟨25, _⟩ => ⟨S288, .i32⟩
  | .hbm, ⟨26, _⟩ => ⟨S288x1, .i32⟩
  | .hbm, ⟨27, _⟩ => ⟨S288x2048x4096, .f32⟩
  | .hbm, ⟨28, _⟩ => ⟨S288x256x4096, .f32⟩
  | .hbm, ⟨29, _⟩ => ⟨S_, .i32⟩
  | .hbm, ⟨30, _⟩ => ⟨S288, .i32⟩
  | .hbm, ⟨31, _⟩ => ⟨S288, .i1⟩
  | .hbm, ⟨32, _⟩ => ⟨S_, .i32⟩
  | .hbm, ⟨33, _⟩ => ⟨S288, .i32⟩
  | .hbm, ⟨34, _⟩ => ⟨S288, .i32⟩
  | .hbm, ⟨35, _⟩ => ⟨S288, .i32⟩
  | .hbm, ⟨36, _⟩ => ⟨S288x1, .i32⟩
  | .hbm, ⟨37, _⟩ => ⟨S288x1x4096, .f32⟩
  | .hbm, ⟨38, _⟩ => ⟨S288x256x4096, .f32⟩
  | .hbm, ⟨39, _⟩ => ⟨S288x256x4096, .f32⟩
  | .hbm, ⟨40, _⟩ => ⟨S288x256x2048, .f32⟩
  | .hbm, ⟨41, _⟩ => ⟨S_, .f32⟩
  | .hbm, ⟨42, _⟩ => ⟨S288x256x2048, .f32⟩
  | .hbm, ⟨43, _⟩ => ⟨S288x256x2048, .f32⟩
  | .hbm, ⟨44, _⟩ => ⟨S288x256x2048, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S288x256x2048, .f32⟩
  | .hbm, ⟨49, _⟩ => ⟨S288x256x2048, .f32⟩
  | .hbm, ⟨50, _⟩ => ⟨S_, .f32⟩
  | .hbm, ⟨51, _⟩ => ⟨S288x256x2048, .f32⟩
  | .hbm, ⟨52, _⟩ => ⟨S288x256x2048, .f32⟩
  | .hbm, ⟨53, _⟩ => ⟨S_, .f32⟩
  | .hbm, ⟨54, _⟩ => ⟨S288x256x2048, .f32⟩
  | .hbm, ⟨55, _⟩ => ⟨S288x256x2048, .f32⟩
  | .hbm, ⟨56, _⟩ => ⟨S288x256x2048, .f32⟩
  | .hbm, ⟨57, _⟩ => ⟨S288x256x2048, .f32⟩
  | .hbm, ⟨58, _⟩ => ⟨S_, .f32⟩
  | .hbm, ⟨59, _⟩ => ⟨S288x256x2048, .f32⟩
  | .hbm, ⟨60, _⟩ => ⟨S288x256x2048, .f32⟩
  | .hbm, ⟨61, _⟩ => ⟨S_, .f32⟩
  | .hbm, ⟨62, _⟩ => ⟨S288x256x2048, .f32⟩
  | .hbm, ⟨63, _⟩ => ⟨S288x256x2048, .f32⟩
  | .hbm, ⟨64, _⟩ => ⟨S288x256x2048, .f32⟩
  | .hbm, ⟨65, _⟩ => ⟨S_, .f32⟩
  | .hbm, ⟨66, _⟩ => ⟨S288x256x2048, .f32⟩
  | .hbm, ⟨67, _⟩ => ⟨S288x256x2048, .f32⟩
  | .hbm, ⟨68, _⟩ => ⟨S288x256x2048, .f32⟩
  | .hbm, ⟨69, _⟩ => ⟨S73728x2048, .f32⟩
  | .hbm, ⟨70, _⟩ => ⟨S73728x2048, .bf16⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_cst_6 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_10 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩

abbrev nD : Nat := 1
abbrev τ : Topo := Topo.v7x

variable {F : FTy → Type} [FloatOps F]
-- ==== Kernel3.lean ====
abbrev S288 : Shape := ⟨1, ![288]⟩
abbrev S1 : Shape := ⟨1, ![1]⟩
abbrev S73728x2048 : Shape := ⟨2, ![73728, 2048]⟩
abbrev S32x2048x2048 : Shape := ⟨3, ![32, 2048, 2048]⟩
abbrev S32x1x2048 : Shape := ⟨3, ![32, 1, 2048]⟩
abbrev S256x2048 : Shape := ⟨2, ![256, 2048]⟩
abbrev S1x2048x2048 : Shape := ⟨3, ![1, 2048, 2048]⟩
abbrev S1x1x2048 : Shape := ⟨3, ![1, 1, 2048]⟩
abbrev S2048x2048 : Shape := ⟨2, ![2048, 2048]⟩
abbrev S1x2048 : Shape := ⟨2, ![1, 2048]⟩

abbrev nBuf : Space → Nat
  | .hbm => 4
  | .vmem => 8
  | .smem => 2
  | _ => 0

abbrev bufTy : (tb : Table) → Fin (tcTables nBuf tb) → BufTy
  | .hbm, ⟨0, _⟩ => ⟨S73728x2048, .bf16⟩
  | .hbm, ⟨1, _⟩ => ⟨S32x2048x2048, .bf16⟩
  | .hbm, ⟨2, _⟩ => ⟨S32x1x2048, .f32⟩
  | .hbm, ⟨3, _⟩ => ⟨S73728x2048, .bf16⟩
  | .local _ .vmem, ⟨0, _⟩ => ⟨S256x2048, .bf16⟩
  | .local _ .vmem, ⟨1, _⟩ => ⟨S256x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S1x1x2048, .f32⟩
  | .local _ .vmem, ⟨5, _⟩ => ⟨S1x1x2048, .f32⟩
  | .local _ .vmem, ⟨6, _⟩ => ⟨S256x2048, .bf16⟩
  | .local _ .vmem, ⟨7, _⟩ => ⟨S256x2048, .bf16⟩
  | .local _ .smem, ⟨0, _⟩ => ⟨S288, .i32⟩
  | .local _ .smem, ⟨1, _⟩ => ⟨S1, .i32⟩
  | _, _ => ⟨S73728x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S288 : Shape := ⟨1, ![288]⟩
abbrev S1 : Shape := ⟨1, ![1]⟩
abbrev S73728x2048 : Shape := ⟨2, ![73728, 2048]⟩
abbrev S32x2048x2048 : Shape := ⟨3, ![32, 2048, 2048]⟩
abbrev S32x1x2048 : Shape := ⟨3, ![32, 1, 2048]⟩
abbrev S288x256x2048 : Shape := ⟨3, ![288, 256, 2048]⟩
abbrev S_ : Shape := ⟨0, ![]⟩
abbrev S288x1 : Shape := ⟨2, ![288, 1]⟩
abbrev S288x2048x2048 : Shape := ⟨3, ![288, 2048, 2048]⟩
abbrev S288x1x2048 : Shape := ⟨3, ![288, 1, 2048]⟩

abbrev nBuf : Space → Nat
  | .hbm => 31
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S73728x2048, .bf16⟩
  | .hbm, ⟨3, _⟩ => ⟨S32x2048x2048, .bf16⟩
  | .hbm, ⟨4, _⟩ => ⟨S32x1x2048, .f32⟩
  | .hbm, ⟨5, _⟩ => ⟨S73728x2048, .f32⟩
  | .hbm, ⟨6, _⟩ => ⟨S288x256x2048, .f32⟩
  | .hbm, ⟨7, _⟩ => ⟨S32x2048x2048, .f32⟩
  | .hbm, ⟨8, _⟩ => ⟨S_, .i32⟩
  | .hbm, ⟨9, _⟩ => ⟨S288, .i32⟩
  | .hbm, ⟨10, _⟩ => ⟨S288, .i1⟩
  | .hbm, ⟨11, _⟩ => ⟨S_, .i32⟩
  | .hbm, ⟨12, _⟩ => ⟨S288, .i32⟩
  | .hbm, ⟨13, _⟩ => ⟨S288, .i32⟩
  | .hbm, ⟨14, _⟩ => ⟨S288, .i32⟩
  | .hbm, ⟨15, _⟩ => ⟨S288x1, .i32⟩
  | .hbm, ⟨16, _⟩ => ⟨S288x2048x2048, .f32⟩
  | .hbm, ⟨17, _⟩ => ⟨S288x256x2048, .f32⟩
  | .hbm, ⟨18, _⟩ => ⟨S_, .i32⟩
  | .hbm, ⟨19, _⟩ => ⟨S288, .i32⟩
  | .hbm, ⟨20, _⟩ => ⟨S288, .i1⟩
  | .hbm, ⟨21, _⟩ => ⟨S_, .i32⟩
  | .hbm, ⟨22, _⟩ => ⟨S288, .i32⟩
  | .hbm, ⟨23, _⟩ => ⟨S288, .i32⟩
  | .hbm, ⟨24, _⟩ => ⟨S288, .i32⟩
  | .hbm, ⟨25, _⟩ => ⟨S288x1, .i32⟩
  | .hbm, ⟨26, _⟩ => ⟨S288x1x2048, .f32⟩
  | .hbm, ⟨27, _⟩ => ⟨S288x256x2048, .f32⟩
  | .hbm, ⟨28, _⟩ => ⟨S288x256x2048, .f32⟩
  | .hbm, ⟨29, _⟩ => ⟨S73728x2048, .f32⟩
  | .hbm, ⟨30, _⟩ => ⟨S73728x2048, .bf16⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel4.lean ====
abbrev S16384x2048 : Shape := ⟨2, ![16384, 2048]⟩
abbrev S1x2048 : Shape := ⟨2, ![1, 2048]⟩
abbrev S2048x4608 : Shape := ⟨2, ![2048, 4608]⟩
abbrev S8192x256 : Shape := ⟨2, ![8192, 256]⟩
abbrev S16384x1024 : Shape := ⟨2, ![16384, 1024]⟩
abbrev S16384x512 : Shape := ⟨2, ![16384, 512]⟩
abbrev S16384x256 : Shape := ⟨2, ![16384, 256]⟩
abbrev S512x2048 : Shape := ⟨2, ![512, 2048]⟩
abbrev S512x256 : Shape := ⟨2, ![512, 256]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S2048x1024 : Shape := ⟨2, ![2048, 1024]⟩
abbrev S2048x512 : Shape := ⟨2, ![2048, 512]⟩
abbrev S2048x256 : Shape := ⟨2, ![2048, 256]⟩

abbrev nBuf : Space → Nat
  | .hbm => 11
  | .vmem => 20
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x4608, .bf16⟩
  | .hbm, ⟨3, _⟩ => ⟨S8192x256, .f32⟩
  | .hbm, ⟨4, _⟩ => ⟨S8192x256, .f32⟩
  | .hbm, ⟨5, _⟩ => ⟨S16384x1024, .bf16⟩
  | .hbm, ⟨6, _⟩ => ⟨S16384x1024, .bf16⟩
  | .hbm, ⟨7, _⟩ => ⟨S16384x1024, .bf16⟩
  | .hbm, ⟨8, _⟩ => ⟨S16384x512, .f32⟩
  | .hbm, ⟨9, _⟩ => ⟨S16384x512, .f32⟩
  | .hbm, ⟨10, _⟩ => ⟨S16384x256, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x4608, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x256, .bf16⟩
  | .local _ .vmem, ⟨19, _⟩ => ⟨S512x256, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S16384x2048 : Shape := ⟨2, ![16384, 2048]⟩
abbrev S1x2048 : Shape := ⟨2, ![1, 2048]⟩
abbrev S2048x4608 : Shape := ⟨2, ![2048, 4608]⟩
abbrev S8192x256 : Shape := ⟨2, ![8192, 256]⟩
abbrev S_ : Shape := ⟨0, ![]⟩
abbrev S16384 : Shape := ⟨1, ![16384]⟩
abbrev S16384x1 : Shape := ⟨2, ![16384, 1]⟩
abbrev S16384x4608 : Shape := ⟨2, ![16384, 4608]⟩
abbrev S1x8192x1x256 : Shape := ⟨4, ![1, 8192, 1, 256]⟩
abbrev S2x8192x1x256 : Shape := ⟨4, ![2, 8192, 1, 256]⟩
abbrev S16384x256 : Shape := ⟨2, ![16384, 256]⟩
abbrev S16384x1024 : Shape := ⟨2, ![16384, 1024]⟩
abbrev S16384x512 : Shape := ⟨2, ![16384, 512]⟩

abbrev nBuf : Space → Nat
  | .hbm => 45
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x4608, .bf16⟩
  | .hbm, ⟨3, _⟩ => ⟨S8192x256, .f32⟩
  | .hbm, ⟨4, _⟩ => ⟨S8192x256, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S2048x4608, .f32⟩
  | .hbm, ⟨21, _⟩ => ⟨S16384x4608, .f32⟩
  | .hbm, ⟨22, _⟩ => ⟨S1x8192x1x256, .f32⟩
  | .hbm, ⟨23, _⟩ => ⟨S2x8192x1x256, .f32⟩
  | .hbm, ⟨24, _⟩ => ⟨S16384x256, .f32⟩
  | .hbm, ⟨25, _⟩ => ⟨S1x8192x1x256, .f32⟩
  | .hbm, ⟨26, _⟩ => ⟨S2x8192x1x256, .f32⟩
  | .hbm, ⟨27, _⟩ => ⟨S16384x256, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S16384x256, .f32⟩
  | .hbm, ⟨33, _⟩ => ⟨S16384x256, .f32⟩
  | .hbm, ⟨34, _⟩ => ⟨S16384x256, .f32⟩
  | .hbm, ⟨35, _⟩ => ⟨S16384x256, .f32⟩
  | .hbm, ⟨36, _⟩ => ⟨S16384x256, .f32⟩
  | .hbm, ⟨37, _⟩ => ⟨S16384x1024, .bf16⟩
  | .hbm, ⟨38, _⟩ => ⟨S16384x1024, .f32⟩
  | .hbm, ⟨39, _⟩ => ⟨S16384x1024, .bf16⟩
  | .hbm, ⟨40, _⟩ => ⟨S16384x1024, .f32⟩
  | .hbm, ⟨41, _⟩ => ⟨S16384x1024, .bf16⟩
  | .hbm, ⟨42, _⟩ => ⟨S16384x512, .f32⟩
  | .hbm, ⟨43, _⟩ => ⟨S16384x512, .f32⟩
  | .hbm, ⟨44, _⟩ => ⟨S16384x256, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== Kernel5.lean ====
abbrev S16384x512 : Shape := ⟨2, ![16384, 512]⟩
abbrev S1x512 : Shape := ⟨2, ![1, 512]⟩
abbrev S512x2048 : Shape := ⟨2, ![512, 2048]⟩
abbrev S512x1024 : Shape := ⟨2, ![512, 1024]⟩
abbrev S16384x256 : Shape := ⟨2, ![16384, 256]⟩
abbrev S8192x256 : Shape := ⟨2, ![8192, 256]⟩
abbrev S16384x2048 : Shape := ⟨2, ![16384, 2048]⟩
abbrev S16384x1024 : Shape := ⟨2, ![16384, 1024]⟩
abbrev S512x512 : Shape := ⟨2, ![512, 512]⟩
abbrev S512x256 : Shape := ⟨2, ![512, 256]⟩
abbrev S512 : Shape := ⟨1, ![512]⟩
abbrev S512x1 : Shape := ⟨2, ![512, 1]⟩

abbrev nBuf : Space → Nat
  | .hbm => 14
  | .vmem => 22
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1x512, .f32⟩
  | .hbm, ⟨3, _⟩ => ⟨S1x512, .f32⟩
  | .hbm, ⟨4, _⟩ => ⟨S512x2048, .bf16⟩
  | .hbm, ⟨5, _⟩ => ⟨S512x2048, .bf16⟩
  | .hbm, ⟨6, _⟩ => ⟨S512x2048, .bf16⟩
  | .hbm, ⟨7, _⟩ => ⟨S512x1024, .bf16⟩
  | .hbm, ⟨8, _⟩ => ⟨S16384x256, .bf16⟩
  | .hbm, ⟨9, _⟩ => ⟨S8192x256, .f32⟩
  | .hbm, ⟨10, _⟩ => ⟨S8192x256, .f32⟩
  | .hbm, ⟨11, _⟩ => ⟨S16384x2048, .bf16⟩
  | .hbm, ⟨12, _⟩ => ⟨S16384x2048, .bf16⟩
  | .hbm, ⟨13, _⟩ => ⟨S16384x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x1024, .bf16⟩
  | .local _ .vmem, ⟨10, _⟩ => ⟨S512x256, .bf16⟩
  | .local _ .vmem, ⟨11, _⟩ => ⟨S512x256, .bf16⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x2048, .bf16⟩
  | .local _ .vmem, ⟨17, _⟩ => ⟨S512x2048, .bf16⟩
  | .local _ .vmem, ⟨18, _⟩ => ⟨S512x2048, .bf16⟩
  | .local _ .vmem, ⟨19, _⟩ => ⟨S512x2048, .bf16⟩
  | .local _ .vmem, ⟨20, _⟩ => ⟨S512x1024, .bf16⟩
  | .local _ .vmem, ⟨21, _⟩ => ⟨S512x1024, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference5Ideal.lean ====
abbrev S16384x512 : Shape := ⟨2, ![16384, 512]⟩
abbrev S1x512 : Shape := ⟨2, ![1, 512]⟩
abbrev S512x2048 : Shape := ⟨2, ![512, 2048]⟩
abbrev S512x1024 : Shape := ⟨2, ![512, 1024]⟩
abbrev S16384x256 : Shape := ⟨2, ![16384, 256]⟩
abbrev S8192x256 : Shape := ⟨2, ![8192, 256]⟩
abbrev S_ : Shape := ⟨0, ![]⟩
abbrev S16384 : Shape := ⟨1, ![16384]⟩
abbrev S16384x1 : Shape := ⟨2, ![16384, 1]⟩
abbrev S1x8192x1x256 : Shape := ⟨4, ![1, 8192, 1, 256]⟩
abbrev S2x8192x1x256 : Shape := ⟨4, ![2, 8192, 1, 256]⟩
abbrev S16384x1x256 : Shape := ⟨3, ![16384, 1, 256]⟩
abbrev S16384x2048 : Shape := ⟨2, ![16384, 2048]⟩
abbrev S16384x8x256 : Shape := ⟨3, ![16384, 8, 256]⟩
abbrev S16384x1024 : Shape := ⟨2, ![16384, 1024]⟩

abbrev nBuf : Space → Nat
  | .hbm => 77
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1x512, .f32⟩
  | .hbm, ⟨3, _⟩ => ⟨S1x512, .f32⟩
  | .hbm, ⟨4, _⟩ => ⟨S512x2048, .bf16⟩
  | .hbm, ⟨5, _⟩ => ⟨S512x2048, .bf16⟩
  | .hbm, ⟨6, _⟩ => ⟨S512x2048, .bf16⟩
  | .hbm, ⟨7, _⟩ => ⟨S512x1024, .bf16⟩
  | .hbm, ⟨8, _⟩ => ⟨S16384x256, .bf16⟩
  | .hbm, ⟨9, _⟩ => ⟨S8192x256, .f32⟩
  | .hbm, ⟨10, _⟩ => ⟨S8192x256, .f32⟩
  | .hbm, ⟨11, _⟩ => ⟨S16384x512, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S1x8192x1x256, .f32⟩
  | .hbm, ⟨42, _⟩ => ⟨S2x8192x1x256, .f32⟩
  | .hbm, ⟨43, _⟩ => ⟨S16384x256, .f32⟩
  | .hbm, ⟨44, _⟩ => ⟨S16384x1x256, .f32⟩
  | .hbm, ⟨45, _⟩ => ⟨S1x8192x1x256, .f32⟩
  | .hbm, ⟨46, _⟩ => ⟨S2x8192x1x256, .f32⟩
  | .hbm, ⟨47, _⟩ => ⟨S16384x256, .f32⟩
  | .hbm, ⟨48, _⟩ => ⟨S16384x1x256, .f32⟩
  | .hbm, ⟨49, _⟩ => ⟨S512x2048, .f32⟩
  | .hbm, ⟨50, _⟩ => ⟨S16384x2048, .f32⟩
  | .hbm, ⟨51, _⟩ => ⟨S16384x8x256, .f32⟩
  | .hbm, ⟨52, _⟩ => ⟨S512x2048, .f32⟩
  | .hbm, ⟨53, _⟩ => ⟨S16384x2048, .f32⟩
  | .hbm, ⟨54, _⟩ => ⟨S16384x8x256, .f32⟩
  | .hbm, ⟨55, _⟩ => ⟨S16384x8x256, .f32⟩
  | .hbm, ⟨56, _⟩ => ⟨S16384x8x256, .f32⟩
  | .hbm, ⟨57, _⟩ => ⟨S16384x8x256, .f32⟩
  | .hbm, ⟨58, _⟩ => ⟨S16384x8x256, .f32⟩
  | .hbm, ⟨59, _⟩ => ⟨S16384x8x256, .f32⟩
  | .hbm, ⟨60, _⟩ => ⟨S_, .f32⟩
  | .hbm, ⟨61, _⟩ => ⟨S16384x8x256, .f32⟩
  | .hbm, ⟨62, _⟩ => ⟨S16384x8x256, .f32⟩
  | .hbm, ⟨63, _⟩ => ⟨S512x2048, .f32⟩
  | .hbm, ⟨64, _⟩ => ⟨S16384x2048, .f32⟩
  | .hbm, ⟨65, _⟩ => ⟨S16384x8x256, .f32⟩
  | .hbm, ⟨66, _⟩ => ⟨S16384x256, .f32⟩
  | .hbm, ⟨67, _⟩ => ⟨S16384x1x256, .f32⟩
  | .hbm, ⟨68, _⟩ => ⟨S16384x8x256, .f32⟩
  | .hbm, ⟨69, _⟩ => ⟨S16384x8x256, .f32⟩
  | .hbm, ⟨70, _⟩ => ⟨S512x1024, .f32⟩
  | .hbm, ⟨71, _⟩ => ⟨S16384x1024, .f32⟩
  | .hbm, ⟨72, _⟩ => ⟨S16384x2048, .f32⟩
  | .hbm, ⟨73, _⟩ => ⟨S16384x2048, .bf16⟩
  | .hbm, ⟨74, _⟩ => ⟨S16384x2048, .f32⟩
  | .hbm, ⟨75, _⟩ => ⟨S16384x2048, .bf16⟩
  | .hbm, ⟨76, _⟩ => ⟨S16384x1024, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_5 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩

abbrev nD : Nat := 1
abbrev τ : Topo := Topo.v7x

variable {F : FTy → Type} [FloatOps F]
-- ==== Kernel6.lean ====
abbrev S16384x1024 : Shape := ⟨2, ![16384, 1024]⟩
abbrev S1x1024 : Shape := ⟨2, ![1, 1024]⟩
abbrev S2048x2048 : Shape := ⟨2, ![2048, 2048]⟩
abbrev S16384x2048 : Shape := ⟨2, ![16384, 2048]⟩
abbrev S1x2048 : Shape := ⟨2, ![1, 2048]⟩
abbrev S2048x128 : Shape := ⟨2, ![2048, 128]⟩
abbrev S1x128 : Shape := ⟨2, ![1, 128]⟩
abbrev S16384x128 : Shape := ⟨2, ![16384, 128]⟩
abbrev S256x1024 : Shape := ⟨2, ![256, 1024]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩
abbrev S1024x2048 : Shape := ⟨2, ![1024, 2048]⟩

abbrev nBuf : Space → Nat
  | .hbm => 13
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1x1024, .f32⟩
  | .hbm, ⟨4, _⟩ => ⟨S2048x2048, .bf16⟩
  | .hbm, ⟨5, _⟩ => ⟨S16384x2048, .f32⟩
  | .hbm, ⟨6, _⟩ => ⟨S1x2048, .f32⟩
  | .hbm, ⟨7, _⟩ => ⟨S2048x128, .bf16⟩
  | .hbm, ⟨8, _⟩ => ⟨S2048x128, .bf16⟩
  | .hbm, ⟨9, _⟩ => ⟨S1x128, .f32⟩
  | .hbm, ⟨10, _⟩ => ⟨S16384x2048, .f32⟩
  | .hbm, ⟨11, _⟩ => ⟨S16384x2048, .bf16⟩
  | .hbm, ⟨12, _⟩ => ⟨S16384x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S2048x2048, .bf16⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S2048x128, .bf16⟩
  | .local _ .vmem, ⟨11, _⟩ => ⟨S2048x128, .bf16⟩
  | .local _ .vmem, ⟨12, _⟩ => ⟨S1x128, .f32⟩
  | .local _ .vmem, ⟨13, _⟩ => ⟨S256x2048, .f32⟩
  | .local _ .vmem, ⟨14, _⟩ => ⟨S256x2048, .f32⟩
  | .local _ .vmem, ⟨15, _⟩ => ⟨S256x2048, .bf16⟩
  | .local _ .vmem, ⟨16, _⟩ => ⟨S256x2048, .bf16⟩
  | .local _ .vmem, ⟨17, _⟩ => ⟨S256x128, .f32⟩
  | .local _ .vmem, ⟨18, _⟩ => ⟨S256x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference6Ideal.lean ====
abbrev S16384x1024 : Shape := ⟨2, ![16384, 1024]⟩
abbrev S1x1024 : Shape := ⟨2, ![1, 1024]⟩
abbrev S2048x2048 : Shape := ⟨2, ![2048, 2048]⟩
abbrev S16384x2048 : Shape := ⟨2, ![16384, 2048]⟩
abbrev S1x2048 : Shape := ⟨2, ![1, 2048]⟩
abbrev S2048x128 : Shape := ⟨2, ![2048, 128]⟩
abbrev S1x128 : Shape := ⟨2, ![1, 128]⟩
abbrev S_ : Shape := ⟨0, ![]⟩
abbrev S16384 : Shape := ⟨1, ![16384]⟩
abbrev S16384x1 : Shape := ⟨2, ![16384, 1]⟩
abbrev S16384x128 : Shape := ⟨2, ![16384, 128]⟩

abbrev nBuf : Space → Nat
  | .hbm => 66
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1x1024, .f32⟩
  | .hbm, ⟨4, _⟩ => ⟨S2048x2048, .bf16⟩
  | .hbm, ⟨5, _⟩ => ⟨S16384x2048, .f32⟩
  | .hbm, ⟨6, _⟩ => ⟨S1x2048, .f32⟩
  | .hbm, ⟨7, _⟩ => ⟨S2048x128, .bf16⟩
  | .hbm, ⟨8, _⟩ => ⟨S2048x128, .bf16⟩
  | .hbm, ⟨9, _⟩ => ⟨S1x128, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x2048, .f32⟩
  | .hbm, ⟨41, _⟩ => ⟨S2048x2048, .f32⟩
  | .hbm, ⟨42, _⟩ => ⟨S16384x2048, .f32⟩
  | .hbm, ⟨43, _⟩ => ⟨S16384x2048, .f32⟩
  | .hbm, ⟨44, _⟩ => ⟨S16384x2048, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1, .f32⟩
  | .hbm, ⟨55, _⟩ => ⟨S16384x2048, .f32⟩
  | .hbm, ⟨56, _⟩ => ⟨S16384x2048, .f32⟩
  | .hbm, ⟨57, _⟩ => ⟨S16384x2048, .f32⟩
  | .hbm, ⟨58, _⟩ => ⟨S16384x2048, .f32⟩
  | .hbm, ⟨59, _⟩ => ⟨S2048x128, .f32⟩
  | .hbm, ⟨60, _⟩ => ⟨S2048x128, .f32⟩
  | .hbm, ⟨61, _⟩ => ⟨S2048x128, .f32⟩
  | .hbm, ⟨62, _⟩ => ⟨S16384x128, .f32⟩
  | .hbm, ⟨63, _⟩ => ⟨S16384x128, .f32⟩
  | .hbm, ⟨64, _⟩ => ⟨S16384x128, .f32⟩
  | .hbm, ⟨65, _⟩ => ⟨S16384x2048, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== Kernel7.lean ====
abbrev S16384x128 : Shape := ⟨2, ![16384, 128]⟩
abbrev S16384x4 : Shape := ⟨2, ![16384, 4]⟩
abbrev S1x128 : Shape := ⟨2, ![1, 128]⟩
abbrev S512x128 : Shape := ⟨2, ![512, 128]⟩
abbrev S512x4 : Shape := ⟨2, ![512, 4]⟩
abbrev S512 : Shape := ⟨1, ![512]⟩
abbrev S512x1 : Shape := ⟨2, ![512, 1]⟩
abbrev S512x512 : Shape := ⟨2, ![512, 512]⟩
abbrev S128 : Shape := ⟨1, ![128]⟩

abbrev nBuf : Space → Nat
  | .hbm => 5
  | .vmem => 9
  | .smem => 0
  | _ => 0

abbrev bufTy : (tb : Table) → Fin (tcTables nBuf tb) → BufTy
  | .hbm, ⟨0, _⟩ => ⟨S16384x128, .f32⟩
  | .hbm, ⟨1, _⟩ => ⟨S16384x4, .i32⟩
  | .hbm, ⟨2, _⟩ => ⟨S16384x4, .f32⟩
  | .hbm, ⟨3, _⟩ => ⟨S16384x4, .i32⟩
  | .hbm, ⟨4, _⟩ => ⟨S1x128, .f32⟩
  | .local _ .vmem, ⟨0, _⟩ => ⟨S512x128, .f32⟩
  | .local _ .vmem, ⟨1, _⟩ => ⟨S512x128, .f32⟩
  | .local _ .vmem, ⟨2, _⟩ => ⟨S512x4, .i32⟩
  | .local _ .vmem, ⟨3, _⟩ => ⟨S512x4, .i32⟩
  | .local _ .vmem, ⟨4, _⟩ => ⟨S512x4, .f32⟩
  | .local _ .vmem, ⟨5, _⟩ => ⟨S512x4, .f32⟩
  | .local _ .vmem, ⟨6, _⟩ => ⟨S512x4, .i32⟩
  | .local _ .vmem, ⟨7, _⟩ => ⟨S512x4, .i32⟩
  | .local _ .vmem, ⟨8, _⟩ => ⟨S1x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference7Ideal.lean ====
abbrev S16384x128 : Shape := ⟨2, ![16384, 128]⟩
abbrev S16384x32 : Shape := ⟨2, ![16384, 32]⟩
abbrev S16384x4 : Shape := ⟨2, ![16384, 4]⟩
abbrev S_ : Shape := ⟨0, ![]⟩
abbrev S16384 : Shape := ⟨1, ![16384]⟩
abbrev S16384x1 : Shape := ⟨2, ![16384, 1]⟩
abbrev S16384x4x1 : Shape := ⟨3, ![16384, 4, 1]⟩
abbrev S128 : Shape := ⟨1, ![128]⟩
abbrev S1x1x128 : Shape := ⟨3, ![1, 1, 128]⟩
abbrev S16384x4x128 : Shape := ⟨3, ![16384, 4, 128]⟩
abbrev S16384x1x128 : Shape := ⟨3, ![16384, 1, 128]⟩
abbrev S1x128 : Shape := ⟨2, ![1, 128]⟩

abbrev nBuf : Space → Nat
  | .hbm => 42
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x32, .f32⟩
  | .hbm, ⟨2, _⟩ => ⟨S16384x4, .f32⟩
  | .hbm, ⟨3, _⟩ => ⟨S16384x4, .i32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S16384x4, .f32⟩
  | .hbm, ⟨8, _⟩ => ⟨S16384x4, .f32⟩
  | .hbm, ⟨9, _⟩ => ⟨S16384x4, .f32⟩
  | .hbm, ⟨10, _⟩ => ⟨S16384x4x1, .i32⟩
  | .hbm, ⟨11, _⟩ => ⟨S128, .i32⟩
  | .hbm, ⟨12, _⟩ => ⟨S1x1x128, .i32⟩
  | .hbm, ⟨13, _⟩ => ⟨S16384x4x128, .i32⟩
  | .hbm, ⟨14, _⟩ => ⟨S16384x4x128, .i32⟩
  | .hbm, ⟨15, _⟩ => ⟨S16384x4x128, .i1⟩
  | .hbm, ⟨16, _⟩ => ⟨S_, .i1⟩
  | .hbm, ⟨17, _⟩ => ⟨S16384x128, .i1⟩
  | .hbm, ⟨18, _⟩ => ⟨S16384x128, .i32⟩
  | .hbm, ⟨19, _⟩ => ⟨S_, .i32⟩
  | .hbm, ⟨20, _⟩ => ⟨S_, .i32⟩
  | .hbm, ⟨21, _⟩ => ⟨S16384x128, .i32⟩
  | .hbm, ⟨22, _⟩ => ⟨S_, .i32⟩
  | .hbm, ⟨23, _⟩ => ⟨S16384x128, .i32⟩
  | .hbm, ⟨24, _⟩ => ⟨S16384x128, .i32⟩
  | .hbm, ⟨25, _⟩ => ⟨S16384x1x128, .i32⟩
  | .hbm, ⟨26, _⟩ => ⟨S_, .i32⟩
  | .hbm, ⟨27, _⟩ => ⟨S_, .i32⟩
  | .hbm, ⟨28, _⟩ => ⟨S16384x4x128, .i32⟩
  | .hbm, ⟨29, _⟩ => ⟨S16384x4x128, .i32⟩
  | .hbm, ⟨30, _⟩ => ⟨S16384x4x128, .i32⟩
  | .hbm, ⟨31, _⟩ => ⟨S_, .i32⟩
  | .hbm, ⟨32, _⟩ => ⟨S16384x4, .i32⟩
  | .hbm, ⟨33, _⟩ => ⟨S_, .f32⟩
  | .hbm, ⟨34, _⟩ => ⟨S16384, .f32⟩
  | .hbm, ⟨35, _⟩ => ⟨S16384x1, .f32⟩
  | .hbm, ⟨36, _⟩ => ⟨S16384x4, .f32⟩
  | .hbm, ⟨37, _⟩ => ⟨S16384x4, .f32⟩
  | .hbm, ⟨38, _⟩ => ⟨S16384x128, .f32⟩
  | .hbm, ⟨39, _⟩ => ⟨S_, .f32⟩
  | .hbm, ⟨40, _⟩ => ⟨S128, .f32⟩
  | .hbm, ⟨41, _⟩ => ⟨S1x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_values : Ref sig .tc := ⟨.hbm, 2, rfl⟩
abbrev main_indices : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_v12 : Ref sig .tc := ⟨.hbm, 17, rfl⟩
abbrev main_v13 : Ref sig .tc := ⟨.hbm, 18, rfl⟩
abbrev main_call0_call0_c : Ref sig .tc := ⟨.hbm, 19, rfl⟩
abbrev main_call0_call0_v0 : Ref sig .tc := ⟨.hbm, 20, rfl⟩
abbrev main_v14 : Ref sig .tc := ⟨.hbm, 21, rfl⟩
abbrev main_c_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_1 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Proof.Loop.lean ====
/-
  The attention kernel's body at one grid point: what its three running buffers hold before each trip of the loop over
  earlier blocks of keys, and what it stores.
-/
module

public import proofs.«01_k».proof.Proof.Gen.KernelIdeal.Value
public import Idealize.ShloMosaic.Lib.Pipeline.ValueKit
public import Idealize.ShloMosaic.Lib.LoopRemainder
public import Idealize.ShloMosaic.Lib.WordCmp
public import Idealize.ShloMosaic.Lib.WritesUnit
public import Idealize.ShloMosaic.Lib.Pointwise

@[expose] public section

set_option maxRecDepth 16384

noncomputable section

open Idealize.ShloMosaic Idealize.ShloMosaic.TcCoe Idealize.SL.Sem
open Cert.KernelIdeal Cert.KernelIdeal.Gen

namespace Cert.Mla

/-- The offset of a whole buffer is zero on both axes. -/
theorem hz : (![0, 0] : Fin 2 → Nat) = fun _ => 0 := funext fun a => by fin_cases a <;> rfl

/-- The loop over earlier blocks makes as many trips as there are earlier blocks. -/
theorem trips1 (i : grid0.Coords) : (k0_t1_loop i).trips = (i 2).val := by
  have h : ∀ b : Fin 16, Scf.trips 0#32 (Scalar.addi 0#32 (Scalar.muli (Scalar.divsi (Scalar.subi (BitVec.ofNat 32 b.val) 0#32) 1#32) 1#32)) 1#32 = b.val := by
    decide +kernel
  exact h (i 2)

/-- The loop behind it makes none. -/
theorem trips2 (i : grid0.Coords) : (k0_t2_loop i).trips = 0 := Scf.rem_trips _ _

/-- The rows of the diagonal block. -/
theorem off1_eq (i : grid0.Coords) : k0_off1 i = ![(i 2).val * 512, 0] := by
  have h : ∀ b : Fin 16, (Scalar.indexCast (Scalar.muli (BitVec.ofNat 32 b.val) 512#32)).toNat = b.val * 512 := by
    decide +kernel
  exact congrArg (fun n => (![n, 0] : Fin 2 → Nat)) (h (i 2))

/-- The rows of the diagonal block, among the values. -/
theorem off2_eq (i : grid0.Coords) : k0_off2 i = ![(i 2).val * 512, 0] := off1_eq i

/-- The rows of an earlier block. -/
theorem off3_eq (i : grid0.Coords) (k : Fin (k0_t1_loop i).trips) : k0_off3 i k = ![k.val * 512, 0] := by
  have h : ∀ b : Fin 16, (Scalar.indexCast (Scalar.muli (Scf.iv 0#32 1#32 b.val) 512#32)).toNat = b.val * 512 := by
    decide +kernel
  have hk : k.val < 16 := by
    have h1 := k.isLt
    have h2 : (i 2).val < 16 := (i 2).isLt
    have h3 := trips1 i
    omega
  exact congrArg (fun n => (![n, 0] : Fin 2 → Nat)) (h ⟨k.val, hk⟩)

/-- The rows of an earlier block, among the values. -/
theorem off4_eq (i : grid0.Coords) (k : Fin (k0_t1_loop i).trips) : k0_off4 i k = ![k.val * 512, 0] := off3_eq i k

variable (c : Dev nD) (i : grid0.Coords) (arg3 : Memref sig .tc .vmem S512x256 .bf16) (harg3 : arg3.IsWhole)
  (arg4 : Memref sig .tc .vmem S8192x256 .bf16) (harg4 : arg4.IsWhole) (arg5 : Memref sig .tc .vmem S8192x128 .bf16)
  (harg5 : arg5.IsWhole) (arg6 : Memref sig .tc .vmem S512x128 .f32) (harg6 : arg6.IsWhole)
  (arg7 : Memref sig .tc .vmem S512x1 .f32) (harg7 : arg7.IsWhole) (arg8 : Memref sig .tc .vmem S512x1 .f32)
  (harg8 : arg8.IsWhole) (arg9 : Memref sig .tc .vmem S512x128 .f32) (harg9 : arg9.IsWhole)
  (x0 : Vec Ideal S512x256 .bf16) (x1 : Vec Ideal S8192x256 .bf16) (x2 : Vec Ideal S8192x128 .bf16)

/-- The buffer of maxima when the loop begins. -/
def G7 := arg7.view.writes (Elt Ideal) arg7.view.junk (kernelRun0_A.sl.HS0_1 c i arg3 harg3 arg4 harg4 x0 x1)

/-- The buffer of normalisers when the loop begins. -/
def G8 := arg8.view.writes (Elt Ideal) arg8.view.junk (kernelRun0_A.sl.HS1_1 c i arg3 harg3 arg4 harg4 x0 x1)

/-- The buffer of weighted sums when the loop begins. -/
def G9 := arg9.view.writes (Elt Ideal) arg9.view.junk (kernelRun0_A.sl.HS2_1 c i arg3 harg3 arg4 harg4 arg5 harg5 x0 x1 x2)

/-- What the trips before trip `k` have stored. -/
def st (k : ℕ) := pb_k0_t1 (F := Ideal) Variants.none c none i arg3 harg3 arg4 harg4 arg5 harg5 arg6 harg6 arg7 harg7 arg8 harg8 arg9 harg9
  (kernelRun0_A.sl.r c arg3 harg3 x0) (harg4.unread x1) (harg5.unread x2)
  (G7 c i arg3 harg3 arg4 harg4 arg7 x0 x1) (G8 c i arg3 harg3 arg4 harg4 arg8 x0 x1)
  (G9 c i arg3 harg3 arg4 harg4 arg5 harg5 arg9 x0 x1 x2) k

/-- The maxima before trip `k`. -/
def mx (k : ℕ) : Vec Ideal S512x1 .f32 := arg7.view.read (Elt Ideal) (arg7.view.writes (Elt Ideal) (G7 c i arg3 harg3 arg4 harg4 arg7 x0 x1)
  (st c i arg3 harg3 arg4 harg4 arg5 harg5 arg6 harg6 arg7 harg7 arg8 harg8 arg9 harg9 x0 x1 x2 k).1)

/-- The normalisers before trip `k`. -/
def nm (k : ℕ) : Vec Ideal S512x1 .f32 := arg8.view.read (Elt Ideal) (arg8.view.writes (Elt Ideal) (G8 c i arg3 harg3 arg4 harg4 arg8 x0 x1)
  (st c i arg3 harg3 arg4 harg4 arg5 harg5 arg6 harg6 arg7 harg7 arg8 harg8 arg9 harg9 x0 x1 x2 k).2.1)

/-- The weighted sums before trip `k`. -/
def ac (k : ℕ) : Vec Ideal S512x128 .f32 := arg9.view.read (Elt Ideal) (arg9.view.writes (Elt Ideal) (G9 c i arg3 harg3 arg4 harg4 arg5 harg5 arg9 x0 x1 x2)
  (st c i arg3 harg3 arg4 harg4 arg5 harg5 arg6 harg6 arg7 harg7 arg8 harg8 arg9 harg9 x0 x1 x2 k).2.2)

/-- Block `b` of the keys. -/
def kb (x1 : Vec Ideal S8192x256 .bf16) (b : Fin 16) : Vec Ideal S512x256 .bf16 :=
  fun y => x1 (ix2 ⟨b.val * 512 + (y 0).val, by have h0 : (y 0).val < 512 := (y 0).isLt; omega⟩ (y 1))

/-- Block `b` of the values. -/
def vb (x2 : Vec Ideal S8192x128 .bf16) (b : Fin 16) : Vec Ideal S512x128 .bf16 :=
  fun y => x2 (ix2 ⟨b.val * 512 + (y 0).val, by have h0 : (y 0).val < 512 := (y 0).isLt; omega⟩ (y 1))

/-- Trip `k`'s block. -/
def blk (i : grid0.Coords) (k : Fin (k0_t1_loop i).trips) : Fin 16 :=
  ⟨k.val, by
    have h1 := k.isLt
    have h2 : (i 2).val < 16 := (i 2).isLt
    have h3 := trips1 i
    omega⟩

/-- A load of 512 rows of the keys from row `512 b` reads block `b`. -/
theorem ld_kb (off : Fin 2 → ℕ) (b : Fin 16) (h : off = ![b.val * 512, 0])
    (inb : ∀ a, off a + S512x256.size a ≤ S8192x256.size a) :
    arg4.view.readAt (Elt Ideal) (Rect.unit (s := S8192x256) off S512x256.size inb).toLoadRect (harg4.unread x1) = kb x1 b := by
  subst h
  rw [View.readAt_eq_ld, harg4.read_unread]
  funext y
  idx_vars y
  pointwise [kb]

/-- A load of 512 rows of the values from row `512 b` reads block `b`. -/
theorem ld_vb (off : Fin 2 → ℕ) (b : Fin 16) (h : off = ![b.val * 512, 0])
    (inb : ∀ a, off a + S512x128.size a ≤ S8192x128.size a) :
    arg5.view.readAt (Elt Ideal) (Rect.unit (s := S8192x128) off S512x128.size inb).toLoadRect (harg5.unread x2) = vb x2 b := by
  subst h
  rw [View.readAt_eq_ld, harg5.read_unread]
  funext y
  idx_vars y
  pointwise [vb]

/-- The queries the body works on are the block it was given. -/
theorem q_eq : kernelRun0_A.sl.r (F := Ideal) c arg3 harg3 x0 = x0 := by
  unfold kernelRun0_A.sl.r
  rw [View.readAt_eq_ld, harg3.read_unread, View.ld_unit_zero (S := S512x256) hz]

/-- A store of a whole buffer, last, leaves what it stored. -/
theorem read_last {S : Shape} {e : EltTy} (v : View sig .tc .vmem S e) (f : v.ty.Contents (Elt Ideal)) {off : Fin S.rank → Nat}
    (h : off = fun _ => 0) (inb : ∀ a, off a + S.size a ≤ S.size a) (w : S.Idx → Elt Ideal e) (L : List (View.Piece (Elt Ideal) S e)) :
    v.read (Elt Ideal) (v.writes (Elt Ideal) f ((⟨Rect.unit off S.size inb, w⟩ : View.Piece (Elt Ideal) S e) :: L)) = w := by
  funext y
  exact View.read_writes_cons_unit_of_mem v f inb w L y y h fun a => (Nat.zero_add _).symm

/-- Two arguments replaced by equal ones. -/
theorem two {α β γ : Type} (g : α → β → γ) {a a' : α} {b b' : β} (ha : a = a') (hb : b = b') : g a b = g a' b' := by
  rw [ha, hb]

/-- Three arguments replaced by equal ones. -/
theorem three {α β γ δ : Type} (g : α → β → γ → δ) {a a' : α} {b b' : β} {d d' : γ} (ha : a = a') (hb : b = b') (hd : d = d') :
    g a b d = g a' b' d' := by
  rw [ha, hb, hd]

/-- Four arguments replaced by equal ones. -/
theorem four {α β γ δ ε : Type} (g : α → β → γ → δ → ε) {a a' : α} {b b' : β} {d d' : γ} {e e' : δ} (ha : a = a') (hb : b = b')
    (hd : d = d') (he : e = e') : g a b d e = g a' b' d' e' := by
  rw [ha, hb, hd, he]

/-- Five arguments replaced by equal ones. -/
theorem five {α β γ δ ε ζ : Type} (g : α → β → γ → δ → ε → ζ) {a a' : α} {b b' : β} {d d' : γ} {e e' : δ} {u u' : ε} (ha : a = a')
    (hb : b = b') (hd : d = d') (he : e = e') (hu : u = u') : g a b d e u = g a' b' d' e' u' := by
  rw [ha, hb, hd, he, hu]

/-- A load of a whole buffer reads it. -/
theorem readAt_whole {S : Shape} {e : EltTy} (v : View sig .tc .vmem S e) (f : v.ty.Contents (Elt Ideal)) {off : Fin S.rank → Nat}
    (h : off = fun _ => 0) (inb : ∀ a, off a + S.size a ≤ S.size a) :
    v.readAt (Elt Ideal) (Rect.unit off S.size inb).toLoadRect f = v.read (Elt Ideal) f := by
  rw [View.readAt_eq_ld]
  exact View.ld_unit_zero (S := S) h inb _

/-- The maxima when the loop begins. -/
theorem mx_zero : mx c i arg3 harg3 arg4 harg4 arg5 harg5 arg6 harg6 arg7 harg7 arg8 harg8 arg9 harg9 x0 x1 x2 0 = k0_pay19 (F := Ideal) x0 (kb x1 (i 2)) := by
  unfold mx st G7
  rw [pb_k0_t1.eq_1, View.writes_nil]
  unfold kernelRun0_A.sl.HS0_1
  refine (read_last _ _ hz _ _ _).trans ?_
  exact two k0_pay19 (q_eq c arg3 harg3 x0) (ld_kb arg4 harg4 x1 _ _ (off1_eq i) _)

/-- The normalisers when the loop begins. -/
theorem nm_zero : nm c i arg3 harg3 arg4 harg4 arg5 harg5 arg6 harg6 arg7 harg7 arg8 harg8 arg9 harg9 x0 x1 x2 0 = k0_pay20 (F := Ideal) x0 (kb x1 (i 2)) := by
  unfold nm st G8
  rw [pb_k0_t1.eq_1, View.writes_nil]
  unfold kernelRun0_A.sl.HS1_1
  refine (read_last _ _ hz _ _ _).trans ?_
  exact two k0_pay20 (q_eq c arg3 harg3 x0) (ld_kb arg4 harg4 x1 _ _ (off1_eq i) _)

/-- The weighted sums when the loop begins. -/
theorem ac_zero : ac c i arg3 harg3 arg4 harg4 arg5 harg5 arg6 harg6 arg7 harg7 arg8 harg8 arg9 harg9 x0 x1 x2 0 = k0_pay21 (F := Ideal) x0 (kb x1 (i 2)) (vb x2 (i 2)) := by
  unfold ac st G9
  rw [pb_k0_t1.eq_1, View.writes_nil]
  unfold kernelRun0_A.sl.HS2_1
  refine (read_last _ _ hz _ _ _).trans ?_
  exact three k0_pay21 (q_eq c arg3 harg3 x0) (ld_kb arg4 harg4 x1 _ _ (off1_eq i) _) (ld_vb arg5 harg5 x2 _ _ (off2_eq i) _)

/-- The maxima after trip `k`. -/
theorem mx_succ (k : Fin (k0_t1_loop i).trips) : mx c i arg3 harg3 arg4 harg4 arg5 harg5 arg6 harg6 arg7 harg7 arg8 harg8 arg9 harg9 x0 x1 x2 (k.val + 1)
    = k0_pay7 (F := Ideal) x0 (kb x1 (blk i k)) (mx c i arg3 harg3 arg4 harg4 arg5 harg5 arg6 harg6 arg7 harg7 arg8 harg8 arg9 harg9 x0 x1 x2 k.val) := by
  unfold mx st
  rw [pb_k0_t1_succ]
  unfold tripL_k0_t1 trip_k0_t1
  dsimp only
  rw [List.cons_append, List.nil_append]
  refine (read_last _ _ hz _ _ _).trans ?_
  exact three k0_pay7 (q_eq c arg3 harg3 x0) (ld_kb arg4 harg4 x1 _ (blk i k) (off3_eq i k) _) (readAt_whole arg7.view _ hz _)

/-- The normalisers after trip `k`. -/
theorem nm_succ (k : Fin (k0_t1_loop i).trips) : nm c i arg3 harg3 arg4 harg4 arg5 harg5 arg6 harg6 arg7 harg7 arg8 harg8 arg9 harg9 x0 x1 x2 (k.val + 1)
    = k0_pay5 (F := Ideal) x0 (kb x1 (blk i k)) (mx c i arg3 harg3 arg4 harg4 arg5 harg5 arg6 harg6 arg7 harg7 arg8 harg8 arg9 harg9 x0 x1 x2 k.val) (nm c i arg3 harg3 arg4 harg4 arg5 harg5 arg6 harg6 arg7 harg7 arg8 harg8 arg9 harg9 x0 x1 x2 k.val) := by
  unfold nm mx st
  rw [pb_k0_t1_succ]
  unfold tripL_k0_t1 trip_k0_t1
  dsimp only
  rw [List.cons_append, List.nil_append]
  refine (read_last _ _ hz _ _ _).trans ?_
  exact four k0_pay5 (q_eq c arg3 harg3 x0) (ld_kb arg4 harg4 x1 _ (blk i k) (off3_eq i k) _) (readAt_whole arg7.view _ hz _) (readAt_whole arg8.view _ hz _)

/-- The weighted sums after trip `k`. -/
theorem ac_succ (k : Fin (k0_t1_loop i).trips) : ac c i arg3 harg3 arg4 harg4 arg5 harg5 arg6 harg6 arg7 harg7 arg8 harg8 arg9 harg9 x0 x1 x2 (k.val + 1)
    = k0_pay6 (F := Ideal) x0 (kb x1 (blk i k)) (vb x2 (blk i k)) (mx c i arg3 harg3 arg4 harg4 arg5 harg5 arg6 harg6 arg7 harg7 arg8 harg8 arg9 harg9 x0 x1 x2 k.val) (ac c i arg3 harg3 arg4 harg4 arg5 harg5 arg6 harg6 arg7 harg7 arg8 harg8 arg9 harg9 x0 x1 x2 k.val) := by
  unfold ac mx st
  rw [pb_k0_t1_succ]
  unfold tripL_k0_t1 trip_k0_t1
  dsimp only
  rw [List.cons_append, List.nil_append]
  refine (read_last _ _ hz _ _ _).trans ?_
  exact five k0_pay6 (q_eq c arg3 harg3 x0) (ld_kb arg4 harg4 x1 _ (blk i k) (off3_eq i k) _) (ld_vb arg5 harg5 x2 _ (blk i k) (off4_eq i k) _) (readAt_whole arg7.view _ hz _) (readAt_whole arg9.view _ hz _)

/-- What the body stores: the weighted sums after the last trip over the normalisers. -/
theorem out_eq : out0_A_3 (F := Ideal) c i arg3 harg3 arg4 harg4 arg5 harg5 arg6 harg6 arg7 harg7 arg8 harg8 arg9 harg9 x0 x1 x2
    = k0_pay15 (F := Ideal) (ac c i arg3 harg3 arg4 harg4 arg5 harg5 arg6 harg6 arg7 harg7 arg8 harg8 arg9 harg9 x0 x1 x2 (i 2).val) (nm c i arg3 harg3 arg4 harg4 arg5 harg5 arg6 harg6 arg7 harg7 arg8 harg8 arg9 harg9 x0 x1 x2 (i 2).val) := by
  unfold out0_A_3
  rw [View.read_writes_eq_canon _ _ _ (cover0_A_3 c i arg3 harg3 arg4 harg4 arg5 harg5 arg6 harg6 arg7 harg7 arg8 harg8 arg9 harg9 x0 x1 x2)]
  unfold kernelRun0_A
  dsimp only
  rw [View.canon_unit_zero (S := S512x128) hz]
  have h9 : kernelRun0_A.sl.v36 (F := Ideal) c i arg3 harg3 arg4 harg4 arg5 harg5 arg6 harg6 arg7 harg7 arg8 harg8 arg9 harg9 x0 x1 x2 = ac c i arg3 harg3 arg4 harg4 arg5 harg5 arg6 harg6 arg7 harg7 arg8 harg8 arg9 harg9 x0 x1 x2 (i 2).val := by
    unfold kernelRun0_A.sl.v36
    rw [show Scf.trips (k0_t2_loop i).lb (k0_t2_loop i).ub (k0_t2_loop i).st = 0 from trips2 i, pb_k0_t2.eq_1, List.nil_append,
      show Scf.trips (k0_t1_loop i).lb (k0_t1_loop i).ub (k0_t1_loop i).st = (i 2).val from trips1 i]
    unfold View.readCov
    rw [View.writes_append]
    exact readAt_whole arg9.view _ hz _
  have h8 : kernelRun0_A.sl.v37 (F := Ideal) c i arg3 harg3 arg4 harg4 arg5 harg5 arg6 harg6 arg7 harg7 arg8 harg8 arg9 harg9 x0 x1 x2 = nm c i arg3 harg3 arg4 harg4 arg5 harg5 arg6 harg6 arg7 harg7 arg8 harg8 arg9 harg9 x0 x1 x2 (i 2).val := by
    unfold kernelRun0_A.sl.v37
    rw [show Scf.trips (k0_t2_loop i).lb (k0_t2_loop i).ub (k0_t2_loop i).st = 0 from trips2 i, pb_k0_t2.eq_1, List.nil_append,
      show Scf.trips (k0_t1_loop i).lb (k0_t1_loop i).ub (k0_t1_loop i).st = (i 2).val from trips1 i]
    unfold View.readCov
    rw [View.writes_append]
    exact readAt_whole arg8.view _ hz _
  rw [h9, h8]

end Cert.Mla
-- ==== Proof.Softmax.lean ====
/-
  The arithmetic of a softmax taken block by block, over the extended reals: the running maximum, the running
  normaliser and the running weighted sums after some of the keys, how one more block of keys carries them on, and
  what their quotient is once every key has been seen.
-/
module

public import Idealize.ShloMosaic.PureOps.Ideal

@[expose] public section

noncomputable section

open Idealize.ShloMosaic

namespace Cert.Softmax

variable {K D : Type} [DecidableEq K]

/-- `2` to the power `a - m`, a positive real. -/
def w (a m : ℝ) : ℝ := (2 : ℝ) ^ (a - m)

theorem w_pos (a m : ℝ) : 0 < w a m := Real.rpow_pos_of_pos (by norm_num) _

theorem w_nonneg (a m : ℝ) : 0 ≤ w a m := (w_pos a m).le

/-- Moving the reference point from `m` to `m'` multiplies a weight by `2` to the power `m - m'`. -/
theorem w_move (a m m' : ℝ) : w m m' * w a m = w a m' := by
  unfold w
  rw [← Real.rpow_add (by norm_num)]
  congr 1
  ring

/-- The exponential of a difference of two reals is a weight. -/
theorem exp2_sub (a m : ℝ) : Ideal.exp2 ((a : EReal) - (m : EReal)) = (w a m : EReal) := by
  rw [← EReal.coe_sub, Ideal.exp2_coe]
  rfl

/-- The exponential of minus infinity less a real is zero. -/
theorem exp2_bot_sub (m : ℝ) : Ideal.exp2 ((⊥ : EReal) - (m : EReal)) = 0 := by
  rw [EReal.bot_sub, Ideal.exp2_bot]

/-- A nonnegative real times a sum of extended reals is the sum of the products. -/
theorem coe_mul_sum {ι : Type} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (by exact_mod_cast hr) (EReal.coe_ne_top r), ih]

/-- A finite sum of reals, taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- `M`, `L` and `A` are the maximum, the normaliser and the weighted sums of the keys in `S`, whose scores are `x`
    and whose values are `v`. -/
def Part (S : Finset K) (x : K → ℝ) (v : K → D → EReal) (M L : EReal) (A : D → EReal) : Prop :=
  ∃ m : ℝ, M = (m : EReal) ∧ (∃ k ∈ S, x k = m) ∧ (∀ k ∈ S, x k ≤ m)
    ∧ L = ((∑ k ∈ S, w (x k) m : ℝ) : EReal) ∧ ∀ d, A d = ∑ k ∈ S, (w (x k) m : EReal) * v k d

/-- The first block: `n` keys, of which those that `p` admits count, at least one. -/
theorem Part.first {n : ℕ} (x : K → ℝ) (v : K → D → EReal) (f : Fin n → K) (hf : Function.Injective f)
    (p : Fin n → Prop) [DecidablePred p] (hp : ∃ t, p t) (s : Fin n → EReal)
    (hs : ∀ t, s t = if p t then (x (f t) : EReal) else ⊥) (M L : EReal) (A : D → EReal)
    (hM : M = Finset.univ.fold max ⊥ s) (hL : L = ∑ t, Ideal.exp2 (s t - M))
    (hA : ∀ d, A d = ∑ t, Ideal.exp2 (s t - M) * v (f t) d) :
    Part ((Finset.univ.filter p).image f) x v M L A := by
  obtain ⟨t0, ht0⟩ := hp
  obtain ⟨t1, ht1, hmax⟩ := Finset.exists_max_image (Finset.univ.filter p) (fun t => x (f t))
    ⟨t0, Finset.mem_filter.2 ⟨Finset.mem_univ _, ht0⟩⟩
  have hp1 : p t1 := (Finset.mem_filter.1 ht1).2
  have hm : M = ((x (f t1) : ℝ) : EReal) := by
    rw [hM]
    apply le_antisymm
    · rw [Finset.fold_max_le]
      refine ⟨bot_le, fun t _ => ?_⟩
      rw [hs t]
      split_ifs with h
      · exact_mod_cast hmax t (Finset.mem_filter.2 ⟨Finset.mem_univ _, h⟩)
      · exact bot_le
    · rw [Finset.le_fold_max]
      refine Or.inr ⟨t1, Finset.mem_univ _, ?_⟩
      rw [hs t1, if_pos hp1]
  have he : ∀ t, Ideal.exp2 (s t - M) = if p t then (w (x (f t)) (x (f t1)) : EReal) else 0 := by
    intro t
    rw [hm, hs t]
    split_ifs
    · exact exp2_sub _ _
    · exact exp2_bot_sub _
  refine ⟨x (f t1), hm, ⟨f t1, Finset.mem_image_of_mem f ht1, rfl⟩, ?_, ?_, fun d => ?_⟩
  · intro k hk
    obtain ⟨t, ht, rfl⟩ := Finset.mem_image.1 hk
    exact hmax t ht
  · rw [hL, Finset.sum_image (fun a _ b _ h => hf h), coe_sum, Finset.sum_filter]
    exact Finset.sum_congr rfl fun t _ => he t
  · rw [hA, Finset.sum_image (fun a _ b _ h => hf h), Finset.sum_filter]
    refine Finset.sum_congr rfl fun t _ => ?_
    rw [he t]
    split_ifs
    · rfl
    · exact zero_mul _

/-- One more block of keys, none of them seen before: the old sums are scaled to the new maximum, the block's are added. -/
theorem Part.step {n : ℕ} {S : Finset K} {x : K → ℝ} {v : K → D → EReal} {M L : EReal} {A : D → EReal}
    (h : Part S x v M L A) (f : Fin n → K) (hf : Function.Injective f) (hd : ∀ t, f t ∉ S) (s : Fin n → EReal)
    (hs : ∀ t, s t = (x (f t) : EReal)) (M' L' : EReal) (A' : D → EReal)
    (hM : M' = max M (Finset.univ.fold max ⊥ s))
    (hL : L' = Ideal.exp2 (M - M') * L + ∑ t, Ideal.exp2 (s t - M'))
    (hA : ∀ d, A' d = Ideal.exp2 (M - M') * A d + ∑ t, Ideal.exp2 (s t - M') * v (f t) d) :
    Part (S ∪ Finset.univ.image f) x v M' L' A' := by
  obtain ⟨m, rfl, ⟨k0, hk0, hx0⟩, hle, rfl, hA0⟩ := h
  obtain ⟨k1, hk1, hmax⟩ := Finset.exists_max_image (S ∪ Finset.univ.image f) x ⟨k0, Finset.mem_union_left _ hk0⟩
  have hm : M' = ((x k1 : ℝ) : EReal) := by
    rw [hM]
    apply le_antisymm
    · refine max_le ?_ ?_
      · rw [← hx0]
        exact_mod_cast hmax k0 (Finset.mem_union_left _ hk0)
      · rw [Finset.fold_max_le]
        refine ⟨bot_le, fun t _ => ?_⟩
        rw [hs t]
        exact_mod_cast hmax (f t) (Finset.mem_union_right _ (Finset.mem_image_of_mem f (Finset.mem_univ t)))
    · rcases Finset.mem_union.1 hk1 with h1 | h1
      · exact le_max_of_le_left (by exact_mod_cast hle k1 h1)
      · obtain ⟨t, _, rfl⟩ := Finset.mem_image.1 h1
        refine le_max_of_le_right ?_
        rw [Finset.le_fold_max]
        exact Or.inr ⟨t, Finset.mem_univ _, (hs t).ge⟩
  have hdisj : Disjoint S (Finset.univ.image f) := by
    rw [Finset.disjoint_right]
    intro k hk
    obtain ⟨t, _, rfl⟩ := Finset.mem_image.1 hk
    exact hd t
  have he : ∀ t, Ideal.exp2 (s t - M') = (w (x (f t)) (x k1) : EReal) := by
    intro t
    rw [hm, hs t]
    exact exp2_sub _ _
  refine ⟨x k1, hm, ⟨k1, hk1, rfl⟩, hmax, ?_, fun d => ?_⟩
  · rw [hL, Finset.sum_union hdisj, Finset.sum_image (fun a _ b _ h => hf h), EReal.coe_add, coe_sum Finset.univ]
    rw [hm, exp2_sub, ← EReal.coe_mul, Finset.mul_sum]
    congr 2
    · exact Finset.sum_congr rfl fun k _ => w_move _ _ _
    · exact funext fun t => by rw [← hm, he t]
  · rw [hA, hA0, Finset.sum_union hdisj, Finset.sum_image (fun a _ b _ h => hf h)]
    congr 1
    · rw [hm, exp2_sub, coe_mul_sum _ _ (w_nonneg _ _)]
      refine Finset.sum_congr rfl fun k _ => ?_
      rw [← mul_assoc, ← EReal.coe_mul, w_move]
    · exact Finset.sum_congr rfl fun t _ => by rw [he t]

/-- The natural exponential of the scores times `log 2`, less their maximum, is the weight. -/
theorem exp_sub (a m : ℝ) : Ideal.exp ((a : EReal) * (Real.log 2 : EReal) - (m : EReal) * (Real.log 2 : EReal)) = (w a m : EReal) := by
  rw [← EReal.coe_mul, ← EReal.coe_mul, ← EReal.coe_sub, Ideal.exp_coe, w, Real.rpow_def_of_pos (by norm_num)]
  congr 2
  ring

/-- Once every key that counts has been seen, the weighted sums over the normaliser are the softmax of all keys — scores
    in natural units, the keys that do not count at minus infinity — times the values. -/
theorem Part.quotient [Fintype K] {S : Finset K} {x : K → ℝ} {v : K → D → EReal} {M L : EReal} {A : D → EReal}
    (h : Part S x v M L A) (s : K → EReal)
    (hs : ∀ k, s k = (if k ∈ S then (x k : EReal) else ⊥) * (Real.log 2 : EReal)) (X Z : EReal)
    (hX : X = Finset.univ.fold max ⊥ s) (hZ : Z = ∑ k, Ideal.exp (s k - X)) (d : D) :
    Ideal.div (A d) L = ∑ k, Ideal.div (Ideal.exp (s k - X)) Z * v k d := by
  obtain ⟨m, -, ⟨k0, hk0, hx0⟩, hle, rfl, hA⟩ := h
  have hlog : 0 < Real.log 2 := Real.log_pos (by norm_num)
  have hbot : ∀ k, k ∉ S → s k = ⊥ := fun k hk => by
    rw [hs k, if_neg hk]; exact EReal.bot_mul_coe_of_pos hlog
  have hXm : X = (m : EReal) * (Real.log 2 : EReal) := by
    rw [hX]
    apply le_antisymm
    · rw [Finset.fold_max_le]
      refine ⟨bot_le, fun k _ => ?_⟩
      by_cases hk : k ∈ S
      · rw [hs k, if_pos hk, ← EReal.coe_mul, ← EReal.coe_mul]
        exact_mod_cast mul_le_mul_of_nonneg_right (hle k hk) hlog.le
      · rw [hbot k hk]; exact bot_le
    · rw [Finset.le_fold_max]
      refine Or.inr ⟨k0, Finset.mem_univ _, ?_⟩
      rw [hs k0, if_pos hk0, hx0]
  have he : ∀ k, Ideal.exp (s k - X) = ((if k ∈ S then w (x k) m else 0 : ℝ) : EReal) := by
    intro k
    by_cases hk : k ∈ S
    · rw [if_pos hk, hXm, hs k, if_pos hk]; exact exp_sub _ _
    · rw [if_neg hk, hbot k hk, EReal.bot_sub, Ideal.exp_bot]; rfl
  have hZL : Z = ((∑ k ∈ S, w (x k) m : ℝ) : EReal) := by
    rw [hZ, Finset.sum_congr rfl fun k _ => he k, ← coe_sum, Finset.sum_ite_mem, Finset.univ_inter]
  have hL : 0 < ∑ k ∈ S, w (x k) m := Finset.sum_pos (fun k _ => w_pos _ _) ⟨k0, hk0⟩
  have hterm : ∀ k, Ideal.div (Ideal.exp (s k - X)) Z * v k d
      = if k ∈ S then ((1 / (∑ k ∈ S, w (x k) m) : ℝ) : EReal) * ((w (x k) m : EReal) * v k d) else 0 := by
    intro k
    rw [he k, hZL, Ideal.div_coe hL.ne']
    split_ifs
    · rw [mul_comm (w (x k) m : EReal), mul_assoc]
    · rw [EReal.coe_zero, zero_mul, zero_mul]
  rw [Finset.sum_congr rfl fun k _ => hterm k, Finset.sum_ite_mem, Finset.univ_inter, ← coe_mul_sum _ _ (by positivity),
    ← hA d, Ideal.div_coe hL.ne', mul_comm]

end Cert.Softmax
-- ==== Proof.Blocks.lean ====
/-
  What the attention kernel computes from one block of queries and one block of keys and values, read at an index, and
  that it carries the softmax of the keys seen so far on by that block.
-/
module

public import proofs.«01_k».proof.Proof.Gen.KernelIdeal.Skeleton
public import proofs.«01_k».proof.Proof.Softmax
public import Idealize.ShloMosaic.Lib.Pointwise
public import Idealize.ShloMosaic.Lib.WordCmp

@[expose] public section

set_option maxRecDepth 16384

noncomputable section

open Idealize.ShloMosaic Idealize.SL.Sem
open Cert.KernelIdeal Cert.KernelIdeal.Gen Cert.Softmax

namespace Cert.Mla

/-- The pattern of minus infinity denotes minus infinity. -/
theorem neg_inf : Ideal.ofBits .f32 0xFF800000#32 = (⊥ : EReal) := by
  simp [Ideal.ofBits, Ideal.ieee]

/-- The mask denotes minus infinity. -/
theorem mask_bot : (Named.named (F := Ideal) κ "mask" 0xF149F2CA#32 : Ideal .f32) = (⊥ : EReal) :=
  IdealRules.named_const.ideal_named_scalar _ _ _ _ rfl

/-- A signed comparison of two counters below `2^31` compares the counters. -/
theorem sge_iff (r t : ℕ) (hr : r < 2147483648) (ht : t < 2147483648) :
    IntOp.cmpi .sge (BitVec.ofNat 32 r) (BitVec.ofNat 32 t) = if t ≤ r then 1#1 else 0#1 := by
  rw [show IntOp.cmpi .sge (BitVec.ofNat 32 r) (BitVec.ofNat 32 t) = BitVec.ofBool (decide (t ≤ r)) by word_cmp]
  by_cases h : t ≤ r
  · rw [if_pos h, decide_eq_true h]; rfl
  · rw [if_neg h, decide_eq_false h]; rfl

/-- The masked scores of the diagonal block: the product where the key is not after the query, minus infinity after. -/
theorem score_diag (q k : Vec Ideal S512x256 .bf16) (r t : Fin 512) :
    k0_pay16 (F := Ideal) q k (ix2 r t) = if t ≤ r then (∑ e : Fin 256, q (ix2 r e) * k (ix2 t e) : EReal) else (⊥ : EReal) := by
  pointwise [k0_pay16]
  rw [sge_iff _ _ (by omega) (by omega), mask_bot]
  by_cases h : t ≤ r
  · rw [if_pos h, if_pos (show (t : ℕ) ≤ r from h)]; rfl
  · rw [if_neg h, if_neg (show ¬ (t : ℕ) ≤ r from h)]; rfl

/-- The scores of an earlier block. -/
theorem score_full (q k : Vec Ideal S512x256 .bf16) (r t : Fin 512) :
    k0_pay1 (F := Ideal) q k (ix2 r t) = (∑ e : Fin 256, q (ix2 r e) * k (ix2 t e) : EReal) := by
  pointwise [k0_pay1]

/-- After the diagonal block, row `r` holds the softmax of the keys of that block up to its own. -/
theorem first_part (q k : Vec Ideal S512x256 .bf16) (v : Vec Ideal S512x128 .bf16) (x : Fin 512 → Fin 8192 → ℝ)
    (vk : Fin 8192 → Fin 128 → EReal) (f : Fin 512 → Fin 8192) (hf : Function.Injective f)
    (hx : ∀ r t, (∑ e : Fin 256, q (ix2 r e) * k (ix2 t e) : EReal) = (x r (f t) : EReal))
    (hv : ∀ t d, v (ix2 t d) = vk (f t) d) (r : Fin 512) :
    Part ((Finset.univ.filter (· ≤ r)).image f) (x r) vk (k0_pay19 (F := Ideal) q k (ix2 r 0))
      (k0_pay20 (F := Ideal) q k (ix2 r 0)) (fun d => k0_pay21 (F := Ideal) q k v (ix2 r d)) := by
  have hM : k0_pay19 (F := Ideal) q k (ix2 r 0)
      = Finset.univ.fold max (⊥ : EReal) fun t => k0_pay16 (F := Ideal) q k (ix2 r t) := by
    pointwise [k0_pay19, k0_pay17]
    rw [neg_inf]
  refine Part.first (x r) vk f hf (· ≤ r) ⟨r, le_refl r⟩ (fun t => k0_pay16 (F := Ideal) q k (ix2 r t))
    (fun t => ?_) _ _ _ hM ?_ fun d => ?_
  · rw [score_diag, hx]
  · rw [hM]
    pointwise [k0_pay20, k0_pay17, k0_pay18]
    rw [neg_inf]
    rfl
  · rw [hM]
    pointwise [k0_pay21, k0_pay17, k0_pay18]
    rw [neg_inf]
    exact Finset.sum_congr rfl fun t _ => Ideal.mul_congr rfl (hv t d)

/-- One earlier block carries row `r` on from the keys in `S` to those and the block's. -/
theorem step_part (q k : Vec Ideal S512x256 .bf16) (v : Vec Ideal S512x128 .bf16) (x : Fin 512 → Fin 8192 → ℝ)
    (vk : Fin 8192 → Fin 128 → EReal) (f : Fin 512 → Fin 8192) (hf : Function.Injective f)
    (hx : ∀ r t, (∑ e : Fin 256, q (ix2 r e) * k (ix2 t e) : EReal) = (x r (f t) : EReal))
    (hv : ∀ t d, v (ix2 t d) = vk (f t) d) (M L : Vec Ideal S512x1 .f32) (A : Vec Ideal S512x128 .f32) (r : Fin 512)
    (S : Finset (Fin 8192)) (hS : ∀ t, f t ∉ S)
    (h : Part S (x r) vk (M (ix2 r 0)) (L (ix2 r 0)) (fun d => A (ix2 r d))) :
    Part (S ∪ Finset.univ.image f) (x r) vk (k0_pay7 (F := Ideal) q k M (ix2 r 0))
      (k0_pay5 (F := Ideal) q k M L (ix2 r 0)) (fun d => k0_pay6 (F := Ideal) q k v M A (ix2 r d)) := by
  have hM : k0_pay7 (F := Ideal) q k M (ix2 r 0)
      = max (M (ix2 r 0)) (Finset.univ.fold max (⊥ : EReal) fun t => k0_pay1 (F := Ideal) q k (ix2 r t)) := by
    pointwise [k0_pay7, k0_pay2]
    rw [neg_inf]
  refine Part.step h f hf hS (fun t => k0_pay1 (F := Ideal) q k (ix2 r t)) (fun t => ?_) _ _ _ hM ?_ fun d => ?_
  · rw [score_full, hx]
  · rw [hM]
    pointwise [k0_pay5, k0_pay2, k0_pay3, k0_pay4]
    rw [neg_inf]
    rfl
  · rw [hM]
    pointwise [k0_pay6, k0_pay2, k0_pay3, k0_pay4]
    rw [neg_inf]
    exact congrArg₂ (· + ·) rfl (Finset.sum_congr rfl fun t _ => Ideal.mul_congr rfl (hv t d))

/-- The result of the block: the weighted sums over the normaliser. -/
theorem out_at (A : Vec Ideal S512x128 .f32) (L : Vec Ideal S512x1 .f32) (r : Fin 512) (d : Fin 128) :
    k0_pay15 (F := Ideal) A L (ix2 r d) = Ideal.div (A (ix2 r d)) (L (ix2 r 0)) := by
  pointwise [k0_pay15]

end Cert.Mla
-- ==== Proof.Body.lean ====
/-
  The attention kernel's body at one grid point, at the level of numbers: before every trip the running buffers hold the
  softmax of the keys seen so far, so what is stored is the softmax of every key up to the query's own.
-/
module

public import proofs.«01_k».proof.Proof.Loop
public import proofs.«01_k».proof.Proof.Blocks

@[expose] public section

set_option maxRecDepth 16384

noncomputable section

open Idealize.ShloMosaic Idealize.ShloMosaic.TcCoe Idealize.SL.Sem
open Cert.KernelIdeal Cert.KernelIdeal.Gen Cert.Softmax

namespace Cert.Mla

/-- Key `t` of block `b`. -/
def key (b : Fin 16) (t : Fin 512) : Fin 8192 := ⟨b.val * 512 + t.val, by omega⟩

theorem key_inj (b : Fin 16) : Function.Injective (key b) := fun t u h => by
  have h' := congrArg Fin.val h
  simp only [key] at h'
  exact Fin.ext (by omega)

/-- The keys query `r` of block `b` has seen after its own block and `k` earlier ones. -/
def seen (b : Fin 16) (k : ℕ) (r : Fin 512) : Finset (Fin 8192) :=
  Finset.univ.filter fun p => p.val < k * 512 ∨ (b.val * 512 ≤ p.val ∧ p.val ≤ b.val * 512 + r.val)

theorem seen_zero (b : Fin 16) (r : Fin 512) : (Finset.univ.filter (· ≤ r)).image (key b) = seen b 0 r := by
  ext p
  simp only [Finset.mem_image, Finset.mem_filter, Finset.mem_univ, true_and, seen]
  constructor
  · rintro ⟨t, ht, rfl⟩
    have ht' : t.val ≤ r.val := ht
    simp only [key]
    omega
  · rintro (h | ⟨h1, h2⟩)
    · omega
    · exact ⟨⟨p.val - b.val * 512, by omega⟩, show _ ≤ r.val by simp only; omega, Fin.ext (by simp only [key]; omega)⟩

theorem seen_succ (b : Fin 16) (k : ℕ) (hk : k < 16) (r : Fin 512) :
    seen b k r ∪ Finset.univ.image (key ⟨k, hk⟩) = seen b (k + 1) r := by
  ext p
  simp only [Finset.mem_union, Finset.mem_image, Finset.mem_filter, Finset.mem_univ, true_and, seen]
  constructor
  · rintro (h | ⟨t, rfl⟩)
    · omega
    · simp only [key]
      omega
  · intro h
    by_cases h1 : p.val < k * 512 ∨ (b.val * 512 ≤ p.val ∧ p.val ≤ b.val * 512 + r.val)
    · exact Or.inl h1
    · exact Or.inr ⟨⟨p.val - k * 512, by omega⟩, Fin.ext (by simp only [key]; omega)⟩

theorem not_seen (b : Fin 16) (k : ℕ) (hk : k < b.val) (r t : Fin 512) : key ⟨k, by omega⟩ t ∉ seen b k r := by
  simp only [Finset.mem_filter, Finset.mem_univ, true_and, seen, key]
  omega

theorem mem_seen (b : Fin 16) (r : Fin 512) (p : Fin 8192) : p ∈ seen b b.val r ↔ p.val ≤ b.val * 512 + r.val := by
  simp only [Finset.mem_filter, Finset.mem_univ, true_and, seen]
  omega

/-- The block of queries of a grid point. -/
def bq (i : grid0.Coords) : Fin 16 := i 2

variable (c : Dev nD) (i : grid0.Coords) (arg3 : Memref sig .tc .vmem S512x256 .bf16) (harg3 : arg3.IsWhole)
  (arg4 : Memref sig .tc .vmem S8192x256 .bf16) (harg4 : arg4.IsWhole) (arg5 : Memref sig .tc .vmem S8192x128 .bf16)
  (harg5 : arg5.IsWhole) (arg6 : Memref sig .tc .vmem S512x128 .f32) (harg6 : arg6.IsWhole)
  (arg7 : Memref sig .tc .vmem S512x1 .f32) (harg7 : arg7.IsWhole) (arg8 : Memref sig .tc .vmem S512x1 .f32)
  (harg8 : arg8.IsWhole) (arg9 : Memref sig .tc .vmem S512x128 .f32) (harg9 : arg9.IsWhole)
  (x0 : Vec Ideal S512x256 .bf16) (x1 : Vec Ideal S8192x256 .bf16) (x2 : Vec Ideal S8192x128 .bf16)

/-- Before trip `k`, row `r` of the running buffers holds the softmax of its own block's keys up to its own and of `k`
    earlier blocks. -/
theorem before (x : Fin 512 → Fin 8192 → ℝ)
    (hx : ∀ r p, (∑ e : Fin 256, x0 (ix2 r e) * x1 (ix2 p e) : EReal) = (x r p : EReal)) (r : Fin 512) :
    ∀ k : ℕ, k ≤ (i 2).val → Part (seen (bq i) k r) (x r) (fun p (d : Fin 128) => (x2 (ix2 p d) : EReal))
      (mx c i arg3 harg3 arg4 harg4 arg5 harg5 arg6 harg6 arg7 harg7 arg8 harg8 arg9 harg9 x0 x1 x2 k (ix2 r 0)) (nm c i arg3 harg3 arg4 harg4 arg5 harg5 arg6 harg6 arg7 harg7 arg8 harg8 arg9 harg9 x0 x1 x2 k (ix2 r 0)) (fun d => ac c i arg3 harg3 arg4 harg4 arg5 harg5 arg6 harg6 arg7 harg7 arg8 harg8 arg9 harg9 x0 x1 x2 k (ix2 r d))
  | 0, _ => by
    rw [mx_zero, nm_zero, ac_zero, ← seen_zero (bq i)]
    exact first_part x0 (kb x1 (i 2)) (vb x2 (i 2)) x _ (key (bq i)) (key_inj _) (fun r t => hx r (key (bq i) t)) (fun t d => rfl) r
  | k + 1, hk => by
    have ht : k < (k0_t1_loop i).trips := by rw [trips1]; omega
    have h16 : (i 2).val < 16 := (i 2).isLt
    have hb : k < (bq i).val := hk
    have e1 := mx_succ c i arg3 harg3 arg4 harg4 arg5 harg5 arg6 harg6 arg7 harg7 arg8 harg8 arg9 harg9 x0 x1 x2 ⟨k, ht⟩
    have e2 := nm_succ c i arg3 harg3 arg4 harg4 arg5 harg5 arg6 harg6 arg7 harg7 arg8 harg8 arg9 harg9 x0 x1 x2 ⟨k, ht⟩
    have e3 := ac_succ c i arg3 harg3 arg4 harg4 arg5 harg5 arg6 harg6 arg7 harg7 arg8 harg8 arg9 harg9 x0 x1 x2 ⟨k, ht⟩
    simp only at e1 e2 e3
    rw [e1, e2, e3, ← seen_succ (bq i) k (by omega)]
    exact step_part x0 (kb x1 (blk i ⟨k, ht⟩)) (vb x2 (blk i ⟨k, ht⟩)) x _ (key ⟨k, by omega⟩) (key_inj _)
      (fun r t => hx r (key ⟨k, by omega⟩ t)) (fun t d => rfl) _ _ _ r (seen (bq i) k r) (not_seen (bq i) k (by omega) r)
      (before x hx r k (by omega))

/-- What the body stores at row `r`, lane `d`: the softmax, over all keys, of the scores in natural units with the keys
    after the query at minus infinity, times the values. -/
theorem out_softmax (x : Fin 512 → Fin 8192 → ℝ)
    (hx : ∀ r p, (∑ e : Fin 256, x0 (ix2 r e) * x1 (ix2 p e) : EReal) = (x r p : EReal)) (r : Fin 512) (d : Fin 128)
    (s : Fin 8192 → EReal)
    (hs : ∀ p, s p = (if p.val ≤ (i 2).val * 512 + r.val then (x r p : EReal) else ⊥) * (Real.log 2 : EReal)) (X Z : EReal)
    (hX : X = Finset.univ.fold max ⊥ s) (hZ : Z = ∑ p, Ideal.exp (s p - X)) :
    out0_A_3 (F := Ideal) c i arg3 harg3 arg4 harg4 arg5 harg5 arg6 harg6 arg7 harg7 arg8 harg8 arg9 harg9 x0 x1 x2 (ix2 r d) = ∑ p : Fin 8192, Ideal.div (Ideal.exp (s p - X)) Z * (x2 (ix2 p d) : EReal) := by
  rw [out_eq, out_at]
  refine Part.quotient (before c i arg3 harg3 arg4 harg4 arg5 harg5 arg6 harg6 arg7 harg7 arg8 harg8 arg9 harg9 x0 x1 x2 x hx r (i 2).val le_rfl) s (fun p => ?_) X Z hX hZ d
  rw [hs p]
  exact congrArg (· * (Real.log 2 : EReal)) (if_congr (mem_seen (bq i) r p).symm rfl rfl)

end Cert.Mla
-- ==== Proof.RefRead.lean ====
/-
  The reference, named part by part over its three arguments, and each part read at an index.
-/
module

public import proofs.«01_k».proof.Proof.Gen.ReferenceIdeal.Run
public import proofs.«01_k».proof.Proof.Blocks
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.Mla.Ref

open Cert.ReferenceIdeal Cert.ReferenceIdeal.Gen

/-- The heads of a 16384 by 2048 array: entry (batch, head, position, feature). -/
def HEADS (Q : FVec Ideal S16384x2048 .bf16) : FVec Ideal S2x8x8192x256 .f32 :=
  transpose S2x8x8192x256 [0, 2, 1, 3] (shapeCast _ (extf .f32 Q bitsLt_bf16_f32) shapeCasts_S16384x2048_S2x8192x8x256) transposes_S2x8192x8x256_S2x8x8192x256_0_2_1_3

/-- The masked scores, in natural units. -/
def SCORES (Q K : FVec Ideal S16384x2048 .bf16) : FVec Ideal S2x8x8192x8192 .f32 :=
  mulf (select (broadcastInDim S2x8x8192x8192 ![2, 3] bcast_S8192x8192_S2x8x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) (Host.dotGeneral dot_S2x8x8192x256_S2x8x8192x256_S2x8x8192x8192_3_3_2_2_01_01 none (HEADS Q) (HEADS K)) (broadcastInDim S2x8x8192x8192 ![] bcast_S_S2x8x8192x8192 (id (constant S_ .f32 0xFF800000#32)))) (broadcastInDim S2x8x8192x8192 ![] bcast_S_S2x8x8192x8192 (id (Host.log (constant S_ .f32 0x40000000#32))))

/-- The top score of every query. -/
def TOP (S : FVec Ideal S2x8x8192x8192 .f32) : FVec Ideal S2x8x8192 .f32 :=
  maximumf (broadcastInDim S2x8x8192 ![] bcast_S_S2x8x8192 (constant S_ .f32 0xFF800000#32)) (Host.reduce FloatOps.maximumf S (constant S_ .f32 0xFF800000#32) reducesTo_S2x8x8192x8192_S2x8x8192_d3 h_S_)

/-- The exponentials of the scores below the top one. -/
def EXPS (S : FVec Ideal S2x8x8192x8192 .f32) : FVec Ideal S2x8x8192x8192 .f32 :=
  Host.exp (subf S (broadcastInDim S2x8x8192x8192 ![0, 1, 2, 3] bcast_S2x8x8192x1_S2x8x8192x8192_0_1_2_3 (broadcastInDim S2x8x8192x1 ![0, 1, 2] bcast_S2x8x8192_S2x8x8192x1_0_1_2 (TOP S))))

/-- The attention probabilities. -/
def PROBS (E : FVec Ideal S2x8x8192x8192 .f32) : FVec Ideal S2x8x8192x8192 .f32 :=
  Host.divf E (broadcastInDim S2x8x8192x8192 ![0, 1, 2, 3] bcast_S2x8x8192x1_S2x8x8192x8192_0_1_2_3 (broadcastInDim S2x8x8192x1 ![0, 1, 2] bcast_S2x8x8192_S2x8x8192x1_0_1_2 (Host.reduceAdd E (constant S_ .f32 0x00000000#32) reducesTo_S2x8x8192x8192_S2x8x8192_d3 h_S_)))

/-- The mix of the values by the probabilities. -/
def MIX (P : FVec Ideal S2x8x8192x8192 .f32) (W : FVec Ideal S16384x1024 .bf16) : FVec Ideal S16384x1024 .f32 :=
  shapeCast _ (transpose S2x8192x8x128 [0, 2, 1, 3] (Host.dotGeneral dot_S2x8x8192x8192_S2x8x8192x128_S2x8x8192x128_3_2_2_3_01_01 none P (transpose S2x8x8192x128 [0, 2, 1, 3] (shapeCast _ (extf .f32 W bitsLt_bf16_f32) shapeCasts_S16384x1024_S2x8192x8x128) transposes_S2x8192x8x128_S2x8x8192x128_0_2_1_3)) transposes_S2x8x8192x128_S2x8192x8x128_0_2_1_3) shapeCasts_S2x8192x8x128_S16384x1024

/-- The whole reference. -/
def REF (Q K : FVec Ideal S16384x2048 .bf16) (W : FVec Ideal S16384x1024 .bf16) : FVec Ideal S16384x1024 .f32 :=
  MIX (PROBS (EXPS (SCORES Q K))) W

theorem res_eq (m : (ℓ : Loc nD τ sig) → Buf (Elt Ideal) ℓ) (c : Dev nD) :
    Value.res_main_v34 m c = REF (m ((c.tc : Thread nD τ).loc main_arg0)) (m ((c.tc : Thread nD τ).loc main_arg1)) (m ((c.tc : Thread nD τ).loc main_arg2)) := rfl

/-- Row of position `p` of sequence `b`. -/
def row (b : Fin 2) (p : Fin 8192) : Fin 16384 := ⟨b.val * 8192 + p.val, by omega⟩
/-- Column of feature `e` of head `h` in a query or key. -/
def colq (h : Fin 8) (e : Fin 256) : Fin 2048 := ⟨h.val * 256 + e.val, by omega⟩
/-- Column of feature `d` of head `h` in a value. -/
def colv (h : Fin 8) (d : Fin 128) : Fin 1024 := ⟨h.val * 128 + d.val, by omega⟩

theorem heads_at (Q : FVec Ideal S16384x2048 .bf16) (b : Fin 2) (h : Fin 8) (p : Fin 8192) (e : Fin 256) :
    HEADS Q (ix4 b h p e) = Q (ix2 (row b p) (colq h e)) := by
  pointwise [HEADS]
  rfl

theorem two_f32 : Ideal.ofBits .f32 0x40000000#32 = ((2 : ℝ) : EReal) := by
  simp [Ideal.ofBits, Ideal.ieee, -EReal.coe_mul]
  norm_num

theorem log_two : Ideal.log ((2 : ℝ) : EReal) = ((Real.log 2 : ℝ) : EReal) := by
  show (if (2 : ℝ) ≤ 0 then (⊥ : EReal) else (Real.log 2 : ℝ)) = _
  norm_num

theorem scores_at (Q K : FVec Ideal S16384x2048 .bf16) (b : Fin 2) (h : Fin 8) (q p : Fin 8192) :
    SCORES Q K (ix4 b h q p) = (if p.val ≤ q.val then ∑ e : Fin 256, (Q (ix2 (row b q) (colq h e)) : EReal) * K (ix2 (row b p) (colq h e)) else ⊥) * (Real.log 2 : EReal) := by
  pointwise [SCORES]
  have hc : IntOp.cmpi CmpIPredicate.sle (BitVec.ofNat 32 p.val) (BitVec.ofNat 32 q.val) = BitVec.ofBool (decide (p.val ≤ q.val)) := by
    have := p.isLt
    have := q.isLt
    word_cmp
  rw [hc]
  have hs : (∑ x : Fin 256, (HEADS Q (ix4 b h q x) : EReal) * HEADS K (ix4 b h p x)) = ∑ e : Fin 256, (Q (ix2 (row b q) (colq h e)) : EReal) * K (ix2 (row b p) (colq h e)) :=
    Finset.sum_congr rfl fun e _ => by rw [heads_at, heads_at]
  refine Eq.trans (congrArg₂ (fun x y : EReal => x * y) ?_ ?_) rfl
  · by_cases hp : p.val ≤ q.val
    · rw [decide_eq_true hp, if_pos hp]
      exact hs
    · rw [decide_eq_false hp, if_neg hp]
      exact neg_inf
  · refine Eq.trans (show _ = Ideal.log (Ideal.ofBits .f32 0x40000000#32) from rfl) ?_
    rw [two_f32, log_two]

/-- A maximum over the last of four axes, at any sizes: the fold of the maximum. -/
theorem reduce_max_last {a b c d : ℕ} {u : Shape} (S : FVec Ideal ⟨4, ![a, b, c, d]⟩ .f32) (v : FVec Ideal u .f32)
    (hr : (⟨4, ![a, b, c, d]⟩ : Shape).ReducesTo [3] ⟨3, ![a, b, c]⟩) (hu : 0 < u.numel) (i : Fin a) (j : Fin b) (k : Fin c) :
    Host.reduce FloatOps.maximumf S v hr hu (ix3 i j k) = Finset.univ.fold max (v (Shape.Idx.first hu) : EReal) fun x : Fin d => (S (ix4 i j k x) : EReal) := by
  simp only [pointwise]

theorem top_max (S : FVec Ideal S2x8x8192x8192 .f32) (b : Fin 2) (h : Fin 8) (q : Fin 8192) (M : FVec Ideal S2x8x8192 .f32)
    (hM : M = Host.reduce FloatOps.maximumf S (constant (F := Ideal) S_ .f32 0xFF800000#32) reducesTo_S2x8x8192x8192_S2x8x8192_d3 h_S_) :
    TOP S (ix3 b h q) = M (ix3 b h q) := by
  unfold TOP
  rw [← hM]
  pointwise []
  refine (congrArg₂ (fun x y : EReal => max x y) neg_inf rfl).trans ?_
  exact (max_eq_right bot_le)

theorem max_bot (f : Fin 8192 → EReal) (z : EReal) (hz : z = ⊥) : Finset.univ.fold max z f = Finset.univ.fold max ⊥ f := by rw [hz]

theorem top_at (S : FVec Ideal S2x8x8192x8192 .f32) (b : Fin 2) (h : Fin 8) (q : Fin 8192) :
    TOP S (ix3 b h q) = Finset.univ.fold max ⊥ fun p : Fin 8192 => (S (ix4 b h q p) : EReal) :=
  ((top_max S b h q _ rfl).trans (reduce_max_last S (constant (F := Ideal) S_ .f32 0xFF800000#32) reducesTo_S2x8x8192x8192_S2x8x8192_d3 h_S_ b h q)).trans
    (max_bot _ _ neg_inf)

theorem exps_at (S : FVec Ideal S2x8x8192x8192 .f32) (b : Fin 2) (h : Fin 8) (q p : Fin 8192) :
    EXPS S (ix4 b h q p) = Ideal.exp ((S (ix4 b h q p) : EReal) - TOP S (ix3 b h q)) := by
  unfold EXPS
  generalize TOP S = T
  pointwise []

theorem probs_at (E : FVec Ideal S2x8x8192x8192 .f32) (b : Fin 2) (h : Fin 8) (q p : Fin 8192) :
    PROBS E (ix4 b h q p) = Ideal.div (E (ix4 b h q p)) (∑ k : Fin 8192, (E (ix4 b h q k) : EReal)) := by
  pointwise [PROBS]

theorem mix_at (P : FVec Ideal S2x8x8192x8192 .f32) (W : FVec Ideal S16384x1024 .bf16) (b : Fin 2) (h : Fin 8) (q : Fin 8192) (d : Fin 128) :
    MIX P W (ix2 (row b q) (colv h d)) = ∑ p : Fin 8192, (P (ix4 b h q p) : EReal) * W (ix2 (row b p) (colv h d)) := by
  pointwise [MIX]
  have h1 : (row b q).val / 8192 = b.val := by simp only [row]; omega
  have h2 : (row b q).val % 8192 = q.val := by simp only [row]; omega
  have h3 : (colv h d).val / 128 = h.val := by simp only [colv]; omega
  refine Finset.sum_congr rfl fun p _ => congrArg₂ (fun x y : EReal => x * y) (congrArg P ?_) (congrArg W ?_)
  · exact congr (congr (congrArg₂ (fun x y z w => ix4 (n0 := 2) (n1 := 8) (n2 := 8192) (n3 := 8192) x y z w) (Fin.ext h1) (Fin.ext h3)) (Fin.ext h2)) rfl
  · exact congrArg (fun x => ix2 x (colv h d)) (Fin.ext (by simp only [row, h1]; omega))

/-- The reference at an index: the softmax-weighted values of the query's head. -/
theorem ref_at (Q K : FVec Ideal S16384x2048 .bf16) (W : FVec Ideal S16384x1024 .bf16) (b : Fin 2) (h : Fin 8) (q : Fin 8192) (d : Fin 128)
    (s : Fin 8192 → EReal) (X Z : EReal) (hs : ∀ p, s p = SCORES Q K (ix4 b h q p)) (hX : X = Finset.univ.fold max ⊥ s)
    (hZ : Z = ∑ p, Ideal.exp (s p - X)) :
    REF Q K W (ix2 (row b q) (colv h d)) = ∑ p : Fin 8192, Ideal.div (Ideal.exp (s p - X)) Z * (W (ix2 (row b p) (colv h d)) : EReal) := by
  unfold REF
  rw [mix_at]
  have ht : TOP (SCORES Q K) (ix3 b h q) = X := by
    rw [top_at, hX]
    exact congrArg (Finset.univ.fold max ⊥) (funext fun p => (hs p).symm)
  have he : ∀ p, EXPS (SCORES Q K) (ix4 b h q p) = Ideal.exp (s p - X) := fun p => by
    rw [exps_at, ht, hs p]
  refine Finset.sum_congr rfl fun p _ => congrArg₂ (fun x y : EReal => x * y) ?_ rfl
  rw [probs_at]
  refine congrArg₂ Ideal.div (he p) ?_
  rw [hZ]
  exact Finset.sum_congr rfl fun k _ => he k

end Cert.Mla.Ref

end
-- ==== Proof.Finite.lean ====
/-
  What the precondition says: every entry of the queries and of the keys is a real number, so every score is one.
-/
module

public import proofs.«01_k».proof.Defs
public import proofs.«01_k».proof.Proof.Softmax
public import Idealize.ShloMosaic.Lib.ReduceAll
public import Idealize.ShloMosaic.Lib.Pointwise

@[expose] public section

set_option maxRecDepth 16384

noncomputable section

open Idealize.ShloMosaic Idealize.ShloMosaic.TcCoe Idealize.SL.Sem
open Cert.Pre_finite_scores

namespace Cert.Mla

/-- The side conditions of the precondition. -/
theorem preFacts : Cert.Pre_finite_scores.Facts where
  bitsLt_bf16_f32 := by decide
  bcast_S_S16384x2048 := by decide
  reducesTo_S16384x2048_S_d0_1 := by decide
  h_S_ := by decide

theorem inf_bits : Ideal.ofBits .f32 0x7F800000#32 = ⊤ := by
  simp [Ideal.ofBits, Ideal.ieee]

/-- An extended real whose absolute value is below the top is a real number. -/
theorem real_of_abs_lt (x : EReal) (h : Ideal.cmp .olt (max x (-x)) (Ideal.ofBits .f32 0x7F800000#32) = 1#1) : ∃ y : ℝ, x = (y : EReal) := by
  rw [inf_bits] at h
  induction x using EReal.rec with
  | bot => simp [Ideal.cmp] at h
  | top => simp [Ideal.cmp] at h
  | coe y => exact ⟨y, rfl⟩

/-- Where the precondition holds, the entries of the first two arrays are real numbers. -/
theorem finite_entries [Cert.Pre_finite_scores.Facts] (Q K : FVec Ideal S16384x2048 .bf16) (W : FVec Ideal S16384x1024 .bf16) (h : Cert.Pre_finite_scores.fn (F := Ideal) Q K W = fun _ => 1#1) :
    (∀ j, ∃ y : ℝ, (Q j : EReal) = (y : EReal)) ∧ ∀ j, ∃ y : ℝ, (K j : EReal) = (y : EReal) := by
  have h0 := congrFun h ix0
  obtain ⟨h1, h2⟩ := IntOp.andi_eq_one.1 h0
  haveI : Subsingleton S_.Idx := ⟨fun a b => funext fun k => k.elim0⟩
  exact ⟨fun j => real_of_abs_lt (Q j) (Host.reduce_andi_all _ _ _ _ _ h1 j), fun j => real_of_abs_lt (K j) (Host.reduce_andi_all _ _ _ _ _ h2 j)⟩

/-- A sum of products of real numbers is a real number. -/
theorem real_dot {n : ℕ} (f g : Fin n → EReal) (hf : ∀ j, ∃ y : ℝ, f j = (y : EReal)) (hg : ∀ j, ∃ y : ℝ, g j = (y : EReal)) :
    (∑ e, f e * g e) = ((∑ e, (f e).toReal * (g e).toReal : ℝ) : EReal) := by
  rw [Cert.Softmax.coe_sum]
  refine Finset.sum_congr rfl fun e _ => ?_
  obtain ⟨y, hy⟩ := hf e
  obtain ⟨z, hz⟩ := hg e
  rw [hy, hz, EReal.toReal_coe, EReal.toReal_coe, EReal.coe_mul]

end Cert.Mla

end
-- ==== Proof.Final.lean ====
/-
  The kernel's result array is the reference's.
-/
module

public import proofs.«01_k».proof.Proof.Gen.KernelIdeal.Value
public import proofs.«01_k».proof.Proof.Body
public import proofs.«01_k».proof.Proof.RefRead
public import proofs.«01_k».proof.Proof.Finite
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Mla

open Cert.KernelIdeal Cert.KernelIdeal.Gen

/-- Sequence, head and block of queries of a grid point. -/
def gb (t : Fin cfg0.N) : Fin 2 := grid0.coords t 0
def gh (t : Fin cfg0.N) : Fin 8 := grid0.coords t 1
def gi (t : Fin cfg0.N) : Fin 16 := grid0.coords t 2

/-- The blocks each grid point reads and writes. -/
theorem idx : ∀ t : Fin cfg0.N, win0_0.index t = ![(gb t).val * 16 + (gi t).val, (gh t).val] ∧ win0_1.index t = ![(gb t).val, (gh t).val]
    ∧ win0_2.index t = ![(gb t).val, (gh t).val] ∧ win0_3.index t = ![(gb t).val * 16 + (gi t).val, (gh t).val] :=
  (by decide +kernel : ∀ t : Fin grid0.N, _)

variable (m : (ℓ : Loc nD τ sig) → Buf (Elt Ideal) ℓ) (c : Dev nD) (t : Fin cfg0.N)

/-- Position of query `r` of block `i` in its sequence. -/
def pos (i : Fin 16) (r : Fin 512) : Fin 8192 := ⟨i.val * 512 + r.val, by omega⟩

theorem q_at (r : Fin 512) (e : Fin 256) : iblk m c 0 t (ix2 r e) = m ((c : Thread nD τ).loc main_arg0) (ix2 (Ref.row (gb t) (pos (gi t) r)) (Ref.colq (gh t) e)) := by
  blk_ext [iblk, V, idx t, Ref.row, Ref.colq, pos]

theorem k_at (p : Fin 8192) (e : Fin 256) : iblk m c 1 t (ix2 p e) = m ((c : Thread nD τ).loc main_arg1) (ix2 (Ref.row (gb t) p) (Ref.colq (gh t) e)) := by
  blk_ext [iblk, V, idx t, Ref.row, Ref.colq]

theorem v_at (p : Fin 8192) (d : Fin 128) : iblk m c 2 t (ix2 p d) = m ((c : Thread nD τ).loc main_arg2) (ix2 (Ref.row (gb t) p) (Ref.colv (gh t) d)) := by
  blk_ext [iblk, V, idx t, Ref.row, Ref.colv]

theorem o_at (r : Fin 512) (d : Fin 128) : ((cfg0.win 3).blk t).view.emb (ix2 r d) = ix2 (Ref.row (gb t) (pos (gi t) r)) (Ref.colv (gh t) d) := by
  blk_ext [idx t, Ref.row, Ref.colv, pos]

/-- What the body stores is the reference's entry, where the queries and keys are real numbers. -/
theorem point (Q K : FVec Ideal S16384x2048 .bf16) (W : FVec Ideal S16384x1024 .bf16) (hq : ∀ j, ∃ y : ℝ, (Q j : EReal) = (y : EReal))
    (hk : ∀ j, ∃ y : ℝ, (K j : EReal) = (y : EReal)) (x0 : Vec Ideal S512x256 .bf16) (x1 : Vec Ideal S8192x256 .bf16) (x2 : Vec Ideal S8192x128 .bf16)
    (h0 : ∀ r e, x0 (ix2 r e) = Q (ix2 (Ref.row (gb t) (pos (gi t) r)) (Ref.colq (gh t) e)))
    (h1 : ∀ p e, x1 (ix2 p e) = K (ix2 (Ref.row (gb t) p) (Ref.colq (gh t) e)))
    (h2 : ∀ p d, x2 (ix2 p d) = W (ix2 (Ref.row (gb t) p) (Ref.colv (gh t) d))) (r : Fin 512) (d : Fin 128) :
    out0_A_3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) x0 x1 x2 (ix2 r d)
      = Ref.REF Q K W (ix2 (Ref.row (gb t) (pos (gi t) r)) (Ref.colv (gh t) d)) := by
  have hr : ∀ (r : Fin 512) (p : Fin 8192), _ := fun r p =>
    real_dot (fun e : Fin 256 => (Q (ix2 (Ref.row (gb t) (pos (gi t) r)) (Ref.colq (gh t) e)) : EReal)) (fun e => (K (ix2 (Ref.row (gb t) p) (Ref.colq (gh t) e)) : EReal)) (fun e => hq _) (fun e => hk _)
  refine (out_softmax c (grid0.coords t) _ _ _ _ _ _ _ _ _ _ _ _ _ _ x0 x1 x2
    (fun r p => ∑ e : Fin 256, (Q (ix2 (Ref.row (gb t) (pos (gi t) r)) (Ref.colq (gh t) e)) : EReal).toReal * (K (ix2 (Ref.row (gb t) p) (Ref.colq (gh t) e)) : EReal).toReal)
    (fun r p => Eq.trans (Finset.sum_congr rfl fun e _ => congrArg₂ (fun x y : EReal => x * y) (h0 r e) (h1 p e)) (hr r p)) r d
    (fun p => Ref.SCORES Q K (ix4 (gb t) (gh t) (pos (gi t) r) p)) ?_ _ _ rfl rfl).trans ?_
  · intro p
    refine (Ref.scores_at _ _ (gb t) (gh t) (pos (gi t) r) p).trans (congrArg (fun z : EReal => z * (Real.log 2 : EReal)) ?_)
    by_cases hp : p.val ≤ (gi t).val * 512 + r.val
    · exact (if_pos hp).trans ((hr r p).trans (if_pos hp).symm)
    · exact (if_neg hp).trans (if_neg hp).symm
  · refine Eq.trans ?_ (Ref.ref_at Q K W (gb t) (gh t) (pos (gi t) r) d _ _ _ (fun p => rfl) rfl rfl).symm
    exact Finset.sum_congr rfl fun p _ => congrArg₂ (fun x y : EReal => x * y) rfl (h2 p d)

/-- The kernel's result array after the run is the reference's, where the queries and keys are real numbers. -/
theorem final (hq : ∀ j, ∃ y : ℝ, (m ((c : Thread nD τ).loc main_arg0) j : EReal) = (y : EReal))
    (hk : ∀ j, ∃ y : ℝ, (m ((c : Thread nD τ).loc main_arg1) j : EReal) = (y : EReal)) :
    (dats m 0 c).arrAt 3 cfg0.N = Ref.REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  idx_vars y
  refine (point c t _ _ _ hq hk _ _ _ (q_at m c t) (k_at m c t) (v_at m c t) _ _).trans ?_
  exact (congrArg (Ref.REF _ _ _) (o_at t _ _)).symm

end Cert.Mla

end
-- ==== Proof.UpPre.lean ====
/-
  What the precondition and the mask of the first expert product say of the tables: the count between one and all blocks, the
  experts among the 32, and the rows below 256 times the count.
-/
module

public import proofs.«01_k».proof.Pre_routed
public import proofs.«01_k».proof.On_used_rows
public import Idealize.ShloMosaic.Lib.Claim
public import Idealize.ShloMosaic.Lib.ReduceAll
public import Idealize.ShloMosaic.PureOps.Ideal

@[expose] public section

noncomputable section

namespace Cert.UpPre

open Idealize.ShloMosaic

variable {F : FTy → Type} [FloatOps F]

section
variable [Cert.Pre_routed.Facts]
open Cert.Pre_routed

theorem and_one {x y : BitVec 1} (h : IntOp.andi x y = 1#1) : x = 1#1 ∧ y = 1#1 := by
  revert h; revert x y; decide

/-- The precondition, word by word. -/
theorem routed_iff (be : IVec S288 32) (nu : IVec S1 32) (xb : IVec S73728x1024 32) (w : FVec F S32x2048x4096 .bf16) (b : FVec F S32x1x4096 .f32)
    (h : fn be nu xb w b = fun _ => 1#1) : (∀ x, 1 ≤ (nu x).toNat ∧ (nu x).toNat ≤ 288) ∧ ∀ j, (be j).toNat < 32 := by
  have h' := congrFun h (fun a => a.elim0)
  obtain ⟨h', h4⟩ := and_one h'
  obtain ⟨h', h3⟩ := and_one h'
  obtain ⟨h1, h2⟩ := and_one h'
  refine ⟨fun x => ?_, fun j => ?_⟩
  · have e1 := IntOp.cmpi_sge.1 (Host.reduce_andi_all _ _ _ _ _ h1 x)
    have e2 := IntOp.cmpi_sle.1 (Host.reduce_andi_all _ _ _ _ _ h2 x)
    replace e1 : (1#32).toInt ≤ (nu x).toInt := e1
    replace e2 : (nu x).toInt ≤ (288#32).toInt := e2
    rw [show (1#32).toInt = 1 from by decide] at e1
    rw [show (288#32).toInt = 288 from by decide] at e2
    have c := BitVec.toInt_eq_toNat_cond (nu x)
    have := (nu x).isLt
    split at c <;> omega
  · have e1 := IntOp.cmpi_sge.1 (Host.reduce_andi_all _ _ _ _ _ h3 j)
    have e2 := IntOp.cmpi_slt.1 (Host.reduce_andi_all _ _ _ _ _ h4 j)
    replace e1 : (0#32).toInt ≤ (be j).toInt := e1
    replace e2 : (be j).toInt < (32#32).toInt := e2
    rw [show (0#32).toInt = 0 from by decide] at e1
    rw [show (32#32).toInt = 32 from by decide] at e2
    have c := BitVec.toInt_eq_toNat_cond (be j)
    have := (be j).isLt
    split at c <;> omega
end

section
variable [Cert.On_used_rows.Facts]
open Cert.On_used_rows

/-- The mask selects rows of used blocks only. -/
theorem used_rows_lt (be : IVec S288 32) (nu : IVec S1 32) (xb : IVec S73728x1024 32) (w : FVec F S32x2048x4096 .bf16) (b : FVec F S32x1x4096 .f32)
    (n : ℕ) (hn : ∀ x, (nu x).toNat = n) (hle : n ≤ 288) (i : S73728x2048.Idx) (h : fn be nu xb w b i = 1#1) : (i 0).val < n * 256 := by
  obtain ⟨x, hx⟩ : ∃ x, fn be nu xb w b i = IntOp.cmpi .slt (BitVec.ofNat 32 (i 0).val) (IntOp.muli (nu x) 256#32) := ⟨_, rfl⟩
  rw [hx] at h
  have e := IntOp.cmpi_slt.1 h
  have hi : (i 0).val < 73728 := (i 0).isLt
  have hm : (IntOp.muli (nu x) 256#32).toNat = n * 256 := by
    show (nu x * 256#32).toNat = _
    rw [BitVec.toNat_mul, hn, show (256#32).toNat = 256 from rfl]; omega
  rw [BitVec.toInt_eq_toNat_of_lt (by rw [BitVec.toNat_ofNat]; omega), BitVec.toInt_eq_toNat_of_lt (by rw [hm]; omega), hm, BitVec.toNat_ofNat] at e
  omega
end

end Cert.UpPre

end
-- ==== Proof.UpBitsRuns.lean ====
/-
  The body of the first expert product, run on any tables: at a used block it stores its four column chunks, at an unused
  block it stores nothing.
-/
module

public import proofs.«01_k».proof.Proof.Gen.Kernel2.Skeleton
public import proofs.«01_k».proof.Proof.Gen.Kernel2.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.UpBits

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The experts' table in scalar memory. -/
abbrev tbE : Memref sig .tc .smem S288 .i32 := Memref.whole main_arg0
/-- The count of used blocks in scalar memory. -/
abbrev tbU : Memref sig .tc .smem S1 .i32 := Memref.whole main_arg1

/-- The one word of the count's table, as the body reads it. -/
abbrev word (T1 : S1.Idx → Elt Bits .i32) : BitVec 32 :=
  View.readAt (Elt Bits) tbU.view (Rect.unit (s := S1) ![0] S1.size inb_S1_S1_0).toLoadRect T1 (Shape.Idx.first (numel1_S1.symm ▸ Nat.one_pos))

/-- The output's staging buffer, through which its contents are stated. -/
abbrev VO : View sig .tc .vmem S256x2048 .bf16 := (Memref.whole cc0_stg3_0 : Memref sig .tc .vmem S256x2048 .bf16).view

set_option backward.proofsInPublic true in
set_option maxHeartbeats 8000000 in
/-- The stores of a used block, with the proof that the body makes them from its three input blocks. -/
noncomputable def runA (c : Dev nD) (i : grid0.Coords) (arg3 : Memref sig .tc .vmem S256x1024 .i32) (harg3 : arg3.IsWhole) (arg4 : Memref sig .tc .vmem S1x2048x4096 .bf16) (harg4 : arg4.IsWhole) (arg5 : Memref sig .tc .vmem S1x1x4096 .f32) (harg5 : arg5.IsWhole) (arg6 : Memref sig .tc .vmem S256x2048 .bf16) (harg6 : arg6.IsWhole)
    (T0 : S288.Idx → Elt Bits .i32) (T1 : S1.Idx → Elt Bits .i32)
    (x0 : S256x1024.Idx → Elt Bits .i32) (x1 : S1x2048x4096.Idx → Elt Bits .bf16) (x2 : S1x1x4096.Idx → Elt Bits .f32) (hu : k0_cond1 i (word T1) = 1#1) :
    { L : List (View.Piece (Elt Bits) S256x2048 .bf16) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tbE.view.loc (c : Thread nD τ) ↦{fullShare.right} T0)
          ∗ (tbU.view.loc (c : Thread nD τ) ↦{fullShare.right} T1)
          ∗ (∃ d, owns (c : Thread nD τ) arg6 fullShare d)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (tbE.view.loc (c : Thread nD τ) ↦{fullShare.right} T0)
              ∗ (tbU.view.loc (c : Thread nD τ) ↦{fullShare.right} T1)
              ∗ (∃ f, arg6.view.loc (c : Thread nD τ) ↦[arg6.view.set]{fullShare} arg6.view.writes (Elt Bits) f L)) -∗ K ⟨⟩))
          ⊢ wp frame (wpE (defs₀ (F := Bits)) Variants.none c none) Set.univ (cc0_moe_up i tbE (Memref.isWhole_whole _) tbU (Memref.isWhole_whole _) arg3 harg3 arg4 harg4 arg5 harg5 arg6 harg6) K } :=
  ⟨_, fun K => by
    unfold owns
    rw [cc0_moe_up_eq_skeleton]; unfold cc0_moe_up_skel
    iintro ⟨H0, H1, H2, HT0, HT1, ⟨%d3, %f3, -, HO3⟩, Hk⟩
    have hT0 : tbE.IsWhole := Memref.isWhole_whole _
    have hT1 : tbU.IsWhole := Memref.isWhole_whole _
    sl_exec! (disch := first | (guard_target = k0_cond1 _ _ = _; exact hu))
    sl_step
    iapply Hk
    isplitl [H0]; · iexact H0
    isplitl [H1]; · iexact H1
    isplitl [H2]; · iexact H2
    isplitl [HT0]; · iexact HT0
    isplitl [HT1]; · iexact HT1
    iexists _; iexact HO3⟩

/-- The four chunks cover the block. -/
theorem coverA (c : Dev nD) (i : grid0.Coords) (arg3 : Memref sig .tc .vmem S256x1024 .i32) (harg3 : arg3.IsWhole) (arg4 : Memref sig .tc .vmem S1x2048x4096 .bf16) (harg4 : arg4.IsWhole) (arg5 : Memref sig .tc .vmem S1x1x4096 .f32) (harg5 : arg5.IsWhole) (arg6 : Memref sig .tc .vmem S256x2048 .bf16) (harg6 : arg6.IsWhole)
    (T0 : S288.Idx → Elt Bits .i32) (T1 : S1.Idx → Elt Bits .i32)
    (x0 : S256x1024.Idx → Elt Bits .i32) (x1 : S1x2048x4096.Idx → Elt Bits .bf16) (x2 : S1x1x4096.Idx → Elt Bits .f32) (hu : k0_cond1 i (word T1) = 1#1) (y : S256x2048.Idx) :
    ∃ pc ∈ (runA c i arg3 harg3 arg4 harg4 arg5 harg5 arg6 harg6 T0 T1 x0 x1 x2 hu).1, y ∈ pc.1.set :=
  View.cover_of_tiledL (runA c i arg3 harg3 arg4 harg4 arg5 harg5 arg6 harg6 T0 T1 x0 x1 x2 hu).1 S256x512.size (by sl_kernel_rfl) y

/-- What a used block leaves in the output's staging buffer. -/
def outA (c : Dev nD) (i : grid0.Coords) (arg3 : Memref sig .tc .vmem S256x1024 .i32) (harg3 : arg3.IsWhole) (arg4 : Memref sig .tc .vmem S1x2048x4096 .bf16) (harg4 : arg4.IsWhole) (arg5 : Memref sig .tc .vmem S1x1x4096 .f32) (harg5 : arg5.IsWhole) (arg6 : Memref sig .tc .vmem S256x2048 .bf16) (harg6 : arg6.IsWhole)
    (T0 : S288.Idx → Elt Bits .i32) (T1 : S1.Idx → Elt Bits .i32)
    (x0 : S256x1024.Idx → Elt Bits .i32) (x1 : S1x2048x4096.Idx → Elt Bits .bf16) (x2 : S1x1x4096.Idx → Elt Bits .f32) (hu : k0_cond1 i (word T1) = 1#1) : S256x2048.Idx → Elt Bits .bf16 :=
  VO.read (Elt Bits) (VO.writes (Elt Bits) VO.junk (runA c i arg3 harg3 arg4 harg4 arg5 harg5 arg6 harg6 T0 T1 x0 x1 x2 hu).1)

set_option maxHeartbeats 8000000 in
/-- At an unused block the body gives back everything as it was. -/
theorem runB (c : Dev nD) (i : grid0.Coords) (arg3 : Memref sig .tc .vmem S256x1024 .i32) (harg3 : arg3.IsWhole) (arg4 : Memref sig .tc .vmem S1x2048x4096 .bf16) (harg4 : arg4.IsWhole) (arg5 : Memref sig .tc .vmem S1x1x4096 .f32) (harg5 : arg5.IsWhole) (arg6 : Memref sig .tc .vmem S256x2048 .bf16) (harg6 : arg6.IsWhole)
    (T0 : S288.Idx → Elt Bits .i32) (T1 : S1.Idx → Elt Bits .i32)
    (x0 : S256x1024.Idx → Elt Bits .i32) (x1 : S1x2048x4096.Idx → Elt Bits .bf16) (x2 : S1x1x4096.Idx → Elt Bits .f32) (hu : ¬k0_cond1 i (word T1) = 1#1)
    (y3 : S256x2048.Idx → Elt Bits .bf16) (K : PUnit → sProp 𝕄) :
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tbE.view.loc (c : Thread nD τ) ↦{fullShare.right} T0)
          ∗ (tbU.view.loc (c : Thread nD τ) ↦{fullShare.right} T1)
          ∗ owns (c : Thread nD τ) arg6 fullShare y3
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (tbE.view.loc (c : Thread nD τ) ↦{fullShare.right} T0)
              ∗ (tbU.view.loc (c : Thread nD τ) ↦{fullShare.right} T1)
              ∗ owns (c : Thread nD τ) arg6 fullShare y3) -∗ K ⟨⟩))
          ⊢ wp frame (wpE (defs₀ (F := Bits)) Variants.none c none) Set.univ (cc0_moe_up i tbE (Memref.isWhole_whole _) tbU (Memref.isWhole_whole _) arg3 harg3 arg4 harg4 arg5 harg5 arg6 harg6) K := by
    unfold owns
    rw [cc0_moe_up_eq_skeleton]; unfold cc0_moe_up_skel
    iintro ⟨H0, H1, H2, HT0, HT1, ⟨%f3, %hf3, HO3⟩, Hk⟩
    obtain rfl := harg6.eq_unread hf3
    have hT0 : tbE.IsWhole := Memref.isWhole_whole _
    have hT1 : tbU.IsWhole := Memref.isWhole_whole _
    sl_exec! (disch := first | (guard_target = ¬(k0_cond1 _ _ = _); exact hu))
    sl_step
    iapply Hk
    isplitl [H0]; · iexact H0
    isplitl [H1]; · iexact H1
    isplitl [H2]; · iexact H2
    isplitl [HT0]; · iexact HT0
    isplitl [HT1]; · iexact HT1
    iexists _; isplitr; · ipureintro; exact harg6.read_unread _
    iexact HO3

end Cert.UpBits

end
-- ==== Proof.UpBitsLaunch.lean ====
/-
  The launch of the first expert product at any tables in range: its schedule, its body's obligation at every point and its run.
-/
module

public import proofs.«01_k».proof.Proof.UpBitsRuns
public import proofs.«01_k».proof.Proof.UpBitsTables
public import proofs.«01_k».proof.Proof.Gen.Kernel2.Skeleton
public import proofs.«01_k».proof.Proof.Gen.Kernel2.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.UpBits

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The rounds library's algebra, whole. -/
abbrev EP : Emb (UR sig nD τ) 𝕄 := emb₁

variable (a : (pcfg0 (F := Bits)).Adm) (hr : InRange a.1)
variable (m : (ℓ : Loc nD τ sig) → Buf (Elt Bits) ℓ) (ρ : Dev nD → PrngReg)

/-- The launch at tables `a`. -/
abbrev cfg : Pipeline.Cfg sig Λ₀ := cfg0 (F := Bits) a
/-- The program's one launch. -/
abbrev launches : Fin 1 → Pipeline.Cfg sig Λ₀ := Pipeline.pin (pcfgs (F := Bits)) fun _ => a
/-- A point's coordinates. -/
abbrev crd (t : Fin (cfg a).N) : (cfg a).grid.Coords := (cfg a).grid.coords t

/-! ## The staging buffers in hand at a point -/

abbrev ms0 (t : Fin (cfg a).N) : Memref sig .tc .vmem S256x1024 .i32 := spec0_0.stage ((cfg a).slots t (0 : Fin 4))
abbrev hs0 (t : Fin (cfg a).N) : (ms0 a t).IsWhole := hstage0_0 (((cfg a).slots t (0 : Fin 4)).cast nbuf0_0)
abbrev ms1 (t : Fin (cfg a).N) : Memref sig .tc .vmem S1x2048x4096 .bf16 := spec0_1.stage ((cfg a).slots t (1 : Fin 4))
abbrev hs1 (t : Fin (cfg a).N) : (ms1 a t).IsWhole := hstage0_1 (((cfg a).slots t (1 : Fin 4)).cast nbuf0_1)
abbrev ms2 (t : Fin (cfg a).N) : Memref sig .tc .vmem S1x1x4096 .f32 := spec0_2.stage ((cfg a).slots t (2 : Fin 4))
abbrev hs2 (t : Fin (cfg a).N) : (ms2 a t).IsWhole := hstage0_2 (((cfg a).slots t (2 : Fin 4)).cast nbuf0_2)
abbrev ms3 (t : Fin (cfg a).N) : Memref sig .tc .vmem S256x2048 .bf16 := spec0_3.stage ((cfg a).slots t (3 : Fin 4))
abbrev hs3 (t : Fin (cfg a).N) : (ms3 a t).IsWhole := hstage0_3 (((cfg a).slots t (3 : Fin 4)).cast nbuf0_3)

/-- Window `w`'s block at point `t`, read off its array at the launch. -/
def blkOf (c : Dev nD) (w : Fin (cfg a).W) (t : Fin (cfg a).N) : (((cfg a).win w).xblock (crd a t)).Idx → Elt Bits ((cfg a).win w).elt :=
  (((cfg a).win w).blk t).view.read (Elt Bits) ((s₀ m ρ).mem (((cfg a).win w).arr.view.loc (c : Thread nD τ)))

/-! ## The schedule -/

/-- Point `t` works on a used block. -/
abbrev Used (t : Fin (cfg a).N) : Prop := k0_cond1 (crd a t) (word (a.1 1)) = 1#1

include hr in
theorem used_iff (t : Fin (cfg a).N) : Used a t ↔ t.val < nu a.1 :=
  (iff_of_eq (congrArg (fun w => k0_cond1 (crd a t) w = 1#1) (word_eq (a.1 1)))).trans
    ((cond_iff _ _ hr.le).trans (iff_of_eq (congrArg (· < nu a.1) (coord_eq t))))

include hr in
theorem idle_eq (t : Fin (cfg a).N) : (cfg a).idle (3 : Fin 4) ((cfg a).grid.coords t) = !decide (t.val < nu a.1) := by
  show (!(k0_cond1 (crd a t) (a.1.atD 1 ![0]) == 1#1)) = _
  congr 1
  rw [atD_eq, Bool.eq_iff_iff, beq_iff_eq, decide_eq_true_iff, cond_iff _ _ hr.le]
  exact iff_of_eq (congrArg (· < nu a.1) (coord_eq t))

include hr in
/-- The block of the result in hand at a point. -/
theorem index3 (t : Fin (cfg a).N) : ((cfg a).win (3 : Fin 4)).index t = ![min t.val (nu a.1 - 1), 0] := by
  show cc0_transform_3 inb_S1_S1_0 numel1_S1 a.1 (grid0.coords t) = _
  rw [row3 a.1 hr, coord_eq]

include hr in
/-- The result's block is written back at every used point but the last, and at the last point of all. -/
theorem flush_eq (t : Fin (cfg a).N) : ((cfg a).win (3 : Fin 4)).flush t = (decide (t.val + 1 < nu a.1) || decide (t.val = 287)) := by
  have hN : (cfg a).N = 288 := N_0
  have h2 := hr.le
  have ht := t.isLt
  unfold Pipeline.Window.flush
  rw [Bool.eq_iff_iff]
  simp only [Bool.and_eq_true, Bool.or_eq_true, decide_eq_true_iff]
  constructor
  · rintro ⟨-, h | ⟨h, h'⟩⟩
    · right; exact Nat.succ.inj (h.trans N_0)
    · left
      by_contra h''
      refine h' ?_
      rw [index3 a hr, index3 a hr]
      congr 1
      show min (t.val + 1) _ = _
      omega
  · rintro (h | h)
    · refine ⟨trivial, .inr ⟨by show t.val + 1 < grid0.N; rw [N_0]; omega, fun h' => ?_⟩⟩
      rw [index3 a hr, index3 a hr] at h'
      have := congrFun h' 0
      simp only [Matrix.cons_val_zero] at this
      omega
    · exact ⟨trivial, .inl (by show t.val + 1 = grid0.N; rw [N_0, h])⟩

/-- Whether the result's buffer holds junk before position `n`: until the used points are over, and after the last write-back. -/
def junkAt (n : ℕ) : Bool := decide (n < nu a.1) || decide (n = 288)

include hr in
theorem fresh_eq (t : Fin (cfg a).N) : (cfg a).fresh (3 : Fin 4) t.val = junkAt a t.val :=
  Pipeline.Cfg.fresh_tab (cfg a) (3 : Fin 4) (junkAt a) (by have := hr.pos; unfold junkAt; simp; omega)
    (fun t => by
      have hN : (cfg a).N = 288 := N_0
      have ht := t.isLt
      have := hr.le
      rw [flush_eq a hr, idle_eq a hr]
      unfold junkAt
      by_cases h1 : t.val + 1 < nu a.1
      · simp [h1]
      · by_cases h2 : t.val = 287
        · simp [h1, h2]
        · by_cases h3 : t.val < nu a.1
          · simp [h1, h2, h3]
          · have : t.val ≠ 288 := by omega
            simp [h1, h2, h3, this]) t.val (Nat.le_of_lt t.isLt)

include hr in
/-- A used point stores its block over junk. -/
theorem sched_used (t : Fin (cfg a).N) (q : Used a t) :
    (cfg a).idle (3 : Fin 4) ((cfg a).grid.coords t) = false ∧ (cfg a).fresh (3 : Fin 4) t.val = true := by
  rw [used_iff a hr] at q
  rw [idle_eq a hr, fresh_eq a hr]; unfold junkAt
  simp [q]

include hr in
/-- An unused point leaves the last used one's block as it is. -/
theorem sched_unused (t : Fin (cfg a).N) (q : ¬Used a t) :
    (cfg a).idle (3 : Fin 4) ((cfg a).grid.coords t) = true ∧ (cfg a).fresh (3 : Fin 4) t.val = false := by
  rw [used_iff a hr] at q
  have hN : (cfg a).N = 288 := N_0
  have ht := t.isLt
  have : t.val ≠ 288 := by omega
  rw [idle_eq a hr, fresh_eq a hr]; unfold junkAt
  simp [q, this]

/-! ## What the result's buffer holds -/

/-- One point's step: a used block's contents, or what was there before. -/
def step (c : Dev nD) (t : Fin (cfg a).N) (prev : S256x2048.Idx → Elt Bits .bf16) : S256x2048.Idx → Elt Bits .bf16 :=
  if q : Used a t then
    outA c (crd a t) (ms0 a t) (hs0 a t) (ms1 a t) (hs1 a t) (ms2 a t) (hs2 a t) (ms3 a t) (hs3 a t) (a.1 0) (a.1 1) (blkOf a m ρ c (0 : Fin 4) t) (blkOf a m ρ c (1 : Fin 4) t) (blkOf a m ρ c (2 : Fin 4) t) q
  else
    (if (cfg a).fresh (3 : Fin 4) t.val then default else prev)

/-- After position `n`. -/
def traj (c : Dev nD) : (n : ℕ) → n < (cfg a).N → (S256x2048.Idx → Elt Bits .bf16)
  | 0, h => step a m ρ c ⟨0, h⟩ default
  | n + 1, h => step a m ρ c ⟨n + 1, h⟩ (traj c n (Nat.lt_of_succ_lt h))

/-- Before point `t`. -/
def prev (c : Dev nD) (t : Fin (cfg a).N) : S256x2048.Idx → Elt Bits .bf16 :=
  if h : t.val = 0 then default else traj a m ρ c (t.val - 1) (by omega)

theorem traj_eq (c : Dev nD) (t : Fin (cfg a).N) : traj a m ρ c t.val t.isLt = step a m ρ c t (prev a m ρ c t) := by
  obtain ⟨n, hn⟩ := t
  cases n with
  | zero => rfl
  | succ n => unfold prev; simp only [Nat.add_one_ne_zero, dif_neg, not_false_eq_true]; rfl

theorem step_used (c : Dev nD) (t : Fin (cfg a).N) (p : S256x2048.Idx → Elt Bits .bf16) (q : Used a t) :
    step a m ρ c t p = outA c (crd a t) (ms0 a t) (hs0 a t) (ms1 a t) (hs1 a t) (ms2 a t) (hs2 a t) (ms3 a t) (hs3 a t) (a.1 0) (a.1 1) (blkOf a m ρ c (0 : Fin 4) t) (blkOf a m ρ c (1 : Fin 4) t) (blkOf a m ρ c (2 : Fin 4) t) q := by
  unfold step; rw [dif_pos q]

theorem step_unused (c : Dev nD) (t : Fin (cfg a).N) (p : S256x2048.Idx → Elt Bits .bf16) (q : ¬Used a t) :
    step a m ρ c t p = (if (cfg a).fresh (3 : Fin 4) t.val then default else p) := by
  unfold step; rw [dif_neg q]

/-! ## The launch's proof data -/

/-- The invariant: the body's halves of the tables. -/
def Phi (c : Dev nD) (t : Fin ((cfg a).N + 1)) : sProp 𝕄 :=
  iprop((tbE.view.loc (c : Thread nD τ) ↦{fullShare.right} (a.1 0 : S288.Idx → Elt Bits .i32)) ∗ (tbU.view.loc (c : Thread nD τ) ↦{fullShare.right} (a.1 1 : S1.Idx → Elt Bits .i32)))

/-- The launch's proof data on core `c`. -/
def dats (_ : Fin 1) (c : Dev nD) : Dat τ (Elt Bits) Unit ℕ (UR sig nD τ) ℕ (cfg a) c where
  A w := (s₀ m ρ).mem (((cfg a).win w).arr.view.loc (c : Thread nD τ))
  after w t := match w with
    | ⟨0, _⟩ => blkOf a m ρ c (0 : Fin 4) t
    | ⟨1, _⟩ => blkOf a m ρ c (1 : Fin 4) t
    | ⟨2, _⟩ => blkOf a m ρ c (2 : Fin 4) t
    | ⟨3, _⟩ => (traj a m ρ c t.val t.isLt)
  Φ t := Phi a c t
  q _ := fullShare
  owed _ := 0

theorem after_0 (c : Dev nD) (t : Fin (cfg a).N) : (dats a m ρ 0 c).after (0 : Fin 4) t = blkOf a m ρ c (0 : Fin 4) t := rfl
theorem after_1 (c : Dev nD) (t : Fin (cfg a).N) : (dats a m ρ 0 c).after (1 : Fin 4) t = blkOf a m ρ c (1 : Fin 4) t := rfl
theorem after_2 (c : Dev nD) (t : Fin (cfg a).N) : (dats a m ρ 0 c).after (2 : Fin 4) t = blkOf a m ρ c (2 : Fin 4) t := rfl
theorem after_3 (c : Dev nD) (t : Fin (cfg a).N) : (dats a m ρ 0 c).after (3 : Fin 4) t = traj a m ρ c t.val t.isLt := rfl

/-- Input 0's buffer holds its block when the body runs. -/
theorem before_0 (c : Dev nD) (t : Fin (cfg a).N) (d) : (dats a m ρ 0 c).before (0 : Fin 4) t d = blkOf a m ρ c (0 : Fin 4) t :=
  ((dats a m ρ 0 c).before_in_eq_fetched (0 : Fin 4) rfl (fun _ => rfl) (fun _ _ _ => rfl) (fun t => by rw [after_0]; unfold Dat.blockOf blkOf; rfl) t d).trans
    (by unfold Dat.fetched Dat.blockOf blkOf; rfl)

/-- Input 1's buffer holds its block when the body runs. -/
theorem before_1 (c : Dev nD) (t : Fin (cfg a).N) (d) : (dats a m ρ 0 c).before (1 : Fin 4) t d = blkOf a m ρ c (1 : Fin 4) t :=
  ((dats a m ρ 0 c).before_in_eq_fetched (1 : Fin 4) rfl (fun _ => rfl) (fun _ _ _ => rfl) (fun t => by rw [after_1]; unfold Dat.blockOf blkOf; rfl) t d).trans
    (by unfold Dat.fetched Dat.blockOf blkOf; rfl)

/-- Input 2's buffer holds its block when the body runs. -/
theorem before_2 (c : Dev nD) (t : Fin (cfg a).N) (d) : (dats a m ρ 0 c).before (2 : Fin 4) t d = blkOf a m ρ c (2 : Fin 4) t :=
  ((dats a m ρ 0 c).before_in_eq_fetched (2 : Fin 4) rfl (fun _ => rfl) (fun _ _ _ => rfl) (fun t => by rw [after_2]; unfold Dat.blockOf blkOf; rfl) t d).trans
    (by unfold Dat.fetched Dat.blockOf blkOf; rfl)

include hr in
/-- The result's buffer carries through the unused points. -/
theorem carry (c : Dev nD) : ∀ (t : Fin (cfg a).N) (ht : t.val ≠ 0), (cfg a).idle (3 : Fin 4) ((cfg a).grid.coords t) = true → (cfg a).fresh (3 : Fin 4) t.val = false →
    (dats a m ρ 0 c).after (3 : Fin 4) t = (dats a m ρ 0 c).after (3 : Fin 4) ⟨t.val - 1, by omega⟩ := by
  intro t ht hi hf
  rw [after_3, after_3, traj_eq]
  by_cases q : Used a t
  · obtain ⟨i3, -⟩ := sched_used a hr t q
    rw [i3] at hi; exact absurd hi (by decide)
  · rw [step_unused a m ρ c t _ q]
    simp only [hf, Bool.false_eq_true, ↓reduceIte]
    unfold prev; rw [dif_neg ht]

include hr in
/-- The result's buffer when the body runs: junk, or what the point before left. -/
theorem before_3 (c : Dev nD) (t : Fin (cfg a).N) (d) :
    (dats a m ρ 0 c).before (3 : Fin 4) t d = if (cfg a).fresh (3 : Fin 4) t.val then d else (prev a m ρ c t) := by
  rw [(dats a m ρ 0 c).before_out_traj (3 : Fin 4) rfl (fun _ _ => rfl) (carry a hr m ρ c) t.val t rfl d]
  by_cases hf : (cfg a).fresh (3 : Fin 4) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after_3]; unfold prev; rw [dif_neg h0]

/-! ## The body at a point -/

/-- The body at point `t` on its staging buffers. -/
abbrev bodyAt (t : Fin (cfg a).N) : Prog (TpuEff nD τ sig (Elt Bits) Λ₀ .tc) PUnit :=
  cc0_moe_up (crd a t) (Memref.whole main_arg0) (Memref.isWhole_whole _) (Memref.whole main_arg1) (Memref.isWhole_whole _) (ms0 a t) (hs0 a t) (ms1 a t) (hs1 a t) (ms2 a t) (hs2 a t) (ms3 a t) (hs3 a t)

include hr in
set_option maxHeartbeats 4000000 in
/-- The body's triple at point `t`: a used point stores its block, an unused one leaves everything. -/
theorem sound_body (c : Dev nD) (t : Fin (cfg a).N) :
    iprop((dats a m ρ 0 c).Φ t.castSucc ∗ (dats a m ρ 0 c).owesAt () t.castSucc
        ∗ (∃ d, owns (c : Thread nD τ) (ms0 a t) fullShare ((dats a m ρ 0 c).before (0 : Fin 4) t d))
        ∗ (∃ d, owns (c : Thread nD τ) (ms1 a t) fullShare ((dats a m ρ 0 c).before (1 : Fin 4) t d))
        ∗ (∃ d, owns (c : Thread nD τ) (ms2 a t) fullShare ((dats a m ρ 0 c).before (2 : Fin 4) t d))
        ∗ (∃ d, owns (c : Thread nD τ) (ms3 a t) fullShare ((dats a m ρ 0 c).before (3 : Fin 4) t d)))
      ⊢ wp frame (wpE (defs₀ (F := Bits)) Variants.none c none) Set.univ (bodyAt a t) fun _ =>
          iprop((dats a m ρ 0 c).Φ t.succ ∗ (dats a m ρ 0 c).owesAt () t.succ
            ∗ bigSep Finset.univ fun w : Fin (cfg a).W =>
                match (cfg a).idle w ((cfg a).grid.coords t) with
                | true =>
                  match ((cfg a).win w).flush t with
                  | false => iprop(∃ d, owns (c : Thread nD τ) (((cfg a).win w).stage ((cfg a).slots t w)) fullShare ((dats a m ρ 0 c).before w t d))
                  | true => owns (c : Thread nD τ) (((cfg a).win w).stage ((cfg a).slots t w)) fullShare ((dats a m ρ 0 c).after w t)
                | false => owns (c : Thread nD τ) (((cfg a).win w).stage ((cfg a).slots t w)) fullShare ((dats a m ρ 0 c).after w t)) := by
  rw [bigSep_W0]
  by_cases q : Used a t
  · obtain ⟨i3, fr3⟩ := sched_used a hr t q
    rewrite [i3]
    simp only [before_0, before_1, before_2, before_3 a hr, after_0, after_1, after_2, after_3]
    simp only [fr3, Bool.false_eq_true, ↓reduceIte]
    rewrite [show (dats a m ρ 0 c).Φ t.succ = Phi a c t.succ from rfl, show (dats a m ρ 0 c).Φ t.castSucc = Phi a c t.castSucc from rfl,
      show (dats a m ρ 0 c).owesAt () t.succ = (dats a m ρ 0 c).owesAt () t.castSucc from rfl]
    rewrite [traj_eq, step_used a m ρ c t _ q]
    unfold Phi
    iintro ⟨⟨HT0, HT1⟩, Ho, ⟨%d0, H0⟩, ⟨%d1, H1⟩, ⟨%d2, H2⟩, ⟨%d3, H3⟩⟩
    iapply ((runA c (crd a t) (ms0 a t) (hs0 a t) (ms1 a t) (hs1 a t) (ms2 a t) (hs2 a t) (ms3 a t) (hs3 a t) (a.1 0) (a.1 1) (blkOf a m ρ c (0 : Fin 4) t) (blkOf a m ρ c (1 : Fin 4) t) (blkOf a m ρ c (2 : Fin 4) t) q).2 _)
    isplitl [H0]; · iapply rep_of_owns; iexact H0
    isplitl [H1]; · iapply rep_of_owns; iexact H1
    isplitl [H2]; · iapply rep_of_owns; iexact H2
    isplitl [HT0]; · iexact HT0
    isplitl [HT1]; · iexact HT1
    isplitl [H3]; · iexists _; iexact H3
    iintro ⟨H0, H1, H2, HT0, HT1, ⟨%e3, H3⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    unfold owns; iexists _; isplitr; swap
    · iexact H3
    · ipureintro; exact View.read_writes_of_cover _ _ _ _ _ (coverA c _ _ _ _ _ _ _ _ _ _ _ _ _ _ _)
  · obtain ⟨i3, fr3⟩ := sched_unused a hr t q
    cases f3 : ((cfg a).win (3 : Fin 4)).flush t
    all_goals
      rewrite [i3]
      simp only [before_0, before_1, before_2, before_3 a hr, after_0, after_1, after_2, after_3, f3]
      simp only [fr3, Bool.false_eq_true, ↓reduceIte]
      rewrite [show (dats a m ρ 0 c).Φ t.succ = Phi a c t.succ from rfl, show (dats a m ρ 0 c).Φ t.castSucc = Phi a c t.castSucc from rfl,
        show (dats a m ρ 0 c).owesAt () t.succ = (dats a m ρ 0 c).owesAt () t.castSucc from rfl]
      try rewrite [traj_eq, step_unused a m ρ c t _ q]
      unfold Phi; simp only [traj_eq, step_unused a m ρ c t _ q, fr3, Bool.false_eq_true, ↓reduceIte]
      iintro ⟨⟨HT0, HT1⟩, Ho, ⟨%d0, H0⟩, ⟨%d1, H1⟩, ⟨%d2, H2⟩, ⟨%d3, H3⟩⟩
      iapply (runB c (crd a t) (ms0 a t) (hs0 a t) (ms1 a t) (hs1 a t) (ms2 a t) (hs2 a t) (ms3 a t) (hs3 a t) (a.1 0) (a.1 1) (blkOf a m ρ c (0 : Fin 4) t) (blkOf a m ρ c (1 : Fin 4) t) (blkOf a m ρ c (2 : Fin 4) t) q _ _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexact H3
      iintro ⟨H0, H1, H2, HT0, HT1, H3⟩
      isplitl [HT0 HT1]
      · isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      first | (iexists d3; iexact H3) | iexact H3

include hr in
/-- The library's obligation on the body. -/
theorem obligation (c : Dev nD) : BodyObligation (dats a m ρ 0 c) (defs₀ (F := Bits)) Variants.none () Set.univ := fun t => by
  rw [bigSep_W0]
  exact sound_body a hr m ρ c t

/-! ## The launch -/

/-- The rounds library's launch element. -/
def u₀ : UR sig nD τ :=
  initOf (Pipeline.cells (launches a) ((launch0 (F := Bits)).cellOf_inj fun _ => a))
    (Pipeline.launchToks (launches a) ((launch0 (F := Bits)).cellOf_inj fun _ => a))

theorem share_eq (c : Dev nD) (w : Fin (cfg a).W) : (dats a m ρ 0 c).share w = fullShare := by unfold Dat.share; split <;> rfl

/-- The tables as the launch hands them over, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi_intro (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a c 0 from rfl]
  unfold Phi
  iintro ⟨-, ⟨HT0, HT1⟩, -⟩
  isplitl [HT0]
  · iexact HT0
  iexact HT1

theorem phi_exit (c : Dev nD) : (dats a m ρ 0 c).Φ (Fin.last (cfg a).N) ⊢ iprop(BI.emp ∗ Pipeline.scopedRest spec0 c) := by
  rw [scopedRest0_eq, show (dats a m ρ 0 c).Φ (Fin.last (cfg a).N) = Phi a c (Fin.last _) from rfl]
  unfold Phi
  iintro ⟨-, -⟩
  isplitr; · iempintro
  iempintro

/-- The memory's tables are the ones the launch is read at. -/
def Holds : Prop := ∀ c : Dev nD, ∀ j : Fin 2, m ((c : Thread nD τ).loc (pre0.ref j)) = a.1 j

/-- Every array ends at what the launch computes, every table as it was. -/
def QC : PUnit × MemSt nD τ sig (Elt Bits) → Prop := fun r =>
  ∀ c : Dev nD, (∀ w : Fin (cfg a).W, r.2.mem (((cfg a).win w).arr.view.loc (c : Thread nD τ)) = (dats a m ρ 0 c).arrAt w (cfg a).N)
    ∧ ∀ j, r.2.mem ((c : Thread nD τ).loc (pre0.ref j)) = a.1 j

include hr in
set_option backward.isDefEq.respectTransparency.types false in
set_option maxHeartbeats 4000000 in
/-- From any memory holding the tables, every weakly fair execution ends with the arrays at the computed contents and every
    semaphore counter at zero. -/
theorem run_quiescent (hp : Holds a m) : θ_run (defs (F := Bits)) (onTc (τ := τ) (main (F := Bits))) (s₀ m ρ) (fun r => QC a m ρ r ∧ r.2.sem = fun _ => 0) :=
  Pipeline.θ_run_region_noSem_pf_quiescent pcfgs (fun _ => a) (dats a m ρ) () ((launch0 (F := Bits)).cellOf_inj fun _ => a) (0 : Fin 1)
    (launch0 (F := Bits)).win.to₀ (launch0 (F := Bits)).pre EP defs₀ Variants.none m ρ main
    (hbody := fun c => (obligation a hr m ρ c).loose) (hne := (launch0 (F := Bits)).block_pos)
    (harr := (launch0 (F := Bits)).arr_whole) (hstage := (launch0 (F := Bits)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (launches a) (dats a m ρ) 0 (launch0 (F := Bits)).win.arr_inj c (launch0 (F := Bits)).arr_whole
      (share_eq a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi_intro a m ρ)
    (hout := phi_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

include hr in
/-- The result ends at what the launch computes, the arguments as they were, the counters at zero. -/
theorem run (hp : Holds a m) :
    θ_run (defs (F := Bits)) (onTc (τ := τ) (main (F := Bits))) ⟨m, fun _ => 0, ρ⟩ (fun r => (∀ c : Dev nD,
      r.2.mem ((c.tc : Thread nD τ).loc main_v0) = (dats a m ρ 0 c).arrAt (3 : Fin 4) (cfg a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(h.1 c).1 (3 : Fin 4), ((h.1 c).2 0).trans (hp c 0).symm, ((h.1 c).2 1).trans (hp c 1).symm,
    ((h.1 c).1 (0 : Fin 4)).trans ((dats a m ρ 0 c).arrAt_in (0 : Fin 4) rfl _), ((h.1 c).1 (1 : Fin 4)).trans ((dats a m ρ 0 c).arrAt_in (1 : Fin 4) rfl _),
    ((h.1 c).1 (2 : Fin 4)).trans ((dats a m ρ 0 c).arrAt_in (2 : Fin 4) rfl _)⟩, h.2⟩) (run_quiescent a hr m ρ hp)

end Cert.UpBits

end
-- ==== Proof.UpBitsFrame.lean ====
/-
  The first expert product's launch under the claim's precondition: its tables are in range, so it runs.
-/
module

public import proofs.«01_k».proof.Defs
public import proofs.«01_k».proof.Proof.UpPre
public import proofs.«01_k».proof.Proof.Gen.Pre_routed
public import proofs.«01_k».proof.Proof.UpBitsLaunch

@[expose] public section

set_option maxRecDepth 16384

noncomputable section

namespace Cert.UpBits

open Cert.Kernel2 Cert.Kernel2.Gen
open Idealize.ShloMosaic
open Idealize.ShloMosaic.TcCoe Idealize.SL.Sem

variable (m : (ℓ : Loc nD τ sig) → Buf (Elt Bits) ℓ) (ρ : Dev nD → PrngReg)

/-- The tables the launch finds in memory. -/
def tables (c : Dev nD) : Tables := fun j => m ((c : Thread nD τ).loc (pre0.ref j))

/-- The precondition puts them in range. -/
theorem tables_inRange (h : Pre_Kernel2 m) (c : Dev nD) : InRange (tables m c) := by
  have hi := UpPre.routed_iff _ _ _ _ _ (h c)
  exact ⟨(hi.1 z).1, (hi.1 z).2, hi.2⟩

/-- The device's tables, admissible. -/
def adm (h : Pre_Kernel2 m) : (pcfg0 (F := Bits)).Adm := ⟨tables m 0, ok _ (tables_inRange m h 0)⟩

theorem adm_inRange (h : Pre_Kernel2 m) : InRange (adm m h).1 := tables_inRange m h 0

theorem adm_holds (h : Pre_Kernel2 m) : Holds (adm m h) m := by
  intro c j
  obtain rfl : c = 0 := Subsingleton.elim _ _
  rfl

/-- The kernel runs, leaves its arguments as they were, and ends with every counter at zero. -/
theorem frame : quiescent_Kernel2 := fun m ρ h =>
  (θ_run defs _ _).mono (fun _ r => ⟨fun c => (r.1 c).2, r.2⟩) (run (adm m h) (adm_inRange m h) m ρ (adm_holds m h))

end Cert.UpBits

end
-- ==== Proof.UpIdealRuns.lean ====
/-
  The body of the first expert product, run on any tables: at a used block it stores its four column chunks, at an unused
  block it stores nothing.
-/
module

public import proofs.«01_k».proof.Proof.Gen.Kernel2Ideal.Skeleton
public import proofs.«01_k».proof.Proof.Gen.Kernel2Ideal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.UpIdeal

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The experts' table in scalar memory. -/
abbrev tbE : Memref sig .tc .smem S288 .i32 := Memref.whole main_arg0
/-- The count of used blocks in scalar memory. -/
abbrev tbU : Memref sig .tc .smem S1 .i32 := Memref.whole main_arg1

/-- The one word of the count's table, as the body reads it. -/
abbrev word (T1 : S1.Idx → Elt Ideal .i32) : BitVec 32 :=
  View.readAt (Elt Ideal) tbU.view (Rect.unit (s := S1) ![0] S1.size inb_S1_S1_0).toLoadRect T1 (Shape.Idx.first (numel1_S1.symm ▸ Nat.one_pos))

/-- The output's staging buffer, through which its contents are stated. -/
abbrev VO : View sig .tc .vmem S256x2048 .bf16 := (Memref.whole cc0_stg3_0 : Memref sig .tc .vmem S256x2048 .bf16).view

set_option backward.proofsInPublic true in
set_option maxHeartbeats 8000000 in
/-- The stores of a used block, with the proof that the body makes them from its three input blocks. -/
noncomputable def runA (c : Dev nD) (i : grid0.Coords) (arg3 : Memref sig .tc .vmem S256x1024 .i32) (harg3 : arg3.IsWhole) (arg4 : Memref sig .tc .vmem S1x2048x4096 .bf16) (harg4 : arg4.IsWhole) (arg5 : Memref sig .tc .vmem S1x1x4096 .f32) (harg5 : arg5.IsWhole) (arg6 : Memref sig .tc .vmem S256x2048 .bf16) (harg6 : arg6.IsWhole)
    (T0 : S288.Idx → Elt Ideal .i32) (T1 : S1.Idx → Elt Ideal .i32)
    (x0 : S256x1024.Idx → Elt Ideal .i32) (x1 : S1x2048x4096.Idx → Elt Ideal .bf16) (x2 : S1x1x4096.Idx → Elt Ideal .f32) (hu : k0_cond1 i (word T1) = 1#1) :
    { L : List (View.Piece (Elt Ideal) S256x2048 .bf16) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tbE.view.loc (c : Thread nD τ) ↦{fullShare.right} T0)
          ∗ (tbU.view.loc (c : Thread nD τ) ↦{fullShare.right} T1)
          ∗ (∃ d, owns (c : Thread nD τ) arg6 fullShare d)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (tbE.view.loc (c : Thread nD τ) ↦{fullShare.right} T0)
              ∗ (tbU.view.loc (c : Thread nD τ) ↦{fullShare.right} T1)
              ∗ (∃ f, arg6.view.loc (c : Thread nD τ) ↦[arg6.view.set]{fullShare} arg6.view.writes (Elt Ideal) f L)) -∗ K ⟨⟩))
          ⊢ wp frame (wpE (defs₀ (F := Ideal)) Variants.none c none) Set.univ (cc0_moe_up i tbE (Memref.isWhole_whole _) tbU (Memref.isWhole_whole _) arg3 harg3 arg4 harg4 arg5 harg5 arg6 harg6) K } :=
  ⟨_, fun K => by
    unfold owns
    rw [cc0_moe_up_eq_skeleton]; unfold cc0_moe_up_skel
    iintro ⟨H0, H1, H2, HT0, HT1, ⟨%d3, %f3, -, HO3⟩, Hk⟩
    have hT0 : tbE.IsWhole := Memref.isWhole_whole _
    have hT1 : tbU.IsWhole := Memref.isWhole_whole _
    sl_exec! (disch := first | (guard_target = k0_cond1 _ _ = _; exact hu))
    sl_step
    iapply Hk
    isplitl [H0]; · iexact H0
    isplitl [H1]; · iexact H1
    isplitl [H2]; · iexact H2
    isplitl [HT0]; · iexact HT0
    isplitl [HT1]; · iexact HT1
    iexists _; iexact HO3⟩

/-- The four chunks cover the block. -/
theorem coverA (c : Dev nD) (i : grid0.Coords) (arg3 : Memref sig .tc .vmem S256x1024 .i32) (harg3 : arg3.IsWhole) (arg4 : Memref sig .tc .vmem S1x2048x4096 .bf16) (harg4 : arg4.IsWhole) (arg5 : Memref sig .tc .vmem S1x1x4096 .f32) (harg5 : arg5.IsWhole) (arg6 : Memref sig .tc .vmem S256x2048 .bf16) (harg6 : arg6.IsWhole)
    (T0 : S288.Idx → Elt Ideal .i32) (T1 : S1.Idx → Elt Ideal .i32)
    (x0 : S256x1024.Idx → Elt Ideal .i32) (x1 : S1x2048x4096.Idx → Elt Ideal .bf16) (x2 : S1x1x4096.Idx → Elt Ideal .f32) (hu : k0_cond1 i (word T1) = 1#1) (y : S256x2048.Idx) :
    ∃ pc ∈ (runA c i arg3 harg3 arg4 harg4 arg5 harg5 arg6 harg6 T0 T1 x0 x1 x2 hu).1, y ∈ pc.1.set :=
  View.cover_of_tiledL (runA c i arg3 harg3 arg4 harg4 arg5 harg5 arg6 harg6 T0 T1 x0 x1 x2 hu).1 S256x512.size (by sl_kernel_rfl) y

/-- What a used block leaves in the output's staging buffer. -/
def outA (c : Dev nD) (i : grid0.Coords) (arg3 : Memref sig .tc .vmem S256x1024 .i32) (harg3 : arg3.IsWhole) (arg4 : Memref sig .tc .vmem S1x2048x4096 .bf16) (harg4 : arg4.IsWhole) (arg5 : Memref sig .tc .vmem S1x1x4096 .f32) (harg5 : arg5.IsWhole) (arg6 : Memref sig .tc .vmem S256x2048 .bf16) (harg6 : arg6.IsWhole)
    (T0 : S288.Idx → Elt Ideal .i32) (T1 : S1.Idx → Elt Ideal .i32)
    (x0 : S256x1024.Idx → Elt Ideal .i32) (x1 : S1x2048x4096.Idx → Elt Ideal .bf16) (x2 : S1x1x4096.Idx → Elt Ideal .f32) (hu : k0_cond1 i (word T1) = 1#1) : S256x2048.Idx → Elt Ideal .bf16 :=
  VO.read (Elt Ideal) (VO.writes (Elt Ideal) VO.junk (runA c i arg3 harg3 arg4 harg4 arg5 harg5 arg6 harg6 T0 T1 x0 x1 x2 hu).1)

set_option maxHeartbeats 8000000 in
/-- At an unused block the body gives back everything as it was. -/
theorem runB (c : Dev nD) (i : grid0.Coords) (arg3 : Memref sig .tc .vmem S256x1024 .i32) (harg3 : arg3.IsWhole) (arg4 : Memref sig .tc .vmem S1x2048x4096 .bf16) (harg4 : arg4.IsWhole) (arg5 : Memref sig .tc .vmem S1x1x4096 .f32) (harg5 : arg5.IsWhole) (arg6 : Memref sig .tc .vmem S256x2048 .bf16) (harg6 : arg6.IsWhole)
    (T0 : S288.Idx → Elt Ideal .i32) (T1 : S1.Idx → Elt Ideal .i32)
    (x0 : S256x1024.Idx → Elt Ideal .i32) (x1 : S1x2048x4096.Idx → Elt Ideal .bf16) (x2 : S1x1x4096.Idx → Elt Ideal .f32) (hu : ¬k0_cond1 i (word T1) = 1#1)
    (y3 : S256x2048.Idx → Elt Ideal .bf16) (K : PUnit → sProp 𝕄) :
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tbE.view.loc (c : Thread nD τ) ↦{fullShare.right} T0)
          ∗ (tbU.view.loc (c : Thread nD τ) ↦{fullShare.right} T1)
          ∗ owns (c : Thread nD τ) arg6 fullShare y3
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (tbE.view.loc (c : Thread nD τ) ↦{fullShare.right} T0)
              ∗ (tbU.view.loc (c : Thread nD τ) ↦{fullShare.right} T1)
              ∗ owns (c : Thread nD τ) arg6 fullShare y3) -∗ K ⟨⟩))
          ⊢ wp frame (wpE (defs₀ (F := Ideal)) Variants.none c none) Set.univ (cc0_moe_up i tbE (Memref.isWhole_whole _) tbU (Memref.isWhole_whole _) arg3 harg3 arg4 harg4 arg5 harg5 arg6 harg6) K := by
    unfold owns
    rw [cc0_moe_up_eq_skeleton]; unfold cc0_moe_up_skel
    iintro ⟨H0, H1, H2, HT0, HT1, ⟨%f3, %hf3, HO3⟩, Hk⟩
    obtain rfl := harg6.eq_unread hf3
    have hT0 : tbE.IsWhole := Memref.isWhole_whole _
    have hT1 : tbU.IsWhole := Memref.isWhole_whole _
    sl_exec! (disch := first | (guard_target = ¬(k0_cond1 _ _ = _); exact hu))
    sl_step
    iapply Hk
    isplitl [H0]; · iexact H0
    isplitl [H1]; · iexact H1
    isplitl [H2]; · iexact H2
    isplitl [HT0]; · iexact HT0
    isplitl [HT1]; · iexact HT1
    iexists _; isplitr; · ipureintro; exact harg6.read_unread _
    iexact HO3

end Cert.UpIdeal

end
-- ==== Proof.UpIdealTables.lean ====
/-
  The two prefetched tables of the first expert product: what the index maps and the body read of them, and that tables in
  range are admissible.
-/
module

public import proofs.«01_k».proof.Proof.UpIdealRuns
public import proofs.«01_k».proof.Proof.Gen.Kernel2Ideal.Skeleton
public import proofs.«01_k».proof.Proof.Gen.Kernel2Ideal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.UpIdeal

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The tables' contents the launch is read at: the experts' table and the count of used blocks. -/
abbrev Tables := pre0.Contents (Elt Ideal)

/-- The only index of the count's table. -/
def z : S1.Idx := fun a => ⟨0, by fin_cases a; exact Nat.one_pos⟩

/-- There is no other. -/
theorem z_unique (x : S1.Idx) : x = z := by
  funext a
  have h := (x a).isLt
  refine Fin.ext ?_
  obtain rfl : a = 0 := Subsingleton.elim (α := Fin 1) _ _
  exact Nat.lt_one_iff.mp h

/-- The body reads the count's one word. -/
theorem word_eq (T1 : S1.Idx → Elt Ideal .i32) : word T1 = T1 z :=
  congrArg T1 (z_unique _)

/-- So do the index maps. -/
theorem at_eq (pf : Tables) : pf.at 1 (Rect.unit (s := S1) ![0] S1.size inb_S1_S1_0) numel1_S1 = pf 1 z :=
  congrArg (pf 1) (z_unique _)

/-- And the idle table. -/
theorem atD_eq (pf : Tables) : pf.atD 1 ![0] = pf 1 z := by
  unfold Pipeline.Prefetch.Contents.atD
  rw [dif_pos (by decide)]
  exact congrArg (pf 1) (z_unique _)

/-- The count of used blocks. -/
abbrev nu (pf : Tables) : ℕ := BitVec.toNat (w := 32) (pf 1 z)

/-- Both tables in range: between one and all 288 blocks used, every expert one of the 32. -/
structure InRange (pf : Tables) : Prop where
  pos : 1 ≤ nu pf
  le : nu pf ≤ 288
  expert : ∀ j : S288.Idx, BitVec.toNat (w := 32) (pf 0 j) < 32

theorem coord_lt (i : grid0.Coords) : (i 0).val < 288 := (i 0).isLt

/-- The grid's only coordinate counts the points. -/
theorem coord_eq : ∀ t : Fin grid0.N, (grid0.coords t 0).val = t.val := by decide +kernel

/-- The body's condition: the block is one of the used ones. -/
theorem cond_iff (i : grid0.Coords) (w : BitVec 32) (hw : w.toNat ≤ 288) : k0_cond1 i w = 1#1 ↔ (i 0).val < w.toNat := by
  have hi := coord_lt i
  have e : (BitVec.ofNat 32 (i 0).val).slt w = decide ((i 0).val < w.toNat) := by
    rw [BitVec.slt_eq_decide, BitVec.toInt_eq_toNat_of_lt (by simp; omega), BitVec.toInt_eq_toNat_of_lt (by omega)]
    simp; omega
  unfold k0_cond1
  simp only [Scalar.cmpi, IntOp.cmpi, Scalar.extui, e]
  by_cases h : (i 0).val < w.toNat
  · simp only [h, decide_true, iff_true]; decide
  · simp only [h, decide_false, iff_false]; decide

/-- The row block a point moves: its own, or the last used one past it. -/
theorem row_block (i : grid0.Coords) (w : BitVec 32) (h1 : 1 ≤ w.toNat) (hw : w.toNat ≤ 288) :
    (Scalar.minsi (BitVec.ofNat 32 (i 0).val) (Scalar.subi w 1#32)).toNat = min (i 0).val (w.toNat - 1) := by
  have hi := coord_lt i
  have e1 : (w - 1#32).toNat = w.toNat - 1 := by
    rw [BitVec.toNat_sub_of_le (by show (1#32).toNat ≤ _; simpa using h1)]; rfl
  have e : (BitVec.ofNat 32 (i 0).val).slt (w - 1#32) = decide ((i 0).val < w.toNat - 1) := by
    rw [BitVec.slt_eq_decide, BitVec.toInt_eq_toNat_of_lt (by simp; omega), BitVec.toInt_eq_toNat_of_lt (by omega), e1]
    simp; omega
  show (if (BitVec.ofNat 32 (i 0).val).slt (w - 1#32) then BitVec.ofNat 32 (i 0).val else w - 1#32).toNat = _
  rw [e]
  by_cases h : (i 0).val < w.toNat - 1
  · simp only [h, decide_true, ↓reduceIte]; rw [BitVec.toNat_ofNat]; omega
  · simp only [h, decide_false, Bool.false_eq_true, ↓reduceIte]; rw [e1]; omega

/-- The row block the input's window moves at a point. -/
theorem row0 (pf : Tables) (h : InRange pf) (i : grid0.Coords) :
    cc0_transform_0 inb_S1_S1_0 numel1_S1 pf i = ![min (i 0).val (nu pf - 1), 0] :=
  congrArg (fun x : ℕ => (![x, 0] : Fin 2 → ℕ)) <|
    (congrArg (fun w : BitVec 32 => (Scalar.minsi (BitVec.ofNat 32 (i 0).val) (Scalar.subi w 1#32)).toNat) (at_eq pf)).trans (row_block i _ h.pos h.le)

/-- The row block the result's window moves at a point. -/
theorem row3 (pf : Tables) (h : InRange pf) (i : grid0.Coords) :
    cc0_transform_3 inb_S1_S1_0 numel1_S1 pf i = ![min (i 0).val (nu pf - 1), 0] := row0 pf h i

/-- A point's entry of the experts' table. -/
def entry (i : grid0.Coords) : S288.Idx := fun a => ⟨(i 0).val, by have := coord_lt i; fin_cases a; exact this⟩

/-- The table entry a point reads. -/
theorem expert_at (pf : Tables) (i : grid0.Coords) :
    pf.at 0 (Rect.unit (s := S288) ![(Scalar.indexCast (BitVec.ofNat 32 (i 0).val)).toNat] S1.size (k0_off1_inb i)) numel1_S1
      = pf 0 (entry i) := by
  refine congrArg (pf 0) (funext fun a : Fin 1 => Fin.ext ?_)
  have := coord_lt i
  have e : (BitVec.ofNat 32 (i 0).val).toNat = (i 0).val := by rw [BitVec.toNat_ofNat]; omega
  obtain rfl : a = 0 := Subsingleton.elim _ _
  show (BitVec.ofNat 32 (i 0).val).toNat + 0 * 1 = (i 0).val
  rw [e]; omega

/-- The expert whose weights a point moves. -/
theorem expert1 (pf : Tables) (i : grid0.Coords) :
    cc0_transform_1 k0_off1_inb numel1_S1 pf i = ![BitVec.toNat (w := 32) (pf 0 (entry i)), 0, 0] :=
  congrArg (fun w : BitVec 32 => (![w.toNat, 0, 0] : Fin 3 → ℕ)) (expert_at pf i)

/-- The expert whose biases a point moves. -/
theorem expert2 (pf : Tables) (i : grid0.Coords) :
    cc0_transform_2 k0_off1_inb numel1_S1 pf i = ![BitVec.toNat (w := 32) (pf 0 (entry i)), 0, 0] := expert1 pf i

/-- Tables in range are admissible: every block the launch moves lies in its array and moves whole words. -/
theorem ok (pf : Tables) (h : InRange pf) : ok0 (F := Ideal) pf := by
  have h1 := h.pos
  have h2 := h.le
  refine ⟨fun i => ?_, fun i => ?_, fun i => ?_, fun i => ?_⟩
  · have hi := coord_lt i
    rw [row0 pf h i]
    exact ⟨fun a => by fin_cases a <;> simp <;> omega, .inl rfl⟩
  · have he := h.expert (entry i)
    rw [expert1 pf i]
    exact ⟨fun a => by fin_cases a <;> simp <;> omega, .inr (Affine.block_words_dvd (s := S32x2048x4096) (p := EltTy.packing .bf16) (by decide) (by decide))⟩
  · have he := h.expert (entry i)
    rw [expert2 pf i]
    exact ⟨fun a => by fin_cases a <;> simp <;> omega, .inl rfl⟩
  · have hi := coord_lt i
    rw [row3 pf h i]
    exact ⟨fun a => by fin_cases a <;> simp <;> omega, .inr (Affine.block_words_dvd (s := S73728x2048) (p := EltTy.packing .bf16) (by decide) (by decide))⟩

end Cert.UpIdeal

end
-- ==== Proof.UpIdealLaunch.lean ====
/-
  The launch of the first expert product at any tables in range: its schedule, its body's obligation at every point and its run.
-/
module

public import proofs.«01_k».proof.Proof.UpIdealRuns
public import proofs.«01_k».proof.Proof.UpIdealTables
public import proofs.«01_k».proof.Proof.Gen.Kernel2Ideal.Skeleton
public import proofs.«01_k».proof.Proof.Gen.Kernel2Ideal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.UpIdeal

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The rounds library's algebra, whole. -/
abbrev EP : Emb (UR sig nD τ) 𝕄 := emb₁

variable (a : (pcfg0 (F := Ideal)).Adm) (hr : InRange a.1)
variable (m : (ℓ : Loc nD τ sig) → Buf (Elt Ideal) ℓ) (ρ : Dev nD → PrngReg)

/-- The launch at tables `a`. -/
abbrev cfg : Pipeline.Cfg sig Λ₀ := cfg0 (F := Ideal) a
/-- The program's one launch. -/
abbrev launches : Fin 1 → Pipeline.Cfg sig Λ₀ := Pipeline.pin (pcfgs (F := Ideal)) fun _ => a
/-- A point's coordinates. -/
abbrev crd (t : Fin (cfg a).N) : (cfg a).grid.Coords := (cfg a).grid.coords t

/-! ## The staging buffers in hand at a point -/

abbrev ms0 (t : Fin (cfg a).N) : Memref sig .tc .vmem S256x1024 .i32 := spec0_0.stage ((cfg a).slots t (0 : Fin 4))
abbrev hs0 (t : Fin (cfg a).N) : (ms0 a t).IsWhole := hstage0_0 (((cfg a).slots t (0 : Fin 4)).cast nbuf0_0)
abbrev ms1 (t : Fin (cfg a).N) : Memref sig .tc .vmem S1x2048x4096 .bf16 := spec0_1.stage ((cfg a).slots t (1 : Fin 4))
abbrev hs1 (t : Fin (cfg a).N) : (ms1 a t).IsWhole := hstage0_1 (((cfg a).slots t (1 : Fin 4)).cast nbuf0_1)
abbrev ms2 (t : Fin (cfg a).N) : Memref sig .tc .vmem S1x1x4096 .f32 := spec0_2.stage ((cfg a).slots t (2 : Fin 4))
abbrev hs2 (t : Fin (cfg a).N) : (ms2 a t).IsWhole := hstage0_2 (((cfg a).slots t (2 : Fin 4)).cast nbuf0_2)
abbrev ms3 (t : Fin (cfg a).N) : Memref sig .tc .vmem S256x2048 .bf16 := spec0_3.stage ((cfg a).slots t (3 : Fin 4))
abbrev hs3 (t : Fin (cfg a).N) : (ms3 a t).IsWhole := hstage0_3 (((cfg a).slots t (3 : Fin 4)).cast nbuf0_3)

/-- Window `w`'s block at point `t`, read off its array at the launch. -/
def blkOf (c : Dev nD) (w : Fin (cfg a).W) (t : Fin (cfg a).N) : (((cfg a).win w).xblock (crd a t)).Idx → Elt Ideal ((cfg a).win w).elt :=
  (((cfg a).win w).blk t).view.read (Elt Ideal) ((s₀ m ρ).mem (((cfg a).win w).arr.view.loc (c : Thread nD τ)))

/-! ## The schedule -/

/-- Point `t` works on a used block. -/
abbrev Used (t : Fin (cfg a).N) : Prop := k0_cond1 (crd a t) (word (a.1 1)) = 1#1

include hr in
theorem used_iff (t : Fin (cfg a).N) : Used a t ↔ t.val < nu a.1 :=
  (iff_of_eq (congrArg (fun w => k0_cond1 (crd a t) w = 1#1) (word_eq (a.1 1)))).trans
    ((cond_iff _ _ hr.le).trans (iff_of_eq (congrArg (· < nu a.1) (coord_eq t))))

include hr in
theorem idle_eq (t : Fin (cfg a).N) : (cfg a).idle (3 : Fin 4) ((cfg a).grid.coords t) = !decide (t.val < nu a.1) := by
  show (!(k0_cond1 (crd a t) (a.1.atD 1 ![0]) == 1#1)) = _
  congr 1
  rw [atD_eq, Bool.eq_iff_iff, beq_iff_eq, decide_eq_true_iff, cond_iff _ _ hr.le]
  exact iff_of_eq (congrArg (· < nu a.1) (coord_eq t))

include hr in
/-- The block of the result in hand at a point. -/
theorem index3 (t : Fin (cfg a).N) : ((cfg a).win (3 : Fin 4)).index t = ![min t.val (nu a.1 - 1), 0] := by
  show cc0_transform_3 inb_S1_S1_0 numel1_S1 a.1 (grid0.coords t) = _
  rw [row3 a.1 hr, coord_eq]

include hr in
/-- The result's block is written back at every used point but the last, and at the last point of all. -/
theorem flush_eq (t : Fin (cfg a).N) : ((cfg a).win (3 : Fin 4)).flush t = (decide (t.val + 1 < nu a.1) || decide (t.val = 287)) := by
  have hN : (cfg a).N = 288 := N_0
  have h2 := hr.le
  have ht := t.isLt
  unfold Pipeline.Window.flush
  rw [Bool.eq_iff_iff]
  simp only [Bool.and_eq_true, Bool.or_eq_true, decide_eq_true_iff]
  constructor
  · rintro ⟨-, h | ⟨h, h'⟩⟩
    · right; exact Nat.succ.inj (h.trans N_0)
    · left
      by_contra h''
      refine h' ?_
      rw [index3 a hr, index3 a hr]
      congr 1
      show min (t.val + 1) _ = _
      omega
  · rintro (h | h)
    · refine ⟨trivial, .inr ⟨by show t.val + 1 < grid0.N; rw [N_0]; omega, fun h' => ?_⟩⟩
      rw [index3 a hr, index3 a hr] at h'
      have := congrFun h' 0
      simp only [Matrix.cons_val_zero] at this
      omega
    · exact ⟨trivial, .inl (by show t.val + 1 = grid0.N; rw [N_0, h])⟩

/-- Whether the result's buffer holds junk before position `n`: until the used points are over, and after the last write-back. -/
def junkAt (n : ℕ) : Bool := decide (n < nu a.1) || decide (n = 288)

include hr in
theorem fresh_eq (t : Fin (cfg a).N) : (cfg a).fresh (3 : Fin 4) t.val = junkAt a t.val :=
  Pipeline.Cfg.fresh_tab (cfg a) (3 : Fin 4) (junkAt a) (by have := hr.pos; unfold junkAt; simp; omega)
    (fun t => by
      have hN : (cfg a).N = 288 := N_0
      have ht := t.isLt
      have := hr.le
      rw [flush_eq a hr, idle_eq a hr]
      unfold junkAt
      by_cases h1 : t.val + 1 < nu a.1
      · simp [h1]
      · by_cases h2 : t.val = 287
        · simp [h1, h2]
        · by_cases h3 : t.val < nu a.1
          · simp [h1, h2, h3]
          · have : t.val ≠ 288 := by omega
            simp [h1, h2, h3, this]) t.val (Nat.le_of_lt t.isLt)

include hr in
/-- A used point stores its block over junk. -/
theorem sched_used (t : Fin (cfg a).N) (q : Used a t) :
    (cfg a).idle (3 : Fin 4) ((cfg a).grid.coords t) = false ∧ (cfg a).fresh (3 : Fin 4) t.val = true := by
  rw [used_iff a hr] at q
  rw [idle_eq a hr, fresh_eq a hr]; unfold junkAt
  simp [q]

include hr in
/-- An unused point leaves the last used one's block as it is. -/
theorem sched_unused (t : Fin (cfg a).N) (q : ¬Used a t) :
    (cfg a).idle (3 : Fin 4) ((cfg a).grid.coords t) = true ∧ (cfg a).fresh (3 : Fin 4) t.val = false := by
  rw [used_iff a hr] at q
  have hN : (cfg a).N = 288 := N_0
  have ht := t.isLt
  have : t.val ≠ 288 := by omega
  rw [idle_eq a hr, fresh_eq a hr]; unfold junkAt
  simp [q, this]

/-! ## What the result's buffer holds -/

/-- One point's step: a used block's contents, or what was there before. -/
def step (c : Dev nD) (t : Fin (cfg a).N) (prev : S256x2048.Idx → Elt Ideal .bf16) : S256x2048.Idx → Elt Ideal .bf16 :=
  if q : Used a t then
    outA c (crd a t) (ms0 a t) (hs0 a t) (ms1 a t) (hs1 a t) (ms2 a t) (hs2 a t) (ms3 a t) (hs3 a t) (a.1 0) (a.1 1) (blkOf a m ρ c (0 : Fin 4) t) (blkOf a m ρ c (1 : Fin 4) t) (blkOf a m ρ c (2 : Fin 4) t) q
  else
    (if (cfg a).fresh (3 : Fin 4) t.val then default else prev)

/-- After position `n`. -/
def traj (c : Dev nD) : (n : ℕ) → n < (cfg a).N → (S256x2048.Idx → Elt Ideal .bf16)
  | 0, h => step a m ρ c ⟨0, h⟩ default
  | n + 1, h => step a m ρ c ⟨n + 1, h⟩ (traj c n (Nat.lt_of_succ_lt h))

/-- Before point `t`. -/
def prev (c : Dev nD) (t : Fin (cfg a).N) : S256x2048.Idx → Elt Ideal .bf16 :=
  if h : t.val = 0 then default else traj a m ρ c (t.val - 1) (by omega)

theorem traj_eq (c : Dev nD) (t : Fin (cfg a).N) : traj a m ρ c t.val t.isLt = step a m ρ c t (prev a m ρ c t) := by
  obtain ⟨n, hn⟩ := t
  cases n with
  | zero => rfl
  | succ n => unfold prev; simp only [Nat.add_one_ne_zero, dif_neg, not_false_eq_true]; rfl

theorem step_used (c : Dev nD) (t : Fin (cfg a).N) (p : S256x2048.Idx → Elt Ideal .bf16) (q : Used a t) :
    step a m ρ c t p = outA c (crd a t) (ms0 a t) (hs0 a t) (ms1 a t) (hs1 a t) (ms2 a t) (hs2 a t) (ms3 a t) (hs3 a t) (a.1 0) (a.1 1) (blkOf a m ρ c (0 : Fin 4) t) (blkOf a m ρ c (1 : Fin 4) t) (blkOf a m ρ c (2 : Fin 4) t) q := by
  unfold step; rw [dif_pos q]

theorem step_unused (c : Dev nD) (t : Fin (cfg a).N) (p : S256x2048.Idx → Elt Ideal .bf16) (q : ¬Used a t) :
    step a m ρ c t p = (if (cfg a).fresh (3 : Fin 4) t.val then default else p) := by
  unfold step; rw [dif_neg q]

/-! ## The launch's proof data -/

/-- The invariant: the body's halves of the tables. -/
def Phi (c : Dev nD) (t : Fin ((cfg a).N + 1)) : sProp 𝕄 :=
  iprop((tbE.view.loc (c : Thread nD τ) ↦{fullShare.right} (a.1 0 : S288.Idx → Elt Ideal .i32)) ∗ (tbU.view.loc (c : Thread nD τ) ↦{fullShare.right} (a.1 1 : S1.Idx → Elt Ideal .i32)))

/-- The launch's proof data on core `c`. -/
def dats (_ : Fin 1) (c : Dev nD) : Dat τ (Elt Ideal) Unit ℕ (UR sig nD τ) ℕ (cfg a) c where
  A w := (s₀ m ρ).mem (((cfg a).win w).arr.view.loc (c : Thread nD τ))
  after w t := match w with
    | ⟨0, _⟩ => blkOf a m ρ c (0 : Fin 4) t
    | ⟨1, _⟩ => blkOf a m ρ c (1 : Fin 4) t
    | ⟨2, _⟩ => blkOf a m ρ c (2 : Fin 4) t
    | ⟨3, _⟩ => (traj a m ρ c t.val t.isLt)
  Φ t := Phi a c t
  q _ := fullShare
  owed _ := 0

theorem after_0 (c : Dev nD) (t : Fin (cfg a).N) : (dats a m ρ 0 c).after (0 : Fin 4) t = blkOf a m ρ c (0 : Fin 4) t := rfl
theorem after_1 (c : Dev nD) (t : Fin (cfg a).N) : (dats a m ρ 0 c).after (1 : Fin 4) t = blkOf a m ρ c (1 : Fin 4) t := rfl
theorem after_2 (c : Dev nD) (t : Fin (cfg a).N) : (dats a m ρ 0 c).after (2 : Fin 4) t = blkOf a m ρ c (2 : Fin 4) t := rfl
theorem after_3 (c : Dev nD) (t : Fin (cfg a).N) : (dats a m ρ 0 c).after (3 : Fin 4) t = traj a m ρ c t.val t.isLt := rfl

/-- Input 0's buffer holds its block when the body runs. -/
theorem before_0 (c : Dev nD) (t : Fin (cfg a).N) (d) : (dats a m ρ 0 c).before (0 : Fin 4) t d = blkOf a m ρ c (0 : Fin 4) t :=
  ((dats a m ρ 0 c).before_in_eq_fetched (0 : Fin 4) rfl (fun _ => rfl) (fun _ _ _ => rfl) (fun t => by rw [after_0]; unfold Dat.blockOf blkOf; rfl) t d).trans
    (by unfold Dat.fetched Dat.blockOf blkOf; rfl)

/-- Input 1's buffer holds its block when the body runs. -/
theorem before_1 (c : Dev nD) (t : Fin (cfg a).N) (d) : (dats a m ρ 0 c).before (1 : Fin 4) t d = blkOf a m ρ c (1 : Fin 4) t :=
  ((dats a m ρ 0 c).before_in_eq_fetched (1 : Fin 4) rfl (fun _ => rfl) (fun _ _ _ => rfl) (fun t => by rw [after_1]; unfold Dat.blockOf blkOf; rfl) t d).trans
    (by unfold Dat.fetched Dat.blockOf blkOf; rfl)

/-- Input 2's buffer holds its block when the body runs. -/
theorem before_2 (c : Dev nD) (t : Fin (cfg a).N) (d) : (dats a m ρ 0 c).before (2 : Fin 4) t d = blkOf a m ρ c (2 : Fin 4) t :=
  ((dats a m ρ 0 c).before_in_eq_fetched (2 : Fin 4) rfl (fun _ => rfl) (fun _ _ _ => rfl) (fun t => by rw [after_2]; unfold Dat.blockOf blkOf; rfl) t d).trans
    (by unfold Dat.fetched Dat.blockOf blkOf; rfl)

include hr in
/-- The result's buffer carries through the unused points. -/
theorem carry (c : Dev nD) : ∀ (t : Fin (cfg a).N) (ht : t.val ≠ 0), (cfg a).idle (3 : Fin 4) ((cfg a).grid.coords t) = true → (cfg a).fresh (3 : Fin 4) t.val = false →
    (dats a m ρ 0 c).after (3 : Fin 4) t = (dats a m ρ 0 c).after (3 : Fin 4) ⟨t.val - 1, by omega⟩ := by
  intro t ht hi hf
  rw [after_3, after_3, traj_eq]
  by_cases q : Used a t
  · obtain ⟨i3, -⟩ := sched_used a hr t q
    rw [i3] at hi; exact absurd hi (by decide)
  · rw [step_unused a m ρ c t _ q]
    simp only [hf, Bool.false_eq_true, ↓reduceIte]
    unfold prev; rw [dif_neg ht]

include hr in
/-- The result's buffer when the body runs: junk, or what the point before left. -/
theorem before_3 (c : Dev nD) (t : Fin (cfg a).N) (d) :
    (dats a m ρ 0 c).before (3 : Fin 4) t d = if (cfg a).fresh (3 : Fin 4) t.val then d else (prev a m ρ c t) := by
  rw [(dats a m ρ 0 c).before_out_traj (3 : Fin 4) rfl (fun _ _ => rfl) (carry a hr m ρ c) t.val t rfl d]
  by_cases hf : (cfg a).fresh (3 : Fin 4) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after_3]; unfold prev; rw [dif_neg h0]

/-! ## The body at a point -/

/-- The body at point `t` on its staging buffers. -/
abbrev bodyAt (t : Fin (cfg a).N) : Prog (TpuEff nD τ sig (Elt Ideal) Λ₀ .tc) PUnit :=
  cc0_moe_up (crd a t) (Memref.whole main_arg0) (Memref.isWhole_whole _) (Memref.whole main_arg1) (Memref.isWhole_whole _) (ms0 a t) (hs0 a t) (ms1 a t) (hs1 a t) (ms2 a t) (hs2 a t) (ms3 a t) (hs3 a t)

include hr in
set_option maxHeartbeats 4000000 in
/-- The body's triple at point `t`: a used point stores its block, an unused one leaves everything. -/
theorem sound_body (c : Dev nD) (t : Fin (cfg a).N) :
    iprop((dats a m ρ 0 c).Φ t.castSucc ∗ (dats a m ρ 0 c).owesAt () t.castSucc
        ∗ (∃ d, owns (c : Thread nD τ) (ms0 a t) fullShare ((dats a m ρ 0 c).before (0 : Fin 4) t d))
        ∗ (∃ d, owns (c : Thread nD τ) (ms1 a t) fullShare ((dats a m ρ 0 c).before (1 : Fin 4) t d))
        ∗ (∃ d, owns (c : Thread nD τ) (ms2 a t) fullShare ((dats a m ρ 0 c).before (2 : Fin 4) t d))
        ∗ (∃ d, owns (c : Thread nD τ) (ms3 a t) fullShare ((dats a m ρ 0 c).before (3 : Fin 4) t d)))
      ⊢ wp frame (wpE (defs₀ (F := Ideal)) Variants.none c none) Set.univ (bodyAt a t) fun _ =>
          iprop((dats a m ρ 0 c).Φ t.succ ∗ (dats a m ρ 0 c).owesAt () t.succ
            ∗ bigSep Finset.univ fun w : Fin (cfg a).W =>
                match (cfg a).idle w ((cfg a).grid.coords t) with
                | true =>
                  match ((cfg a).win w).flush t with
                  | false => iprop(∃ d, owns (c : Thread nD τ) (((cfg a).win w).stage ((cfg a).slots t w)) fullShare ((dats a m ρ 0 c).before w t d))
                  | true => owns (c : Thread nD τ) (((cfg a).win w).stage ((cfg a).slots t w)) fullShare ((dats a m ρ 0 c).after w t)
                | false => owns (c : Thread nD τ) (((cfg a).win w).stage ((cfg a).slots t w)) fullShare ((dats a m ρ 0 c).after w t)) := by
  rw [bigSep_W0]
  by_cases q : Used a t
  · obtain ⟨i3, fr3⟩ := sched_used a hr t q
    rewrite [i3]
    simp only [before_0, before_1, before_2, before_3 a hr, after_0, after_1, after_2, after_3]
    simp only [fr3, Bool.false_eq_true, ↓reduceIte]
    rewrite [show (dats a m ρ 0 c).Φ t.succ = Phi a c t.succ from rfl, show (dats a m ρ 0 c).Φ t.castSucc = Phi a c t.castSucc from rfl,
      show (dats a m ρ 0 c).owesAt () t.succ = (dats a m ρ 0 c).owesAt () t.castSucc from rfl]
    rewrite [traj_eq, step_used a m ρ c t _ q]
    unfold Phi
    iintro ⟨⟨HT0, HT1⟩, Ho, ⟨%d0, H0⟩, ⟨%d1, H1⟩, ⟨%d2, H2⟩, ⟨%d3, H3⟩⟩
    iapply ((runA c (crd a t) (ms0 a t) (hs0 a t) (ms1 a t) (hs1 a t) (ms2 a t) (hs2 a t) (ms3 a t) (hs3 a t) (a.1 0) (a.1 1) (blkOf a m ρ c (0 : Fin 4) t) (blkOf a m ρ c (1 : Fin 4) t) (blkOf a m ρ c (2 : Fin 4) t) q).2 _)
    isplitl [H0]; · iapply rep_of_owns; iexact H0
    isplitl [H1]; · iapply rep_of_owns; iexact H1
    isplitl [H2]; · iapply rep_of_owns; iexact H2
    isplitl [HT0]; · iexact HT0
    isplitl [HT1]; · iexact HT1
    isplitl [H3]; · iexists _; iexact H3
    iintro ⟨H0, H1, H2, HT0, HT1, ⟨%e3, H3⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    unfold owns; iexists _; isplitr; swap
    · iexact H3
    · ipureintro; exact View.read_writes_of_cover _ _ _ _ _ (coverA c _ _ _ _ _ _ _ _ _ _ _ _ _ _ _)
  · obtain ⟨i3, fr3⟩ := sched_unused a hr t q
    cases f3 : ((cfg a).win (3 : Fin 4)).flush t
    all_goals
      rewrite [i3]
      simp only [before_0, before_1, before_2, before_3 a hr, after_0, after_1, after_2, after_3, f3]
      simp only [fr3, Bool.false_eq_true, ↓reduceIte]
      rewrite [show (dats a m ρ 0 c).Φ t.succ = Phi a c t.succ from rfl, show (dats a m ρ 0 c).Φ t.castSucc = Phi a c t.castSucc from rfl,
        show (dats a m ρ 0 c).owesAt () t.succ = (dats a m ρ 0 c).owesAt () t.castSucc from rfl]
      try rewrite [traj_eq, step_unused a m ρ c t _ q]
      unfold Phi; simp only [traj_eq, step_unused a m ρ c t _ q, fr3, Bool.false_eq_true, ↓reduceIte]
      iintro ⟨⟨HT0, HT1⟩, Ho, ⟨%d0, H0⟩, ⟨%d1, H1⟩, ⟨%d2, H2⟩, ⟨%d3, H3⟩⟩
      iapply (runB c (crd a t) (ms0 a t) (hs0 a t) (ms1 a t) (hs1 a t) (ms2 a t) (hs2 a t) (ms3 a t) (hs3 a t) (a.1 0) (a.1 1) (blkOf a m ρ c (0 : Fin 4) t) (blkOf a m ρ c (1 : Fin 4) t) (blkOf a m ρ c (2 : Fin 4) t) q _ _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexact H3
      iintro ⟨H0, H1, H2, HT0, HT1, H3⟩
      isplitl [HT0 HT1]
      · isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      first | (iexists d3; iexact H3) | iexact H3

include hr in
/-- The library's obligation on the body. -/
theorem obligation (c : Dev nD) : BodyObligation (dats a m ρ 0 c) (defs₀ (F := Ideal)) Variants.none () Set.univ := fun t => by
  rw [bigSep_W0]
  exact sound_body a hr m ρ c t

/-! ## The launch -/

/-- The rounds library's launch element. -/
def u₀ : UR sig nD τ :=
  initOf (Pipeline.cells (launches a) ((launch0 (F := Ideal)).cellOf_inj fun _ => a))
    (Pipeline.launchToks (launches a) ((launch0 (F := Ideal)).cellOf_inj fun _ => a))

theorem share_eq (c : Dev nD) (w : Fin (cfg a).W) : (dats a m ρ 0 c).share w = fullShare := by unfold Dat.share; split <;> rfl

/-- The tables as the launch hands them over, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi_intro (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a c 0 from rfl]
  unfold Phi
  iintro ⟨-, ⟨HT0, HT1⟩, -⟩
  isplitl [HT0]
  · iexact HT0
  iexact HT1

theorem phi_exit (c : Dev nD) : (dats a m ρ 0 c).Φ (Fin.last (cfg a).N) ⊢ iprop(BI.emp ∗ Pipeline.scopedRest spec0 c) := by
  rw [scopedRest0_eq, show (dats a m ρ 0 c).Φ (Fin.last (cfg a).N) = Phi a c (Fin.last _) from rfl]
  unfold Phi
  iintro ⟨-, -⟩
  isplitr; · iempintro
  iempintro

/-- The memory's tables are the ones the launch is read at. -/
def Holds : Prop := ∀ c : Dev nD, ∀ j : Fin 2, m ((c : Thread nD τ).loc (pre0.ref j)) = a.1 j

/-- Every array ends at what the launch computes, every table as it was. -/
def QC : PUnit × MemSt nD τ sig (Elt Ideal) → Prop := fun r =>
  ∀ c : Dev nD, (∀ w : Fin (cfg a).W, r.2.mem (((cfg a).win w).arr.view.loc (c : Thread nD τ)) = (dats a m ρ 0 c).arrAt w (cfg a).N)
    ∧ ∀ j, r.2.mem ((c : Thread nD τ).loc (pre0.ref j)) = a.1 j

include hr in
set_option backward.isDefEq.respectTransparency.types false in
set_option maxHeartbeats 4000000 in
/-- From any memory holding the tables, every weakly fair execution ends with the arrays at the computed contents and every
    semaphore counter at zero. -/
theorem run_quiescent (hp : Holds a m) : θ_run (defs (F := Ideal)) (onTc (τ := τ) (main (F := Ideal))) (s₀ m ρ) (fun r => QC a m ρ r ∧ r.2.sem = fun _ => 0) :=
  Pipeline.θ_run_region_noSem_pf_quiescent pcfgs (fun _ => a) (dats a m ρ) () ((launch0 (F := Ideal)).cellOf_inj fun _ => a) (0 : Fin 1)
    (launch0 (F := Ideal)).win.to₀ (launch0 (F := Ideal)).pre EP defs₀ Variants.none m ρ main
    (hbody := fun c => (obligation a hr m ρ c).loose) (hne := (launch0 (F := Ideal)).block_pos)
    (harr := (launch0 (F := Ideal)).arr_whole) (hstage := (launch0 (F := Ideal)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (launches a) (dats a m ρ) 0 (launch0 (F := Ideal)).win.arr_inj c (launch0 (F := Ideal)).arr_whole
      (share_eq a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi_intro a m ρ)
    (hout := phi_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

include hr in
/-- The result ends at what the launch computes, the arguments as they were, the counters at zero. -/
theorem run (hp : Holds a m) :
    θ_run (defs (F := Ideal)) (onTc (τ := τ) (main (F := Ideal))) ⟨m, fun _ => 0, ρ⟩ (fun r => (∀ c : Dev nD,
      r.2.mem ((c.tc : Thread nD τ).loc main_v0) = (dats a m ρ 0 c).arrAt (3 : Fin 4) (cfg a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(h.1 c).1 (3 : Fin 4), ((h.1 c).2 0).trans (hp c 0).symm, ((h.1 c).2 1).trans (hp c 1).symm,
    ((h.1 c).1 (0 : Fin 4)).trans ((dats a m ρ 0 c).arrAt_in (0 : Fin 4) rfl _), ((h.1 c).1 (1 : Fin 4)).trans ((dats a m ρ 0 c).arrAt_in (1 : Fin 4) rfl _),
    ((h.1 c).1 (2 : Fin 4)).trans ((dats a m ρ 0 c).arrAt_in (2 : Fin 4) rfl _)⟩, h.2⟩) (run_quiescent a hr m ρ hp)

end Cert.UpIdeal

end
-- ==== Proof.UpIdealFrame.lean ====
/-
  The first expert product's launch under the claim's precondition: its tables are in range, so it runs.
-/
module

public import proofs.«01_k».proof.Defs
public import proofs.«01_k».proof.Proof.UpPre
public import proofs.«01_k».proof.Proof.Gen.Pre_routed
public import proofs.«01_k».proof.Proof.UpIdealLaunch

@[expose] public section

set_option maxRecDepth 16384

noncomputable section

namespace Cert.UpIdeal

open Cert.Kernel2Ideal Cert.Kernel2Ideal.Gen
open Idealize.ShloMosaic
open Idealize.ShloMosaic.TcCoe Idealize.SL.Sem

variable (m : (ℓ : Loc nD τ sig) → Buf (Elt Ideal) ℓ) (ρ : Dev nD → PrngReg)

/-- The tables the launch finds in memory. -/
def tables (c : Dev nD) : Tables := fun j => m ((c : Thread nD τ).loc (pre0.ref j))

/-- The precondition puts them in range. -/
theorem tables_inRange (h : Pre_Kernel2Ideal m) (c : Dev nD) : InRange (tables m c) := by
  have hi := UpPre.routed_iff _ _ _ _ _ (h c)
  exact ⟨(hi.1 z).1, (hi.1 z).2, hi.2⟩

/-- The device's tables, admissible. -/
def adm (h : Pre_Kernel2Ideal m) : (pcfg0 (F := Ideal)).Adm := ⟨tables m 0, ok _ (tables_inRange m h 0)⟩

theorem adm_inRange (h : Pre_Kernel2Ideal m) : InRange (adm m h).1 := tables_inRange m h 0

theorem adm_holds (h : Pre_Kernel2Ideal m) : Holds (adm m h) m := by
  intro c j
  obtain rfl : c = 0 := Subsingleton.elim _ _
  rfl

/-- The kernel runs, leaves its arguments as they were, and ends with every counter at zero. -/
theorem frame : quiescent_Kernel2Ideal := fun m ρ h =>
  (θ_run defs _ _).mono (fun _ r => ⟨fun c => (r.1 c).2, r.2⟩) (run (adm m h) (adm_inRange m h) m ρ (adm_holds m h))

end Cert.UpIdeal

end
-- ==== Proof.Packed.lean ====
/-
  Two narrow floats packed in one word: what the kernel's masked and shifted words denote is what the halves denote.
-/
module

public import Idealize.ShloMosaic.Lib.Pointwise
public import Idealize.ShloMosaic.Lib.WordCmp

@[expose] public section

set_option maxRecDepth 16384

noncomputable section

namespace Cert.Packed

open Idealize.ShloMosaic
open Idealize.ShloMosaic.TcCoe Idealize.SL.Sem

/-- A word with sixteen low zeros denotes, as a wide pattern, what its upper half denotes as a narrow one. -/
theorem widen (b : BitVec 32) (h : BitVec 16) (hb : b.toNat = h.toNat * 65536) : Ideal.ofBits .f32 b = Ideal.ofBits .bf16 h := by
  have h1 : (b.extractLsb' (8 + 23) 1).toNat = (h.extractLsb' (8 + 7) 1).toNat := by
    simp only [BitVec.extractLsb'_toNat, Nat.shiftRight_eq_div_pow, hb]
    omega
  have h2 : (b.extractLsb' 23 8).toNat = (h.extractLsb' 7 8).toNat := by
    simp only [BitVec.extractLsb'_toNat, Nat.shiftRight_eq_div_pow, hb]
    omega
  have h3 : (b.extractLsb' 0 23).toNat = (h.extractLsb' 0 7).toNat * 65536 := by
    simp only [BitVec.extractLsb'_toNat, Nat.shiftRight_eq_div_pow, hb]
    omega
  have h1' : b.extractLsb' (8 + 23) 1 = h.extractLsb' (8 + 7) 1 := BitVec.eq_of_toNat_eq h1
  show Ideal.ieee 8 23 b = Ideal.ieee 8 7 h
  unfold Ideal.ieee
  simp only [h1', h2, h3]
  have e0 : (h.extractLsb' 0 7).toNat * 65536 = 0 ↔ (h.extractLsb' 0 7).toNat = 0 := by omega
  generalize (h.extractLsb' 0 7).toNat = n at *
  generalize (h.extractLsb' 7 8).toNat = x at *
  simp only [e0]
  have s1 : (2 : ℝ) ^ (-133 : ℤ) = 65536 * 2 ^ (-149 : ℤ) := by norm_num
  have s2 : (2 : ℝ) ^ ((x : ℤ) - 127 - 7) = 65536 * 2 ^ ((x : ℤ) - 127 - 23) := by
    rw [show (x : ℤ) - 127 - 7 = ((x : ℤ) - 127 - 23) + 16 by ring, zpow_add₀ (by norm_num)]
    norm_num
    ring
  split_ifs <;> try rfl
  all_goals
    congr 1
    push_cast
  · rw [s1]; ring
  · rw [s1]; ring
  · rw [s2]; ring
  · rw [s2]; ring

theorem upper (w : BitVec 32) : (IntOp.andi w 0xFFFF0000#32).toNat = ((w >>> 16).setWidth 16).toNat * 65536 := by
  have : IntOp.andi w 0xFFFF0000#32 = (w >>> 16) <<< 16 := by
    show w &&& 0xFFFF0000#32 = _
    have hm : ∀ j : Fin 32, (4294901760#32)[j.val] = decide (16 ≤ j.val) := by decide
    ext i hi
    have hm' := hm ⟨i, hi⟩
    simp only at hm'
    simp only [BitVec.getElem_and, hm', BitVec.getElem_shiftLeft, BitVec.getElem_ushiftRight, BitVec.getLsbD_eq_getElem hi]
    by_cases h : 16 ≤ i
    · have h' : ¬ i < 16 := by omega
      simp [h, h', ← BitVec.getLsbD_eq_getElem, show 16 + (i - 16) = i by omega]
    · have h' : i < 16 := by omega
      simp [h, h']
  rw [this]
  simp [Nat.shiftRight_eq_div_pow, Nat.shiftLeft_eq]
  have := w.isLt
  omega

theorem lower (w : BitVec 32) : (IntOp.shli .vector w 16#32).toNat = ((IntOp.andi w 65535#32).setWidth 16).toNat * 65536 := by
  have : IntOp.shli .vector w 16#32 = w <<< 16 := by
    rfl
  rw [this]
  show _ = ((w &&& 65535#32).setWidth 16).toNat * 65536
  have h : w.toNat &&& 65535 = w.toNat % 65536 := Nat.and_two_pow_sub_one_eq_mod w.toNat 16
  rw [BitVec.toNat_setWidth, BitVec.toNat_and, show (65535#32).toNat = 65535 from rfl, h, BitVec.toNat_shiftLeft]
  simp only [Nat.shiftLeft_eq]
  have := w.isLt
  omega
end Cert.Packed

end
-- ==== Proof.UpBody.lean ====
/-
  What the first expert product's body stores at a used block, read at an index: the activation of the block's rows times the
  expert's weights plus its bias.
-/
module

public import proofs.«01_k».proof.Proof.UpIdealRuns
public import Idealize.ShloMosaic.Lib.Pointwise
public import Idealize.ShloMosaic.Lib.WordCmp
public import Idealize.ShloMosaic.Lib.VecWindow

@[expose] public section

set_option maxRecDepth 16384

noncomputable section

namespace Cert.UpIdeal

open Cert.Kernel2Ideal Cert.Kernel2Ideal.Gen
open Idealize.ShloMosaic
open Idealize.ShloMosaic.TcCoe Idealize.SL.Sem

/-- The pre-activation of row `r` and column `c` of a chunk: the two half products and the bias. -/
def lin3 (v11 v12 : FVec Ideal S256x1024 .bf16) (a b : Vec Ideal S1x1024x512 .bf16) (d : Vec Ideal S1x1x512 .f32) (r : Fin 256) (c : Fin 512) : EReal :=
  (∑ k : Fin 1024, (v11 (ix2 r k) : EReal) * a (ix3 0 k c)) + (∑ k : Fin 1024, (v12 (ix2 r k) : EReal) * b (ix3 0 k c)) + d (ix3 0 0 c)

/-- The activation of a gate's and a linear unit's pre-activations. -/
def act (g l : EReal) : EReal :=
  (min g (Ideal.ofBits .f32 0x40E00000#32) * Ideal.logistic (Ideal.ofBits .f32 0x3FD9DB23#32 * min g (Ideal.ofBits .f32 0x40E00000#32)))
    * (min (Ideal.ofBits .f32 0x40E00000#32) (max (Ideal.ofBits .f32 0xC0E00000#32) l) + 1)

theorem chunk0 (v4 : Vec Ideal S256x1024 .i32) (v13 v16 v26 v29 : Vec Ideal S1x1024x512 .bf16) (v20 v33 : Vec Ideal S1x1x512 .f32) (r : Fin 256) (c : Fin 512) :
    k0_pay6 (k0_pay4 v4 v13 v16 v20) (k0_pay5 v4 v26 v29 v33) (ix2 r c)
      = act (lin3 (k0_pay2 v4) (k0_pay3 v4) v13 v16 v20 r c) (lin3 (k0_pay2 v4) (k0_pay3 v4) v26 v29 v33 r c) := by
  generalize h : k0_pay4 v4 v13 v16 v20 = G
  generalize h' : k0_pay5 v4 v26 v29 v33 = L
  pointwise [k0_pay6]
  subst h h'
  pointwise [k0_pay4, k0_pay5]
  rfl

theorem chunk1 (v11 v12 : FVec Ideal S256x1024 .bf16) (v13 v16 v26 v29 : Vec Ideal S1x1024x512 .bf16) (v20 v33 : Vec Ideal S1x1x512 .f32) (r : Fin 256) (c : Fin 512) :
    k0_pay9 (k0_pay7 v11 v12 v13 v16 v20) (k0_pay8 v11 v12 v26 v29) v33 (ix2 r c)
      = act (lin3 v11 v12 v13 v16 v20 r c) (lin3 v11 v12 v26 v29 v33 r c) := by
  generalize h : k0_pay7 v11 v12 v13 v16 v20 = G
  generalize h' : k0_pay8 v11 v12 v26 v29 = L
  pointwise [k0_pay9]
  subst h h'
  pointwise [k0_pay7, k0_pay8]
  rfl

theorem chunk2 (v11 v12 : FVec Ideal S256x1024 .bf16) (v13 v16 v26 v29 : Vec Ideal S1x1024x512 .bf16) (v20 v33 : Vec Ideal S1x1x512 .f32) (r : Fin 256) (c : Fin 512) :
    k0_pay12 v12 (k0_pay10 v11 v12 v13 v16 v20) (k0_pay11 v11 v26) v29 v33 (ix2 r c)
      = act (lin3 v11 v12 v13 v16 v20 r c) (lin3 v11 v12 v26 v29 v33 r c) := by
  generalize h : k0_pay10 v11 v12 v13 v16 v20 = G
  generalize h' : k0_pay11 v11 v26 = L
  pointwise [k0_pay12]
  subst h h'
  pointwise [k0_pay10, k0_pay11]
  rfl

theorem chunk3 (v11 v12 : FVec Ideal S256x1024 .bf16) (v13 v16 v26 v29 : Vec Ideal S1x1024x512 .bf16) (v20 v33 : Vec Ideal S1x1x512 .f32) (r : Fin 256) (c : Fin 512) :
    k0_pay1 v11 v12 (k0_pay13 v11 v12 v13 v16 v20) v26 v29 v33 (ix2 r c)
      = act (lin3 v11 v12 v13 v16 v20 r c) (lin3 v11 v12 v26 v29 v33 r c) := by
  generalize h : k0_pay13 v11 v12 v13 v16 v20 = G
  pointwise [k0_pay1]
  subst h
  pointwise [k0_pay13]
  rfl

/-- The pre-activation of row `r` and column `q`, from the block's packed rows, its expert's weights and its bias. -/
def pre (x0 : Vec Ideal S256x1024 .i32) (x1 : Vec Ideal S1x2048x4096 .bf16) (x2 : Vec Ideal S1x1x4096 .f32) (r : Fin 256) (q : Fin 4096) : EReal :=
  (∑ k : Fin 1024, (k0_pay2 (F := Ideal) x0 (ix2 r k) : EReal) * x1 (ix3 0 ⟨k.val, by omega⟩ q))
    + (∑ k : Fin 1024, (k0_pay3 (F := Ideal) x0 (ix2 r k) : EReal) * x1 (ix3 0 ⟨1024 + k.val, by omega⟩ q)) + x2 (ix3 0 0 q)

/-- The stored value of row `r` and column `d`. -/
def val (x0 : Vec Ideal S256x1024 .i32) (x1 : Vec Ideal S1x2048x4096 .bf16) (x2 : Vec Ideal S1x1x4096 .f32) (y : S256x2048.Idx) : EReal :=
  act (pre x0 x1 x2 (y 0) ⟨(y 1).val, lt_trans (y 1).isLt (by decide)⟩) (pre x0 x1 x2 (y 0) ⟨2048 + (y 1).val, by have : (y 1).val < 2048 := (y 1).isLt; omega⟩)

/-- A load of 1024 rows and 512 columns of the weights, read at an index. -/
theorem ld_w (arg4 : Memref sig .tc .vmem S1x2048x4096 .bf16) (x1 : S1x2048x4096.Idx → Elt Ideal .bf16) (p q : ℕ) (hp : p + 1024 ≤ 2048) (hq : q + 512 ≤ 4096)
    (inb : ∀ a, (![0, p, q] : Fin 3 → ℕ) a + S1x1024x512.size a ≤ S1x2048x4096.size a) (k : Fin 1024) (c : Fin 512) :
    arg4.view.readAt (Elt Ideal) (Rect.unit (s := S1x2048x4096) ![0, p, q] S1x1024x512.size inb).toLoadRect (arg4.view.rep x1) (ix3 0 k c)
      = x1 (ix3 0 ⟨p + k.val, by omega⟩ ⟨q + c.val, by omega⟩) := by
  rw [View.readAt_rep]
  refine congrArg x1 (funext fun a => Fin.ext ?_)
  fin_cases a
  · rfl
  · show p + 1 * k.val = p + k.val
    omega
  · show q + 1 * c.val = q + c.val
    omega

/-- A load of 512 columns of the bias, read at an index. -/
theorem ld_b (arg5 : Memref sig .tc .vmem S1x1x4096 .f32) (x2 : S1x1x4096.Idx → Elt Ideal .f32) (q : ℕ) (hq : q + 512 ≤ 4096)
    (inb : ∀ a, (![0, 0, q] : Fin 3 → ℕ) a + S1x1x512.size a ≤ S1x1x4096.size a) (c : Fin 512) :
    arg5.view.readAt (Elt Ideal) (Rect.unit (s := S1x1x4096) ![0, 0, q] S1x1x512.size inb).toLoadRect (arg5.view.rep x2) (ix3 0 0 c)
      = x2 (ix3 0 0 ⟨q + c.val, by omega⟩) := by
  rw [View.readAt_rep]
  refine congrArg x2 (funext fun a => Fin.ext ?_)
  fin_cases a
  · rfl
  · rfl
  · show q + 1 * c.val = q + c.val
    omega

/-- The load of the packed rows reads the block. -/
theorem ld_x (arg3 : Memref sig .tc .vmem S256x1024 .i32) (x0 : S256x1024.Idx → Elt Ideal .i32)
    (inb : ∀ a, (![0, 0] : Fin 2 → ℕ) a + S256x1024.size a ≤ S256x1024.size a) :
    arg3.view.readAt (Elt Ideal) (Rect.unit (s := S256x1024) ![0, 0] S256x1024.size inb).toLoadRect (arg3.view.rep x0) = x0 :=
  View.readAt_rep_full arg3.view x0 inb

/-- A chunk's pre-activation, from its loads, is the block's. -/
theorem lin_eq (x0 v4 : Vec Ideal S256x1024 .i32) (x1 : Vec Ideal S1x2048x4096 .bf16) (x2 : Vec Ideal S1x1x4096 .f32) (a b : Vec Ideal S1x1024x512 .bf16) (d : Vec Ideal S1x1x512 .f32)
    (q : ℕ) (hq : q + 512 ≤ 4096) (h4 : v4 = x0) (ha : ∀ k c, a (ix3 0 k c) = x1 (ix3 0 ⟨0 + k.val, by omega⟩ ⟨q + c.val, by omega⟩))
    (hb : ∀ k c, b (ix3 0 k c) = x1 (ix3 0 ⟨1024 + k.val, by omega⟩ ⟨q + c.val, by omega⟩)) (hd : ∀ c, d (ix3 0 0 c) = x2 (ix3 0 0 ⟨q + c.val, by omega⟩)) (r : Fin 256) (c : Fin 512)
    (col : Fin 4096) (hc : col.val = q + c.val) :
    lin3 (k0_pay2 v4) (k0_pay3 v4) a b d r c = pre x0 x1 x2 r col := by
  have hlt : q + c.val < 4096 := by clear hc; omega
  obtain rfl : col = ⟨q + c.val, hlt⟩ := Fin.ext hc
  subst h4
  unfold lin3 pre
  refine congrArg₂ (· + ·) (congrArg₂ (· + ·) (Finset.sum_congr rfl fun k _ => ?_) (Finset.sum_congr rfl fun k _ => ?_)) (hd c)
  · rw [ha]
    exact congrArg (fun z => (k0_pay2 (F := Ideal) v4 (ix2 r k) : EReal) * x1 (ix3 0 z _)) (Fin.ext (Nat.zero_add _))
  · rw [hb]

/-- A chunk whose entries are the activations holds, at every index, what the block holds there. -/
theorem stored (x0 : Vec Ideal S256x1024 .i32) (x1 : Vec Ideal S1x2048x4096 .bf16) (x2 : Vec Ideal S1x1x4096 .f32) (w : FVec Ideal S256x512 .bf16) (o : ℕ) (ho : o + 512 ≤ 2048)
    (inb : ∀ a, (![0, o] : Fin 2 → ℕ) a + S256x512.size a ≤ S256x2048.size a)
    (h : ∀ (r : Fin 256) (c : Fin 512), w (ix2 r c) = act (pre x0 x1 x2 r ⟨o + c.val, by omega⟩) (pre x0 x1 x2 r ⟨2048 + (o + c.val), by omega⟩)) (x : S256x512.Idx) :
    w x = val x0 x1 x2 ((Rect.unit (s := S256x2048) ![0, o] S256x512.size inb).emb x) := by
  have e : w x = w (ix2 (x 0) (x 1)) := congrArg w (funext fun a => by fin_cases a <;> rfl)
  rw [e, h (x 0) (x 1)]
  unfold val
  have e0 : ((Rect.unit (s := S256x2048) ![0, o] S256x512.size inb).emb x 0) = x 0 := Fin.ext (by show 0 + 1 * (x 0).val = (x 0).val; omega)
  have e1 : ((Rect.unit (s := S256x2048) ![0, o] S256x512.size inb).emb x 1).val = o + (x 1).val := by show o + 1 * (x 1).val = _; omega
  refine congrArg₂ act (congrArg₂ (pre x0 x1 x2) e0.symm (Fin.ext e1.symm)) (congrArg₂ (pre x0 x1 x2) e0.symm (Fin.ext ?_))
  show 2048 + (o + (x 1).val) = 2048 + ((Rect.unit (s := S256x2048) ![0, o] S256x512.size inb).emb x 1).val
  rw [e1]

/-- What a used block leaves at an index. -/
theorem outA_at (c : Dev nD) (i : grid0.Coords) (arg3 : Memref sig .tc .vmem S256x1024 .i32) (harg3 : arg3.IsWhole) (arg4 : Memref sig .tc .vmem S1x2048x4096 .bf16) (harg4 : arg4.IsWhole) (arg5 : Memref sig .tc .vmem S1x1x4096 .f32) (harg5 : arg5.IsWhole) (arg6 : Memref sig .tc .vmem S256x2048 .bf16) (harg6 : arg6.IsWhole)
    (T0 : S288.Idx → Elt Ideal .i32) (T1 : S1.Idx → Elt Ideal .i32)
    (x0 : S256x1024.Idx → Elt Ideal .i32) (x1 : S1x2048x4096.Idx → Elt Ideal .bf16) (x2 : S1x1x4096.Idx → Elt Ideal .f32) (hu : k0_cond1 i (word T1) = 1#1) (y : S256x2048.Idx) :
    outA c i arg3 harg3 arg4 harg4 arg5 harg5 arg6 harg6 T0 T1 x0 x1 x2 hu y = val x0 x1 x2 y := by
  unfold outA
  refine View.read_writes_apply_of_pieces VO VO.junk (val x0 x1 x2) _ ?_ y (coverA c i arg3 harg3 arg4 harg4 arg5 harg5 arg6 harg6 T0 T1 x0 x1 x2 hu y)
  unfold runA
  dsimp only
  unfold runA.sl.HO3_4
  refine List.forall_mem_cons.mpr ⟨fun x => ?_, List.forall_mem_cons.mpr ⟨fun x => ?_, List.forall_mem_cons.mpr ⟨fun x => ?_, List.forall_mem_cons.mpr ⟨fun x => ?_, fun _ h => absurd h List.not_mem_nil⟩⟩⟩⟩
  · refine stored x0 x1 x2 _ 1536 (by decide) inb_S256x2048_S256x512_0_1536 (fun r c => ?_) x
    unfold runA.sl.r_1 runA.sl.r_2 runA.sl.r_9
    refine (chunk3 _ _ _ _ _ _ _ _ r c).trans (congrArg₂ act (lin_eq x0 _ x1 x2 _ _ _ 1536 (by decide) ?_ ?_ ?_ ?_ r c _ rfl) (lin_eq x0 _ x1 x2 _ _ _ 3584 (by decide) ?_ ?_ ?_ ?_ r c _ (by simp only; omega)))
    all_goals first | exact ld_x arg3 x0 _ | exact fun k c => ld_w arg4 x1 _ _ (by decide) (by decide) _ k c | exact fun c => ld_b arg5 x2 _ (by decide) _ c
  · refine stored x0 x1 x2 _ 1024 (by decide) inb_S256x2048_S256x512_0_1024 (fun r c => ?_) x
    unfold runA.sl.r_2 runA.sl.r_7 runA.sl.r_8 runA.sl.r_1 runA.sl.r_2
    refine (chunk2 _ _ _ _ _ _ _ _ r c).trans (congrArg₂ act (lin_eq x0 _ x1 x2 _ _ _ 1024 (by decide) ?_ ?_ ?_ ?_ r c _ rfl) (lin_eq x0 _ x1 x2 _ _ _ 3072 (by decide) ?_ ?_ ?_ ?_ r c _ (by simp only; omega)))
    all_goals first | exact ld_x arg3 x0 _ | exact fun k c => ld_w arg4 x1 _ _ (by decide) (by decide) _ k c | exact fun c => ld_b arg5 x2 _ (by decide) _ c
  · refine stored x0 x1 x2 _ 512 (by decide) inb_S256x2048_S256x512_0_512 (fun r c => ?_) x
    unfold runA.sl.r_5 runA.sl.r_6
    refine (chunk1 _ _ _ _ _ _ _ _ r c).trans (congrArg₂ act (lin_eq x0 _ x1 x2 _ _ _ 512 (by decide) ?_ ?_ ?_ ?_ r c _ rfl) (lin_eq x0 _ x1 x2 _ _ _ 2560 (by decide) ?_ ?_ ?_ ?_ r c _ (by simp only; omega)))
    all_goals first | exact ld_x arg3 x0 _ | exact fun k c => ld_w arg4 x1 _ _ (by decide) (by decide) _ k c | exact fun c => ld_b arg5 x2 _ (by decide) _ c
  · refine stored x0 x1 x2 _ 0 (by decide) inb_S256x2048_S256x512_0_0 (fun r c => ?_) x
    unfold runA.sl.r_3 runA.sl.r_4
    refine (chunk0 _ _ _ _ _ _ _ r c).trans (congrArg₂ act (lin_eq x0 _ x1 x2 _ _ _ 0 (by decide) ?_ ?_ ?_ ?_ r c _ rfl) (lin_eq x0 _ x1 x2 _ _ _ 2048 (by decide) ?_ ?_ ?_ ?_ r c _ (by simp only; omega)))
    all_goals first | exact ld_x arg3 x0 _ | exact fun k c => ld_w arg4 x1 _ _ (by decide) (by decide) _ k c | exact fun c => ld_b arg5 x2 _ (by decide) _ c

end Cert.UpIdeal

end
-- ==== Proof.UpValue.lean ====
/-
  The first expert product's result array: at every row of a used block, the activation of the row times its block's
  expert's weights plus its bias.
-/
module

public import proofs.«01_k».proof.Proof.UpIdealLaunch
public import proofs.«01_k».proof.Proof.UpBody
public import Idealize.ShloMosaic.Lib.Pipeline.ValueKit

@[expose] public section

set_option maxRecDepth 16384

noncomputable section

namespace Cert.UpIdeal

open Cert.Kernel2Ideal Cert.Kernel2Ideal.Gen
open Idealize.ShloMosaic
open Idealize.ShloMosaic.TcCoe Idealize.SL.Sem
open Idealize.ShloMosaic.Pipeline (Dat)

/-- What the upper half of a packed word denotes. -/
def hiw (w : BitVec 32) : EReal := Ideal.ofBits .f32 (IntOp.andi w 4294901760#32)
/-- What the lower half of a packed word denotes. -/
def low (w : BitVec 32) : EReal := Ideal.ofBits .f32 (IntOp.shli .vector w 16#32)

theorem pay2_at (v4 : Vec Ideal S256x1024 .i32) (r : Fin 256) (k : Fin 1024) : k0_pay2 v4 (ix2 r k) = hiw (v4 (ix2 r k)) := by
  pointwise [k0_pay2]
  rfl

theorem pay3_at (v4 : Vec Ideal S256x1024 .i32) (r : Fin 256) (k : Fin 1024) : k0_pay3 v4 (ix2 r k) = low (v4 (ix2 r k)) := by
  pointwise [k0_pay3]
  rfl

/-- The pre-activation of row `r` at column `q` under expert `e`, from the whole arrays. -/
def rowPre (X : Vec Ideal S73728x1024 .i32) (W : Vec Ideal S32x2048x4096 .bf16) (B : Vec Ideal S32x1x4096 .f32) (r : Fin 73728) (e : Fin 32) (q : Fin 4096) : EReal :=
  (∑ k : Fin 1024, hiw (X (ix2 r k)) * (W (ix3 e ⟨k.val, by omega⟩ q) : EReal))
    + (∑ k : Fin 1024, low (X (ix2 r k)) * (W (ix3 e ⟨1024 + k.val, by omega⟩ q) : EReal)) + B (ix3 e 0 q)

/-- The entry of the experts' table of a row's block. -/
def ent (r : Fin 73728) : S288.Idx := ix1 (n0 := 288) ⟨r.val / 256, by omega⟩

/-- The expert of a row. -/
def exp (T : Vec Ideal S288 .i32) (r : Fin 73728) : Fin 32 := ⟨BitVec.toNat (w := 32) (T (ent r)) % 32, Nat.mod_lt _ (by decide)⟩

/-- The result, from the whole arrays. -/
def whole (T : Vec Ideal S288 .i32) (X : Vec Ideal S73728x1024 .i32) (W : Vec Ideal S32x2048x4096 .bf16) (B : Vec Ideal S32x1x4096 .f32) (r : Fin 73728) (d : Fin 2048) : EReal :=
  act (rowPre X W B r (exp T r) ⟨d.val, by omega⟩) (rowPre X W B r (exp T r) ⟨2048 + d.val, by omega⟩)

/-- A block's value is the array's, where the block is read from the array. -/
theorem val_eq (X : Vec Ideal S73728x1024 .i32) (W : Vec Ideal S32x2048x4096 .bf16) (B : Vec Ideal S32x1x4096 .f32)
    (x0 : Vec Ideal S256x1024 .i32) (x1 : Vec Ideal S1x2048x4096 .bf16) (x2 : Vec Ideal S1x1x4096 .f32) (r : Fin 256) (R : Fin 73728) (e : Fin 32)
    (h0 : ∀ k, x0 (ix2 r k) = X (ix2 R k)) (h1 : ∀ k q, x1 (ix3 0 k q) = W (ix3 e k q)) (h2 : ∀ q, x2 (ix3 0 0 q) = B (ix3 e 0 q)) (q : Fin 4096) :
    pre x0 x1 x2 r q = rowPre X W B R e q := by
  unfold pre rowPre
  refine congrArg₂ (· + ·) (congrArg₂ (· + ·) (Finset.sum_congr rfl fun k _ => ?_) (Finset.sum_congr rfl fun k _ => ?_)) (h2 q)
  · rw [pay2_at, h0, h1]
  · rw [pay3_at, h0, h1]

variable (a : (pcfg0 (F := Ideal)).Adm) (hr : InRange a.1)
variable (m : (ℓ : Loc nD τ sig) → Buf (Elt Ideal) ℓ) (ρ : Dev nD → PrngReg)

theorem t_lt (t : Fin (cfg a).N) : t.val < 288 := lt_of_lt_of_eq t.isLt N_0

include hr in
theorem index0 (t : Fin (cfg a).N) (q : Used a t) : ((cfg a).win (0 : Fin 4)).index t = ![t.val, 0] := by
  rw [used_iff a hr] at q
  show cc0_transform_0 inb_S1_S1_0 numel1_S1 a.1 (grid0.coords t) = _
  rw [row0 a.1 hr, coord_eq, min_eq_left (by omega)]

theorem index1 (t : Fin (cfg a).N) : ((cfg a).win (1 : Fin 4)).index t = ![BitVec.toNat (w := 32) (a.1 0 (entry (crd a t))), 0, 0] := expert1 a.1 _
theorem index2 (t : Fin (cfg a).N) : ((cfg a).win (2 : Fin 4)).index t = ![BitVec.toNat (w := 32) (a.1 0 (entry (crd a t))), 0, 0] := expert2 a.1 _

/-- Row `r` of point `t`'s block. -/
def rowOf (t : Fin (cfg a).N) (r : Fin 256) : Fin 73728 := ⟨t.val * 256 + r.val, by have := t_lt a t; omega⟩

include hr in
theorem x_at (c : Dev nD) (t : Fin (cfg a).N) (q : Used a t) (r : Fin 256) (k : Fin 1024) :
    blkOf a m ρ c (0 : Fin 4) t (ix2 r k) = m ((c : Thread nD τ).loc main_arg2) (ix2 (rowOf a t r) k) := by
  unfold blkOf
  show m ((c : Thread nD τ).loc main_arg2) ((((cfg a).win (0 : Fin 4)).blk t).view.emb (ix2 r k)) = _
  refine congrArg _ (funext fun b => Fin.ext ?_)
  have h := index0 a hr t q
  fin_cases b
  · show ((cfg a).win (0 : Fin 4)).index t 0 * 256 + 1 * r.val = t.val * 256 + r.val
    rw [h]
    simp only [Matrix.cons_val_zero]
    omega
  · show ((cfg a).win (0 : Fin 4)).index t 1 * 1024 + 1 * k.val = k.val
    rw [h]
    simp [Matrix.cons_val_one]

/-- The expert of a point. -/
def ex (t : Fin (cfg a).N) : Fin 32 := ⟨BitVec.toNat (w := 32) (a.1 0 (entry (crd a t))) % 32, Nat.mod_lt _ (by decide)⟩

include hr in
theorem w_at (c : Dev nD) (t : Fin (cfg a).N) (k : Fin 2048) (q : Fin 4096) :
    blkOf a m ρ c (1 : Fin 4) t (ix3 0 k q) = m ((c : Thread nD τ).loc main_arg3) (ix3 (ex a t) k q) := by
  unfold blkOf
  show m ((c : Thread nD τ).loc main_arg3) ((((cfg a).win (1 : Fin 4)).blk t).view.emb (ix3 0 k q)) = _
  refine congrArg _ (funext fun b => Fin.ext ?_)
  have h := index1 a t
  have he := hr.expert (entry (crd a t))
  fin_cases b
  · show ((cfg a).win (1 : Fin 4)).index t 0 * 1 + 1 * 0 = BitVec.toNat (w := 32) (a.1 0 (entry (crd a t))) % 32
    rw [h]
    simp only [Matrix.cons_val_zero]
    omega
  · show ((cfg a).win (1 : Fin 4)).index t 1 * 2048 + 1 * k.val = k.val
    rw [h]
    simp [Matrix.cons_val_one]
  · show ((cfg a).win (1 : Fin 4)).index t 2 * 4096 + 1 * q.val = q.val
    rw [h]
    simp [Matrix.cons_val]

include hr in
theorem b_at (c : Dev nD) (t : Fin (cfg a).N) (q : Fin 4096) :
    blkOf a m ρ c (2 : Fin 4) t (ix3 0 0 q) = m ((c : Thread nD τ).loc main_arg4) (ix3 (ex a t) 0 q) := by
  unfold blkOf
  show m ((c : Thread nD τ).loc main_arg4) ((((cfg a).win (2 : Fin 4)).blk t).view.emb (ix3 0 0 q)) = _
  refine congrArg _ (funext fun b => Fin.ext ?_)
  have h := index2 a t
  have he := hr.expert (entry (crd a t))
  fin_cases b
  · show ((cfg a).win (2 : Fin 4)).index t 0 * 1 + 1 * 0 = BitVec.toNat (w := 32) (a.1 0 (entry (crd a t))) % 32
    rw [h]
    simp only [Matrix.cons_val_zero]
    omega
  · show ((cfg a).win (2 : Fin 4)).index t 1 * 1 + 1 * 0 = 0
    rw [h]
    simp [Matrix.cons_val_one]
  · show ((cfg a).win (2 : Fin 4)).index t 2 * 4096 + 1 * q.val = q.val
    rw [h]
    simp [Matrix.cons_val]

/-- The result's value at an array index, from the memory at the launch. -/
def want (c : Dev nD) (i : S73728x2048.Idx) : EReal :=
  whole (a.1 0) (m ((c : Thread nD τ).loc main_arg2)) (m ((c : Thread nD τ).loc main_arg3)) (m ((c : Thread nD τ).loc main_arg4)) (i 0) (i 1)

theorem exp_eq (t : Fin (cfg a).N) (r : Fin 256) : exp (a.1 0) (rowOf a t r) = ex a t := by
  have ht := t_lt a t
  have hc := coord_eq t
  refine Fin.ext (congrArg (fun j : S288.Idx => BitVec.toNat (w := 32) (a.1 0 j) % 32) (funext fun b : Fin 1 => Fin.ext ?_))
  obtain rfl : b = 0 := Subsingleton.elim _ _
  show (t.val * 256 + r.val) / 256 = (grid0.coords t 0).val
  omega

include hr in
/-- What a used point leaves in the result's buffer. -/
theorem traj_used (c : Dev nD) (t : Fin (cfg a).N) (q : Used a t) (r : Fin 256) (d : Fin 2048) :
    traj a m ρ c t.val t.isLt (ix2 r d) = want a m c (ix2 (rowOf a t r) d) := by
  rw [traj_eq, step_used a m ρ c t _ q]
  refine (outA_at _ _ _ _ _ _ _ _ _ _ _ _ _ _ _ _ (ix2 r d)).trans ?_
  have e : ∀ q, _ := val_eq (m ((c : Thread nD τ).loc main_arg2)) (m ((c : Thread nD τ).loc main_arg3)) (m ((c : Thread nD τ).loc main_arg4))
    (blkOf a m ρ c (0 : Fin 4) t) (blkOf a m ρ c (1 : Fin 4) t) (blkOf a m ρ c (2 : Fin 4) t) r (rowOf a t r) (exp (a.1 0) (rowOf a t r))
    (fun k => x_at a hr m ρ c t q r k) (fun k q => by rw [exp_eq]; exact w_at a hr m ρ c t k q) (fun q => by rw [exp_eq]; exact b_at a hr m ρ c t q)
  exact congrArg₂ act (e _) (e _)

include hr in
/-- The last used block stays in the result's buffer to the end. -/
theorem traj_stays (c : Dev nD) : ∀ (n : ℕ) (hn : nu a.1 - 1 + n < (cfg a).N),
    traj a m ρ c (nu a.1 - 1 + n) hn = traj a m ρ c (nu a.1 - 1) (by omega)
  | 0, _ => rfl
  | n + 1, hn => by
    have hu : ¬Used a ⟨nu a.1 - 1 + (n + 1), hn⟩ := fun h => by
      have := (used_iff a hr _).mp h
      simp only at this
      omega
    have e := traj_eq a m ρ c ⟨nu a.1 - 1 + (n + 1), hn⟩
    rw [step_unused a m ρ c _ _ hu, (sched_unused a hr _ hu).2] at e
    refine e.trans ?_
    unfold prev
    rw [if_neg (by decide), dif_neg (by simp)]
    exact traj_stays c n (by omega)

include hr in
/-- What is written back at a point is the result there. -/
theorem flushed_eq (c : Dev nD) (t : Fin (cfg a).N) (hf : ((cfg a).win (3 : Fin 4)).flush t = true) :
    (dats a m ρ 0 c).flushed (3 : Fin 4) t = (((cfg a).win (3 : Fin 4)).blk t).view.read (Elt Ideal) (want a m c) := by
  have ht := t_lt a t
  have h1 := hr.pos
  have h2 := hr.le
  rw [flush_eq a hr, Bool.or_eq_true, decide_eq_true_iff, decide_eq_true_iff] at hf
  obtain ⟨u, hu, he, hx⟩ : ∃ u : Fin (cfg a).N, Used a u ∧ traj a m ρ c t.val t.isLt = traj a m ρ c u.val u.isLt ∧ min t.val (nu a.1 - 1) = u.val := by
    have hN : (cfg a).N = 288 := N_0
    rcases hf with hf | hf
    · exact ⟨t, (used_iff a hr t).mpr (by omega), rfl, by omega⟩
    · refine ⟨⟨nu a.1 - 1, by omega⟩, (used_iff a hr _).mpr (by simp only; omega), ?_, by simp only; omega⟩
      have e := traj_stays a hr m ρ c (288 - nu a.1) (by omega)
      refine Eq.trans ?_ e
      congr 1
      omega
  funext y
  have hi := index3 a hr t
  rw [hx] at hi
  show traj a m ρ c t.val t.isLt y = want a m c ((((cfg a).win (3 : Fin 4)).blk t).view.emb y)
  rw [he]
  have ey : y = ix2 (y 0) (y 1) := funext fun b => by fin_cases b <;> rfl
  refine (congrArg (traj a m ρ c u.val u.isLt) ey).trans ((traj_used a hr m ρ c u hu (y 0) (y 1)).trans (congrArg (want a m c) (funext fun b => Fin.ext ?_)))
  fin_cases b
  · show u.val * 256 + (y 0).val = ((cfg a).win (3 : Fin 4)).index t 0 * 256 + 1 * (y 0).val
    rw [hi]
    simp only [Matrix.cons_val_zero]
    omega
  · show (y 1).val = ((cfg a).win (3 : Fin 4)).index t 1 * 2048 + 1 * (y 1).val
    rw [hi]
    simp [Matrix.cons_val_one]

include hr in
/-- The result array after the launch, at a row of a used block. -/
theorem result_at (c : Dev nD) (i : S73728x2048.Idx) (h : (i 0).val < nu a.1 * 256) :
    (dats a m ρ 0 c).arrAt (3 : Fin 4) (cfg a).N i = want a m c i := by
  have hN : (cfg a).N = 288 := N_0
  have h1 := hr.pos
  have h2 := hr.le
  have hq : (i 0).val / 256 < nu a.1 := by omega
  obtain ⟨t, hf, hx⟩ : ∃ t : Fin (cfg a).N, ((cfg a).win (3 : Fin 4)).flush t = true ∧ min t.val (nu a.1 - 1) = (i 0).val / 256 := by
    by_cases hl : (i 0).val / 256 + 1 < nu a.1
    · exact ⟨⟨(i 0).val / 256, by omega⟩, by rw [flush_eq a hr]; simp [hl], by simp only; omega⟩
    · exact ⟨⟨287, by omega⟩, by rw [flush_eq a hr]; simp, by simp only; omega⟩
  have hi := index3 a hr t
  rw [hx] at hi
  refine (dats a m ρ 0 c).arrAt_apply_of_mem (3 : Fin 4) (want a m c) (flushed_eq a hr m ρ c) (cfg a).N t i t.isLt hf ?_
  refine (((cfg a).win (3 : Fin 4)).emb_mem_blk_iff t i rfl).mpr fun b => ?_
  rw [hi]
  have h3 : (i 1).val < 2048 := (i 1).isLt
  fin_cases b
  · show (i 0).val / 256 * 256 ≤ (i 0).val ∧ (i 0).val < (i 0).val / 256 * 256 + 256
    omega
  · show 0 * 2048 ≤ (i 1).val ∧ (i 1).val < 0 * 2048 + 2048
    omega

end Cert.UpIdeal

end
-- ==== Proof.UpRef.lean ====
/-
  The first expert product's reference, named part by part over its arguments, and each part read at an index.
-/
module

public import proofs.«01_k».proof.Proof.Gen.Reference2Ideal.Run
public import proofs.«01_k».proof.Proof.Packed
public import proofs.«01_k».proof.Proof.UpValue
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.UpRef

open Cert.Reference2Ideal Cert.Reference2Ideal.Gen

/-- The experts' table as start indices, negative entries counted from the end. -/
def IDX (be : IVec S288 32) : IVec S288x1 32 :=
  broadcastInDim S288x1 ![0] bcast_S288_S288x1_0 (select (cmpi .slt be (broadcastInDim S288 ![] bcast_S_S288 (constantI S_ 32 0#32))) (addi be (broadcastInDim S288 ![] bcast_S_S288 (constantI S_ 32 32#32))) be)

/-- The tokens' rows, their upper halves before their lower ones. -/
def HALVES (X : IVec S73728x1024 32) : FVec Ideal S73728x2048 .bf16 :=
  concatenate S73728x2048 1 [⟨S73728x1024, (bitcastToFloat (F := Ideal) .bf16 (trunci 16 (Host.shrui X (broadcastInDim S73728x1024 ![] bcast_S_S73728x1024 (constantI S_ 32 16#32))) natLt_16_32))⟩, ⟨S73728x1024, (bitcastToFloat (F := Ideal) .bf16 (trunci 16 (andi X (broadcastInDim S73728x1024 ![] bcast_S_S73728x1024 (constantI S_ 32 65535#32))) natLt_16_32))⟩] concatenates_S73728x1024_S73728x1024_S73728x2048_d1

/-- The pre-activations. -/
def PRE (be : IVec S288 32) (X : IVec S73728x1024 32) (W : FVec Ideal S32x2048x4096 .bf16) (B : FVec Ideal S32x1x4096 .f32) : FVec Ideal S288x256x4096 .f32 :=
  addf (Host.dotGeneral dot_S288x256x2048_S288x2048x4096_S288x256x4096_2_1_1_2_0_0 none (shapeCast _ (extf .f32 (HALVES X) bitsLt_bf16_f32) shapeCasts_S73728x2048_S288x256x2048) (Host.gather gather_S32x2048x4096_S288x1_S288x2048x4096_12_0_n_n_0_1_120484096 (extf .f32 W bitsLt_bf16_f32) (IDX be))) (broadcastInDim S288x256x4096 ![0, 1, 2] bcast_S288x1x4096_S288x256x4096_0_1_2 (Host.gather gather_S32x1x4096_S288x1_S288x1x4096_12_0_n_n_0_1_114096 B (IDX be)))

/-- The gate, cut off above. -/
def GLU (H : FVec Ideal S288x256x4096 .f32) : FVec Ideal S288x256x2048 .f32 :=
  minimumf (extractStridedSlice S288x256x2048 ![0, 0, 0] H slices_S288x256x4096_S288x256x2048_0_0_0) (broadcastInDim S288x256x2048 ![] bcast_S_S288x256x2048 (constant S_ .f32 0x40E00000#32))

/-- The result from the pre-activations. -/
def RES (H : FVec Ideal S288x256x4096 .f32) : FVec Ideal S73728x2048 .bf16 :=
  truncf .bf16 (shapeCast _ (mulf (mulf (GLU H) (Host.divf (broadcastInDim S288x256x2048 ![] bcast_S_S288x256x2048 (constant S_ .f32 0x3F800000#32)) (addf (broadcastInDim S288x256x2048 ![] bcast_S_S288x256x2048 (constant S_ .f32 0x3F800000#32)) (Host.exp (Host.negf (mulf (broadcastInDim S288x256x2048 ![] bcast_S_S288x256x2048 (constant S_ .f32 0x3FD9DB23#32)) (GLU H))))))) (addf (minimumf (broadcastInDim S288x256x2048 ![] bcast_S_S288x256x2048 (id (constant S_ .f32 0x40E00000#32))) (maximumf (broadcastInDim S288x256x2048 ![] bcast_S_S288x256x2048 (id (constant S_ .f32 0xC0E00000#32))) (extractStridedSlice S288x256x2048 ![0, 0, 2048] H slices_S288x256x4096_S288x256x2048_0_0_2048))) (broadcastInDim S288x256x2048 ![] bcast_S_S288x256x2048 (constant S_ .f32 0x3F800000#32)))) shapeCasts_S288x256x2048_S73728x2048) bitsLt_bf16_f32

theorem res_eq (m : (ℓ : Loc nD τ sig) → Buf (Elt Ideal) ℓ) (c : Dev nD) :
    Value.res_main_v47 m c = RES (PRE (m ((c.tc : Thread nD τ).loc main_arg0)) (m ((c.tc : Thread nD τ).loc main_arg2)) (m ((c.tc : Thread nD τ).loc main_arg3)) (m ((c.tc : Thread nD τ).loc main_arg4))) := rfl

/-- An entry among the 32 experts is its own start index. -/
theorem idx_at (be : IVec S288 32) (n : Fin 288) (h : (be (ix1 n)).toNat < 32) : IDX be (ix2 n 0) = be (ix1 n) := by
  pointwise [IDX]
  unfold Scalar.select
  rw [if_neg]
  intro hc
  have e := IntOp.cmpi_slt.1 hc
  rw [BitVec.toInt_eq_toNat_of_lt (by omega)] at e
  simp at e
  omega

/-- Row `n` of the gathered weights is the matrix of the expert entry `n` names. -/
theorem gather_w (x : FVec Ideal S32x2048x4096 .f32) (idx : IVec S288x1 32) (n : Fin 288) (k : Fin 2048) (q : Fin 4096) (h : (idx (ix2 n 0)).toNat < 32) :
    Host.gather gather_S32x2048x4096_S288x1_S288x2048x4096_12_0_n_n_0_1_120484096 x idx (ix3 n k q) = x (ix3 ⟨(idx (ix2 n 0)).toNat, h⟩ k q) := by
  have hs : gather_S32x2048x4096_S288x1_S288x2048x4096_12_0_n_n_0_1_120484096.siIdx (ix3 n k q) ⟨0, by decide⟩ = ix2 n 0 := by
    funext b
    fin_cases b <;> rfl
  refine congrArg x (funext fun a => Fin.ext ?_)
  fin_cases a
  · show min (idx (gather_S32x2048x4096_S288x1_S288x2048x4096_12_0_n_n_0_1_120484096.siIdx (ix3 n k q) ⟨0, by decide⟩)).toInt.toNat 31 + 0 + 0 = (idx (ix2 n 0)).toNat
    rw [hs, BitVec.toInt_eq_toNat_of_lt (by omega)]
    simp only [Int.toNat_natCast]
    omega
  · show 0 + 0 + k.val = k.val
    omega
  · show 0 + 0 + q.val = q.val
    omega

/-- Row `n` of the gathered biases is the bias of the expert entry `n` names. -/
theorem gather_b (x : FVec Ideal S32x1x4096 .f32) (idx : IVec S288x1 32) (n : Fin 288) (q : Fin 4096) (h : (idx (ix2 n 0)).toNat < 32) :
    Host.gather gather_S32x1x4096_S288x1_S288x1x4096_12_0_n_n_0_1_114096 x idx (ix3 n 0 q) = x (ix3 ⟨(idx (ix2 n 0)).toNat, h⟩ 0 q) := by
  have hs : gather_S32x1x4096_S288x1_S288x1x4096_12_0_n_n_0_1_114096.siIdx (ix3 n 0 q) ⟨0, by decide⟩ = ix2 n 0 := by
    funext b
    fin_cases b <;> rfl
  refine congrArg x (funext fun a => Fin.ext ?_)
  fin_cases a
  · show min (idx (gather_S32x1x4096_S288x1_S288x1x4096_12_0_n_n_0_1_114096.siIdx (ix3 n 0 q) ⟨0, by decide⟩)).toInt.toNat 31 + 0 + 0 = (idx (ix2 n 0)).toNat
    rw [hs, BitVec.toInt_eq_toNat_of_lt (by omega)]
    simp only [Int.toNat_natCast]
    omega
  · rfl
  · show 0 + 0 + q.val = q.val
    omega

/-- The left half of a row. -/
theorem halves_hi (X : IVec S73728x1024 32) (R : Fin 73728) (k : Fin 1024) :
    HALVES X (ix2 R ⟨k.val, by omega⟩) = Cert.UpIdeal.hiw (X (ix2 R k)) := by
  pointwise [HALVES]
  exact (Cert.Packed.widen _ _ (Cert.Packed.upper _)).symm

/-- The right half of a row. -/
theorem halves_lo (X : IVec S73728x1024 32) (R : Fin 73728) (k : Fin 1024) :
    HALVES X (ix2 R ⟨1024 + k.val, by omega⟩) = Cert.UpIdeal.low (X (ix2 R k)) := by
  pointwise [HALVES]
  exact (Cert.Packed.widen _ _ (Cert.Packed.lower _)).symm

/-- A sum over 2048 is the sum over its halves. -/
theorem sum_halves (f : Fin 2048 → EReal) :
    ∑ k, f k = (∑ k : Fin 1024, f ⟨k.val, by omega⟩) + ∑ k : Fin 1024, f ⟨1024 + k.val, by omega⟩ :=
  Fin.sum_univ_add (a := 1024) (b := 1024) f

/-- The pre-activations at row `r` of block `n`, under the expert the table names. -/
theorem pre_at (be : IVec S288 32) (X : IVec S73728x1024 32) (W : FVec Ideal S32x2048x4096 .bf16) (B : FVec Ideal S32x1x4096 .f32)
    (n : Fin 288) (r : Fin 256) (q : Fin 4096) (h : (be (ix1 n)).toNat < 32) :
    PRE be X W B (ix3 n r q) = Cert.UpIdeal.rowPre X W B ⟨n.val * 256 + r.val, by omega⟩ ⟨(be (ix1 n)).toNat, h⟩ q := by
  have hi := idx_at be n h
  have hlt : (IDX be (ix2 n 0)).toNat < 32 := by rw [hi]; exact h
  have he : (⟨(IDX be (ix2 n 0)).toNat, hlt⟩ : Fin 32) = ⟨(be (ix1 n)).toNat, h⟩ := Fin.ext (congrArg BitVec.toNat hi)
  pointwise [PRE]
  refine congrArg₂ (· + ·) ((sum_halves _).trans (congrArg₂ (· + ·) (Finset.sum_congr rfl fun k _ => ?_) (Finset.sum_congr rfl fun k _ => ?_))) ?_
  · exact congrArg₂ (· * ·) (halves_hi X _ k) ((gather_w _ _ n _ q hlt).trans (congrArg (fun e => W (ix3 e _ q)) he))
  · exact congrArg₂ (· * ·) (halves_lo X _ k) ((gather_w _ _ n _ q hlt).trans (congrArg (fun e => W (ix3 e _ q)) he))
  · exact (gather_b _ _ n q hlt).trans (congrArg (fun e => B (ix3 e 0 q)) he)

/-- The result at a row and column from the pre-activations. -/
theorem res_at (H : FVec Ideal S288x256x4096 .f32) (R : Fin 73728) (d : Fin 2048) :
    RES H (ix2 R d) = Cert.UpIdeal.act (H (ix3 ⟨R.val / 256, by omega⟩ ⟨R.val % 256, by omega⟩ ⟨d.val, by omega⟩)) (H (ix3 ⟨R.val / 256, by omega⟩ ⟨R.val % 256, by omega⟩ ⟨2048 + d.val, by omega⟩)) := by
  pointwise [RES, GLU]
  rfl

/-- The reference at a row and column is the activation of that row times its block's expert. -/
theorem ref_at (be : IVec S288 32) (X : IVec S73728x1024 32) (W : FVec Ideal S32x2048x4096 .bf16) (B : FVec Ideal S32x1x4096 .f32)
    (h : ∀ n, (be n).toNat < 32) (R : Fin 73728) (d : Fin 2048) :
    RES (PRE be X W B) (ix2 R d) = Cert.UpIdeal.whole be X W B R d := by
  have hn : R.val / 256 < 288 := by omega
  have hR : (⟨(⟨R.val / 256, hn⟩ : Fin 288).val * 256 + (⟨R.val % 256, Nat.mod_lt _ (by decide)⟩ : Fin 256).val, by simp only; omega⟩ : Fin 73728) = R := Fin.ext (by simp only; omega)
  have he : (⟨(be (ix1 ⟨R.val / 256, hn⟩)).toNat, h _⟩ : Fin 32) = Cert.UpIdeal.exp be R := Fin.ext (Nat.mod_eq_of_lt (h _)).symm
  have key (q : Fin 4096) : PRE be X W B (ix3 ⟨R.val / 256, hn⟩ ⟨R.val % 256, Nat.mod_lt _ (by decide)⟩ q) = Cert.UpIdeal.rowPre X W B R (Cert.UpIdeal.exp be R) q :=
    (pre_at be X W B _ _ q (h _)).trans (congrArg₂ (fun r e => Cert.UpIdeal.rowPre X W B r e q) hR he)
  exact (res_at _ R d).trans (congrArg₂ Cert.UpIdeal.act (key _) (key _))

end Cert.UpRef

end
-- ==== Proof.UpFinal.lean ====
/-
  The first expert product and its reference end with equal results on the rows of used blocks.
-/
module

public import proofs.«01_k».proof.Proof.UpIdealFrame
public import proofs.«01_k».proof.Proof.Gen.On_used_rows
public import proofs.«01_k».proof.Proof.UpRef

@[expose] public section

set_option maxRecDepth 16384

noncomputable section

namespace Cert.UpFinal

open Idealize.ShloMosaic
open Idealize.ShloMosaic.TcCoe Idealize.SL.Sem

/-- The reference runs, leaves its arguments as they were, and ends with every counter at zero. -/
theorem reference_frame : quiescent_Reference2Ideal (hReference2Ideal := Cert.Reference2Ideal.Gen.facts) := fun m ρ _ =>
  (θ_run _ _ _).mono (fun r h => ⟨fun c => (h c).2, Idealize.ShloMosaic.sem_eq_zero_of_no_sems (by decide) r.2⟩)
    (Cert.Reference2Ideal.Value.run (F := Ideal) m ρ)

/-- The kernel's result and the reference's agree on the rows of used blocks. -/
theorem equal_results : algebraic_Kernel2Ideal_Reference2Ideal_on_used_rows := by
  intro m g m' g' hpre hagree
  have hin := Cert.UpIdeal.adm_inRange m hpre
  have hsub : ∀ c : Dev Cert.Kernel2Ideal.nD, c = 0 := fun c => Subsingleton.elim _ _
  refine ⟨fun c i => Cert.UpIdeal.want (Cert.UpIdeal.adm m hpre) m c i, ?_, ?_⟩
  · refine (θ_run _ _ _).mono ?_ (Cert.UpIdeal.run (Cert.UpIdeal.adm m hpre) hin m g (Cert.UpIdeal.adm_holds m hpre))
    intro r hr c
    refine ⟨fun i hi => ?_, (hr.1 c).2⟩
    refine (congrFun (hr.1 c).1 i).trans (Cert.UpIdeal.result_at _ hin m g c i ?_)
    obtain rfl := hsub c
    exact Cert.UpPre.used_rows_lt _ _ _ _ _ _ (fun x => by rw [Cert.UpIdeal.z_unique x]; rfl) hin.le i hi
  · refine (θ_run _ _ _).mono ?_ (Cert.Reference2Ideal.Value.run (F := Ideal) m' g')
    intro r hr c
    refine ⟨fun i hi => ?_, (hr c).2⟩
    obtain rfl := hsub c
    refine (congrFun ((hr 0).1.trans (Cert.UpRef.res_eq m' 0)) i).trans ?_
    rw [(hagree 0).1, (hagree 0).2.2.1, (hagree 0).2.2.2.1, (hagree 0).2.2.2.2]
    have hi2 : i = ix2 (i 0) (i 1) := eq_ix2 i
    rw [hi2]
    exact Cert.UpRef.ref_at _ _ _ _ hin.expert (i 0) (i 1)

end Cert.UpFinal

end
-- ==== Proof.DownPre.lean ====
/-
  What the precondition and the mask of the second expert product say of the tables: the count between one and all blocks, the
  experts among the 32, and the rows below 256 times the count.
-/
module

public import proofs.«01_k».proof.Pre_routed_down
public import proofs.«01_k».proof.On_used_rows_down
public import Idealize.ShloMosaic.Lib.Claim
public import Idealize.ShloMosaic.Lib.ReduceAll
public import Idealize.ShloMosaic.PureOps.Ideal

@[expose] public section

noncomputable section

namespace Cert.DownPre

open Idealize.ShloMosaic

variable {F : FTy → Type} [FloatOps F]

section
variable [Cert.Pre_routed_down.Facts]
open Cert.Pre_routed_down

theorem and_one {x y : BitVec 1} (h : IntOp.andi x y = 1#1) : x = 1#1 ∧ y = 1#1 := by
  revert h; revert x y; decide

/-- The precondition, word by word. -/
theorem routed_iff (be : IVec S288 32) (nu : IVec S1 32) (xb : FVec F S73728x2048 .bf16) (w : FVec F S32x2048x2048 .bf16) (b : FVec F S32x1x2048 .f32)
    (h : fn be nu xb w b = fun _ => 1#1) : (∀ x, 1 ≤ (nu x).toNat ∧ (nu x).toNat ≤ 288) ∧ ∀ j, (be j).toNat < 32 := by
  have h' := congrFun h (fun a => a.elim0)
  obtain ⟨h', h4⟩ := and_one h'
  obtain ⟨h', h3⟩ := and_one h'
  obtain ⟨h1, h2⟩ := and_one h'
  refine ⟨fun x => ?_, fun j => ?_⟩
  · have e1 := IntOp.cmpi_sge.1 (Host.reduce_andi_all _ _ _ _ _ h1 x)
    have e2 := IntOp.cmpi_sle.1 (Host.reduce_andi_all _ _ _ _ _ h2 x)
    replace e1 : (1#32).toInt ≤ (nu x).toInt := e1
    replace e2 : (nu x).toInt ≤ (288#32).toInt := e2
    rw [show (1#32).toInt = 1 from by decide] at e1
    rw [show (288#32).toInt = 288 from by decide] at e2
    have c := BitVec.toInt_eq_toNat_cond (nu x)
    have := (nu x).isLt
    split at c <;> omega
  · have e1 := IntOp.cmpi_sge.1 (Host.reduce_andi_all _ _ _ _ _ h3 j)
    have e2 := IntOp.cmpi_slt.1 (Host.reduce_andi_all _ _ _ _ _ h4 j)
    replace e1 : (0#32).toInt ≤ (be j).toInt := e1
    replace e2 : (be j).toInt < (32#32).toInt := e2
    rw [show (0#32).toInt = 0 from by decide] at e1
    rw [show (32#32).toInt = 32 from by decide] at e2
    have c := BitVec.toInt_eq_toNat_cond (be j)
    have := (be j).isLt
    split at c <;> omega
end

section
variable [Cert.On_used_rows_down.Facts]
open Cert.On_used_rows_down

/-- The mask selects rows of used blocks only. -/
theorem used_rows_lt (be : IVec S288 32) (nu : IVec S1 32) (xb : FVec F S73728x2048 .bf16) (w : FVec F S32x2048x2048 .bf16) (b : FVec F S32x1x2048 .f32)
    (n : ℕ) (hn : ∀ x, (nu x).toNat = n) (hle : n ≤ 288) (i : S73728x2048.Idx) (h : fn be nu xb w b i = 1#1) : (i 0).val < n * 256 := by
  obtain ⟨x, hx⟩ : ∃ x, fn be nu xb w b i = IntOp.cmpi .slt (BitVec.ofNat 32 (i 0).val) (IntOp.muli (nu x) 256#32) := ⟨_, rfl⟩
  rw [hx] at h
  have e := IntOp.cmpi_slt.1 h
  have hi : (i 0).val < 73728 := (i 0).isLt
  have hm : (IntOp.muli (nu x) 256#32).toNat = n * 256 := by
    show (nu x * 256#32).toNat = _
    rw [BitVec.toNat_mul, hn, show (256#32).toNat = 256 from rfl]; omega
  rw [BitVec.toInt_eq_toNat_of_lt (by rw [BitVec.toNat_ofNat]; omega), BitVec.toInt_eq_toNat_of_lt (by rw [hm]; omega), hm, BitVec.toNat_ofNat] at e
  omega
end

end Cert.DownPre

end
-- ==== Proof.DownBitsRuns.lean ====
/-
  The body of the second expert product, run on any tables: at a used block it stores its four column chunks, at an unused
  block it stores nothing.
-/
module

public import proofs.«01_k».proof.Proof.Gen.Kernel3.Skeleton
public import proofs.«01_k».proof.Proof.Gen.Kernel3.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.DownBits

open Cert.Kernel3 Cert.Kernel3.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The experts' table in scalar memory. -/
abbrev tbE : Memref sig .tc .smem S288 .i32 := Memref.whole main_arg0
/-- The count of used blocks in scalar memory. -/
abbrev tbU : Memref sig .tc .smem S1 .i32 := Memref.whole main_arg1

/-- The one word of the count's table, as the body reads it. -/
abbrev word (T1 : S1.Idx → Elt Bits .i32) : BitVec 32 :=
  View.readAt (Elt Bits) tbU.view (Rect.unit (s := S1) ![0] S1.size inb_S1_S1_0).toLoadRect T1 (Shape.Idx.first (numel1_S1.symm ▸ Nat.one_pos))

/-- The output's staging buffer, through which its contents are stated. -/
abbrev VO : View sig .tc .vmem S256x2048 .bf16 := (Memref.whole cc0_stg3_0 : Memref sig .tc .vmem S256x2048 .bf16).view

set_option backward.proofsInPublic true in
set_option maxHeartbeats 8000000 in
/-- The store of a used block, with the proof that the body makes it from its three input blocks. -/
noncomputable def runA (c : Dev nD) (i : grid0.Coords) (arg3 : Memref sig .tc .vmem S256x2048 .bf16) (harg3 : arg3.IsWhole) (arg4 : Memref sig .tc .vmem S1x2048x2048 .bf16) (harg4 : arg4.IsWhole) (arg5 : Memref sig .tc .vmem S1x1x2048 .f32) (harg5 : arg5.IsWhole) (arg6 : Memref sig .tc .vmem S256x2048 .bf16) (harg6 : arg6.IsWhole)
    (T0 : S288.Idx → Elt Bits .i32) (T1 : S1.Idx → Elt Bits .i32)
    (x0 : S256x2048.Idx → Elt Bits .bf16) (x1 : S1x2048x2048.Idx → Elt Bits .bf16) (x2 : S1x1x2048.Idx → Elt Bits .f32) (hu : k0_cond1 i (word T1) = 1#1) :
    { L : List (View.Piece (Elt Bits) S256x2048 .bf16) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tbE.view.loc (c : Thread nD τ) ↦{fullShare.right} T0)
          ∗ (tbU.view.loc (c : Thread nD τ) ↦{fullShare.right} T1)
          ∗ (∃ d, owns (c : Thread nD τ) arg6 fullShare d)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (tbE.view.loc (c : Thread nD τ) ↦{fullShare.right} T0)
              ∗ (tbU.view.loc (c : Thread nD τ) ↦{fullShare.right} T1)
              ∗ (∃ f, arg6.view.loc (c : Thread nD τ) ↦[arg6.view.set]{fullShare} arg6.view.writes (Elt Bits) f L)) -∗ K ⟨⟩))
          ⊢ wp frame (wpE (defs₀ (F := Bits)) Variants.none c none) Set.univ (cc0_moe_down i tbE (Memref.isWhole_whole _) tbU (Memref.isWhole_whole _) arg3 harg3 arg4 harg4 arg5 harg5 arg6 harg6) K } :=
  ⟨_, fun K => by
    unfold owns
    rw [cc0_moe_down_eq_skeleton]; unfold cc0_moe_down_skel
    iintro ⟨H0, H1, H2, HT0, HT1, ⟨%d3, %f3, -, HO3⟩, Hk⟩
    have hT0 : tbE.IsWhole := Memref.isWhole_whole _
    have hT1 : tbU.IsWhole := Memref.isWhole_whole _
    sl_exec! (disch := first | (guard_target = k0_cond1 _ _ = _; exact hu))
    sl_step
    iapply Hk
    isplitl [H0]; · iexact H0
    isplitl [H1]; · iexact H1
    isplitl [H2]; · iexact H2
    isplitl [HT0]; · iexact HT0
    isplitl [HT1]; · iexact HT1
    iexists _; iexact HO3⟩

/-- The one store covers the block. -/
theorem coverA (c : Dev nD) (i : grid0.Coords) (arg3 : Memref sig .tc .vmem S256x2048 .bf16) (harg3 : arg3.IsWhole) (arg4 : Memref sig .tc .vmem S1x2048x2048 .bf16) (harg4 : arg4.IsWhole) (arg5 : Memref sig .tc .vmem S1x1x2048 .f32) (harg5 : arg5.IsWhole) (arg6 : Memref sig .tc .vmem S256x2048 .bf16) (harg6 : arg6.IsWhole)
    (T0 : S288.Idx → Elt Bits .i32) (T1 : S1.Idx → Elt Bits .i32)
    (x0 : S256x2048.Idx → Elt Bits .bf16) (x1 : S1x2048x2048.Idx → Elt Bits .bf16) (x2 : S1x1x2048.Idx → Elt Bits .f32) (hu : k0_cond1 i (word T1) = 1#1) (y : S256x2048.Idx) :
    ∃ pc ∈ (runA c i arg3 harg3 arg4 harg4 arg5 harg5 arg6 harg6 T0 T1 x0 x1 x2 hu).1, y ∈ pc.1.set :=
  View.cover_of_tiledL (runA c i arg3 harg3 arg4 harg4 arg5 harg5 arg6 harg6 T0 T1 x0 x1 x2 hu).1 S256x2048.size (by sl_kernel_rfl) y

/-- What a used block leaves in the output's staging buffer. -/
def outA (c : Dev nD) (i : grid0.Coords) (arg3 : Memref sig .tc .vmem S256x2048 .bf16) (harg3 : arg3.IsWhole) (arg4 : Memref sig .tc .vmem S1x2048x2048 .bf16) (harg4 : arg4.IsWhole) (arg5 : Memref sig .tc .vmem S1x1x2048 .f32) (harg5 : arg5.IsWhole) (arg6 : Memref sig .tc .vmem S256x2048 .bf16) (harg6 : arg6.IsWhole)
    (T0 : S288.Idx → Elt Bits .i32) (T1 : S1.Idx → Elt Bits .i32)
    (x0 : S256x2048.Idx → Elt Bits .bf16) (x1 : S1x2048x2048.Idx → Elt Bits .bf16) (x2 : S1x1x2048.Idx → Elt Bits .f32) (hu : k0_cond1 i (word T1) = 1#1) : S256x2048.Idx → Elt Bits .bf16 :=
  VO.read (Elt Bits) (VO.writes (Elt Bits) VO.junk (runA c i arg3 harg3 arg4 harg4 arg5 harg5 arg6 harg6 T0 T1 x0 x1 x2 hu).1)

set_option maxHeartbeats 8000000 in
/-- At an unused block the body gives back everything as it was. -/
theorem runB (c : Dev nD) (i : grid0.Coords) (arg3 : Memref sig .tc .vmem S256x2048 .bf16) (harg3 : arg3.IsWhole) (arg4 : Memref sig .tc .vmem S1x2048x2048 .bf16) (harg4 : arg4.IsWhole) (arg5 : Memref sig .tc .vmem S1x1x2048 .f32) (harg5 : arg5.IsWhole) (arg6 : Memref sig .tc .vmem S256x2048 .bf16) (harg6 : arg6.IsWhole)
    (T0 : S288.Idx → Elt Bits .i32) (T1 : S1.Idx → Elt Bits .i32)
    (x0 : S256x2048.Idx → Elt Bits .bf16) (x1 : S1x2048x2048.Idx → Elt Bits .bf16) (x2 : S1x1x2048.Idx → Elt Bits .f32) (hu : ¬k0_cond1 i (word T1) = 1#1)
    (y3 : S256x2048.Idx → Elt Bits .bf16) (K : PUnit → sProp 𝕄) :
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tbE.view.loc (c : Thread nD τ) ↦{fullShare.right} T0)
          ∗ (tbU.view.loc (c : Thread nD τ) ↦{fullShare.right} T1)
          ∗ owns (c : Thread nD τ) arg6 fullShare y3
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (tbE.view.loc (c : Thread nD τ) ↦{fullShare.right} T0)
              ∗ (tbU.view.loc (c : Thread nD τ) ↦{fullShare.right} T1)
              ∗ owns (c : Thread nD τ) arg6 fullShare y3) -∗ K ⟨⟩))
          ⊢ wp frame (wpE (defs₀ (F := Bits)) Variants.none c none) Set.univ (cc0_moe_down i tbE (Memref.isWhole_whole _) tbU (Memref.isWhole_whole _) arg3 harg3 arg4 harg4 arg5 harg5 arg6 harg6) K := by
    unfold owns
    rw [cc0_moe_down_eq_skeleton]; unfold cc0_moe_down_skel
    iintro ⟨H0, H1, H2, HT0, HT1, ⟨%f3, %hf3, HO3⟩, Hk⟩
    obtain rfl := harg6.eq_unread hf3
    have hT0 : tbE.IsWhole := Memref.isWhole_whole _
    have hT1 : tbU.IsWhole := Memref.isWhole_whole _
    sl_exec! (disch := first | (guard_target = ¬(k0_cond1 _ _ = _); exact hu))
    sl_step
    iapply Hk
    isplitl [H0]; · iexact H0
    isplitl [H1]; · iexact H1
    isplitl [H2]; · iexact H2
    isplitl [HT0]; · iexact HT0
    isplitl [HT1]; · iexact HT1
    iexists _; isplitr; · ipureintro; exact harg6.read_unread _
    iexact HO3

end Cert.DownBits

end
-- ==== Proof.DownBitsLaunch.lean ====
/-
  The launch of the second expert product at any tables in range: its schedule, its body's obligation at every point and its run.
-/
module

public import proofs.«01_k».proof.Proof.DownBitsRuns
public import proofs.«01_k».proof.Proof.DownBitsTables
public import proofs.«01_k».proof.Proof.Gen.Kernel3.Skeleton
public import proofs.«01_k».proof.Proof.Gen.Kernel3.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.DownBits

open Cert.Kernel3 Cert.Kernel3.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The rounds library's algebra, whole. -/
abbrev EP : Emb (UR sig nD τ) 𝕄 := emb₁

variable (a : (pcfg0 (F := Bits)).Adm) (hr : InRange a.1)
variable (m : (ℓ : Loc nD τ sig) → Buf (Elt Bits) ℓ) (ρ : Dev nD → PrngReg)

/-- The launch at tables `a`. -/
abbrev cfg : Pipeline.Cfg sig Λ₀ := cfg0 (F := Bits) a
/-- The program's one launch. -/
abbrev launches : Fin 1 → Pipeline.Cfg sig Λ₀ := Pipeline.pin (pcfgs (F := Bits)) fun _ => a
/-- A point's coordinates. -/
abbrev crd (t : Fin (cfg a).N) : (cfg a).grid.Coords := (cfg a).grid.coords t

/-! ## The staging buffers in hand at a point -/

abbrev ms0 (t : Fin (cfg a).N) : Memref sig .tc .vmem S256x2048 .bf16 := spec0_0.stage ((cfg a).slots t (0 : Fin 4))
abbrev hs0 (t : Fin (cfg a).N) : (ms0 a t).IsWhole := hstage0_0 (((cfg a).slots t (0 : Fin 4)).cast nbuf0_0)
abbrev ms1 (t : Fin (cfg a).N) : Memref sig .tc .vmem S1x2048x2048 .bf16 := spec0_1.stage ((cfg a).slots t (1 : Fin 4))
abbrev hs1 (t : Fin (cfg a).N) : (ms1 a t).IsWhole := hstage0_1 (((cfg a).slots t (1 : Fin 4)).cast nbuf0_1)
abbrev ms2 (t : Fin (cfg a).N) : Memref sig .tc .vmem S1x1x2048 .f32 := spec0_2.stage ((cfg a).slots t (2 : Fin 4))
abbrev hs2 (t : Fin (cfg a).N) : (ms2 a t).IsWhole := hstage0_2 (((cfg a).slots t (2 : Fin 4)).cast nbuf0_2)
abbrev ms3 (t : Fin (cfg a).N) : Memref sig .tc .vmem S256x2048 .bf16 := spec0_3.stage ((cfg a).slots t (3 : Fin 4))
abbrev hs3 (t : Fin (cfg a).N) : (ms3 a t).IsWhole := hstage0_3 (((cfg a).slots t (3 : Fin 4)).cast nbuf0_3)

/-- Window `w`'s block at point `t`, read off its array at the launch. -/
def blkOf (c : Dev nD) (w : Fin (cfg a).W) (t : Fin (cfg a).N) : (((cfg a).win w).xblock (crd a t)).Idx → Elt Bits ((cfg a).win w).elt :=
  (((cfg a).win w).blk t).view.read (Elt Bits) ((s₀ m ρ).mem (((cfg a).win w).arr.view.loc (c : Thread nD τ)))

/-! ## The schedule -/

/-- Point `t` works on a used block. -/
abbrev Used (t : Fin (cfg a).N) : Prop := k0_cond1 (crd a t) (word (a.1 1)) = 1#1

include hr in
theorem used_iff (t : Fin (cfg a).N) : Used a t ↔ t.val < nu a.1 :=
  (iff_of_eq (congrArg (fun w => k0_cond1 (crd a t) w = 1#1) (word_eq (a.1 1)))).trans
    ((cond_iff _ _ hr.le).trans (iff_of_eq (congrArg (· < nu a.1) (coord_eq t))))

include hr in
theorem idle_eq (t : Fin (cfg a).N) : (cfg a).idle (3 : Fin 4) ((cfg a).grid.coords t) = !decide (t.val < nu a.1) := by
  show (!(k0_cond1 (crd a t) (a.1.atD 1 ![0]) == 1#1)) = _
  congr 1
  rw [atD_eq, Bool.eq_iff_iff, beq_iff_eq, decide_eq_true_iff, cond_iff _ _ hr.le]
  exact iff_of_eq (congrArg (· < nu a.1) (coord_eq t))

include hr in
/-- The block of the result in hand at a point. -/
theorem index3 (t : Fin (cfg a).N) : ((cfg a).win (3 : Fin 4)).index t = ![min t.val (nu a.1 - 1), 0] := by
  show cc0_transform_3 inb_S1_S1_0 numel1_S1 a.1 (grid0.coords t) = _
  rw [row3 a.1 hr, coord_eq]

include hr in
/-- The result's block is written back at every used point but the last, and at the last point of all. -/
theorem flush_eq (t : Fin (cfg a).N) : ((cfg a).win (3 : Fin 4)).flush t = (decide (t.val + 1 < nu a.1) || decide (t.val = 287)) := by
  have hN : (cfg a).N = 288 := N_0
  have h2 := hr.le
  have ht := t.isLt
  unfold Pipeline.Window.flush
  rw [Bool.eq_iff_iff]
  simp only [Bool.and_eq_true, Bool.or_eq_true, decide_eq_true_iff]
  constructor
  · rintro ⟨-, h | ⟨h, h'⟩⟩
    · right; exact Nat.succ.inj (h.trans N_0)
    · left
      by_contra h''
      refine h' ?_
      rw [index3 a hr, index3 a hr]
      congr 1
      show min (t.val + 1) _ = _
      omega
  · rintro (h | h)
    · refine ⟨trivial, .inr ⟨by show t.val + 1 < grid0.N; rw [N_0]; omega, fun h' => ?_⟩⟩
      rw [index3 a hr, index3 a hr] at h'
      have := congrFun h' 0
      simp only [Matrix.cons_val_zero] at this
      omega
    · exact ⟨trivial, .inl (by show t.val + 1 = grid0.N; rw [N_0, h])⟩

/-- Whether the result's buffer holds junk before position `n`: until the used points are over, and after the last write-back. -/
def junkAt (n : ℕ) : Bool := decide (n < nu a.1) || decide (n = 288)

include hr in
theorem fresh_eq (t : Fin (cfg a).N) : (cfg a).fresh (3 : Fin 4) t.val = junkAt a t.val :=
  Pipeline.Cfg.fresh_tab (cfg a) (3 : Fin 4) (junkAt a) (by have := hr.pos; unfold junkAt; simp; omega)
    (fun t => by
      have hN : (cfg a).N = 288 := N_0
      have ht := t.isLt
      have := hr.le
      rw [flush_eq a hr, idle_eq a hr]
      unfold junkAt
      by_cases h1 : t.val + 1 < nu a.1
      · simp [h1]
      · by_cases h2 : t.val = 287
        · simp [h1, h2]
        · by_cases h3 : t.val < nu a.1
          · simp [h1, h2, h3]
          · have : t.val ≠ 288 := by omega
            simp [h1, h2, h3, this]) t.val (Nat.le_of_lt t.isLt)

include hr in
/-- A used point stores its block over junk. -/
theorem sched_used (t : Fin (cfg a).N) (q : Used a t) :
    (cfg a).idle (3 : Fin 4) ((cfg a).grid.coords t) = false ∧ (cfg a).fresh (3 : Fin 4) t.val = true := by
  rw [used_iff a hr] at q
  rw [idle_eq a hr, fresh_eq a hr]; unfold junkAt
  simp [q]

include hr in
/-- An unused point leaves the last used one's block as it is. -/
theorem sched_unused (t : Fin (cfg a).N) (q : ¬Used a t) :
    (cfg a).idle (3 : Fin 4) ((cfg a).grid.coords t) = true ∧ (cfg a).fresh (3 : Fin 4) t.val = false := by
  rw [used_iff a hr] at q
  have hN : (cfg a).N = 288 := N_0
  have ht := t.isLt
  have : t.val ≠ 288 := by omega
  rw [idle_eq a hr, fresh_eq a hr]; unfold junkAt
  simp [q, this]

/-! ## What the result's buffer holds -/

/-- One point's step: a used block's contents, or what was there before. -/
def step (c : Dev nD) (t : Fin (cfg a).N) (prev : S256x2048.Idx → Elt Bits .bf16) : S256x2048.Idx → Elt Bits .bf16 :=
  if q : Used a t then
    outA c (crd a t) (ms0 a t) (hs0 a t) (ms1 a t) (hs1 a t) (ms2 a t) (hs2 a t) (ms3 a t) (hs3 a t) (a.1 0) (a.1 1) (blkOf a m ρ c (0 : Fin 4) t) (blkOf a m ρ c (1 : Fin 4) t) (blkOf a m ρ c (2 : Fin 4) t) q
  else
    (if (cfg a).fresh (3 : Fin 4) t.val then default else prev)

/-- After position `n`. -/
def traj (c : Dev nD) : (n : ℕ) → n < (cfg a).N → (S256x2048.Idx → Elt Bits .bf16)
  | 0, h => step a m ρ c ⟨0, h⟩ default
  | n + 1, h => step a m ρ c ⟨n + 1, h⟩ (traj c n (Nat.lt_of_succ_lt h))

/-- Before point `t`. -/
def prev (c : Dev nD) (t : Fin (cfg a).N) : S256x2048.Idx → Elt Bits .bf16 :=
  if h : t.val = 0 then default else traj a m ρ c (t.val - 1) (by omega)

theorem traj_eq (c : Dev nD) (t : Fin (cfg a).N) : traj a m ρ c t.val t.isLt = step a m ρ c t (prev a m ρ c t) := by
  obtain ⟨n, hn⟩ := t
  cases n with
  | zero => rfl
  | succ n => unfold prev; simp only [Nat.add_one_ne_zero, dif_neg, not_false_eq_true]; rfl

theorem step_used (c : Dev nD) (t : Fin (cfg a).N) (p : S256x2048.Idx → Elt Bits .bf16) (q : Used a t) :
    step a m ρ c t p = outA c (crd a t) (ms0 a t) (hs0 a t) (ms1 a t) (hs1 a t) (ms2 a t) (hs2 a t) (ms3 a t) (hs3 a t) (a.1 0) (a.1 1) (blkOf a m ρ c (0 : Fin 4) t) (blkOf a m ρ c (1 : Fin 4) t) (blkOf a m ρ c (2 : Fin 4) t) q := by
  unfold step; rw [dif_pos q]

theorem step_unused (c : Dev nD) (t : Fin (cfg a).N) (p : S256x2048.Idx → Elt Bits .bf16) (q : ¬Used a t) :
    step a m ρ c t p = (if (cfg a).fresh (3 : Fin 4) t.val then default else p) := by
  unfold step; rw [dif_neg q]

/-! ## The launch's proof data -/

/-- The invariant: the body's halves of the tables. -/
def Phi (c : Dev nD) (t : Fin ((cfg a).N + 1)) : sProp 𝕄 :=
  iprop((tbE.view.loc (c : Thread nD τ) ↦{fullShare.right} (a.1 0 : S288.Idx → Elt Bits .i32)) ∗ (tbU.view.loc (c : Thread nD τ) ↦{fullShare.right} (a.1 1 : S1.Idx → Elt Bits .i32)))

/-- The launch's proof data on core `c`. -/
def dats (_ : Fin 1) (c : Dev nD) : Dat τ (Elt Bits) Unit ℕ (UR sig nD τ) ℕ (cfg a) c where
  A w := (s₀ m ρ).mem (((cfg a).win w).arr.view.loc (c : Thread nD τ))
  after w t := match w with
    | ⟨0, _⟩ => blkOf a m ρ c (0 : Fin 4) t
    | ⟨1, _⟩ => blkOf a m ρ c (1 : Fin 4) t
    | ⟨2, _⟩ => blkOf a m ρ c (2 : Fin 4) t
    | ⟨3, _⟩ => (traj a m ρ c t.val t.isLt)
  Φ t := Phi a c t
  q _ := fullShare
  owed _ := 0

theorem after_0 (c : Dev nD) (t : Fin (cfg a).N) : (dats a m ρ 0 c).after (0 : Fin 4) t = blkOf a m ρ c (0 : Fin 4) t := rfl
theorem after_1 (c : Dev nD) (t : Fin (cfg a).N) : (dats a m ρ 0 c).after (1 : Fin 4) t = blkOf a m ρ c (1 : Fin 4) t := rfl
theorem after_2 (c : Dev nD) (t : Fin (cfg a).N) : (dats a m ρ 0 c).after (2 : Fin 4) t = blkOf a m ρ c (2 : Fin 4) t := rfl
theorem after_3 (c : Dev nD) (t : Fin (cfg a).N) : (dats a m ρ 0 c).after (3 : Fin 4) t = traj a m ρ c t.val t.isLt := rfl

/-- Input 0's buffer holds its block when the body runs. -/
theorem before_0 (c : Dev nD) (t : Fin (cfg a).N) (d) : (dats a m ρ 0 c).before (0 : Fin 4) t d = blkOf a m ρ c (0 : Fin 4) t :=
  ((dats a m ρ 0 c).before_in_eq_fetched (0 : Fin 4) rfl (fun _ => rfl) (fun _ _ _ => rfl) (fun t => by rw [after_0]; unfold Dat.blockOf blkOf; rfl) t d).trans
    (by unfold Dat.fetched Dat.blockOf blkOf; rfl)

/-- Input 1's buffer holds its block when the body runs. -/
theorem before_1 (c : Dev nD) (t : Fin (cfg a).N) (d) : (dats a m ρ 0 c).before (1 : Fin 4) t d = blkOf a m ρ c (1 : Fin 4) t :=
  ((dats a m ρ 0 c).before_in_eq_fetched (1 : Fin 4) rfl (fun _ => rfl) (fun _ _ _ => rfl) (fun t => by rw [after_1]; unfold Dat.blockOf blkOf; rfl) t d).trans
    (by unfold Dat.fetched Dat.blockOf blkOf; rfl)

/-- Input 2's buffer holds its block when the body runs. -/
theorem before_2 (c : Dev nD) (t : Fin (cfg a).N) (d) : (dats a m ρ 0 c).before (2 : Fin 4) t d = blkOf a m ρ c (2 : Fin 4) t :=
  ((dats a m ρ 0 c).before_in_eq_fetched (2 : Fin 4) rfl (fun _ => rfl) (fun _ _ _ => rfl) (fun t => by rw [after_2]; unfold Dat.blockOf blkOf; rfl) t d).trans
    (by unfold Dat.fetched Dat.blockOf blkOf; rfl)

include hr in
/-- The result's buffer carries through the unused points. -/
theorem carry (c : Dev nD) : ∀ (t : Fin (cfg a).N) (ht : t.val ≠ 0), (cfg a).idle (3 : Fin 4) ((cfg a).grid.coords t) = true → (cfg a).fresh (3 : Fin 4) t.val = false →
    (dats a m ρ 0 c).after (3 : Fin 4) t = (dats a m ρ 0 c).after (3 : Fin 4) ⟨t.val - 1, by omega⟩ := by
  intro t ht hi hf
  rw [after_3, after_3, traj_eq]
  by_cases q : Used a t
  · obtain ⟨i3, -⟩ := sched_used a hr t q
    rw [i3] at hi; exact absurd hi (by decide)
  · rw [step_unused a m ρ c t _ q]
    simp only [hf, Bool.false_eq_true, ↓reduceIte]
    unfold prev; rw [dif_neg ht]

include hr in
/-- The result's buffer when the body runs: junk, or what the point before left. -/
theorem before_3 (c : Dev nD) (t : Fin (cfg a).N) (d) :
    (dats a m ρ 0 c).before (3 : Fin 4) t d = if (cfg a).fresh (3 : Fin 4) t.val then d else (prev a m ρ c t) := by
  rw [(dats a m ρ 0 c).before_out_traj (3 : Fin 4) rfl (fun _ _ => rfl) (carry a hr m ρ c) t.val t rfl d]
  by_cases hf : (cfg a).fresh (3 : Fin 4) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after_3]; unfold prev; rw [dif_neg h0]

/-! ## The body at a point -/

/-- The body at point `t` on its staging buffers. -/
abbrev bodyAt (t : Fin (cfg a).N) : Prog (TpuEff nD τ sig (Elt Bits) Λ₀ .tc) PUnit :=
  cc0_moe_down (crd a t) (Memref.whole main_arg0) (Memref.isWhole_whole _) (Memref.whole main_arg1) (Memref.isWhole_whole _) (ms0 a t) (hs0 a t) (ms1 a t) (hs1 a t) (ms2 a t) (hs2 a t) (ms3 a t) (hs3 a t)

include hr in
set_option maxHeartbeats 4000000 in
/-- The body's triple at point `t`: a used point stores its block, an unused one leaves everything. -/
theorem sound_body (c : Dev nD) (t : Fin (cfg a).N) :
    iprop((dats a m ρ 0 c).Φ t.castSucc ∗ (dats a m ρ 0 c).owesAt () t.castSucc
        ∗ (∃ d, owns (c : Thread nD τ) (ms0 a t) fullShare ((dats a m ρ 0 c).before (0 : Fin 4) t d))
        ∗ (∃ d, owns (c : Thread nD τ) (ms1 a t) fullShare ((dats a m ρ 0 c).before (1 : Fin 4) t d))
        ∗ (∃ d, owns (c : Thread nD τ) (ms2 a t) fullShare ((dats a m ρ 0 c).before (2 : Fin 4) t d))
        ∗ (∃ d, owns (c : Thread nD τ) (ms3 a t) fullShare ((dats a m ρ 0 c).before (3 : Fin 4) t d)))
      ⊢ wp frame (wpE (defs₀ (F := Bits)) Variants.none c none) Set.univ (bodyAt a t) fun _ =>
          iprop((dats a m ρ 0 c).Φ t.succ ∗ (dats a m ρ 0 c).owesAt () t.succ
            ∗ bigSep Finset.univ fun w : Fin (cfg a).W =>
                match (cfg a).idle w ((cfg a).grid.coords t) with
                | true =>
                  match ((cfg a).win w).flush t with
                  | false => iprop(∃ d, owns (c : Thread nD τ) (((cfg a).win w).stage ((cfg a).slots t w)) fullShare ((dats a m ρ 0 c).before w t d))
                  | true => owns (c : Thread nD τ) (((cfg a).win w).stage ((cfg a).slots t w)) fullShare ((dats a m ρ 0 c).after w t)
                | false => owns (c : Thread nD τ) (((cfg a).win w).stage ((cfg a).slots t w)) fullShare ((dats a m ρ 0 c).after w t)) := by
  rw [bigSep_W0]
  by_cases q : Used a t
  · obtain ⟨i3, fr3⟩ := sched_used a hr t q
    rewrite [i3]
    simp only [before_0, before_1, before_2, before_3 a hr, after_0, after_1, after_2, after_3]
    simp only [fr3, Bool.false_eq_true, ↓reduceIte]
    rewrite [show (dats a m ρ 0 c).Φ t.succ = Phi a c t.succ from rfl, show (dats a m ρ 0 c).Φ t.castSucc = Phi a c t.castSucc from rfl,
      show (dats a m ρ 0 c).owesAt () t.succ = (dats a m ρ 0 c).owesAt () t.castSucc from rfl]
    rewrite [traj_eq, step_used a m ρ c t _ q]
    unfold Phi
    iintro ⟨⟨HT0, HT1⟩, Ho, ⟨%d0, H0⟩, ⟨%d1, H1⟩, ⟨%d2, H2⟩, ⟨%d3, H3⟩⟩
    iapply ((runA c (crd a t) (ms0 a t) (hs0 a t) (ms1 a t) (hs1 a t) (ms2 a t) (hs2 a t) (ms3 a t) (hs3 a t) (a.1 0) (a.1 1) (blkOf a m ρ c (0 : Fin 4) t) (blkOf a m ρ c (1 : Fin 4) t) (blkOf a m ρ c (2 : Fin 4) t) q).2 _)
    isplitl [H0]; · iapply rep_of_owns; iexact H0
    isplitl [H1]; · iapply rep_of_owns; iexact H1
    isplitl [H2]; · iapply rep_of_owns; iexact H2
    isplitl [HT0]; · iexact HT0
    isplitl [HT1]; · iexact HT1
    isplitl [H3]; · iexists _; iexact H3
    iintro ⟨H0, H1, H2, HT0, HT1, ⟨%e3, H3⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    unfold owns; iexists _; isplitr; swap
    · iexact H3
    · ipureintro; exact View.read_writes_of_cover _ _ _ _ _ (coverA c _ _ _ _ _ _ _ _ _ _ _ _ _ _ _)
  · obtain ⟨i3, fr3⟩ := sched_unused a hr t q
    cases f3 : ((cfg a).win (3 : Fin 4)).flush t
    all_goals
      rewrite [i3]
      simp only [before_0, before_1, before_2, before_3 a hr, after_0, after_1, after_2, after_3, f3]
      simp only [fr3, Bool.false_eq_true, ↓reduceIte]
      rewrite [show (dats a m ρ 0 c).Φ t.succ = Phi a c t.succ from rfl, show (dats a m ρ 0 c).Φ t.castSucc = Phi a c t.castSucc from rfl,
        show (dats a m ρ 0 c).owesAt () t.succ = (dats a m ρ 0 c).owesAt () t.castSucc from rfl]
      try rewrite [traj_eq, step_unused a m ρ c t _ q]
      unfold Phi; simp only [traj_eq, step_unused a m ρ c t _ q, fr3, Bool.false_eq_true, ↓reduceIte]
      iintro ⟨⟨HT0, HT1⟩, Ho, ⟨%d0, H0⟩, ⟨%d1, H1⟩, ⟨%d2, H2⟩, ⟨%d3, H3⟩⟩
      iapply (runB c (crd a t) (ms0 a t) (hs0 a t) (ms1 a t) (hs1 a t) (ms2 a t) (hs2 a t) (ms3 a t) (hs3 a t) (a.1 0) (a.1 1) (blkOf a m ρ c (0 : Fin 4) t) (blkOf a m ρ c (1 : Fin 4) t) (blkOf a m ρ c (2 : Fin 4) t) q _ _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexact H3
      iintro ⟨H0, H1, H2, HT0, HT1, H3⟩
      isplitl [HT0 HT1]
      · isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      first | (iexists d3; iexact H3) | iexact H3

include hr in
/-- The library's obligation on the body. -/
theorem obligation (c : Dev nD) : BodyObligation (dats a m ρ 0 c) (defs₀ (F := Bits)) Variants.none () Set.univ := fun t => by
  rw [bigSep_W0]
  exact sound_body a hr m ρ c t

/-! ## The launch -/

/-- The rounds library's launch element. -/
def u₀ : UR sig nD τ :=
  initOf (Pipeline.cells (launches a) ((launch0 (F := Bits)).cellOf_inj fun _ => a))
    (Pipeline.launchToks (launches a) ((launch0 (F := Bits)).cellOf_inj fun _ => a))

theorem share_eq (c : Dev nD) (w : Fin (cfg a).W) : (dats a m ρ 0 c).share w = fullShare := by unfold Dat.share; split <;> rfl

/-- The tables as the launch hands them over, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi_intro (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a c 0 from rfl]
  unfold Phi
  iintro ⟨-, ⟨HT0, HT1⟩, -⟩
  isplitl [HT0]
  · iexact HT0
  iexact HT1

theorem phi_exit (c : Dev nD) : (dats a m ρ 0 c).Φ (Fin.last (cfg a).N) ⊢ iprop(BI.emp ∗ Pipeline.scopedRest spec0 c) := by
  rw [scopedRest0_eq, show (dats a m ρ 0 c).Φ (Fin.last (cfg a).N) = Phi a c (Fin.last _) from rfl]
  unfold Phi
  iintro ⟨-, -⟩
  isplitr; · iempintro
  iempintro

/-- The memory's tables are the ones the launch is read at. -/
def Holds : Prop := ∀ c : Dev nD, ∀ j : Fin 2, m ((c : Thread nD τ).loc (pre0.ref j)) = a.1 j

/-- Every array ends at what the launch computes, every table as it was. -/
def QC : PUnit × MemSt nD τ sig (Elt Bits) → Prop := fun r =>
  ∀ c : Dev nD, (∀ w : Fin (cfg a).W, r.2.mem (((cfg a).win w).arr.view.loc (c : Thread nD τ)) = (dats a m ρ 0 c).arrAt w (cfg a).N)
    ∧ ∀ j, r.2.mem ((c : Thread nD τ).loc (pre0.ref j)) = a.1 j

include hr in
set_option backward.isDefEq.respectTransparency.types false in
set_option maxHeartbeats 4000000 in
/-- From any memory holding the tables, every weakly fair execution ends with the arrays at the computed contents and every
    semaphore counter at zero. -/
theorem run_quiescent (hp : Holds a m) : θ_run (defs (F := Bits)) (onTc (τ := τ) (main (F := Bits))) (s₀ m ρ) (fun r => QC a m ρ r ∧ r.2.sem = fun _ => 0) :=
  Pipeline.θ_run_region_noSem_pf_quiescent pcfgs (fun _ => a) (dats a m ρ) () ((launch0 (F := Bits)).cellOf_inj fun _ => a) (0 : Fin 1)
    (launch0 (F := Bits)).win.to₀ (launch0 (F := Bits)).pre EP defs₀ Variants.none m ρ main
    (hbody := fun c => (obligation a hr m ρ c).loose) (hne := (launch0 (F := Bits)).block_pos)
    (harr := (launch0 (F := Bits)).arr_whole) (hstage := (launch0 (F := Bits)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (launches a) (dats a m ρ) 0 (launch0 (F := Bits)).win.arr_inj c (launch0 (F := Bits)).arr_whole
      (share_eq a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi_intro a m ρ)
    (hout := phi_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

include hr in
/-- The result ends at what the launch computes, the arguments as they were, the counters at zero. -/
theorem run (hp : Holds a m) :
    θ_run (defs (F := Bits)) (onTc (τ := τ) (main (F := Bits))) ⟨m, fun _ => 0, ρ⟩ (fun r => (∀ c : Dev nD,
      r.2.mem ((c.tc : Thread nD τ).loc main_v0) = (dats a m ρ 0 c).arrAt (3 : Fin 4) (cfg a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(h.1 c).1 (3 : Fin 4), ((h.1 c).2 0).trans (hp c 0).symm, ((h.1 c).2 1).trans (hp c 1).symm,
    ((h.1 c).1 (0 : Fin 4)).trans ((dats a m ρ 0 c).arrAt_in (0 : Fin 4) rfl _), ((h.1 c).1 (1 : Fin 4)).trans ((dats a m ρ 0 c).arrAt_in (1 : Fin 4) rfl _),
    ((h.1 c).1 (2 : Fin 4)).trans ((dats a m ρ 0 c).arrAt_in (2 : Fin 4) rfl _)⟩, h.2⟩) (run_quiescent a hr m ρ hp)

end Cert.DownBits

end
-- ==== Proof.DownBitsFrame.lean ====
/-
  The second expert product's launch under the claim's precondition: its tables are in range, so it runs.
-/
module

public import proofs.«01_k».proof.Defs
public import proofs.«01_k».proof.Proof.DownPre
public import proofs.«01_k».proof.Proof.Gen.Pre_routed_down
public import proofs.«01_k».proof.Proof.DownBitsLaunch

@[expose] public section

set_option maxRecDepth 16384

noncomputable section

namespace Cert.DownBits

open Cert.Kernel3 Cert.Kernel3.Gen
open Idealize.ShloMosaic
open Idealize.ShloMosaic.TcCoe Idealize.SL.Sem

variable (m : (ℓ : Loc nD τ sig) → Buf (Elt Bits) ℓ) (ρ : Dev nD → PrngReg)

/-- The tables the launch finds in memory. -/
def tables (c : Dev nD) : Tables := fun j => m ((c : Thread nD τ).loc (pre0.ref j))

/-- The precondition puts them in range. -/
theorem tables_inRange (h : Pre_Kernel3 m) (c : Dev nD) : InRange (tables m c) := by
  have hi := DownPre.routed_iff _ _ _ _ _ (h c)
  exact ⟨(hi.1 z).1, (hi.1 z).2, hi.2⟩

/-- The device's tables, admissible. -/
def adm (h : Pre_Kernel3 m) : (pcfg0 (F := Bits)).Adm := ⟨tables m 0, ok _ (tables_inRange m h 0)⟩

theorem adm_inRange (h : Pre_Kernel3 m) : InRange (adm m h).1 := tables_inRange m h 0

theorem adm_holds (h : Pre_Kernel3 m) : Holds (adm m h) m := by
  intro c j
  obtain rfl : c = 0 := Subsingleton.elim _ _
  rfl

/-- The kernel runs, leaves its arguments as they were, and ends with every counter at zero. -/
theorem frame : quiescent_Kernel3 := fun m ρ h =>
  (θ_run defs _ _).mono (fun _ r => ⟨fun c => (r.1 c).2, r.2⟩) (run (adm m h) (adm_inRange m h) m ρ (adm_holds m h))

end Cert.DownBits

end
-- ==== Proof.DownIdealRuns.lean ====
/-
  The body of the second expert product, run on any tables: at a used block it stores its four column chunks, at an unused
  block it stores nothing.
-/
module

public import proofs.«01_k».proof.Proof.Gen.Kernel3Ideal.Skeleton
public import proofs.«01_k».proof.Proof.Gen.Kernel3Ideal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.DownIdeal

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The experts' table in scalar memory. -/
abbrev tbE : Memref sig .tc .smem S288 .i32 := Memref.whole main_arg0
/-- The count of used blocks in scalar memory. -/
abbrev tbU : Memref sig .tc .smem S1 .i32 := Memref.whole main_arg1

/-- The one word of the count's table, as the body reads it. -/
abbrev word (T1 : S1.Idx → Elt Ideal .i32) : BitVec 32 :=
  View.readAt (Elt Ideal) tbU.view (Rect.unit (s := S1) ![0] S1.size inb_S1_S1_0).toLoadRect T1 (Shape.Idx.first (numel1_S1.symm ▸ Nat.one_pos))

/-- The output's staging buffer, through which its contents are stated. -/
abbrev VO : View sig .tc .vmem S256x2048 .bf16 := (Memref.whole cc0_stg3_0 : Memref sig .tc .vmem S256x2048 .bf16).view

set_option backward.proofsInPublic true in
set_option maxHeartbeats 8000000 in
/-- The store of a used block, with the proof that the body makes it from its three input blocks. -/
noncomputable def runA (c : Dev nD) (i : grid0.Coords) (arg3 : Memref sig .tc .vmem S256x2048 .bf16) (harg3 : arg3.IsWhole) (arg4 : Memref sig .tc .vmem S1x2048x2048 .bf16) (harg4 : arg4.IsWhole) (arg5 : Memref sig .tc .vmem S1x1x2048 .f32) (harg5 : arg5.IsWhole) (arg6 : Memref sig .tc .vmem S256x2048 .bf16) (harg6 : arg6.IsWhole)
    (T0 : S288.Idx → Elt Ideal .i32) (T1 : S1.Idx → Elt Ideal .i32)
    (x0 : S256x2048.Idx → Elt Ideal .bf16) (x1 : S1x2048x2048.Idx → Elt Ideal .bf16) (x2 : S1x1x2048.Idx → Elt Ideal .f32) (hu : k0_cond1 i (word T1) = 1#1) :
    { L : List (View.Piece (Elt Ideal) S256x2048 .bf16) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tbE.view.loc (c : Thread nD τ) ↦{fullShare.right} T0)
          ∗ (tbU.view.loc (c : Thread nD τ) ↦{fullShare.right} T1)
          ∗ (∃ d, owns (c : Thread nD τ) arg6 fullShare d)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (tbE.view.loc (c : Thread nD τ) ↦{fullShare.right} T0)
              ∗ (tbU.view.loc (c : Thread nD τ) ↦{fullShare.right} T1)
              ∗ (∃ f, arg6.view.loc (c : Thread nD τ) ↦[arg6.view.set]{fullShare} arg6.view.writes (Elt Ideal) f L)) -∗ K ⟨⟩))
          ⊢ wp frame (wpE (defs₀ (F := Ideal)) Variants.none c none) Set.univ (cc0_moe_down i tbE (Memref.isWhole_whole _) tbU (Memref.isWhole_whole _) arg3 harg3 arg4 harg4 arg5 harg5 arg6 harg6) K } :=
  ⟨_, fun K => by
    unfold owns
    rw [cc0_moe_down_eq_skeleton]; unfold cc0_moe_down_skel
    iintro ⟨H0, H1, H2, HT0, HT1, ⟨%d3, %f3, -, HO3⟩, Hk⟩
    have hT0 : tbE.IsWhole := Memref.isWhole_whole _
    have hT1 : tbU.IsWhole := Memref.isWhole_whole _
    sl_exec! (disch := first | (guard_target = k0_cond1 _ _ = _; exact hu))
    sl_step
    iapply Hk
    isplitl [H0]; · iexact H0
    isplitl [H1]; · iexact H1
    isplitl [H2]; · iexact H2
    isplitl [HT0]; · iexact HT0
    isplitl [HT1]; · iexact HT1
    iexists _; iexact HO3⟩

/-- The one store covers the block. -/
theorem coverA (c : Dev nD) (i : grid0.Coords) (arg3 : Memref sig .tc .vmem S256x2048 .bf16) (harg3 : arg3.IsWhole) (arg4 : Memref sig .tc .vmem S1x2048x2048 .bf16) (harg4 : arg4.IsWhole) (arg5 : Memref sig .tc .vmem S1x1x2048 .f32) (harg5 : arg5.IsWhole) (arg6 : Memref sig .tc .vmem S256x2048 .bf16) (harg6 : arg6.IsWhole)
    (T0 : S288.Idx → Elt Ideal .i32) (T1 : S1.Idx → Elt Ideal .i32)
    (x0 : S256x2048.Idx → Elt Ideal .bf16) (x1 : S1x2048x2048.Idx → Elt Ideal .bf16) (x2 : S1x1x2048.Idx → Elt Ideal .f32) (hu : k0_cond1 i (word T1) = 1#1) (y : S256x2048.Idx) :
    ∃ pc ∈ (runA c i arg3 harg3 arg4 harg4 arg5 harg5 arg6 harg6 T0 T1 x0 x1 x2 hu).1, y ∈ pc.1.set :=
  View.cover_of_tiledL (runA c i arg3 harg3 arg4 harg4 arg5 harg5 arg6 harg6 T0 T1 x0 x1 x2 hu).1 S256x2048.size (by sl_kernel_rfl) y

/-- What a used block leaves in the output's staging buffer. -/
def outA (c : Dev nD) (i : grid0.Coords) (arg3 : Memref sig .tc .vmem S256x2048 .bf16) (harg3 : arg3.IsWhole) (arg4 : Memref sig .tc .vmem S1x2048x2048 .bf16) (harg4 : arg4.IsWhole) (arg5 : Memref sig .tc .vmem S1x1x2048 .f32) (harg5 : arg5.IsWhole) (arg6 : Memref sig .tc .vmem S256x2048 .bf16) (harg6 : arg6.IsWhole)
    (T0 : S288.Idx → Elt Ideal .i32) (T1 : S1.Idx → Elt Ideal .i32)
    (x0 : S256x2048.Idx → Elt Ideal .bf16) (x1 : S1x2048x2048.Idx → Elt Ideal .bf16) (x2 : S1x1x2048.Idx → Elt Ideal .f32) (hu : k0_cond1 i (word T1) = 1#1) : S256x2048.Idx → Elt Ideal .bf16 :=
  VO.read (Elt Ideal) (VO.writes (Elt Ideal) VO.junk (runA c i arg3 harg3 arg4 harg4 arg5 harg5 arg6 harg6 T0 T1 x0 x1 x2 hu).1)

set_option maxHeartbeats 8000000 in
/-- At an unused block the body gives back everything as it was. -/
theorem runB (c : Dev nD) (i : grid0.Coords) (arg3 : Memref sig .tc .vmem S256x2048 .bf16) (harg3 : arg3.IsWhole) (arg4 : Memref sig .tc .vmem S1x2048x2048 .bf16) (harg4 : arg4.IsWhole) (arg5 : Memref sig .tc .vmem S1x1x2048 .f32) (harg5 : arg5.IsWhole) (arg6 : Memref sig .tc .vmem S256x2048 .bf16) (harg6 : arg6.IsWhole)
    (T0 : S288.Idx → Elt Ideal .i32) (T1 : S1.Idx → Elt Ideal .i32)
    (x0 : S256x2048.Idx → Elt Ideal .bf16) (x1 : S1x2048x2048.Idx → Elt Ideal .bf16) (x2 : S1x1x2048.Idx → Elt Ideal .f32) (hu : ¬k0_cond1 i (word T1) = 1#1)
    (y3 : S256x2048.Idx → Elt Ideal .bf16) (K : PUnit → sProp 𝕄) :
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tbE.view.loc (c : Thread nD τ) ↦{fullShare.right} T0)
          ∗ (tbU.view.loc (c : Thread nD τ) ↦{fullShare.right} T1)
          ∗ owns (c : Thread nD τ) arg6 fullShare y3
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (tbE.view.loc (c : Thread nD τ) ↦{fullShare.right} T0)
              ∗ (tbU.view.loc (c : Thread nD τ) ↦{fullShare.right} T1)
              ∗ owns (c : Thread nD τ) arg6 fullShare y3) -∗ K ⟨⟩))
          ⊢ wp frame (wpE (defs₀ (F := Ideal)) Variants.none c none) Set.univ (cc0_moe_down i tbE (Memref.isWhole_whole _) tbU (Memref.isWhole_whole _) arg3 harg3 arg4 harg4 arg5 harg5 arg6 harg6) K := by
    unfold owns
    rw [cc0_moe_down_eq_skeleton]; unfold cc0_moe_down_skel
    iintro ⟨H0, H1, H2, HT0, HT1, ⟨%f3, %hf3, HO3⟩, Hk⟩
    obtain rfl := harg6.eq_unread hf3
    have hT0 : tbE.IsWhole := Memref.isWhole_whole _
    have hT1 : tbU.IsWhole := Memref.isWhole_whole _
    sl_exec! (disch := first | (guard_target = ¬(k0_cond1 _ _ = _); exact hu))
    sl_step
    iapply Hk
    isplitl [H0]; · iexact H0
    isplitl [H1]; · iexact H1
    isplitl [H2]; · iexact H2
    isplitl [HT0]; · iexact HT0
    isplitl [HT1]; · iexact HT1
    iexists _; isplitr; · ipureintro; exact harg6.read_unread _
    iexact HO3

end Cert.DownIdeal

end
-- ==== Proof.DownIdealTables.lean ====
/-
  The two prefetched tables of the second expert product: what the index maps and the body read of them, and that tables in
  range are admissible.
-/
module

public import proofs.«01_k».proof.Proof.DownIdealRuns
public import proofs.«01_k».proof.Proof.Gen.Kernel3Ideal.Skeleton
public import proofs.«01_k».proof.Proof.Gen.Kernel3Ideal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.DownIdeal

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The tables' contents the launch is read at: the experts' table and the count of used blocks. -/
abbrev Tables := pre0.Contents (Elt Ideal)

/-- The only index of the count's table. -/
def z : S1.Idx := fun a => ⟨0, by fin_cases a; exact Nat.one_pos⟩

/-- There is no other. -/
theorem z_unique (x : S1.Idx) : x = z := by
  funext a
  have h := (x a).isLt
  refine Fin.ext ?_
  obtain rfl : a = 0 := Subsingleton.elim (α := Fin 1) _ _
  exact Nat.lt_one_iff.mp h

/-- The body reads the count's one word. -/
theorem word_eq (T1 : S1.Idx → Elt Ideal .i32) : word T1 = T1 z :=
  congrArg T1 (z_unique _)

/-- So do the index maps. -/
theorem at_eq (pf : Tables) : pf.at 1 (Rect.unit (s := S1) ![0] S1.size inb_S1_S1_0) numel1_S1 = pf 1 z :=
  congrArg (pf 1) (z_unique _)

/-- And the idle table. -/
theorem atD_eq (pf : Tables) : pf.atD 1 ![0] = pf 1 z := by
  unfold Pipeline.Prefetch.Contents.atD
  rw [dif_pos (by decide)]
  exact congrArg (pf 1) (z_unique _)

/-- The count of used blocks. -/
abbrev nu (pf : Tables) : ℕ := BitVec.toNat (w := 32) (pf 1 z)

/-- Both tables in range: between one and all 288 blocks used, every expert one of the 32. -/
structure InRange (pf : Tables) : Prop where
  pos : 1 ≤ nu pf
  le : nu pf ≤ 288
  expert : ∀ j : S288.Idx, BitVec.toNat (w := 32) (pf 0 j) < 32

theorem coord_lt (i : grid0.Coords) : (i 0).val < 288 := (i 0).isLt

/-- The grid's only coordinate counts the points. -/
theorem coord_eq : ∀ t : Fin grid0.N, (grid0.coords t 0).val = t.val := by decide +kernel

/-- The body's condition: the block is one of the used ones. -/
theorem cond_iff (i : grid0.Coords) (w : BitVec 32) (hw : w.toNat ≤ 288) : k0_cond1 i w = 1#1 ↔ (i 0).val < w.toNat := by
  have hi := coord_lt i
  have e : (BitVec.ofNat 32 (i 0).val).slt w = decide ((i 0).val < w.toNat) := by
    rw [BitVec.slt_eq_decide, BitVec.toInt_eq_toNat_of_lt (by simp; omega), BitVec.toInt_eq_toNat_of_lt (by omega)]
    simp; omega
  unfold k0_cond1
  simp only [Scalar.cmpi, IntOp.cmpi, Scalar.extui, e]
  by_cases h : (i 0).val < w.toNat
  · simp only [h, decide_true, iff_true]; decide
  · simp only [h, decide_false, iff_false]; decide

/-- The row block a point moves: its own, or the last used one past it. -/
theorem row_block (i : grid0.Coords) (w : BitVec 32) (h1 : 1 ≤ w.toNat) (hw : w.toNat ≤ 288) :
    (Scalar.minsi (BitVec.ofNat 32 (i 0).val) (Scalar.subi w 1#32)).toNat = min (i 0).val (w.toNat - 1) := by
  have hi := coord_lt i
  have e1 : (w - 1#32).toNat = w.toNat - 1 := by
    rw [BitVec.toNat_sub_of_le (by show (1#32).toNat ≤ _; simpa using h1)]; rfl
  have e : (BitVec.ofNat 32 (i 0).val).slt (w - 1#32) = decide ((i 0).val < w.toNat - 1) := by
    rw [BitVec.slt_eq_decide, BitVec.toInt_eq_toNat_of_lt (by simp; omega), BitVec.toInt_eq_toNat_of_lt (by omega), e1]
    simp; omega
  show (if (BitVec.ofNat 32 (i 0).val).slt (w - 1#32) then BitVec.ofNat 32 (i 0).val else w - 1#32).toNat = _
  rw [e]
  by_cases h : (i 0).val < w.toNat - 1
  · simp only [h, decide_true, ↓reduceIte]; rw [BitVec.toNat_ofNat]; omega
  · simp only [h, decide_false, Bool.false_eq_true, ↓reduceIte]; rw [e1]; omega

/-- The row block the input's window moves at a point. -/
theorem row0 (pf : Tables) (h : InRange pf) (i : grid0.Coords) :
    cc0_transform_0 inb_S1_S1_0 numel1_S1 pf i = ![min (i 0).val (nu pf - 1), 0] :=
  congrArg (fun x : ℕ => (![x, 0] : Fin 2 → ℕ)) <|
    (congrArg (fun w : BitVec 32 => (Scalar.minsi (BitVec.ofNat 32 (i 0).val) (Scalar.subi w 1#32)).toNat) (at_eq pf)).trans (row_block i _ h.pos h.le)

/-- The row block the result's window moves at a point. -/
theorem row3 (pf : Tables) (h : InRange pf) (i : grid0.Coords) :
    cc0_transform_3 inb_S1_S1_0 numel1_S1 pf i = ![min (i 0).val (nu pf - 1), 0] := row0 pf h i

/-- A point's entry of the experts' table. -/
def entry (i : grid0.Coords) : S288.Idx := fun a => ⟨(i 0).val, by have := coord_lt i; fin_cases a; exact this⟩

/-- The table entry a point reads. -/
theorem expert_at (pf : Tables) (i : grid0.Coords) :
    pf.at 0 (Rect.unit (s := S288) ![(Scalar.indexCast (BitVec.ofNat 32 (i 0).val)).toNat] S1.size (k0_off1_inb i)) numel1_S1
      = pf 0 (entry i) := by
  refine congrArg (pf 0) (funext fun a : Fin 1 => Fin.ext ?_)
  have := coord_lt i
  have e : (BitVec.ofNat 32 (i 0).val).toNat = (i 0).val := by rw [BitVec.toNat_ofNat]; omega
  obtain rfl : a = 0 := Subsingleton.elim _ _
  show (BitVec.ofNat 32 (i 0).val).toNat + 0 * 1 = (i 0).val
  rw [e]; omega

/-- The expert whose weights a point moves. -/
theorem expert1 (pf : Tables) (i : grid0.Coords) :
    cc0_transform_1 k0_off1_inb numel1_S1 pf i = ![BitVec.toNat (w := 32) (pf 0 (entry i)), 0, 0] :=
  congrArg (fun w : BitVec 32 => (![w.toNat, 0, 0] : Fin 3 → ℕ)) (expert_at pf i)

/-- The expert whose biases a point moves. -/
theorem expert2 (pf : Tables) (i : grid0.Coords) :
    cc0_transform_2 k0_off1_inb numel1_S1 pf i = ![BitVec.toNat (w := 32) (pf 0 (entry i)), 0, 0] := expert1 pf i

/-- Tables in range are admissible: every block the launch moves lies in its array and moves whole words. -/
theorem ok (pf : Tables) (h : InRange pf) : ok0 (F := Ideal) pf := by
  have h1 := h.pos
  have h2 := h.le
  refine ⟨fun i => ?_, fun i => ?_, fun i => ?_, fun i => ?_⟩
  · have hi := coord_lt i
    rw [row0 pf h i]
    exact ⟨fun a => by fin_cases a <;> simp <;> omega, .inr (Affine.block_words_dvd (s := S73728x2048) (p := EltTy.packing .bf16) (by decide) (by decide))⟩
  · have he := h.expert (entry i)
    rw [expert1 pf i]
    exact ⟨fun a => by fin_cases a <;> simp <;> omega, .inr (Affine.block_words_dvd (s := S32x2048x2048) (p := EltTy.packing .bf16) (by decide) (by decide))⟩
  · have he := h.expert (entry i)
    rw [expert2 pf i]
    exact ⟨fun a => by fin_cases a <;> simp <;> omega, .inl rfl⟩
  · have hi := coord_lt i
    rw [row3 pf h i]
    exact ⟨fun a => by fin_cases a <;> simp <;> omega, .inr (Affine.block_words_dvd (s := S73728x2048) (p := EltTy.packing .bf16) (by decide) (by decide))⟩

end Cert.DownIdeal

end
-- ==== Proof.DownIdealLaunch.lean ====
/-
  The launch of the second expert product at any tables in range: its schedule, its body's obligation at every point and its run.
-/
module

public import proofs.«01_k».proof.Proof.DownIdealRuns
public import proofs.«01_k».proof.Proof.DownIdealTables
public import proofs.«01_k».proof.Proof.Gen.Kernel3Ideal.Skeleton
public import proofs.«01_k».proof.Proof.Gen.Kernel3Ideal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.DownIdeal

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The rounds library's algebra, whole. -/
abbrev EP : Emb (UR sig nD τ) 𝕄 := emb₁

variable (a : (pcfg0 (F := Ideal)).Adm) (hr : InRange a.1)
variable (m : (ℓ : Loc nD τ sig) → Buf (Elt Ideal) ℓ) (ρ : Dev nD → PrngReg)

/-- The launch at tables `a`. -/
abbrev cfg : Pipeline.Cfg sig Λ₀ := cfg0 (F := Ideal) a
/-- The program's one launch. -/
abbrev launches : Fin 1 → Pipeline.Cfg sig Λ₀ := Pipeline.pin (pcfgs (F := Ideal)) fun _ => a
/-- A point's coordinates. -/
abbrev crd (t : Fin (cfg a).N) : (cfg a).grid.Coords := (cfg a).grid.coords t

/-! ## The staging buffers in hand at a point -/

abbrev ms0 (t : Fin (cfg a).N) : Memref sig .tc .vmem S256x2048 .bf16 := spec0_0.stage ((cfg a).slots t (0 : Fin 4))
abbrev hs0 (t : Fin (cfg a).N) : (ms0 a t).IsWhole := hstage0_0 (((cfg a).slots t (0 : Fin 4)).cast nbuf0_0)
abbrev ms1 (t : Fin (cfg a).N) : Memref sig .tc .vmem S1x2048x2048 .bf16 := spec0_1.stage ((cfg a).slots t (1 : Fin 4))
abbrev hs1 (t : Fin (cfg a).N) : (ms1 a t).IsWhole := hstage0_1 (((cfg a).slots t (1 : Fin 4)).cast nbuf0_1)
abbrev ms2 (t : Fin (cfg a).N) : Memref sig .tc .vmem S1x1x2048 .f32 := spec0_2.stage ((cfg a).slots t (2 : Fin 4))
abbrev hs2 (t : Fin (cfg a).N) : (ms2 a t).IsWhole := hstage0_2 (((cfg a).slots t (2 : Fin 4)).cast nbuf0_2)
abbrev ms3 (t : Fin (cfg a).N) : Memref sig .tc .vmem S256x2048 .bf16 := spec0_3.stage ((cfg a).slots t (3 : Fin 4))
abbrev hs3 (t : Fin (cfg a).N) : (ms3 a t).IsWhole := hstage0_3 (((cfg a).slots t (3 : Fin 4)).cast nbuf0_3)

/-- Window `w`'s block at point `t`, read off its array at the launch. -/
def blkOf (c : Dev nD) (w : Fin (cfg a).W) (t : Fin (cfg a).N) : (((cfg a).win w).xblock (crd a t)).Idx → Elt Ideal ((cfg a).win w).elt :=
  (((cfg a).win w).blk t).view.read (Elt Ideal) ((s₀ m ρ).mem (((cfg a).win w).arr.view.loc (c : Thread nD τ)))

/-! ## The schedule -/

/-- Point `t` works on a used block. -/
abbrev Used (t : Fin (cfg a).N) : Prop := k0_cond1 (crd a t) (word (a.1 1)) = 1#1

include hr in
theorem used_iff (t : Fin (cfg a).N) : Used a t ↔ t.val < nu a.1 :=
  (iff_of_eq (congrArg (fun w => k0_cond1 (crd a t) w = 1#1) (word_eq (a.1 1)))).trans
    ((cond_iff _ _ hr.le).trans (iff_of_eq (congrArg (· < nu a.1) (coord_eq t))))

include hr in
theorem idle_eq (t : Fin (cfg a).N) : (cfg a).idle (3 : Fin 4) ((cfg a).grid.coords t) = !decide (t.val < nu a.1) := by
  show (!(k0_cond1 (crd a t) (a.1.atD 1 ![0]) == 1#1)) = _
  congr 1
  rw [atD_eq, Bool.eq_iff_iff, beq_iff_eq, decide_eq_true_iff, cond_iff _ _ hr.le]
  exact iff_of_eq (congrArg (· < nu a.1) (coord_eq t))

include hr in
/-- The block of the result in hand at a point. -/
theorem index3 (t : Fin (cfg a).N) : ((cfg a).win (3 : Fin 4)).index t = ![min t.val (nu a.1 - 1), 0] := by
  show cc0_transform_3 inb_S1_S1_0 numel1_S1 a.1 (grid0.coords t) = _
  rw [row3 a.1 hr, coord_eq]

include hr in
/-- The result's block is written back at every used point but the last, and at the last point of all. -/
theorem flush_eq (t : Fin (cfg a).N) : ((cfg a).win (3 : Fin 4)).flush t = (decide (t.val + 1 < nu a.1) || decide (t.val = 287)) := by
  have hN : (cfg a).N = 288 := N_0
  have h2 := hr.le
  have ht := t.isLt
  unfold Pipeline.Window.flush
  rw [Bool.eq_iff_iff]
  simp only [Bool.and_eq_true, Bool.or_eq_true, decide_eq_true_iff]
  constructor
  · rintro ⟨-, h | ⟨h, h'⟩⟩
    · right; exact Nat.succ.inj (h.trans N_0)
    · left
      by_contra h''
      refine h' ?_
      rw [index3 a hr, index3 a hr]
      congr 1
      show min (t.val + 1) _ = _
      omega
  · rintro (h | h)
    · refine ⟨trivial, .inr ⟨by show t.val + 1 < grid0.N; rw [N_0]; omega, fun h' => ?_⟩⟩
      rw [index3 a hr, index3 a hr] at h'
      have := congrFun h' 0
      simp only [Matrix.cons_val_zero] at this
      omega
    · exact ⟨trivial, .inl (by show t.val + 1 = grid0.N; rw [N_0, h])⟩

/-- Whether the result's buffer holds junk before position `n`: until the used points are over, and after the last write-back. -/
def junkAt (n : ℕ) : Bool := decide (n < nu a.1) || decide (n = 288)

include hr in
theorem fresh_eq (t : Fin (cfg a).N) : (cfg a).fresh (3 : Fin 4) t.val = junkAt a t.val :=
  Pipeline.Cfg.fresh_tab (cfg a) (3 : Fin 4) (junkAt a) (by have := hr.pos; unfold junkAt; simp; omega)
    (fun t => by
      have hN : (cfg a).N = 288 := N_0
      have ht := t.isLt
      have := hr.le
      rw [flush_eq a hr, idle_eq a hr]
      unfold junkAt
      by_cases h1 : t.val + 1 < nu a.1
      · simp [h1]
      · by_cases h2 : t.val = 287
        · simp [h1, h2]
        · by_cases h3 : t.val < nu a.1
          · simp [h1, h2, h3]
          · have : t.val ≠ 288 := by omega
            simp [h1, h2, h3, this]) t.val (Nat.le_of_lt t.isLt)

include hr in
/-- A used point stores its block over junk. -/
theorem sched_used (t : Fin (cfg a).N) (q : Used a t) :
    (cfg a).idle (3 : Fin 4) ((cfg a).grid.coords t) = false ∧ (cfg a).fresh (3 : Fin 4) t.val = true := by
  rw [used_iff a hr] at q
  rw [idle_eq a hr, fresh_eq a hr]; unfold junkAt
  simp [q]

include hr in
/-- An unused point leaves the last used one's block as it is. -/
theorem sched_unused (t : Fin (cfg a).N) (q : ¬Used a t) :
    (cfg a).idle (3 : Fin 4) ((cfg a).grid.coords t) = true ∧ (cfg a).fresh (3 : Fin 4) t.val = false := by
  rw [used_iff a hr] at q
  have hN : (cfg a).N = 288 := N_0
  have ht := t.isLt
  have : t.val ≠ 288 := by omega
  rw [idle_eq a hr, fresh_eq a hr]; unfold junkAt
  simp [q, this]

/-! ## What the result's buffer holds -/

/-- One point's step: a used block's contents, or what was there before. -/
def step (c : Dev nD) (t : Fin (cfg a).N) (prev : S256x2048.Idx → Elt Ideal .bf16) : S256x2048.Idx → Elt Ideal .bf16 :=
  if q : Used a t then
    outA c (crd a t) (ms0 a t) (hs0 a t) (ms1 a t) (hs1 a t) (ms2 a t) (hs2 a t) (ms3 a t) (hs3 a t) (a.1 0) (a.1 1) (blkOf a m ρ c (0 : Fin 4) t) (blkOf a m ρ c (1 : Fin 4) t) (blkOf a m ρ c (2 : Fin 4) t) q
  else
    (if (cfg a).fresh (3 : Fin 4) t.val then default else prev)

/-- After position `n`. -/
def traj (c : Dev nD) : (n : ℕ) → n < (cfg a).N → (S256x2048.Idx → Elt Ideal .bf16)
  | 0, h => step a m ρ c ⟨0, h⟩ default
  | n + 1, h => step a m ρ c ⟨n + 1, h⟩ (traj c n (Nat.lt_of_succ_lt h))

/-- Before point `t`. -/
def prev (c : Dev nD) (t : Fin (cfg a).N) : S256x2048.Idx → Elt Ideal .bf16 :=
  if h : t.val = 0 then default else traj a m ρ c (t.val - 1) (by omega)

theorem traj_eq (c : Dev nD) (t : Fin (cfg a).N) : traj a m ρ c t.val t.isLt = step a m ρ c t (prev a m ρ c t) := by
  obtain ⟨n, hn⟩ := t
  cases n with
  | zero => rfl
  | succ n => unfold prev; simp only [Nat.add_one_ne_zero, dif_neg, not_false_eq_true]; rfl

theorem step_used (c : Dev nD) (t : Fin (cfg a).N) (p : S256x2048.Idx → Elt Ideal .bf16) (q : Used a t) :
    step a m ρ c t p = outA c (crd a t) (ms0 a t) (hs0 a t) (ms1 a t) (hs1 a t) (ms2 a t) (hs2 a t) (ms3 a t) (hs3 a t) (a.1 0) (a.1 1) (blkOf a m ρ c (0 : Fin 4) t) (blkOf a m ρ c (1 : Fin 4) t) (blkOf a m ρ c (2 : Fin 4) t) q := by
  unfold step; rw [dif_pos q]

theorem step_unused (c : Dev nD) (t : Fin (cfg a).N) (p : S256x2048.Idx → Elt Ideal .bf16) (q : ¬Used a t) :
    step a m ρ c t p = (if (cfg a).fresh (3 : Fin 4) t.val then default else p) := by
  unfold step; rw [dif_neg q]

/-! ## The launch's proof data -/

/-- The invariant: the body's halves of the tables. -/
def Phi (c : Dev nD) (t : Fin ((cfg a).N + 1)) : sProp 𝕄 :=
  iprop((tbE.view.loc (c : Thread nD τ) ↦{fullShare.right} (a.1 0 : S288.Idx → Elt Ideal .i32)) ∗ (tbU.view.loc (c : Thread nD τ) ↦{fullShare.right} (a.1 1 : S1.Idx → Elt Ideal .i32)))

/-- The launch's proof data on core `c`. -/
def dats (_ : Fin 1) (c : Dev nD) : Dat τ (Elt Ideal) Unit ℕ (UR sig nD τ) ℕ (cfg a) c where
  A w := (s₀ m ρ).mem (((cfg a).win w).arr.view.loc (c : Thread nD τ))
  after w t := match w with
    | ⟨0, _⟩ => blkOf a m ρ c (0 : Fin 4) t
    | ⟨1, _⟩ => blkOf a m ρ c (1 : Fin 4) t
    | ⟨2, _⟩ => blkOf a m ρ c (2 : Fin 4) t
    | ⟨3, _⟩ => (traj a m ρ c t.val t.isLt)
  Φ t := Phi a c t
  q _ := fullShare
  owed _ := 0

theorem after_0 (c : Dev nD) (t : Fin (cfg a).N) : (dats a m ρ 0 c).after (0 : Fin 4) t = blkOf a m ρ c (0 : Fin 4) t := rfl
theorem after_1 (c : Dev nD) (t : Fin (cfg a).N) : (dats a m ρ 0 c).after (1 : Fin 4) t = blkOf a m ρ c (1 : Fin 4) t := rfl
theorem after_2 (c : Dev nD) (t : Fin (cfg a).N) : (dats a m ρ 0 c).after (2 : Fin 4) t = blkOf a m ρ c (2 : Fin 4) t := rfl
theorem after_3 (c : Dev nD) (t : Fin (cfg a).N) : (dats a m ρ 0 c).after (3 : Fin 4) t = traj a m ρ c t.val t.isLt := rfl

/-- Input 0's buffer holds its block when the body runs. -/
theorem before_0 (c : Dev nD) (t : Fin (cfg a).N) (d) : (dats a m ρ 0 c).before (0 : Fin 4) t d = blkOf a m ρ c (0 : Fin 4) t :=
  ((dats a m ρ 0 c).before_in_eq_fetched (0 : Fin 4) rfl (fun _ => rfl) (fun _ _ _ => rfl) (fun t => by rw [after_0]; unfold Dat.blockOf blkOf; rfl) t d).trans
    (by unfold Dat.fetched Dat.blockOf blkOf; rfl)

/-- Input 1's buffer holds its block when the body runs. -/
theorem before_1 (c : Dev nD) (t : Fin (cfg a).N) (d) : (dats a m ρ 0 c).before (1 : Fin 4) t d = blkOf a m ρ c (1 : Fin 4) t :=
  ((dats a m ρ 0 c).before_in_eq_fetched (1 : Fin 4) rfl (fun _ => rfl) (fun _ _ _ => rfl) (fun t => by rw [after_1]; unfold Dat.blockOf blkOf; rfl) t d).trans
    (by unfold Dat.fetched Dat.blockOf blkOf; rfl)

/-- Input 2's buffer holds its block when the body runs. -/
theorem before_2 (c : Dev nD) (t : Fin (cfg a).N) (d) : (dats a m ρ 0 c).before (2 : Fin 4) t d = blkOf a m ρ c (2 : Fin 4) t :=
  ((dats a m ρ 0 c).before_in_eq_fetched (2 : Fin 4) rfl (fun _ => rfl) (fun _ _ _ => rfl) (fun t => by rw [after_2]; unfold Dat.blockOf blkOf; rfl) t d).trans
    (by unfold Dat.fetched Dat.blockOf blkOf; rfl)

include hr in
/-- The result's buffer carries through the unused points. -/
theorem carry (c : Dev nD) : ∀ (t : Fin (cfg a).N) (ht : t.val ≠ 0), (cfg a).idle (3 : Fin 4) ((cfg a).grid.coords t) = true → (cfg a).fresh (3 : Fin 4) t.val = false →
    (dats a m ρ 0 c).after (3 : Fin 4) t = (dats a m ρ 0 c).after (3 : Fin 4) ⟨t.val - 1, by omega⟩ := by
  intro t ht hi hf
  rw [after_3, after_3, traj_eq]
  by_cases q : Used a t
  · obtain ⟨i3, -⟩ := sched_used a hr t q
    rw [i3] at hi; exact absurd hi (by decide)
  · rw [step_unused a m ρ c t _ q]
    simp only [hf, Bool.false_eq_true, ↓reduceIte]
    unfold prev; rw [dif_neg ht]

include hr in
/-- The result's buffer when the body runs: junk, or what the point before left. -/
theorem before_3 (c : Dev nD) (t : Fin (cfg a).N) (d) :
    (dats a m ρ 0 c).before (3 : Fin 4) t d = if (cfg a).fresh (3 : Fin 4) t.val then d else (prev a m ρ c t) := by
  rw [(dats a m ρ 0 c).before_out_traj (3 : Fin 4) rfl (fun _ _ => rfl) (carry a hr m ρ c) t.val t rfl d]
  by_cases hf : (cfg a).fresh (3 : Fin 4) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after_3]; unfold prev; rw [dif_neg h0]

/-! ## The body at a point -/

/-- The body at point `t` on its staging buffers. -/
abbrev bodyAt (t : Fin (cfg a).N) : Prog (TpuEff nD τ sig (Elt Ideal) Λ₀ .tc) PUnit :=
  cc0_moe_down (crd a t) (Memref.whole main_arg0) (Memref.isWhole_whole _) (Memref.whole main_arg1) (Memref.isWhole_whole _) (ms0 a t) (hs0 a t) (ms1 a t) (hs1 a t) (ms2 a t) (hs2 a t) (ms3 a t) (hs3 a t)

include hr in
set_option maxHeartbeats 4000000 in
/-- The body's triple at point `t`: a used point stores its block, an unused one leaves everything. -/
theorem sound_body (c : Dev nD) (t : Fin (cfg a).N) :
    iprop((dats a m ρ 0 c).Φ t.castSucc ∗ (dats a m ρ 0 c).owesAt () t.castSucc
        ∗ (∃ d, owns (c : Thread nD τ) (ms0 a t) fullShare ((dats a m ρ 0 c).before (0 : Fin 4) t d))
        ∗ (∃ d, owns (c : Thread nD τ) (ms1 a t) fullShare ((dats a m ρ 0 c).before (1 : Fin 4) t d))
        ∗ (∃ d, owns (c : Thread nD τ) (ms2 a t) fullShare ((dats a m ρ 0 c).before (2 : Fin 4) t d))
        ∗ (∃ d, owns (c : Thread nD τ) (ms3 a t) fullShare ((dats a m ρ 0 c).before (3 : Fin 4) t d)))
      ⊢ wp frame (wpE (defs₀ (F := Ideal)) Variants.none c none) Set.univ (bodyAt a t) fun _ =>
          iprop((dats a m ρ 0 c).Φ t.succ ∗ (dats a m ρ 0 c).owesAt () t.succ
            ∗ bigSep Finset.univ fun w : Fin (cfg a).W =>
                match (cfg a).idle w ((cfg a).grid.coords t) with
                | true =>
                  match ((cfg a).win w).flush t with
                  | false => iprop(∃ d, owns (c : Thread nD τ) (((cfg a).win w).stage ((cfg a).slots t w)) fullShare ((dats a m ρ 0 c).before w t d))
                  | true => owns (c : Thread nD τ) (((cfg a).win w).stage ((cfg a).slots t w)) fullShare ((dats a m ρ 0 c).after w t)
                | false => owns (c : Thread nD τ) (((cfg a).win w).stage ((cfg a).slots t w)) fullShare ((dats a m ρ 0 c).after w t)) := by
  rw [bigSep_W0]
  by_cases q : Used a t
  · obtain ⟨i3, fr3⟩ := sched_used a hr t q
    rewrite [i3]
    simp only [before_0, before_1, before_2, before_3 a hr, after_0, after_1, after_2, after_3]
    simp only [fr3, Bool.false_eq_true, ↓reduceIte]
    rewrite [show (dats a m ρ 0 c).Φ t.succ = Phi a c t.succ from rfl, show (dats a m ρ 0 c).Φ t.castSucc = Phi a c t.castSucc from rfl,
      show (dats a m ρ 0 c).owesAt () t.succ = (dats a m ρ 0 c).owesAt () t.castSucc from rfl]
    rewrite [traj_eq, step_used a m ρ c t _ q]
    unfold Phi
    iintro ⟨⟨HT0, HT1⟩, Ho, ⟨%d0, H0⟩, ⟨%d1, H1⟩, ⟨%d2, H2⟩, ⟨%d3, H3⟩⟩
    iapply ((runA c (crd a t) (ms0 a t) (hs0 a t) (ms1 a t) (hs1 a t) (ms2 a t) (hs2 a t) (ms3 a t) (hs3 a t) (a.1 0) (a.1 1) (blkOf a m ρ c (0 : Fin 4) t) (blkOf a m ρ c (1 : Fin 4) t) (blkOf a m ρ c (2 : Fin 4) t) q).2 _)
    isplitl [H0]; · iapply rep_of_owns; iexact H0
    isplitl [H1]; · iapply rep_of_owns; iexact H1
    isplitl [H2]; · iapply rep_of_owns; iexact H2
    isplitl [HT0]; · iexact HT0
    isplitl [HT1]; · iexact HT1
    isplitl [H3]; · iexists _; iexact H3
    iintro ⟨H0, H1, H2, HT0, HT1, ⟨%e3, H3⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    unfold owns; iexists _; isplitr; swap
    · iexact H3
    · ipureintro; exact View.read_writes_of_cover _ _ _ _ _ (coverA c _ _ _ _ _ _ _ _ _ _ _ _ _ _ _)
  · obtain ⟨i3, fr3⟩ := sched_unused a hr t q
    cases f3 : ((cfg a).win (3 : Fin 4)).flush t
    all_goals
      rewrite [i3]
      simp only [before_0, before_1, before_2, before_3 a hr, after_0, after_1, after_2, after_3, f3]
      simp only [fr3, Bool.false_eq_true, ↓reduceIte]
      rewrite [show (dats a m ρ 0 c).Φ t.succ = Phi a c t.succ from rfl, show (dats a m ρ 0 c).Φ t.castSucc = Phi a c t.castSucc from rfl,
        show (dats a m ρ 0 c).owesAt () t.succ = (dats a m ρ 0 c).owesAt () t.castSucc from rfl]
      try rewrite [traj_eq, step_unused a m ρ c t _ q]
      unfold Phi; simp only [traj_eq, step_unused a m ρ c t _ q, fr3, Bool.false_eq_true, ↓reduceIte]
      iintro ⟨⟨HT0, HT1⟩, Ho, ⟨%d0, H0⟩, ⟨%d1, H1⟩, ⟨%d2, H2⟩, ⟨%d3, H3⟩⟩
      iapply (runB c (crd a t) (ms0 a t) (hs0 a t) (ms1 a t) (hs1 a t) (ms2 a t) (hs2 a t) (ms3 a t) (hs3 a t) (a.1 0) (a.1 1) (blkOf a m ρ c (0 : Fin 4) t) (blkOf a m ρ c (1 : Fin 4) t) (blkOf a m ρ c (2 : Fin 4) t) q _ _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexact H3
      iintro ⟨H0, H1, H2, HT0, HT1, H3⟩
      isplitl [HT0 HT1]
      · isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      first | (iexists d3; iexact H3) | iexact H3

include hr in
/-- The library's obligation on the body. -/
theorem obligation (c : Dev nD) : BodyObligation (dats a m ρ 0 c) (defs₀ (F := Ideal)) Variants.none () Set.univ := fun t => by
  rw [bigSep_W0]
  exact sound_body a hr m ρ c t

/-! ## The launch -/

/-- The rounds library's launch element. -/
def u₀ : UR sig nD τ :=
  initOf (Pipeline.cells (launches a) ((launch0 (F := Ideal)).cellOf_inj fun _ => a))
    (Pipeline.launchToks (launches a) ((launch0 (F := Ideal)).cellOf_inj fun _ => a))

theorem share_eq (c : Dev nD) (w : Fin (cfg a).W) : (dats a m ρ 0 c).share w = fullShare := by unfold Dat.share; split <;> rfl

/-- The tables as the launch hands them over, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi_intro (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a c 0 from rfl]
  unfold Phi
  iintro ⟨-, ⟨HT0, HT1⟩, -⟩
  isplitl [HT0]
  · iexact HT0
  iexact HT1

theorem phi_exit (c : Dev nD) : (dats a m ρ 0 c).Φ (Fin.last (cfg a).N) ⊢ iprop(BI.emp ∗ Pipeline.scopedRest spec0 c) := by
  rw [scopedRest0_eq, show (dats a m ρ 0 c).Φ (Fin.last (cfg a).N) = Phi a c (Fin.last _) from rfl]
  unfold Phi
  iintro ⟨-, -⟩
  isplitr; · iempintro
  iempintro

/-- The memory's tables are the ones the launch is read at. -/
def Holds : Prop := ∀ c : Dev nD, ∀ j : Fin 2, m ((c : Thread nD τ).loc (pre0.ref j)) = a.1 j

/-- Every array ends at what the launch computes, every table as it was. -/
def QC : PUnit × MemSt nD τ sig (Elt Ideal) → Prop := fun r =>
  ∀ c : Dev nD, (∀ w : Fin (cfg a).W, r.2.mem (((cfg a).win w).arr.view.loc (c : Thread nD τ)) = (dats a m ρ 0 c).arrAt w (cfg a).N)
    ∧ ∀ j, r.2.mem ((c : Thread nD τ).loc (pre0.ref j)) = a.1 j

include hr in
set_option backward.isDefEq.respectTransparency.types false in
set_option maxHeartbeats 4000000 in
/-- From any memory holding the tables, every weakly fair execution ends with the arrays at the computed contents and every
    semaphore counter at zero. -/
theorem run_quiescent (hp : Holds a m) : θ_run (defs (F := Ideal)) (onTc (τ := τ) (main (F := Ideal))) (s₀ m ρ) (fun r => QC a m ρ r ∧ r.2.sem = fun _ => 0) :=
  Pipeline.θ_run_region_noSem_pf_quiescent pcfgs (fun _ => a) (dats a m ρ) () ((launch0 (F := Ideal)).cellOf_inj fun _ => a) (0 : Fin 1)
    (launch0 (F := Ideal)).win.to₀ (launch0 (F := Ideal)).pre EP defs₀ Variants.none m ρ main
    (hbody := fun c => (obligation a hr m ρ c).loose) (hne := (launch0 (F := Ideal)).block_pos)
    (harr := (launch0 (F := Ideal)).arr_whole) (hstage := (launch0 (F := Ideal)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (launches a) (dats a m ρ) 0 (launch0 (F := Ideal)).win.arr_inj c (launch0 (F := Ideal)).arr_whole
      (share_eq a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi_intro a m ρ)
    (hout := phi_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

include hr in
/-- The result ends at what the launch computes, the arguments as they were, the counters at zero. -/
theorem run (hp : Holds a m) :
    θ_run (defs (F := Ideal)) (onTc (τ := τ) (main (F := Ideal))) ⟨m, fun _ => 0, ρ⟩ (fun r => (∀ c : Dev nD,
      r.2.mem ((c.tc : Thread nD τ).loc main_v0) = (dats a m ρ 0 c).arrAt (3 : Fin 4) (cfg a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(h.1 c).1 (3 : Fin 4), ((h.1 c).2 0).trans (hp c 0).symm, ((h.1 c).2 1).trans (hp c 1).symm,
    ((h.1 c).1 (0 : Fin 4)).trans ((dats a m ρ 0 c).arrAt_in (0 : Fin 4) rfl _), ((h.1 c).1 (1 : Fin 4)).trans ((dats a m ρ 0 c).arrAt_in (1 : Fin 4) rfl _),
    ((h.1 c).1 (2 : Fin 4)).trans ((dats a m ρ 0 c).arrAt_in (2 : Fin 4) rfl _)⟩, h.2⟩) (run_quiescent a hr m ρ hp)

end Cert.DownIdeal

end
-- ==== Proof.DownIdealFrame.lean ====
/-
  The second expert product's launch under the claim's precondition: its tables are in range, so it runs.
-/
module

public import proofs.«01_k».proof.Defs
public import proofs.«01_k».proof.Proof.DownPre
public import proofs.«01_k».proof.Proof.Gen.Pre_routed_down
public import proofs.«01_k».proof.Proof.DownIdealLaunch

@[expose] public section

set_option maxRecDepth 16384

noncomputable section

namespace Cert.DownIdeal

open Cert.Kernel3Ideal Cert.Kernel3Ideal.Gen
open Idealize.ShloMosaic
open Idealize.ShloMosaic.TcCoe Idealize.SL.Sem

variable (m : (ℓ : Loc nD τ sig) → Buf (Elt Ideal) ℓ) (ρ : Dev nD → PrngReg)

/-- The tables the launch finds in memory. -/
def tables (c : Dev nD) : Tables := fun j => m ((c : Thread nD τ).loc (pre0.ref j))

/-- The precondition puts them in range. -/
theorem tables_inRange (h : Pre_Kernel3Ideal m) (c : Dev nD) : InRange (tables m c) := by
  have hi := DownPre.routed_iff _ _ _ _ _ (h c)
  exact ⟨(hi.1 z).1, (hi.1 z).2, hi.2⟩

/-- The device's tables, admissible. -/
def adm (h : Pre_Kernel3Ideal m) : (pcfg0 (F := Ideal)).Adm := ⟨tables m 0, ok _ (tables_inRange m h 0)⟩

theorem adm_inRange (h : Pre_Kernel3Ideal m) : InRange (adm m h).1 := tables_inRange m h 0

theorem adm_holds (h : Pre_Kernel3Ideal m) : Holds (adm m h) m := by
  intro c j
  obtain rfl : c = 0 := Subsingleton.elim _ _
  rfl

/-- The kernel runs, leaves its arguments as they were, and ends with every counter at zero. -/
theorem frame : quiescent_Kernel3Ideal := fun m ρ h =>
  (θ_run defs _ _).mono (fun _ r => ⟨fun c => (r.1 c).2, r.2⟩) (run (adm m h) (adm_inRange m h) m ρ (adm_holds m h))

end Cert.DownIdeal

end
-- ==== Proof.DownBody.lean ====
/-
  The second expert product's body on a used block: what its one store holds at every row and column.
-/
module

public import proofs.«01_k».proof.Proof.DownIdealRuns
public import Idealize.ShloMosaic.Lib.Pointwise
public import Idealize.ShloMosaic.Lib.WordCmp
public import Idealize.ShloMosaic.Lib.VecWindow

@[expose] public section

set_option maxRecDepth 16384

noncomputable section

namespace Cert.DownIdeal

open Cert.Kernel3Ideal Cert.Kernel3Ideal.Gen
open Idealize.ShloMosaic
open Idealize.ShloMosaic.TcCoe Idealize.SL.Sem

/-- Row `r` of a block by the matrix beside it, plus the bias, at column `q`. -/
def pre (x0 : Vec Ideal S256x2048 .bf16) (x1 : Vec Ideal S1x2048x2048 .bf16) (x2 : Vec Ideal S1x1x2048 .f32) (r : Fin 256) (q : Fin 2048) : EReal :=
  (∑ k : Fin 2048, (x0 (ix2 r k) : EReal) * x1 (ix3 0 k q)) + x2 (ix3 0 0 q)

/-- The stored value at an index. -/
def val (x0 : Vec Ideal S256x2048 .bf16) (x1 : Vec Ideal S1x2048x2048 .bf16) (x2 : Vec Ideal S1x1x2048 .f32) (y : S256x2048.Idx) : EReal :=
  pre x0 x1 x2 (y 0) (y 1)

/-- The payload of the store, at a row and column. -/
theorem pay_at (x0 : Vec Ideal S256x2048 .bf16) (x1 : Vec Ideal S1x2048x2048 .bf16) (x2 : Vec Ideal S1x1x2048 .f32) (r : Fin 256) (q : Fin 2048) :
    k0_pay1 x0 x1 x2 (ix2 r q) = pre x0 x1 x2 r q := by
  pointwise [k0_pay1]
  rfl

/-- What a used block leaves at an index. -/
theorem outA_at (c : Dev nD) (i : grid0.Coords) (arg3 : Memref sig .tc .vmem S256x2048 .bf16) (harg3 : arg3.IsWhole) (arg4 : Memref sig .tc .vmem S1x2048x2048 .bf16) (harg4 : arg4.IsWhole) (arg5 : Memref sig .tc .vmem S1x1x2048 .f32) (harg5 : arg5.IsWhole) (arg6 : Memref sig .tc .vmem S256x2048 .bf16) (harg6 : arg6.IsWhole)
    (T0 : S288.Idx → Elt Ideal .i32) (T1 : S1.Idx → Elt Ideal .i32)
    (x0 : S256x2048.Idx → Elt Ideal .bf16) (x1 : S1x2048x2048.Idx → Elt Ideal .bf16) (x2 : S1x1x2048.Idx → Elt Ideal .f32) (hu : k0_cond1 i (word T1) = 1#1) (y : S256x2048.Idx) :
    outA c i arg3 harg3 arg4 harg4 arg5 harg5 arg6 harg6 T0 T1 x0 x1 x2 hu y = val x0 x1 x2 y := by
  unfold outA
  refine View.read_writes_apply_of_pieces VO VO.junk (val x0 x1 x2) _ ?_ y (coverA c i arg3 harg3 arg4 harg4 arg5 harg5 arg6 harg6 T0 T1 x0 x1 x2 hu y)
  unfold runA
  dsimp only
  refine List.forall_mem_cons.mpr ⟨fun x => ?_, fun _ h => absurd h List.not_mem_nil⟩
  have ex : x = ix2 (x 0) (x 1) := funext fun a => by fin_cases a <;> rfl
  have e0 : arg3.view.readAt (Elt Ideal) (Rect.unit (s := S256x2048) ![0, 0] S256x2048.size inb_S256x2048_S256x2048_0_0).toLoadRect (arg3.view.rep x0) = x0 :=
    View.readAt_rep_full arg3.view x0 _
  have e1 : arg4.view.readAt (Elt Ideal) (Rect.unit (s := S1x2048x2048) ![0, 0, 0] S1x2048x2048.size inb_S1x2048x2048_S1x2048x2048_0_0_0).toLoadRect (arg4.view.rep x1) = x1 :=
    View.readAt_rep_full arg4.view x1 _
  have e2 : arg5.view.readAt (Elt Ideal) (Rect.unit (s := S1x1x2048) ![0, 0, 0] S1x1x2048.size inb_S1x1x2048_S1x1x2048_0_0_0).toLoadRect (arg5.view.rep x2) = x2 :=
    View.readAt_rep_full arg5.view x2 _
  have ey : (Rect.unit (s := S256x2048) ![0, 0] S256x2048.size inb_S256x2048_S256x2048_0_0).emb x = ix2 (x 0) (x 1) := funext fun a => Fin.ext (by
    fin_cases a
    · show 0 + 1 * (x 0).val = (x 0).val
      omega
    · show 0 + 1 * (x 1).val = (x 1).val
      omega)
  refine Eq.trans ?_ (congrArg (val x0 x1 x2) ey).symm
  refine (congrArg (k0_pay1 _ _ _) ex).trans ?_
  refine Eq.trans ?_ (pay_at x0 x1 x2 (x 0) (x 1))
  exact congrArg (fun f : FVec Ideal S256x2048 .bf16 => f (ix2 (x 0) (x 1))) (by rw [e0, e1, e2])

end Cert.DownIdeal

end
-- ==== Proof.DownValue.lean ====
/-
  The second expert product's result array: at every row of a used block, the row times its block's expert's
  weights plus its bias.
-/
module

public import proofs.«01_k».proof.Proof.DownIdealLaunch
public import proofs.«01_k».proof.Proof.DownBody
public import Idealize.ShloMosaic.Lib.Pipeline.ValueKit

@[expose] public section

set_option maxRecDepth 16384

noncomputable section

namespace Cert.DownIdeal

open Cert.Kernel3Ideal Cert.Kernel3Ideal.Gen
open Idealize.ShloMosaic
open Idealize.ShloMosaic.TcCoe Idealize.SL.Sem
open Idealize.ShloMosaic.Pipeline (Dat)

/-- The product of row `r` by expert `e`'s matrix plus its bias at column `q`, from the whole arrays. -/
def rowPre (X : Vec Ideal S73728x2048 .bf16) (W : Vec Ideal S32x2048x2048 .bf16) (B : Vec Ideal S32x1x2048 .f32) (r : Fin 73728) (e : Fin 32) (q : Fin 2048) : EReal :=
  (∑ k : Fin 2048, (X (ix2 r k) : EReal) * W (ix3 e k q)) + B (ix3 e 0 q)

/-- The entry of the experts' table of a row's block. -/
def ent (r : Fin 73728) : S288.Idx := ix1 (n0 := 288) ⟨r.val / 256, by omega⟩

/-- The expert of a row. -/
def exp (T : Vec Ideal S288 .i32) (r : Fin 73728) : Fin 32 := ⟨BitVec.toNat (w := 32) (T (ent r)) % 32, Nat.mod_lt _ (by decide)⟩

/-- The result, from the whole arrays. -/
def whole (T : Vec Ideal S288 .i32) (X : Vec Ideal S73728x2048 .bf16) (W : Vec Ideal S32x2048x2048 .bf16) (B : Vec Ideal S32x1x2048 .f32) (r : Fin 73728) (d : Fin 2048) : EReal :=
  rowPre X W B r (exp T r) d

/-- A block's value is the array's, where the block is read from the array. -/
theorem val_eq (X : Vec Ideal S73728x2048 .bf16) (W : Vec Ideal S32x2048x2048 .bf16) (B : Vec Ideal S32x1x2048 .f32)
    (x0 : Vec Ideal S256x2048 .bf16) (x1 : Vec Ideal S1x2048x2048 .bf16) (x2 : Vec Ideal S1x1x2048 .f32) (r : Fin 256) (R : Fin 73728) (e : Fin 32)
    (h0 : ∀ k, x0 (ix2 r k) = X (ix2 R k)) (h1 : ∀ k q, x1 (ix3 0 k q) = W (ix3 e k q)) (h2 : ∀ q, x2 (ix3 0 0 q) = B (ix3 e 0 q)) (q : Fin 2048) :
    pre x0 x1 x2 r q = rowPre X W B R e q := by
  unfold pre rowPre
  refine congrArg₂ (· + ·) (Finset.sum_congr rfl fun k _ => ?_) (h2 q)
  rw [h0, h1]

variable (a : (pcfg0 (F := Ideal)).Adm) (hr : InRange a.1)
variable (m : (ℓ : Loc nD τ sig) → Buf (Elt Ideal) ℓ) (ρ : Dev nD → PrngReg)

theorem t_lt (t : Fin (cfg a).N) : t.val < 288 := lt_of_lt_of_eq t.isLt N_0

include hr in
theorem index0 (t : Fin (cfg a).N) (q : Used a t) : ((cfg a).win (0 : Fin 4)).index t = ![t.val, 0] := by
  rw [used_iff a hr] at q
  show cc0_transform_0 inb_S1_S1_0 numel1_S1 a.1 (grid0.coords t) = _
  rw [row0 a.1 hr, coord_eq, min_eq_left (by omega)]

theorem index1 (t : Fin (cfg a).N) : ((cfg a).win (1 : Fin 4)).index t = ![BitVec.toNat (w := 32) (a.1 0 (entry (crd a t))), 0, 0] := expert1 a.1 _
theorem index2 (t : Fin (cfg a).N) : ((cfg a).win (2 : Fin 4)).index t = ![BitVec.toNat (w := 32) (a.1 0 (entry (crd a t))), 0, 0] := expert2 a.1 _

/-- Row `r` of point `t`'s block. -/
def rowOf (t : Fin (cfg a).N) (r : Fin 256) : Fin 73728 := ⟨t.val * 256 + r.val, by have := t_lt a t; omega⟩

include hr in
theorem x_at (c : Dev nD) (t : Fin (cfg a).N) (q : Used a t) (r : Fin 256) (k : Fin 2048) :
    blkOf a m ρ c (0 : Fin 4) t (ix2 r k) = m ((c : Thread nD τ).loc main_arg2) (ix2 (rowOf a t r) k) := by
  unfold blkOf
  show m ((c : Thread nD τ).loc main_arg2) ((((cfg a).win (0 : Fin 4)).blk t).view.emb (ix2 r k)) = _
  refine congrArg _ (funext fun b => Fin.ext ?_)
  have h := index0 a hr t q
  fin_cases b
  · show ((cfg a).win (0 : Fin 4)).index t 0 * 256 + 1 * r.val = t.val * 256 + r.val
    rw [h]
    simp only [Matrix.cons_val_zero]
    omega
  · show ((cfg a).win (0 : Fin 4)).index t 1 * 2048 + 1 * k.val = k.val
    rw [h]
    simp [Matrix.cons_val_one]

/-- The expert of a point. -/
def ex (t : Fin (cfg a).N) : Fin 32 := ⟨BitVec.toNat (w := 32) (a.1 0 (entry (crd a t))) % 32, Nat.mod_lt _ (by decide)⟩

include hr in
theorem w_at (c : Dev nD) (t : Fin (cfg a).N) (k : Fin 2048) (q : Fin 2048) :
    blkOf a m ρ c (1 : Fin 4) t (ix3 0 k q) = m ((c : Thread nD τ).loc main_arg3) (ix3 (ex a t) k q) := by
  unfold blkOf
  show m ((c : Thread nD τ).loc main_arg3) ((((cfg a).win (1 : Fin 4)).blk t).view.emb (ix3 0 k q)) = _
  refine congrArg _ (funext fun b => Fin.ext ?_)
  have h := index1 a t
  have he := hr.expert (entry (crd a t))
  fin_cases b
  · show ((cfg a).win (1 : Fin 4)).index t 0 * 1 + 1 * 0 = BitVec.toNat (w := 32) (a.1 0 (entry (crd a t))) % 32
    rw [h]
    simp only [Matrix.cons_val_zero]
    omega
  · show ((cfg a).win (1 : Fin 4)).index t 1 * 2048 + 1 * k.val = k.val
    rw [h]
    simp [Matrix.cons_val_one]
  · show ((cfg a).win (1 : Fin 4)).index t 2 * 2048 + 1 * q.val = q.val
    rw [h]
    simp [Matrix.cons_val]

include hr in
theorem b_at (c : Dev nD) (t : Fin (cfg a).N) (q : Fin 2048) :
    blkOf a m ρ c (2 : Fin 4) t (ix3 0 0 q) = m ((c : Thread nD τ).loc main_arg4) (ix3 (ex a t) 0 q) := by
  unfold blkOf
  show m ((c : Thread nD τ).loc main_arg4) ((((cfg a).win (2 : Fin 4)).blk t).view.emb (ix3 0 0 q)) = _
  refine congrArg _ (funext fun b => Fin.ext ?_)
  have h := index2 a t
  have he := hr.expert (entry (crd a t))
  fin_cases b
  · show ((cfg a).win (2 : Fin 4)).index t 0 * 1 + 1 * 0 = BitVec.toNat (w := 32) (a.1 0 (entry (crd a t))) % 32
    rw [h]
    simp only [Matrix.cons_val_zero]
    omega
  · show ((cfg a).win (2 : Fin 4)).index t 1 * 1 + 1 * 0 = 0
    rw [h]
    simp [Matrix.cons_val_one]
  · show ((cfg a).win (2 : Fin 4)).index t 2 * 2048 + 1 * q.val = q.val
    rw [h]
    simp [Matrix.cons_val]

/-- The result's value at an array index, from the memory at the launch. -/
def want (c : Dev nD) (i : S73728x2048.Idx) : EReal :=
  whole (a.1 0) (m ((c : Thread nD τ).loc main_arg2)) (m ((c : Thread nD τ).loc main_arg3)) (m ((c : Thread nD τ).loc main_arg4)) (i 0) (i 1)

theorem exp_eq (t : Fin (cfg a).N) (r : Fin 256) : exp (a.1 0) (rowOf a t r) = ex a t := by
  have ht := t_lt a t
  have hc := coord_eq t
  refine Fin.ext (congrArg (fun j : S288.Idx => BitVec.toNat (w := 32) (a.1 0 j) % 32) (funext fun b : Fin 1 => Fin.ext ?_))
  obtain rfl : b = 0 := Subsingleton.elim _ _
  show (t.val * 256 + r.val) / 256 = (grid0.coords t 0).val
  omega

include hr in
/-- What a used point leaves in the result's buffer. -/
theorem traj_used (c : Dev nD) (t : Fin (cfg a).N) (q : Used a t) (r : Fin 256) (d : Fin 2048) :
    traj a m ρ c t.val t.isLt (ix2 r d) = want a m c (ix2 (rowOf a t r) d) := by
  rw [traj_eq, step_used a m ρ c t _ q]
  refine (outA_at _ _ _ _ _ _ _ _ _ _ _ _ _ _ _ _ (ix2 r d)).trans ?_
  have e : ∀ q, _ := val_eq (m ((c : Thread nD τ).loc main_arg2)) (m ((c : Thread nD τ).loc main_arg3)) (m ((c : Thread nD τ).loc main_arg4))
    (blkOf a m ρ c (0 : Fin 4) t) (blkOf a m ρ c (1 : Fin 4) t) (blkOf a m ρ c (2 : Fin 4) t) r (rowOf a t r) (exp (a.1 0) (rowOf a t r))
    (fun k => x_at a hr m ρ c t q r k) (fun k q => by rw [exp_eq]; exact w_at a hr m ρ c t k q) (fun q => by rw [exp_eq]; exact b_at a hr m ρ c t q)
  exact e _

include hr in
/-- The last used block stays in the result's buffer to the end. -/
theorem traj_stays (c : Dev nD) : ∀ (n : ℕ) (hn : nu a.1 - 1 + n < (cfg a).N),
    traj a m ρ c (nu a.1 - 1 + n) hn = traj a m ρ c (nu a.1 - 1) (by omega)
  | 0, _ => rfl
  | n + 1, hn => by
    have hu : ¬Used a ⟨nu a.1 - 1 + (n + 1), hn⟩ := fun h => by
      have := (used_iff a hr _).mp h
      simp only at this
      omega
    have e := traj_eq a m ρ c ⟨nu a.1 - 1 + (n + 1), hn⟩
    rw [step_unused a m ρ c _ _ hu, (sched_unused a hr _ hu).2] at e
    refine e.trans ?_
    unfold prev
    rw [if_neg (by decide), dif_neg (by simp)]
    exact traj_stays c n (by omega)

include hr in
/-- What is written back at a point is the result there. -/
theorem flushed_eq (c : Dev nD) (t : Fin (cfg a).N) (hf : ((cfg a).win (3 : Fin 4)).flush t = true) :
    (dats a m ρ 0 c).flushed (3 : Fin 4) t = (((cfg a).win (3 : Fin 4)).blk t).view.read (Elt Ideal) (want a m c) := by
  have ht := t_lt a t
  have h1 := hr.pos
  have h2 := hr.le
  rw [flush_eq a hr, Bool.or_eq_true, decide_eq_true_iff, decide_eq_true_iff] at hf
  obtain ⟨u, hu, he, hx⟩ : ∃ u : Fin (cfg a).N, Used a u ∧ traj a m ρ c t.val t.isLt = traj a m ρ c u.val u.isLt ∧ min t.val (nu a.1 - 1) = u.val := by
    have hN : (cfg a).N = 288 := N_0
    rcases hf with hf | hf
    · exact ⟨t, (used_iff a hr t).mpr (by omega), rfl, by omega⟩
    · refine ⟨⟨nu a.1 - 1, by omega⟩, (used_iff a hr _).mpr (by simp only; omega), ?_, by simp only; omega⟩
      have e := traj_stays a hr m ρ c (288 - nu a.1) (by omega)
      refine Eq.trans ?_ e
      congr 1
      omega
  funext y
  have hi := index3 a hr t
  rw [hx] at hi
  show traj a m ρ c t.val t.isLt y = want a m c ((((cfg a).win (3 : Fin 4)).blk t).view.emb y)
  rw [he]
  have ey : y = ix2 (y 0) (y 1) := funext fun b => by fin_cases b <;> rfl
  refine (congrArg (traj a m ρ c u.val u.isLt) ey).trans ((traj_used a hr m ρ c u hu (y 0) (y 1)).trans (congrArg (want a m c) (funext fun b => Fin.ext ?_)))
  fin_cases b
  · show u.val * 256 + (y 0).val = ((cfg a).win (3 : Fin 4)).index t 0 * 256 + 1 * (y 0).val
    rw [hi]
    simp only [Matrix.cons_val_zero]
    omega
  · show (y 1).val = ((cfg a).win (3 : Fin 4)).index t 1 * 2048 + 1 * (y 1).val
    rw [hi]
    simp [Matrix.cons_val_one]

include hr in
/-- The result array after the launch, at a row of a used block. -/
theorem result_at (c : Dev nD) (i : S73728x2048.Idx) (h : (i 0).val < nu a.1 * 256) :
    (dats a m ρ 0 c).arrAt (3 : Fin 4) (cfg a).N i = want a m c i := by
  have hN : (cfg a).N = 288 := N_0
  have h1 := hr.pos
  have h2 := hr.le
  have hq : (i 0).val / 256 < nu a.1 := by omega
  obtain ⟨t, hf, hx⟩ : ∃ t : Fin (cfg a).N, ((cfg a).win (3 : Fin 4)).flush t = true ∧ min t.val (nu a.1 - 1) = (i 0).val / 256 := by
    by_cases hl : (i 0).val / 256 + 1 < nu a.1
    · exact ⟨⟨(i 0).val / 256, by omega⟩, by rw [flush_eq a hr]; simp [hl], by simp only; omega⟩
    · exact ⟨⟨287, by omega⟩, by rw [flush_eq a hr]; simp, by simp only; omega⟩
  have hi := index3 a hr t
  rw [hx] at hi
  refine (dats a m ρ 0 c).arrAt_apply_of_mem (3 : Fin 4) (want a m c) (flushed_eq a hr m ρ c) (cfg a).N t i t.isLt hf ?_
  refine (((cfg a).win (3 : Fin 4)).emb_mem_blk_iff t i rfl).mpr fun b => ?_
  rw [hi]
  have h3 : (i 1).val < 2048 := (i 1).isLt
  fin_cases b
  · show (i 0).val / 256 * 256 ≤ (i 0).val ∧ (i 0).val < (i 0).val / 256 * 256 + 256
    omega
  · show 0 * 2048 ≤ (i 1).val ∧ (i 1).val < 0 * 2048 + 2048
    omega

end Cert.DownIdeal

end
-- ==== Proof.DownRef.lean ====
/-
  The second expert product's reference, named part by part over its arguments, and each part read at an index.
-/
module

public import proofs.«01_k».proof.Proof.Gen.Reference3Ideal.Run
public import proofs.«01_k».proof.Proof.DownValue
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.DownRef

open Cert.Reference3Ideal Cert.Reference3Ideal.Gen

/-- The experts' table as start indices, negative entries counted from the end. -/
def IDX (be : IVec S288 32) : IVec S288x1 32 :=
  broadcastInDim S288x1 ![0] bcast_S288_S288x1_0 (select (cmpi .slt be (broadcastInDim S288 ![] bcast_S_S288 (constantI S_ 32 0#32))) (addi be (broadcastInDim S288 ![] bcast_S_S288 (constantI S_ 32 32#32))) be)

/-- The products plus the biases. -/
def PRE (be : IVec S288 32) (X : FVec Ideal S73728x2048 .bf16) (W : FVec Ideal S32x2048x2048 .bf16) (B : FVec Ideal S32x1x2048 .f32) : FVec Ideal S288x256x2048 .f32 :=
  addf (Host.dotGeneral dot_S288x256x2048_S288x2048x2048_S288x256x2048_2_1_1_2_0_0 none (shapeCast _ (extf .f32 X bitsLt_bf16_f32) shapeCasts_S73728x2048_S288x256x2048) (Host.gather gather_S32x2048x2048_S288x1_S288x2048x2048_12_0_n_n_0_1_120482048 (extf .f32 W bitsLt_bf16_f32) (IDX be))) (broadcastInDim S288x256x2048 ![0, 1, 2] bcast_S288x1x2048_S288x256x2048_0_1_2 (Host.gather gather_S32x1x2048_S288x1_S288x1x2048_12_0_n_n_0_1_112048 B (IDX be)))

/-- The result. -/
def RES (H : FVec Ideal S288x256x2048 .f32) : FVec Ideal S73728x2048 .bf16 :=
  truncf .bf16 (shapeCast _ H shapeCasts_S288x256x2048_S73728x2048) bitsLt_bf16_f32

/-- An entry among the 32 experts is its own start index. -/
theorem idx_at (be : IVec S288 32) (n : Fin 288) (h : (be (ix1 n)).toNat < 32) : IDX be (ix2 n 0) = be (ix1 n) := by
  pointwise [IDX]
  unfold Scalar.select
  rw [if_neg]
  intro hc
  have e := IntOp.cmpi_slt.1 hc
  rw [BitVec.toInt_eq_toNat_of_lt (by omega)] at e
  simp at e
  omega

/-- Row `n` of the gathered weights is the matrix of the expert entry `n` names. -/
theorem gather_w (x : FVec Ideal S32x2048x2048 .f32) (idx : IVec S288x1 32) (n : Fin 288) (k : Fin 2048) (q : Fin 2048) (h : (idx (ix2 n 0)).toNat < 32) :
    Host.gather gather_S32x2048x2048_S288x1_S288x2048x2048_12_0_n_n_0_1_120482048 x idx (ix3 n k q) = x (ix3 ⟨(idx (ix2 n 0)).toNat, h⟩ k q) := by
  have hs : gather_S32x2048x2048_S288x1_S288x2048x2048_12_0_n_n_0_1_120482048.siIdx (ix3 n k q) ⟨0, by decide⟩ = ix2 n 0 := by
    funext b
    fin_cases b <;> rfl
  refine congrArg x (funext fun a => Fin.ext ?_)
  fin_cases a
  · show min (idx (gather_S32x2048x2048_S288x1_S288x2048x2048_12_0_n_n_0_1_120482048.siIdx (ix3 n k q) ⟨0, by decide⟩)).toInt.toNat 31 + 0 + 0 = (idx (ix2 n 0)).toNat
    rw [hs, BitVec.toInt_eq_toNat_of_lt (by omega)]
    simp only [Int.toNat_natCast]
    omega
  · show 0 + 0 + k.val = k.val
    omega
  · show 0 + 0 + q.val = q.val
    omega

/-- Row `n` of the gathered biases is the bias of the expert entry `n` names. -/
theorem gather_b (x : FVec Ideal S32x1x2048 .f32) (idx : IVec S288x1 32) (n : Fin 288) (q : Fin 2048) (h : (idx (ix2 n 0)).toNat < 32) :
    Host.gather gather_S32x1x2048_S288x1_S288x1x2048_12_0_n_n_0_1_112048 x idx (ix3 n 0 q) = x (ix3 ⟨(idx (ix2 n 0)).toNat, h⟩ 0 q) := by
  have hs : gather_S32x1x2048_S288x1_S288x1x2048_12_0_n_n_0_1_112048.siIdx (ix3 n 0 q) ⟨0, by decide⟩ = ix2 n 0 := by
    funext b
    fin_cases b <;> rfl
  refine congrArg x (funext fun a => Fin.ext ?_)
  fin_cases a
  · show min (idx (gather_S32x1x2048_S288x1_S288x1x2048_12_0_n_n_0_1_112048.siIdx (ix3 n 0 q) ⟨0, by decide⟩)).toInt.toNat 31 + 0 + 0 = (idx (ix2 n 0)).toNat
    rw [hs, BitVec.toInt_eq_toNat_of_lt (by omega)]
    simp only [Int.toNat_natCast]
    omega
  · rfl
  · show 0 + 0 + q.val = q.val
    omega

/-- The product at row `r` of block `n`, under the expert the table names. -/
theorem pre_at (be : IVec S288 32) (X : FVec Ideal S73728x2048 .bf16) (W : FVec Ideal S32x2048x2048 .bf16) (B : FVec Ideal S32x1x2048 .f32)
    (n : Fin 288) (r : Fin 256) (q : Fin 2048) (h : (be (ix1 n)).toNat < 32) :
    PRE be X W B (ix3 n r q) = Cert.DownIdeal.rowPre X W B ⟨n.val * 256 + r.val, by omega⟩ ⟨(be (ix1 n)).toNat, h⟩ q := by
  have hi := idx_at be n h
  have hlt : (IDX be (ix2 n 0)).toNat < 32 := by rw [hi]; exact h
  have he : (⟨(IDX be (ix2 n 0)).toNat, hlt⟩ : Fin 32) = ⟨(be (ix1 n)).toNat, h⟩ := Fin.ext (congrArg BitVec.toNat hi)
  pointwise [PRE]
  refine congrArg₂ (· + ·) (Finset.sum_congr rfl fun k _ => ?_) ?_
  · exact congrArg₂ (· * ·) rfl ((gather_w _ _ n _ q hlt).trans (congrArg (fun e => W (ix3 e _ q)) he))
  · exact (gather_b _ _ n q hlt).trans (congrArg (fun e => B (ix3 e 0 q)) he)

/-- The result at a row and column from the products. -/
theorem res_at (H : FVec Ideal S288x256x2048 .f32) (R : Fin 73728) (d : Fin 2048) :
    RES H (ix2 R d) = H (ix3 ⟨R.val / 256, by omega⟩ ⟨R.val % 256, by omega⟩ d) := by
  pointwise [RES]
  try rfl

/-- The reference at a row and column is that row times its block's expert. -/
theorem ref_at (be : IVec S288 32) (X : FVec Ideal S73728x2048 .bf16) (W : FVec Ideal S32x2048x2048 .bf16) (B : FVec Ideal S32x1x2048 .f32)
    (h : ∀ n, (be n).toNat < 32) (R : Fin 73728) (d : Fin 2048) :
    RES (PRE be X W B) (ix2 R d) = Cert.DownIdeal.whole be X W B R d := by
  have hn : R.val / 256 < 288 := by omega
  have hR : (⟨(⟨R.val / 256, hn⟩ : Fin 288).val * 256 + (⟨R.val % 256, Nat.mod_lt _ (by decide)⟩ : Fin 256).val, by simp only; omega⟩ : Fin 73728) = R := Fin.ext (by simp only; omega)
  have he : (⟨(be (ix1 ⟨R.val / 256, hn⟩)).toNat, h _⟩ : Fin 32) = Cert.DownIdeal.exp be R := Fin.ext (Nat.mod_eq_of_lt (h _)).symm
  have key (q : Fin 2048) : PRE be X W B (ix3 ⟨R.val / 256, hn⟩ ⟨R.val % 256, Nat.mod_lt _ (by decide)⟩ q) = Cert.DownIdeal.rowPre X W B R (Cert.DownIdeal.exp be R) q :=
    (pre_at be X W B _ _ q (h _)).trans (congrArg₂ (fun r e => Cert.DownIdeal.rowPre X W B r e q) hR he)
  exact (res_at _ R d).trans (key _)

end Cert.DownRef

end
-- ==== Proof.DownFinal.lean ====
/-
  The second expert product and its reference end with equal results on the rows of used blocks.
-/
module

public import proofs.«01_k».proof.Proof.DownIdealFrame
public import proofs.«01_k».proof.Proof.Gen.On_used_rows_down
public import proofs.«01_k».proof.Proof.DownRef

@[expose] public section

set_option maxRecDepth 16384

noncomputable section

namespace Cert.DownFinal

open Idealize.ShloMosaic
open Idealize.ShloMosaic.TcCoe Idealize.SL.Sem

/-- The reference runs, leaves its arguments as they were, and ends with every counter at zero. -/
theorem reference_frame : quiescent_Reference3Ideal (hReference3Ideal := Cert.Reference3Ideal.Gen.facts) := fun m ρ _ =>
  (θ_run _ _ _).mono (fun r h => ⟨fun c => (h c).2, Idealize.ShloMosaic.sem_eq_zero_of_no_sems (by decide) r.2⟩)
    (Cert.Reference3Ideal.Value.run (F := Ideal) m ρ)

/-- The kernel's result and the reference's agree on the rows of used blocks. -/
theorem equal_results : algebraic_Kernel3Ideal_Reference3Ideal_on_used_rows_down := by
  intro m g m' g' hpre hagree
  have hin := Cert.DownIdeal.adm_inRange m hpre
  have hsub : ∀ c : Dev Cert.Kernel3Ideal.nD, c = 0 := fun c => Subsingleton.elim _ _
  refine ⟨fun c i => Cert.DownIdeal.want (Cert.DownIdeal.adm m hpre) m c i, ?_, ?_⟩
  · refine (θ_run _ _ _).mono ?_ (Cert.DownIdeal.run (Cert.DownIdeal.adm m hpre) hin m g (Cert.DownIdeal.adm_holds m hpre))
    intro r hr c
    refine ⟨fun i hi => ?_, (hr.1 c).2⟩
    refine (congrFun (hr.1 c).1 i).trans (Cert.DownIdeal.result_at _ hin m g c i ?_)
    obtain rfl := hsub c
    exact Cert.DownPre.used_rows_lt _ _ _ _ _ _ (fun x => by rw [Cert.DownIdeal.z_unique x]; rfl) hin.le i hi
  · refine (θ_run _ _ _).mono ?_ (Cert.Reference3Ideal.Value.run (F := Ideal) m' g')
    intro r hr c
    refine ⟨fun i hi => ?_, (hr c).2⟩
    obtain rfl := hsub c
    refine (congrFun ((hr 0).1.trans (show _ = Cert.DownRef.RES (Cert.DownRef.PRE (m' ((0 : Dev Cert.Reference3Ideal.nD).tc.loc Cert.Reference3Ideal.main_arg0)) (m' ((0 : Dev Cert.Reference3Ideal.nD).tc.loc Cert.Reference3Ideal.main_arg2)) (m' ((0 : Dev Cert.Reference3Ideal.nD).tc.loc Cert.Reference3Ideal.main_arg3)) (m' ((0 : Dev Cert.Reference3Ideal.nD).tc.loc Cert.Reference3Ideal.main_arg4))) from rfl)) i).trans ?_
    rw [(hagree 0).1, (hagree 0).2.2.1, (hagree 0).2.2.2.1, (hagree 0).2.2.2.2]
    have hi2 : i = ix2 (i 0) (i 1) := eq_ix2 i
    rw [hi2]
    exact Cert.DownRef.ref_at _ _ _ _ hin.expert (i 0) (i 1)

end Cert.DownFinal

end
-- ==== Proof.InMath.lean ====
/-
  A normalized row by a column, as an expression of extended reals.
-/
module

public import Idealize.ShloMosaic.PureOps.Ideal

@[expose] public section

noncomputable section

namespace Cert.InMath

open Idealize.ShloMosaic

/-- Entry `k` of a row divided by the root of its mean square (made positive by a small constant) and scaled. -/
def nrm (x g : Fin 2048 → EReal) (k : Fin 2048) : EReal :=
  x k * Ideal.rsqrt (Ideal.div (∑ j, x j * x j) (Ideal.ofBits .f32 0x45000000#32) + Ideal.ofBits .f32 0x3727C5AC#32) * g k

/-- The normalized row by a column. -/
def lin (x g w : Fin 2048 → EReal) : EReal := ∑ k, nrm x g k * w k

/-- Equal entries give equal products. -/
theorem lin_congr {x x' g g' w w' : Fin 2048 → EReal} (hx : ∀ k, x k = x' k) (hg : ∀ k, g k = g' k) (hw : ∀ k, w k = w' k) :
    lin x g w = lin x' g' w' := by
  rw [funext hx, funext hg, funext hw]

/-- What turns a score into bits. -/
def bits : EReal := Ideal.ofBits .f32 0x3E0293EE#32

end Cert.InMath

end
-- ==== Proof.InBody.lean ====
/-
  What a block of the input projection stores, at a row and column.
-/
module

public import proofs.«01_k».proof.Proof.Gen.Kernel4Ideal.Value
public import Idealize.ShloMosaic.Lib.Pipeline.ValueKit
public import proofs.«01_k».proof.Proof.InMath
public import Idealize.ShloMosaic.Lib.Pointwise
public import Idealize.ShloMosaic.Lib.WordCmp

@[expose] public section

set_option maxRecDepth 16384

noncomputable section

namespace Cert.InBody

open Cert.Kernel4Ideal Cert.Kernel4Ideal.Gen
open Idealize.ShloMosaic Idealize.ShloMosaic.TcCoe Idealize.SL.Sem
open Idealize.ShloMosaic.Pipeline (Dat)

/-- A normalized entry. -/
theorem norm_at (x0 : Vec Ideal S512x2048 .f32) (x1 : Vec Ideal S1x2048 .f32) (r : Fin 512) (k : Fin 2048) :
    k0_pay4 x0 x1 (ix2 r k) = InMath.nrm (fun j => x0 (ix2 r j)) (fun j => x1 (ix2 0 j)) k := by
  pointwise [k0_pay4]
  rfl

/-- The sum a product reads. -/
theorem rows_at (x0 : Vec Ideal S512x2048 .f32) (x1 : Vec Ideal S1x2048 .f32) (x2 : Vec Ideal S2048x4608 .bf16) (r : Fin 512) (p : Fin 4608) :
    (∑ k : Fin 2048, (k0_pay4 x0 x1 (ix2 r k) : EReal) * x2 (ix2 k p)) = InMath.lin (fun j => x0 (ix2 r j)) (fun j => x1 (ix2 0 j)) (fun j => x2 (ix2 j p)) :=
  Finset.sum_congr rfl fun k _ => congrArg (· * (x2 (ix2 k p) : EReal)) (norm_at x0 x1 r k)

theorem q_at (x0 : Vec Ideal S512x2048 .f32) (x1 : Vec Ideal S1x2048 .f32) (x2 : Vec Ideal S2048x4608 .bf16) (x3 x4 : Vec Ideal S512x256 .f32) (r : Fin 512) (q : Fin 1024) :
    out0_5 x0 x1 x2 x3 x4 (ix2 r q) = InMath.lin (fun j => x0 (ix2 r j)) (fun j => x1 (ix2 0 j)) (fun j => x2 (ix2 j ⟨0 + q.val, by omega⟩)) * InMath.bits := by
  rw [← rows_at]
  unfold_out out0_5
  frame_out
  pointwise [k0_pay5]
  try simp only [Nat.zero_add]
  try rfl

theorem k_at (x0 : Vec Ideal S512x2048 .f32) (x1 : Vec Ideal S1x2048 .f32) (x2 : Vec Ideal S2048x4608 .bf16) (x3 x4 : Vec Ideal S512x256 .f32) (r : Fin 512) (q : Fin 1024) :
    out0_6 x0 x1 x2 x3 x4 (ix2 r q) = InMath.lin (fun j => x0 (ix2 r j)) (fun j => x1 (ix2 0 j)) (fun j => x2 (ix2 j ⟨1024 + q.val, by omega⟩)) := by
  rw [← rows_at]
  unfold_out out0_6
  frame_out
  pointwise [k0_pay6]
  try simp only [Nat.zero_add]
  try rfl

theorem v_at (x0 : Vec Ideal S512x2048 .f32) (x1 : Vec Ideal S1x2048 .f32) (x2 : Vec Ideal S2048x4608 .bf16) (x3 x4 : Vec Ideal S512x256 .f32) (r : Fin 512) (q : Fin 1024) :
    out0_7 x0 x1 x2 x3 x4 (ix2 r q) = InMath.lin (fun j => x0 (ix2 r j)) (fun j => x1 (ix2 0 j)) (fun j => x2 (ix2 j ⟨2048 + q.val, by omega⟩)) := by
  rw [← rows_at]
  unfold_out out0_7
  frame_out
  pointwise [k0_pay7]
  try simp only [Nat.zero_add]
  try rfl

theorem cq_at (x0 : Vec Ideal S512x2048 .f32) (x1 : Vec Ideal S1x2048 .f32) (x2 : Vec Ideal S2048x4608 .bf16) (x3 x4 : Vec Ideal S512x256 .f32) (r : Fin 512) (q : Fin 512) :
    out0_8 x0 x1 x2 x3 x4 (ix2 r q) = InMath.lin (fun j => x0 (ix2 r j)) (fun j => x1 (ix2 0 j)) (fun j => x2 (ix2 j ⟨3072 + q.val, by omega⟩)) := by
  rw [← rows_at]
  unfold_out out0_8
  frame_out
  pointwise [k0_pay1]
  try simp only [Nat.zero_add]
  try rfl

theorem ckv_at (x0 : Vec Ideal S512x2048 .f32) (x1 : Vec Ideal S1x2048 .f32) (x2 : Vec Ideal S2048x4608 .bf16) (x3 x4 : Vec Ideal S512x256 .f32) (r : Fin 512) (q : Fin 512) :
    out0_9 x0 x1 x2 x3 x4 (ix2 r q) = InMath.lin (fun j => x0 (ix2 r j)) (fun j => x1 (ix2 0 j)) (fun j => x2 (ix2 j ⟨3584 + q.val, by omega⟩)) := by
  rw [← rows_at]
  unfold_out out0_9
  frame_out
  pointwise [k0_pay2]
  try simp only [Nat.zero_add]
  try rfl

theorem kr_at (x0 : Vec Ideal S512x2048 .f32) (x1 : Vec Ideal S1x2048 .f32) (x2 : Vec Ideal S2048x4608 .bf16) (x3 x4 : Vec Ideal S512x256 .f32) (r : Fin 512) (q : Fin 256) :
    out0_10 x0 x1 x2 x3 x4 (ix2 r q) = InMath.lin (fun j => x0 (ix2 r j)) (fun j => x1 (ix2 0 j)) (fun j => x2 (ix2 j ⟨4096 + q.val, by omega⟩)) * x3 (ix2 r q)
      + InMath.lin (fun j => x0 (ix2 r j)) (fun j => x1 (ix2 0 j)) (fun j => x2 (ix2 j ⟨4352 + q.val, by omega⟩)) * x4 (ix2 r q) := by
  rw [← rows_at, ← rows_at]
  unfold_out out0_10
  frame_out
  pointwise [k0_pay3]

end Cert.InBody

end
-- ==== Proof.InRef.lean ====
/-
  The reference of the input projection, read at a row and column.
-/
module

public import proofs.«01_k».proof.Proof.Gen.Reference4Ideal.Run
public import Idealize.ShloMosaic.Lib.Pointwise
public import Idealize.ShloMosaic.Lib.WordCmp
public import proofs.«01_k».proof.Proof.InMath
public import Idealize.ShloMosaic.PureOps.Ideal

@[expose] public section

set_option maxRecDepth 16384

noncomputable section

namespace Cert.InRef

open Cert.Reference4Ideal Cert.Reference4Ideal.Gen
open Idealize.ShloMosaic Idealize.ShloMosaic.TcCoe Idealize.SL.Sem Idealize.ShloMosaic.StableHlo

/-- The normalized rows. -/
def NORM (X : FVec Ideal S16384x2048 .f32) (G : FVec Ideal S1x2048 .f32) : FVec Ideal S16384x2048 .f32 :=
  mulf (mulf X (broadcastInDim S16384x2048 ![0, 1] bcast_S16384x1_S16384x2048_0_1 (Host.rsqrt (addf (Host.divf (broadcastInDim S16384x1 ![0] bcast_S16384_S16384x1_0 (Host.reduceAdd (mulf X X) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x3727C5AC#32)))))) (broadcastInDim S16384x2048 ![0, 1] bcast_S1x2048_S16384x2048_0_1 G)

/-- The normalized rows by the matrix. -/
def ROWS (X : FVec Ideal S16384x2048 .f32) (G : FVec Ideal S1x2048 .f32) (W : FVec Ideal S2048x4608 .bf16) : FVec Ideal S16384x4608 .f32 :=
  Host.dotGeneral dot_S16384x2048_S2048x4608_S16384x4608_1_0_0_1_n_n none (NORM X G) (extf .f32 W bitsLt_bf16_f32)

/-- A position's table repeated for each sequence. -/
def TILE (C : FVec Ideal S8192x256 .f32) : FVec Ideal S16384x256 .f32 :=
  shapeCast _ (broadcastInDim S2x8192x1x256 ![0, 1, 2, 3] bcast_S1x8192x1x256_S2x8192x1x256_0_1_2_3 (shapeCast _ C shapeCasts_S8192x256_S1x8192x1x256)) shapeCasts_S2x8192x1x256_S16384x256

/-- The queries, in bits. -/
def Q (X : FVec Ideal S16384x2048 .f32) (G : FVec Ideal S1x2048 .f32) (W : FVec Ideal S2048x4608 .bf16) : FVec Ideal S16384x1024 .bf16 :=
  truncf .bf16 (mulf (extractStridedSlice S16384x1024 ![0, 0] (ROWS X G W) slices_S16384x4608_S16384x1024_0_0) (broadcastInDim S16384x1024 ![] bcast_S_S16384x1024 (constant S_ .f32 0x3E0293EE#32))) bitsLt_bf16_f32

/-- The keys. -/
def K (X : FVec Ideal S16384x2048 .f32) (G : FVec Ideal S1x2048 .f32) (W : FVec Ideal S2048x4608 .bf16) : FVec Ideal S16384x1024 .bf16 :=
  truncf .bf16 (extractStridedSlice S16384x1024 ![0, 1024] (ROWS X G W) slices_S16384x4608_S16384x1024_0_1024) bitsLt_bf16_f32

/-- The values. -/
def V (X : FVec Ideal S16384x2048 .f32) (G : FVec Ideal S1x2048 .f32) (W : FVec Ideal S2048x4608 .bf16) : FVec Ideal S16384x1024 .bf16 :=
  truncf .bf16 (extractStridedSlice S16384x1024 ![0, 2048] (ROWS X G W) slices_S16384x4608_S16384x1024_0_2048) bitsLt_bf16_f32

/-- The latent of the queries. -/
def CQ (X : FVec Ideal S16384x2048 .f32) (G : FVec Ideal S1x2048 .f32) (W : FVec Ideal S2048x4608 .bf16) : FVec Ideal S16384x512 .f32 :=
  extractStridedSlice S16384x512 ![0, 3072] (ROWS X G W) slices_S16384x4608_S16384x512_0_3072

/-- The latent of the keys and values. -/
def CKV (X : FVec Ideal S16384x2048 .f32) (G : FVec Ideal S1x2048 .f32) (W : FVec Ideal S2048x4608 .bf16) : FVec Ideal S16384x512 .f32 :=
  extractStridedSlice S16384x512 ![0, 3584] (ROWS X G W) slices_S16384x4608_S16384x512_0_3584

/-- The rotated shared key. -/
def KR (X : FVec Ideal S16384x2048 .f32) (G : FVec Ideal S1x2048 .f32) (W : FVec Ideal S2048x4608 .bf16) (C S : FVec Ideal S8192x256 .f32) : FVec Ideal S16384x256 .bf16 :=
  truncf .bf16 (addf (mulf (extractStridedSlice S16384x256 ![0, 4096] (ROWS X G W) slices_S16384x4608_S16384x256_0_4096) (TILE C)) (mulf (extractStridedSlice S16384x256 ![0, 4352] (ROWS X G W) slices_S16384x4608_S16384x256_0_4352) (TILE S))) bitsLt_bf16_f32

/-- A normalized entry. -/
theorem norm_at (X : FVec Ideal S16384x2048 .f32) (G : FVec Ideal S1x2048 .f32) (R : Fin 16384) (k : Fin 2048) :
    NORM X G (ix2 R k) = InMath.nrm (fun j => X (ix2 R j)) (fun j => G (ix2 0 j)) k := by
  pointwise [NORM]
  rfl

/-- A normalized row by a column. -/
theorem rows_at (X : FVec Ideal S16384x2048 .f32) (G : FVec Ideal S1x2048 .f32) (W : FVec Ideal S2048x4608 .bf16) (R : Fin 16384) (p : Fin 4608) :
    ROWS X G W (ix2 R p) = InMath.lin (fun j => X (ix2 R j)) (fun j => G (ix2 0 j)) (fun j => W (ix2 j p)) := by
  pointwise [ROWS]
  exact Finset.sum_congr rfl fun k _ => congrArg (· * (W (ix2 k p) : EReal)) (norm_at X G R k)

/-- A repeated table's entry. -/
theorem tile_at (C : FVec Ideal S8192x256 .f32) (R : Fin 16384) (q : Fin 256) :
    TILE C (ix2 R q) = C (ix2 ⟨R.val % 8192, by omega⟩ q) := by
  pointwise [TILE]

theorem q_at (X : FVec Ideal S16384x2048 .f32) (G : FVec Ideal S1x2048 .f32) (W : FVec Ideal S2048x4608 .bf16) (R : Fin 16384) (q : Fin 1024) :
    Q X G W (ix2 R q) = InMath.lin (fun j => X (ix2 R j)) (fun j => G (ix2 0 j)) (fun j => W (ix2 j ⟨0 + q.val, by omega⟩)) * InMath.bits := by
  have h := rows_at X G W R ⟨0 + q.val, by omega⟩
  rw [← h]
  pointwise [Q]
  try simp only [Nat.zero_add]
  try rfl

theorem k_at (X : FVec Ideal S16384x2048 .f32) (G : FVec Ideal S1x2048 .f32) (W : FVec Ideal S2048x4608 .bf16) (R : Fin 16384) (q : Fin 1024) :
    K X G W (ix2 R q) = InMath.lin (fun j => X (ix2 R j)) (fun j => G (ix2 0 j)) (fun j => W (ix2 j ⟨1024 + q.val, by omega⟩)) := by
  have h := rows_at X G W R ⟨1024 + q.val, by omega⟩
  rw [← h]
  pointwise [K]
  try simp only [Nat.zero_add]
  try rfl

theorem v_at (X : FVec Ideal S16384x2048 .f32) (G : FVec Ideal S1x2048 .f32) (W : FVec Ideal S2048x4608 .bf16) (R : Fin 16384) (q : Fin 1024) :
    V X G W (ix2 R q) = InMath.lin (fun j => X (ix2 R j)) (fun j => G (ix2 0 j)) (fun j => W (ix2 j ⟨2048 + q.val, by omega⟩)) := by
  have h := rows_at X G W R ⟨2048 + q.val, by omega⟩
  rw [← h]
  pointwise [V]
  try simp only [Nat.zero_add]
  try rfl

theorem cq_at (X : FVec Ideal S16384x2048 .f32) (G : FVec Ideal S1x2048 .f32) (W : FVec Ideal S2048x4608 .bf16) (R : Fin 16384) (q : Fin 512) :
    CQ X G W (ix2 R q) = InMath.lin (fun j => X (ix2 R j)) (fun j => G (ix2 0 j)) (fun j => W (ix2 j ⟨3072 + q.val, by omega⟩)) := by
  have h := rows_at X G W R ⟨3072 + q.val, by omega⟩
  rw [← h]
  pointwise [CQ]
  try simp only [Nat.zero_add]
  try rfl

theorem ckv_at (X : FVec Ideal S16384x2048 .f32) (G : FVec Ideal S1x2048 .f32) (W : FVec Ideal S2048x4608 .bf16) (R : Fin 16384) (q : Fin 512) :
    CKV X G W (ix2 R q) = InMath.lin (fun j => X (ix2 R j)) (fun j => G (ix2 0 j)) (fun j => W (ix2 j ⟨3584 + q.val, by omega⟩)) := by
  have h := rows_at X G W R ⟨3584 + q.val, by omega⟩
  rw [← h]
  pointwise [CKV]
  try simp only [Nat.zero_add]
  try rfl

theorem kr_at (X : FVec Ideal S16384x2048 .f32) (G : FVec Ideal S1x2048 .f32) (W : FVec Ideal S2048x4608 .bf16) (C S : FVec Ideal S8192x256 .f32) (R : Fin 16384) (q : Fin 256) :
    KR X G W C S (ix2 R q) = InMath.lin (fun j => X (ix2 R j)) (fun j => G (ix2 0 j)) (fun j => W (ix2 j ⟨4096 + q.val, by omega⟩)) * C (ix2 ⟨R.val % 8192, by omega⟩ q)
      + InMath.lin (fun j => X (ix2 R j)) (fun j => G (ix2 0 j)) (fun j => W (ix2 j ⟨4352 + q.val, by omega⟩)) * S (ix2 ⟨R.val % 8192, by omega⟩ q) := by
  have h := rows_at X G W R ⟨4096 + q.val, by omega⟩
  have h' := rows_at X G W R ⟨4352 + q.val, by omega⟩
  rw [← h, ← h', ← tile_at C R q, ← tile_at S R q]
  pointwise [KR]

end Cert.InRef

end
-- ==== Proof.InFinal.lean ====
/-
  The input projection's result arrays are its reference's.
-/
module

public import proofs.«01_k».proof.Defs
public import proofs.«01_k».proof.Proof.InBody
public import proofs.«01_k».proof.Proof.InRef
public import Idealize.ShloMosaic.Adequacy
public import Idealize.ShloMosaic.Init
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.InFinal

open Cert.Kernel4Ideal Cert.Kernel4Ideal.Gen

/-- The blocks each grid point reads and writes. -/
theorem idx : ∀ t : Fin cfg0.N, win0_0.index t = ![t.val, 0] ∧ win0_1.index t = ![0, 0] ∧ win0_2.index t = ![0, 0]
    ∧ win0_3.index t = ![t.val % 16, 0] ∧ win0_4.index t = ![t.val % 16, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0] :=
  (by decide +kernel : ∀ t : Fin grid0.N, _)

variable (m : (ℓ : Loc nD τ sig) → Buf (Elt Ideal) ℓ) (c : Dev nD) (t : Fin cfg0.N)

/-- Row `r` of block `t`. -/
def row (t : Fin cfg0.N) (r : Fin 512) : Fin 16384 := ⟨t.val * 512 + r.val, by have : t.val < 32 := t.isLt; omega⟩

theorem x_at (r : Fin 512) (k : Fin 2048) : iblk m c 0 t (ix2 r k) = m ((c : Thread nD τ).loc main_arg0) (ix2 (row t r) k) := by
  blk_ext [iblk, V, idx t, row]

theorem g_at (k : Fin 2048) : iblk m c 1 t (ix2 0 k) = m ((c : Thread nD τ).loc main_arg1) (ix2 0 k) := by
  blk_ext [iblk, V, idx t]

theorem w_at (k : Fin 2048) (p : Fin 4608) : iblk m c 2 t (ix2 k p) = m ((c : Thread nD τ).loc main_arg2) (ix2 k p) := by
  blk_ext [iblk, V, idx t]

theorem cos_at (r : Fin 512) (q : Fin 256) : iblk m c 3 t (ix2 r q) = m ((c : Thread nD τ).loc main_arg3) (ix2 ⟨(row t r).val % 8192, by omega⟩ q) := by
  blk_ext [iblk, V, idx t, row]

theorem sin_at (r : Fin 512) (q : Fin 256) : iblk m c 4 t (ix2 r q) = m ((c : Thread nD τ).loc main_arg4) (ix2 ⟨(row t r).val % 8192, by omega⟩ q) := by
  blk_ext [iblk, V, idx t, row]

/-- A product of a block's row is the array's. -/
theorem lin_at (r : Fin 512) (p : Fin 4608) :
    InMath.lin (fun j => iblk m c 0 t (ix2 r j)) (fun j => iblk m c 1 t (ix2 0 j)) (fun j => iblk m c 2 t (ix2 j p))
      = InMath.lin (fun j => m ((c : Thread nD τ).loc main_arg0) (ix2 (row t r) j)) (fun j => m ((c : Thread nD τ).loc main_arg1) (ix2 0 j))
          (fun j => m ((c : Thread nD τ).loc main_arg2) (ix2 j p)) :=
  InMath.lin_congr (fun j => x_at m c t r j) (fun j => g_at m c t j) (fun j => w_at m c t j p)

theorem q_emb (r : Fin 512) (q : Fin 1024) : ((cfg0.win 5).blk t).view.emb (ix2 r q) = ix2 (row t r) q := by
  blk_ext [idx t, row]

/-- The queries, in bits. -/
theorem q_final : (dats m 0 c).arrAt 5 cfg0.N = InRef.Q (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  idx_vars y
  refine (InBody.q_at _ _ _ _ _ _ _).trans ?_
  refine Eq.trans ?_ (congrArg (InRef.Q (m ((c : Thread nD τ).loc main_arg0)) (m ((c : Thread nD τ).loc main_arg1)) (m ((c : Thread nD τ).loc main_arg2))) (q_emb t _ _)).symm
  refine Eq.trans ?_ (InRef.q_at (m ((c : Thread nD τ).loc main_arg0)) (m ((c : Thread nD τ).loc main_arg1)) (m ((c : Thread nD τ).loc main_arg2)) _ _).symm
  exact congrArg (· * InMath.bits) (lin_at m c t _ _)

theorem k_emb (r : Fin 512) (q : Fin 1024) : ((cfg0.win 6).blk t).view.emb (ix2 r q) = ix2 (row t r) q := by
  blk_ext [idx t, row]

/-- The keys. -/
theorem k_final : (dats m 0 c).arrAt 6 cfg0.N = InRef.K (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  idx_vars y
  refine (InBody.k_at _ _ _ _ _ _ _).trans ?_
  refine Eq.trans ?_ (congrArg (InRef.K (m ((c : Thread nD τ).loc main_arg0)) (m ((c : Thread nD τ).loc main_arg1)) (m ((c : Thread nD τ).loc main_arg2))) (k_emb t _ _)).symm
  refine Eq.trans ?_ (InRef.k_at (m ((c : Thread nD τ).loc main_arg0)) (m ((c : Thread nD τ).loc main_arg1)) (m ((c : Thread nD τ).loc main_arg2)) _ _).symm
  exact lin_at m c t _ _

theorem v_emb (r : Fin 512) (q : Fin 1024) : ((cfg0.win 7).blk t).view.emb (ix2 r q) = ix2 (row t r) q := by
  blk_ext [idx t, row]

/-- The values. -/
theorem v_final : (dats m 0 c).arrAt 7 cfg0.N = InRef.V (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  idx_vars y
  refine (InBody.v_at _ _ _ _ _ _ _).trans ?_
  refine Eq.trans ?_ (congrArg (InRef.V (m ((c : Thread nD τ).loc main_arg0)) (m ((c : Thread nD τ).loc main_arg1)) (m ((c : Thread nD τ).loc main_arg2))) (v_emb t _ _)).symm
  refine Eq.trans ?_ (InRef.v_at (m ((c : Thread nD τ).loc main_arg0)) (m ((c : Thread nD τ).loc main_arg1)) (m ((c : Thread nD τ).loc main_arg2)) _ _).symm
  exact lin_at m c t _ _

theorem cq_emb (r : Fin 512) (q : Fin 512) : ((cfg0.win 8).blk t).view.emb (ix2 r q) = ix2 (row t r) q := by
  blk_ext [idx t, row]

/-- The latent of the queries. -/
theorem cq_final : (dats m 0 c).arrAt 8 cfg0.N = InRef.CQ (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]
  idx_vars y
  refine (InBody.cq_at _ _ _ _ _ _ _).trans ?_
  refine Eq.trans ?_ (congrArg (InRef.CQ (m ((c : Thread nD τ).loc main_arg0)) (m ((c : Thread nD τ).loc main_arg1)) (m ((c : Thread nD τ).loc main_arg2))) (cq_emb t _ _)).symm
  refine Eq.trans ?_ (InRef.cq_at (m ((c : Thread nD τ).loc main_arg0)) (m ((c : Thread nD τ).loc main_arg1)) (m ((c : Thread nD τ).loc main_arg2)) _ _).symm
  exact lin_at m c t _ _

theorem ckv_emb (r : Fin 512) (q : Fin 512) : ((cfg0.win 9).blk t).view.emb (ix2 r q) = ix2 (row t r) q := by
  blk_ext [idx t, row]

/-- The latent of the keys and values. -/
theorem ckv_final : (dats m 0 c).arrAt 9 cfg0.N = InRef.CKV (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]
  idx_vars y
  refine (InBody.ckv_at _ _ _ _ _ _ _).trans ?_
  refine Eq.trans ?_ (congrArg (InRef.CKV (m ((c : Thread nD τ).loc main_arg0)) (m ((c : Thread nD τ).loc main_arg1)) (m ((c : Thread nD τ).loc main_arg2))) (ckv_emb t _ _)).symm
  refine Eq.trans ?_ (InRef.ckv_at (m ((c : Thread nD τ).loc main_arg0)) (m ((c : Thread nD τ).loc main_arg1)) (m ((c : Thread nD τ).loc main_arg2)) _ _).symm
  exact lin_at m c t _ _

theorem kr_emb (r : Fin 512) (q : Fin 256) : ((cfg0.win 10).blk t).view.emb (ix2 r q) = ix2 (row t r) q := by
  blk_ext [idx t, row]

/-- The rotated shared key. -/
theorem kr_final : (dats m 0 c).arrAt 10 cfg0.N = InRef.KR (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 10 _ (by decide +kernel) fun t _ y => ?_
  blk_simp
  rw [after0_10]
  idx_vars y
  refine (InBody.kr_at _ _ _ _ _ _ _).trans ?_
  refine Eq.trans ?_ (congrArg (InRef.KR (m ((c : Thread nD τ).loc main_arg0)) (m ((c : Thread nD τ).loc main_arg1)) (m ((c : Thread nD τ).loc main_arg2)) (m ((c : Thread nD τ).loc main_arg3)) (m ((c : Thread nD τ).loc main_arg4))) (kr_emb t _ _)).symm
  refine Eq.trans ?_ (InRef.kr_at (m ((c : Thread nD τ).loc main_arg0)) (m ((c : Thread nD τ).loc main_arg1)) (m ((c : Thread nD τ).loc main_arg2)) (m ((c : Thread nD τ).loc main_arg3)) (m ((c : Thread nD τ).loc main_arg4)) _ _).symm
  exact congrArg₂ (· + ·) (congrArg₂ (· * ·) (lin_at m c t _ _) (cos_at m c t _ _)) (congrArg₂ (· * ·) (lin_at m c t _ _) (sin_at m c t _ _))

/-- The reference runs, leaves its arguments as they were, and ends with every counter at zero. -/
theorem reference_frame : quiescent_Reference4Ideal (hReference4Ideal := Cert.Reference4Ideal.Gen.facts) := fun m ρ _ =>
  (θ_run _ _ _).mono (fun r h => ⟨fun c => (h c).2.2.2.2.2.2, Idealize.ShloMosaic.sem_eq_zero_of_no_sems (by decide) r.2⟩)
    (Cert.Reference4Ideal.Value.run (F := Ideal) m ρ)

/-- The kernel's results are the reference's. -/
theorem equal_results : algebraic_Kernel4Ideal_Reference4Ideal (hKernel4Ideal := Cert.Kernel4Ideal.Gen.facts)
    (hReference4Ideal := Cert.Reference4Ideal.Gen.facts) := by
  intro m g m' g' _ hagree
  refine ⟨fun c => InRef.Q (m ((c : Thread nD τ).loc main_arg0)) (m ((c : Thread nD τ).loc main_arg1)) (m ((c : Thread nD τ).loc main_arg2)), fun c => InRef.K (m ((c : Thread nD τ).loc main_arg0)) (m ((c : Thread nD τ).loc main_arg1)) (m ((c : Thread nD τ).loc main_arg2)), fun c => InRef.V (m ((c : Thread nD τ).loc main_arg0)) (m ((c : Thread nD τ).loc main_arg1)) (m ((c : Thread nD τ).loc main_arg2)), fun c => InRef.CQ (m ((c : Thread nD τ).loc main_arg0)) (m ((c : Thread nD τ).loc main_arg1)) (m ((c : Thread nD τ).loc main_arg2)), fun c => InRef.CKV (m ((c : Thread nD τ).loc main_arg0)) (m ((c : Thread nD τ).loc main_arg1)) (m ((c : Thread nD τ).loc main_arg2)), fun c => InRef.KR (m ((c : Thread nD τ).loc main_arg0)) (m ((c : Thread nD τ).loc main_arg1)) (m ((c : Thread nD τ).loc main_arg2)) (m ((c : Thread nD τ).loc main_arg3)) (m ((c : Thread nD τ).loc main_arg4)), ?_, ?_⟩
  · refine (θ_run _ _ _).mono (fun r h c => ?_) (Cert.Kernel4Ideal.Value.run_blocks m g)
    obtain ⟨h5, h6, h7, h8, h9, h10, hr⟩ := h c
    exact ⟨h5.trans (q_final m c), h6.trans (k_final m c), h7.trans (v_final m c), h8.trans (cq_final m c), h9.trans (ckv_final m c), h10.trans (kr_final m c), hr⟩
  · refine (θ_run _ _ _).mono (fun r h c => ?_) (Cert.Reference4Ideal.Value.run (F := Ideal) m' g')
    obtain ⟨a0, a1, a2, a3, a4⟩ := hagree c
    obtain ⟨h5, h6, h7, h8, h9, h10, hr⟩ := h c
    beta_reduce
    rw [← a0, ← a1, ← a2, ← a3, ← a4]
    exact ⟨h5, h6, h7, h8, h9, h10, hr⟩

end Cert.InFinal

end
-- ==== Proof.RowMath.lean ====
/-
  Rows divided by the root of their mean square, as expressions of extended reals, and when they are real.
-/
module

public import Idealize.ShloMosaic.PureOps.Ideal

@[expose] public section

noncomputable section

namespace Cert.RowMath

open Idealize.ShloMosaic

/-- Being a real number. -/
def IsReal (x : EReal) : Prop := ∃ y : ℝ, x = (y : EReal)

/-- The small constant added to a mean square. -/
def eps : EReal := Ideal.ofBits .f32 0x3727C5AC#32

/-- Entry `k` of a row divided by the root of its mean square (`d` is the row's length) and scaled. -/
def nrm {n : ℕ} (d : EReal) (x g : Fin n → EReal) (k : Fin n) : EReal :=
  x k * Ideal.rsqrt (Ideal.div (∑ j, x j * x j) d + eps) * g k

/-- The normalized row by a column. -/
def lin {n : ℕ} (d : EReal) (x g w : Fin n → EReal) : EReal := ∑ k, nrm d x g k * w k

theorem nrm_congr {n : ℕ} {d : EReal} {x x' g g' : Fin n → EReal} (hx : ∀ k, x k = x' k) (hg : ∀ k, g k = g' k) (k : Fin n) :
    nrm d x g k = nrm d x' g' k := by
  rw [funext hx, funext hg]

/-- Equal entries give equal products. -/
theorem lin_congr {n : ℕ} {d : EReal} {x x' g g' w w' : Fin n → EReal} (hx : ∀ k, x k = x' k) (hg : ∀ k, g k = g' k)
    (hw : ∀ k, w k = w' k) : lin d x g w = lin d x' g' w' := by
  rw [funext hx, funext hg, funext hw]

/-- A number and two normalized rows by their columns. -/
def two {n : ℕ} (d x : EReal) (a g w b h v : Fin n → EReal) : EReal := x + lin d a g w + lin d b h v

theorem two_congr {n : ℕ} {d x x' : EReal} {a a' g g' w w' b b' h h' v v' : Fin n → EReal} (hx : x = x') (ha : ∀ k, a k = a' k)
    (hg : ∀ k, g k = g' k) (hw : ∀ k, w k = w' k) (hb : ∀ k, b k = b' k) (hh : ∀ k, h k = h' k) (hv : ∀ k, v k = v' k) :
    two d x a g w b h v = two d x' a' g' w' b' h' v' := by
  rw [hx, funext ha, funext hg, funext hw, funext hb, funext hh, funext hv]

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A real number less itself is nothing. -/
theorem IsReal.sub_self {x : EReal} (hx : IsReal x) : x - x = 0 := by
  obtain ⟨a, rfl⟩ := hx
  rw [← EReal.coe_sub, _root_.sub_self, EReal.coe_zero]

/-- A real number distributes over a sum one of whose terms is real. -/
theorem IsReal.mul_add {x z : EReal} (hx : IsReal x) (hz : IsReal z) (y : EReal) : x * (y + z) = x * y + x * z := by
  obtain ⟨a, rfl⟩ := hx
  obtain ⟨c, rfl⟩ := hz
  induction y using EReal.rec with
  | coe b => rw [← EReal.coe_add, ← EReal.coe_mul, ← EReal.coe_mul, ← EReal.coe_mul, ← EReal.coe_add, _root_.mul_add]
  | bot =>
    rw [EReal.bot_add]
    rcases lt_trichotomy a 0 with h | h | h
    · rw [EReal.coe_mul_bot_of_neg h, ← EReal.coe_mul, EReal.top_add_coe]
    · rw [h, EReal.coe_zero, zero_mul, zero_mul, add_zero]
    · rw [EReal.coe_mul_bot_of_pos h, EReal.bot_add]
  | top =>
    rw [EReal.top_add_coe]
    rcases lt_trichotomy a 0 with h | h | h
    · rw [EReal.coe_mul_top_of_neg h, EReal.bot_add]
    · rw [h, EReal.coe_zero, zero_mul, zero_mul, add_zero]
    · rw [EReal.coe_mul_top_of_pos h, ← EReal.coe_mul, EReal.top_add_coe]

theorem isReal_sum {ι : Type*} (s : Finset ι) (f : ι → EReal) (h : ∀ i, IsReal (f i)) : IsReal (∑ i ∈ s, f i) := by
  classical
  induction s using Finset.induction_on with
  | empty => exact ⟨0, by rw [Finset.sum_empty, EReal.coe_zero]⟩
  | insert a s ha ih => rw [Finset.sum_insert ha]; exact (h a).add ih

/-- The sum of the squares of real numbers is a real number that is not negative. -/
theorem squares_real {n : ℕ} (x : Fin n → EReal) (h : ∀ j, IsReal (x j)) : ∃ y : ℝ, 0 ≤ y ∧ (∑ j, x j * x j) = (y : EReal) := by
  obtain ⟨y, hy⟩ := isReal_sum Finset.univ (fun j => x j * x j) fun j => (h j).mul (h j)
  refine ⟨y, ?_, hy⟩
  have h0 : (0 : EReal) ≤ ∑ j, x j * x j := Finset.sum_nonneg fun j _ => by
    obtain ⟨a, ha⟩ := h j
    rw [ha, ← EReal.coe_mul]
    exact_mod_cast mul_self_nonneg a
  rw [hy] at h0
  exact_mod_cast h0

theorem eps_pos : ∃ e : ℝ, 0 < e ∧ eps = (e : EReal) := by
  refine ⟨_, ?_, by unfold eps; simp [Ideal.ofBits, Ideal.ieee]; rfl⟩
  positivity

theorem square_nonneg (x : EReal) : 0 ≤ x * x := by
  induction x using EReal.rec with
  | bot => rw [EReal.bot_mul_bot]; exact le_top
  | top => rw [EReal.top_mul_top]; exact le_top
  | coe a => rw [← EReal.coe_mul]; exact_mod_cast mul_self_nonneg a

/-- The sum of the squares of a row with an entry that is not real is infinite. -/
theorem squares_top {n : ℕ} (x : Fin n → EReal) (j : Fin n) (h : ¬ IsReal (x j)) : (∑ j, x j * x j) = ⊤ := by
  have hj : x j * x j = ⊤ := by
    generalize x j = z at h
    induction z using EReal.rec with
    | bot => exact EReal.bot_mul_bot
    | top => exact EReal.top_mul_top
    | coe a => exact absurd ⟨a, rfl⟩ h
  rw [← Finset.add_sum_erase _ _ (Finset.mem_univ j), hj]
  refine EReal.top_add_of_ne_bot fun hb => ?_
  have h0 : (0 : EReal) ≤ ∑ k ∈ Finset.univ.erase j, x k * x k := Finset.sum_nonneg fun k _ => square_nonneg (x k)
  rw [hb] at h0
  exact absurd h0 (by simp)

/-- A normalized row is real where its scale is: with an infinite entry the mean square is infinite and its inverse root is zero. -/
theorem nrm_real {n : ℕ} {d : EReal} {x g : Fin n → EReal} (hd : ∃ r : ℝ, 0 < r ∧ d = (r : EReal)) (hg : ∀ j, IsReal (g j)) (k : Fin n) :
    IsReal (nrm d x g k) := by
  obtain ⟨r, hr, rfl⟩ := hd
  obtain ⟨e, he, hee⟩ := eps_pos
  refine IsReal.mul ?_ (hg k)
  by_cases hx : ∀ j, IsReal (x j)
  · obtain ⟨s, hs, hsum⟩ := squares_real x hx
    refine (hx k).mul ?_
    rw [hsum, hee, Ideal.div_coe hr.ne', ← EReal.coe_mul, ← EReal.coe_add, Ideal.rsqrt_coe]
    have hp : 0 < s * (1 / r) + e := by positivity
    rw [if_neg (not_lt.2 hp.le), if_neg hp.ne']
    exact ⟨_, rfl⟩
  · obtain ⟨j, hj⟩ := not_forall.1 hx
    rw [squares_top x j hj, hee, Ideal.div_coe hr.ne', EReal.top_mul_coe_of_pos (one_div_pos.2 hr), EReal.top_add_coe, Ideal.rsqrt_top, mul_zero]
    exact ⟨0, EReal.coe_zero.symm⟩

/-- A product with the part below, the difference of a row and itself, and with the two parts of a matrix adds up to the product with
    their sum, where the row and the lower part are real. -/
theorem parts {n : ℕ} {h a b : Fin n → EReal} (hh : ∀ k, IsReal (h k)) (hb : ∀ k, IsReal (b k)) :
    (∑ k, h k * a k) + (∑ k, (h k - h k) * a k) + (∑ k, h k * b k) = ∑ k, h k * (a k + b k) := by
  have h0 : (∑ k, (h k - h k) * a k) = 0 := Finset.sum_eq_zero fun k _ => by rw [(hh k).sub_self, zero_mul]
  rw [h0, add_zero, ← Finset.sum_add_distrib]
  exact Finset.sum_congr rfl fun k _ => ((hh k).mul_add (hb k) (a k)).symm

/-- An extended real whose size is below the top is real. -/
theorem isReal_of_size (x : EReal) (h : Ideal.cmp .olt (max x (-x)) (Ideal.ofBits .f32 0x7F800000#32) = 1#1) : IsReal x := by
  have ht : Ideal.ofBits .f32 0x7F800000#32 = ⊤ := by simp [Ideal.ofBits, Ideal.ieee]
  rw [ht] at h
  induction x using EReal.rec with
  | bot => simp [Ideal.cmp] at h
  | top => simp [Ideal.cmp] at h
  | coe y => exact ⟨y, rfl⟩

end Cert.RowMath

end
-- ==== Proof.LatRef.lean ====
/-
  The reference of the latent's products, read at a row and column.
-/
module

public import proofs.«01_k».proof.Proof.Gen.Reference5Ideal.Run
public import Idealize.ShloMosaic.Lib.Pointwise
public import Idealize.ShloMosaic.Lib.WordCmp
public import proofs.«01_k».proof.Proof.RowMath
public import Idealize.ShloMosaic.PureOps.Ideal

@[expose] public section

set_option maxRecDepth 16384

noncomputable section

namespace Cert.LatRef

open Cert.Reference5Ideal Cert.Reference5Ideal.Gen
open Idealize.ShloMosaic Idealize.ShloMosaic.TcCoe Idealize.SL.Sem Idealize.ShloMosaic.StableHlo

/-- A row's length. -/
def d : EReal := Ideal.ofBits .f32 0x44000000#32

/-- What turns a score into bits. -/
def bits : EReal := Ideal.ofBits .f32 0x3DD53B95#32

/-- The normalized rows. -/
def NORM (X : FVec Ideal S16384x512 .f32) (G : FVec Ideal S1x512 .f32) : FVec Ideal S16384x512 .f32 :=
  mulf (mulf X (broadcastInDim S16384x512 ![0, 1] bcast_S16384x1_S16384x512_0_1 (Host.rsqrt (addf (Host.divf (broadcastInDim S16384x1 ![0] bcast_S16384_S16384x1_0 (Host.reduceAdd (mulf X X) (constant S_ .f32 0x00000000#32) reducesTo_S16384x512_S16384_d1 h_S_)) (broadcastInDim S16384x1 ![] bcast_S_S16384x1 (constant S_ .f32 0x44000000#32))) (broadcastInDim S16384x1 ![] bcast_S_S16384x1 (constant S_ .f32 0x3727C5AC#32)))))) (broadcastInDim S16384x512 ![0, 1] bcast_S1x512_S16384x512_0_1 G)

/-- The normalized rows by a matrix of all heads. -/
def ROWS (X : FVec Ideal S16384x512 .f32) (G : FVec Ideal S1x512 .f32) (W : FVec Ideal S512x2048 .bf16) : FVec Ideal S16384x2048 .f32 :=
  Host.dotGeneral dot_S16384x512_S512x2048_S16384x2048_1_0_0_1_n_n none (NORM X G) (extf .f32 W bitsLt_bf16_f32)

/-- A position's table repeated for each sequence. -/
def TILE (C : FVec Ideal S8192x256 .f32) : FVec Ideal S16384x256 .f32 :=
  shapeCast _ (broadcastInDim S2x8192x1x256 ![0, 1, 2, 3] bcast_S1x8192x1x256_S2x8192x1x256_0_1_2_3 (shapeCast _ C shapeCasts_S8192x256_S1x8192x1x256)) shapeCasts_S2x8192x1x256_S16384x256

/-- A row repeated for each head. -/
def HEADS (C : FVec Ideal S16384x256 .f32) : FVec Ideal S16384x8x256 .f32 :=
  broadcastInDim S16384x8x256 ![0, 1, 2] bcast_S16384x1x256_S16384x8x256_0_1_2 (broadcastInDim S16384x1x256 ![0, 2] bcast_S16384x256_S16384x1x256_0_2 C)

/-- The rotated queries head by head, in bits. -/
def QH (X : FVec Ideal S16384x512 .f32) (G : FVec Ideal S1x512 .f32) (A B : FVec Ideal S512x2048 .bf16) (C S : FVec Ideal S8192x256 .f32) : FVec Ideal S16384x8x256 .f32 :=
  mulf (addf (mulf (shapeCast _ (ROWS X G A) shapeCasts_S16384x2048_S16384x8x256) (HEADS (TILE C))) (mulf (shapeCast _ (ROWS X G B) shapeCasts_S16384x2048_S16384x8x256) (HEADS (TILE S)))) (broadcastInDim S16384x8x256 ![] bcast_S_S16384x8x256 (constant S_ .f32 0x3DD53B95#32))

/-- The rotated queries, in bits. -/
def Q (X : FVec Ideal S16384x512 .f32) (G : FVec Ideal S1x512 .f32) (A B : FVec Ideal S512x2048 .bf16) (C S : FVec Ideal S8192x256 .f32) : FVec Ideal S16384x2048 .bf16 :=
  truncf .bf16 (shapeCast S16384x2048 (QH X G A B C S) shapeCasts_S16384x8x256_S16384x2048) bitsLt_bf16_f32

/-- The keys head by head, with the shared key added. -/
def KH (X : FVec Ideal S16384x512 .f32) (G : FVec Ideal S1x512 .f32) (W : FVec Ideal S512x2048 .bf16) (E : FVec Ideal S16384x256 .bf16) : FVec Ideal S16384x8x256 .f32 :=
  addf (shapeCast _ (ROWS X G W) shapeCasts_S16384x2048_S16384x8x256) (HEADS (extf .f32 E bitsLt_bf16_f32))

/-- The keys, with the shared key added. -/
def K (X : FVec Ideal S16384x512 .f32) (G : FVec Ideal S1x512 .f32) (W : FVec Ideal S512x2048 .bf16) (E : FVec Ideal S16384x256 .bf16) : FVec Ideal S16384x2048 .bf16 :=
  truncf .bf16 (shapeCast S16384x2048 (KH X G W E) shapeCasts_S16384x8x256_S16384x2048) bitsLt_bf16_f32

/-- The values. -/
def V (X : FVec Ideal S16384x512 .f32) (G : FVec Ideal S1x512 .f32) (W : FVec Ideal S512x1024 .bf16) : FVec Ideal S16384x1024 .bf16 :=
  truncf .bf16 (Host.dotGeneral dot_S16384x512_S512x1024_S16384x1024_1_0_0_1_n_n none (NORM X G) (extf .f32 W bitsLt_bf16_f32)) bitsLt_bf16_f32

/-- A normalized entry. -/
theorem norm_at (X : FVec Ideal S16384x512 .f32) (G : FVec Ideal S1x512 .f32) (R : Fin 16384) (k : Fin 512) :
    NORM X G (ix2 R k) = RowMath.nrm d (fun j => X (ix2 R j)) (fun j => G (ix2 0 j)) k := by
  pointwise [NORM]
  rfl

/-- A normalized row by a column. -/
theorem rows_at (X : FVec Ideal S16384x512 .f32) (G : FVec Ideal S1x512 .f32) (W : FVec Ideal S512x2048 .bf16) (R : Fin 16384) (p : Fin 2048) :
    ROWS X G W (ix2 R p) = RowMath.lin d (fun j => X (ix2 R j)) (fun j => G (ix2 0 j)) (fun j => W (ix2 j p)) := by
  pointwise [ROWS]
  exact Finset.sum_congr rfl fun k _ => congrArg (· * (W (ix2 k p) : EReal)) (norm_at X G R k)

/-- A repeated table's entry. -/
theorem tile_at (C : FVec Ideal S8192x256 .f32) (R : Fin 16384) (q : Fin 256) :
    TILE C (ix2 R q) = C (ix2 ⟨R.val % 8192, by omega⟩ q) := by
  pointwise [TILE]

/-- A row repeated for each head, at a head and column. -/
theorem heads_at (C : FVec Ideal S16384x256 .f32) (R : Fin 16384) (h : Fin 8) (q : Fin 256) : HEADS C (ix3 R h q) = C (ix2 R q) := by
  pointwise [HEADS]

/-- A row of all heads taken apart, at a head and column. -/
theorem apart_at (Y : FVec Ideal S16384x2048 .f32) (R : Fin 16384) (h : Fin 8) (q : Fin 256) :
    (shapeCast S16384x8x256 Y shapeCasts_S16384x2048_S16384x8x256 : FVec Ideal S16384x8x256 .f32) (ix3 R h q) = Y (ix2 R ⟨h.val * 256 + q.val, by omega⟩) := by
  pointwise []

/-- Rows of heads put together, at a column. -/
theorem together_at (Y : FVec Ideal S16384x8x256 .f32) (R : Fin 16384) (p : Fin 2048) :
    (shapeCast S16384x2048 Y shapeCasts_S16384x8x256_S16384x2048 : FVec Ideal S16384x2048 .f32) (ix2 R p)
      = Y (ix3 R ⟨p.val / 256, by omega⟩ ⟨p.val % 256, by omega⟩) := by
  pointwise []

theorem column (p : Fin 2048) : (⟨p.val / 256 * 256 + p.val % 256, by omega⟩ : Fin 2048) = p := Fin.ext (by show p.val / 256 * 256 + p.val % 256 = p.val; omega)

theorem q_at (X : FVec Ideal S16384x512 .f32) (G : FVec Ideal S1x512 .f32) (A B : FVec Ideal S512x2048 .bf16) (C S : FVec Ideal S8192x256 .f32) (R : Fin 16384) (p : Fin 2048) :
    Q X G A B C S (ix2 R p) = (RowMath.lin d (fun j => X (ix2 R j)) (fun j => G (ix2 0 j)) (fun j => A (ix2 j p)) * C (ix2 ⟨R.val % 8192, by omega⟩ ⟨p.val % 256, by omega⟩)
      + RowMath.lin d (fun j => X (ix2 R j)) (fun j => G (ix2 0 j)) (fun j => B (ix2 j p)) * S (ix2 ⟨R.val % 8192, by omega⟩ ⟨p.val % 256, by omega⟩)) * bits := by
  rw [← rows_at, ← rows_at, ← tile_at C, ← tile_at S]
  refine (show Q X G A B C S (ix2 R p) = shapeCast S16384x2048 (QH X G A B C S) shapeCasts_S16384x8x256_S16384x2048 (ix2 R p) from rfl).trans ((together_at _ R p).trans ?_)
  generalize hh : (⟨p.val / 256, by omega⟩ : Fin 8) = h
  generalize hq : (⟨p.val % 256, by omega⟩ : Fin 256) = q
  have e : (⟨h.val * 256 + q.val, by omega⟩ : Fin 2048) = p := by subst hh; subst hq; exact column p
  have h1 : QH X G A B C S (ix3 R h q) = ((shapeCast S16384x8x256 (ROWS X G A) shapeCasts_S16384x2048_S16384x8x256 : FVec Ideal S16384x8x256 .f32) (ix3 R h q) * HEADS (TILE C) (ix3 R h q)
      + (shapeCast S16384x8x256 (ROWS X G B) shapeCasts_S16384x2048_S16384x8x256 : FVec Ideal S16384x8x256 .f32) (ix3 R h q) * HEADS (TILE S) (ix3 R h q)) * bits := by
    unfold QH
    generalize HEADS (TILE C) = C'
    generalize HEADS (TILE S) = S'
    generalize (shapeCast S16384x8x256 (ROWS X G A) shapeCasts_S16384x2048_S16384x8x256 : FVec Ideal S16384x8x256 .f32) = A'
    generalize (shapeCast S16384x8x256 (ROWS X G B) shapeCasts_S16384x2048_S16384x8x256 : FVec Ideal S16384x8x256 .f32) = B'
    pointwise []
    rfl
  rw [h1, apart_at, apart_at, heads_at, heads_at, e]

theorem k_at (X : FVec Ideal S16384x512 .f32) (G : FVec Ideal S1x512 .f32) (W : FVec Ideal S512x2048 .bf16) (E : FVec Ideal S16384x256 .bf16) (R : Fin 16384) (p : Fin 2048) :
    K X G W E (ix2 R p) = RowMath.lin d (fun j => X (ix2 R j)) (fun j => G (ix2 0 j)) (fun j => W (ix2 j p)) + (E (ix2 R ⟨p.val % 256, by omega⟩) : EReal) := by
  rw [← rows_at]
  refine (show K X G W E (ix2 R p) = shapeCast S16384x2048 (KH X G W E) shapeCasts_S16384x8x256_S16384x2048 (ix2 R p) from rfl).trans ((together_at _ R p).trans ?_)
  generalize hh : (⟨p.val / 256, by omega⟩ : Fin 8) = h
  generalize hq : (⟨p.val % 256, by omega⟩ : Fin 256) = q
  have e : (⟨h.val * 256 + q.val, by omega⟩ : Fin 2048) = p := by subst hh; subst hq; exact column p
  have h1 : KH X G W E (ix3 R h q) = (shapeCast S16384x8x256 (ROWS X G W) shapeCasts_S16384x2048_S16384x8x256 : FVec Ideal S16384x8x256 .f32) (ix3 R h q)
      + HEADS (extf .f32 E bitsLt_bf16_f32) (ix3 R h q) := rfl
  rw [h1, apart_at, heads_at, e]
  rfl

theorem v_at (X : FVec Ideal S16384x512 .f32) (G : FVec Ideal S1x512 .f32) (W : FVec Ideal S512x1024 .bf16) (R : Fin 16384) (p : Fin 1024) :
    V X G W (ix2 R p) = RowMath.lin d (fun j => X (ix2 R j)) (fun j => G (ix2 0 j)) (fun j => W (ix2 j p)) := by
  pointwise [V]
  exact Finset.sum_congr rfl fun k _ => congrArg (· * (W (ix2 k p) : EReal)) (norm_at X G R k)

end Cert.LatRef

end
-- ==== Proof.LatBody.lean ====
/-
  What a block of the latent's products stores, at a row and column.
-/
module

public import proofs.«01_k».proof.Proof.Gen.Kernel5Ideal.Value
public import Idealize.ShloMosaic.Lib.Pipeline.ValueKit
public import proofs.«01_k».proof.Proof.LatRef
public import Idealize.ShloMosaic.Lib.Pointwise
public import Idealize.ShloMosaic.Lib.WordCmp

@[expose] public section

set_option maxRecDepth 16384

noncomputable section

namespace Cert.LatBody

open Cert.Kernel5Ideal Cert.Kernel5Ideal.Gen
open Idealize.ShloMosaic Idealize.ShloMosaic.TcCoe Idealize.SL.Sem
open Idealize.ShloMosaic.Pipeline (Dat)

/-- A normalized entry of the queries' latent. -/
theorem normq_at (x0 : Vec Ideal S512x512 .f32) (x1 : Vec Ideal S512x512 .f32) (x2 : Vec Ideal S1x512 .f32) (x3 : Vec Ideal S1x512 .f32) (x4 : Vec Ideal S512x2048 .bf16) (x5 : Vec Ideal S512x2048 .bf16) (x6 : Vec Ideal S512x2048 .bf16) (x7 : Vec Ideal S512x1024 .bf16) (x8 : Vec Ideal S512x256 .bf16) (x9 : Vec Ideal S512x256 .f32) (x10 : Vec Ideal S512x256 .f32) (r : Fin 512) (k : Fin 512) :
    k0_pay22 x0 x1 x2 x3 x4 x5 x6 x7 x8 x9 x10 (ix2 r k) = RowMath.nrm LatRef.d (fun j => x0 (ix2 r j)) (fun j => x2 (ix2 0 j)) k := by
  pointwise [k0_pay22, k0_pay3]
  rfl

/-- A normalized entry of the keys' and values' latent. -/
theorem normk_at (x0 : Vec Ideal S512x512 .f32) (x1 : Vec Ideal S512x512 .f32) (x2 : Vec Ideal S1x512 .f32) (x3 : Vec Ideal S1x512 .f32) (x4 : Vec Ideal S512x2048 .bf16) (x5 : Vec Ideal S512x2048 .bf16) (x6 : Vec Ideal S512x2048 .bf16) (x7 : Vec Ideal S512x1024 .bf16) (x8 : Vec Ideal S512x256 .bf16) (x9 : Vec Ideal S512x256 .f32) (x10 : Vec Ideal S512x256 .f32) (r : Fin 512) (k : Fin 512) :
    k0_pay23 x0 x1 x2 x3 x4 x5 x6 x7 x8 x9 x10 (ix2 r k) = RowMath.nrm LatRef.d (fun j => x1 (ix2 r j)) (fun j => x3 (ix2 0 j)) k := by
  pointwise [k0_pay23, k0_pay4]
  rfl

/-- The shared key. -/
theorem shared_at (x0 : Vec Ideal S512x512 .f32) (x1 : Vec Ideal S512x512 .f32) (x2 : Vec Ideal S1x512 .f32) (x3 : Vec Ideal S1x512 .f32) (x4 : Vec Ideal S512x2048 .bf16) (x5 : Vec Ideal S512x2048 .bf16) (x6 : Vec Ideal S512x2048 .bf16) (x7 : Vec Ideal S512x1024 .bf16) (x8 : Vec Ideal S512x256 .bf16) (x9 : Vec Ideal S512x256 .f32) (x10 : Vec Ideal S512x256 .f32) (r : Fin 512) (q : Fin 256) : k0_pay24 x0 x1 x2 x3 x4 x5 x6 x7 x8 x9 x10 (ix2 r q) = x8 (ix2 r q) := by
  pointwise [k0_pay24, k0_pay5]

/-- The table of a block. -/
theorem table_at (x : Vec Ideal S512x256 .f32) (r : Fin 512) (q : Fin 256) : View.ld x r0_2 (ix2 r q) = x (ix2 r q) := by
  pointwise []

/-- A head's rotated queries. -/
theorem headq_at (a : FVec Ideal S512x512 .bf16) (c s : Vec Ideal S512x256 .f32) (w v : Vec Ideal S512x256 .bf16) (r : Fin 512) (q : Fin 256) :
    k0_pay9 a c s w v (ix2 r q) = ((∑ k : Fin 512, (a (ix2 r k) : EReal) * w (ix2 k q)) * c (ix2 r q) + (∑ k : Fin 512, (a (ix2 r k) : EReal) * v (ix2 k q)) * s (ix2 r q)) * LatRef.bits := by
  pointwise [k0_pay9]
  try rfl

/-- A head's keys. -/
theorem headk_at (a : FVec Ideal S512x512 .bf16) (e : FVec Ideal S512x256 .f32) (w : Vec Ideal S512x256 .bf16) (r : Fin 512) (q : Fin 256) :
    k0_pay8 a e w (ix2 r q) = (∑ k : Fin 512, (a (ix2 r k) : EReal) * w (ix2 k q)) + (e (ix2 r q) : EReal) := by
  pointwise [k0_pay8]
  try rfl

theorem cut0 (x : Vec Ideal S512x2048 .bf16) (k : Fin 512) (q : Fin 256) (p : Fin 2048) (hp : p.val = 0 + q.val) : View.ld x r0_3 (ix2 k q) = x (ix2 k p) :=
  View.ld_unit_apply_of x _ _ _ _ (ix2 k p) fun a => by
    match a with
    | ⟨0, _⟩ => exact (Nat.zero_add _).symm
    | ⟨1, _⟩ => exact hp

theorem cut256 (x : Vec Ideal S512x2048 .bf16) (k : Fin 512) (q : Fin 256) (p : Fin 2048) (hp : p.val = 256 + q.val) : View.ld x r0_4 (ix2 k q) = x (ix2 k p) :=
  View.ld_unit_apply_of x _ _ _ _ (ix2 k p) fun a => by
    match a with
    | ⟨0, _⟩ => exact (Nat.zero_add _).symm
    | ⟨1, _⟩ => exact hp

theorem cut512 (x : Vec Ideal S512x2048 .bf16) (k : Fin 512) (q : Fin 256) (p : Fin 2048) (hp : p.val = 512 + q.val) : View.ld x r0_5 (ix2 k q) = x (ix2 k p) :=
  View.ld_unit_apply_of x _ _ _ _ (ix2 k p) fun a => by
    match a with
    | ⟨0, _⟩ => exact (Nat.zero_add _).symm
    | ⟨1, _⟩ => exact hp

theorem cut768 (x : Vec Ideal S512x2048 .bf16) (k : Fin 512) (q : Fin 256) (p : Fin 2048) (hp : p.val = 768 + q.val) : View.ld x r0_6 (ix2 k q) = x (ix2 k p) :=
  View.ld_unit_apply_of x _ _ _ _ (ix2 k p) fun a => by
    match a with
    | ⟨0, _⟩ => exact (Nat.zero_add _).symm
    | ⟨1, _⟩ => exact hp

theorem cut1024 (x : Vec Ideal S512x2048 .bf16) (k : Fin 512) (q : Fin 256) (p : Fin 2048) (hp : p.val = 1024 + q.val) : View.ld x r0_7 (ix2 k q) = x (ix2 k p) :=
  View.ld_unit_apply_of x _ _ _ _ (ix2 k p) fun a => by
    match a with
    | ⟨0, _⟩ => exact (Nat.zero_add _).symm
    | ⟨1, _⟩ => exact hp

theorem cut1280 (x : Vec Ideal S512x2048 .bf16) (k : Fin 512) (q : Fin 256) (p : Fin 2048) (hp : p.val = 1280 + q.val) : View.ld x r0_8 (ix2 k q) = x (ix2 k p) :=
  View.ld_unit_apply_of x _ _ _ _ (ix2 k p) fun a => by
    match a with
    | ⟨0, _⟩ => exact (Nat.zero_add _).symm
    | ⟨1, _⟩ => exact hp

theorem cut1536 (x : Vec Ideal S512x2048 .bf16) (k : Fin 512) (q : Fin 256) (p : Fin 2048) (hp : p.val = 1536 + q.val) : View.ld x r0_9 (ix2 k q) = x (ix2 k p) :=
  View.ld_unit_apply_of x _ _ _ _ (ix2 k p) fun a => by
    match a with
    | ⟨0, _⟩ => exact (Nat.zero_add _).symm
    | ⟨1, _⟩ => exact hp

theorem cut1792 (x : Vec Ideal S512x2048 .bf16) (k : Fin 512) (q : Fin 256) (p : Fin 2048) (hp : p.val = 1792 + q.val) : View.ld x r0_10 (ix2 k q) = x (ix2 k p) :=
  View.ld_unit_apply_of x _ _ _ _ (ix2 k p) fun a => by
    match a with
    | ⟨0, _⟩ => exact (Nat.zero_add _).symm
    | ⟨1, _⟩ => exact hp

/-- A head's rotated queries, of the columns its matrices are cut from. -/
theorem pieceq_at (x0 : Vec Ideal S512x512 .f32) (x1 : Vec Ideal S512x512 .f32) (x2 : Vec Ideal S1x512 .f32) (x3 : Vec Ideal S1x512 .f32) (x4 : Vec Ideal S512x2048 .bf16) (x5 : Vec Ideal S512x2048 .bf16) (x6 : Vec Ideal S512x2048 .bf16) (x7 : Vec Ideal S512x1024 .bf16) (x8 : Vec Ideal S512x256 .bf16) (x9 : Vec Ideal S512x256 .f32) (x10 : Vec Ideal S512x256 .f32) (w v : Vec Ideal S512x256 .bf16) (r : Fin 512) (q : Fin 256) (p : Fin 2048) (hq : p.val % 256 = q.val)
    (hw : ∀ k, w (ix2 k q) = x4 (ix2 k p)) (hv : ∀ k, v (ix2 k q) = x5 (ix2 k p)) :
    k0_pay9 (k0_pay22 x0 x1 x2 x3 x4 x5 x6 x7 x8 x9 x10) (View.ld x9 r0_2) (View.ld x10 r0_2) w v (ix2 r q) = (RowMath.lin LatRef.d (fun j => x0 (ix2 r j)) (fun j => x2 (ix2 0 j)) (fun j => x4 (ix2 j p)) * x9 (ix2 r (⟨p.val % 256, by omega⟩ : Fin 256))
      + RowMath.lin LatRef.d (fun j => x0 (ix2 r j)) (fun j => x2 (ix2 0 j)) (fun j => x5 (ix2 j p)) * x10 (ix2 r (⟨p.val % 256, by omega⟩ : Fin 256))) * LatRef.bits := by
  have e : (⟨p.val % 256, by omega⟩ : Fin 256) = q := Fin.ext hq
  rw [e]
  refine (headq_at _ _ _ _ _ r q).trans ?_
  rw [table_at, table_at]
  refine congrArg (· * LatRef.bits) (congrArg₂ (· + ·) (congrArg (· * (x9 (ix2 r q) : EReal)) ?_) (congrArg (· * (x10 (ix2 r q) : EReal)) ?_))
  · exact Finset.sum_congr rfl fun k _ => congrArg₂ (· * ·) (normq_at x0 x1 x2 x3 x4 x5 x6 x7 x8 x9 x10 r k) (hw k)
  · exact Finset.sum_congr rfl fun k _ => congrArg₂ (· * ·) (normq_at x0 x1 x2 x3 x4 x5 x6 x7 x8 x9 x10 r k) (hv k)

/-- A head's keys, of the columns its matrix is cut from. -/
theorem piecek_at (x0 : Vec Ideal S512x512 .f32) (x1 : Vec Ideal S512x512 .f32) (x2 : Vec Ideal S1x512 .f32) (x3 : Vec Ideal S1x512 .f32) (x4 : Vec Ideal S512x2048 .bf16) (x5 : Vec Ideal S512x2048 .bf16) (x6 : Vec Ideal S512x2048 .bf16) (x7 : Vec Ideal S512x1024 .bf16) (x8 : Vec Ideal S512x256 .bf16) (x9 : Vec Ideal S512x256 .f32) (x10 : Vec Ideal S512x256 .f32) (w : Vec Ideal S512x256 .bf16) (r : Fin 512) (q : Fin 256) (p : Fin 2048) (hq : p.val % 256 = q.val)
    (hw : ∀ k, w (ix2 k q) = x6 (ix2 k p)) :
    k0_pay8 (k0_pay23 x0 x1 x2 x3 x4 x5 x6 x7 x8 x9 x10) (k0_pay24 x0 x1 x2 x3 x4 x5 x6 x7 x8 x9 x10) w (ix2 r q) = RowMath.lin LatRef.d (fun j => x1 (ix2 r j)) (fun j => x3 (ix2 0 j)) (fun j => x6 (ix2 j p)) + (x8 (ix2 r (⟨p.val % 256, by omega⟩ : Fin 256)) : EReal) := by
  have e : (⟨p.val % 256, by omega⟩ : Fin 256) = q := Fin.ext hq
  rw [e]
  refine (headk_at _ _ _ r q).trans ?_
  rw [shared_at]
  exact congrArg (· + (x8 (ix2 r q) : EReal)) (Finset.sum_congr rfl fun k _ => congrArg₂ (· * ·) (normk_at x0 x1 x2 x3 x4 x5 x6 x7 x8 x9 x10 r k) (hw k))

theorem q_at (x0 : Vec Ideal S512x512 .f32) (x1 : Vec Ideal S512x512 .f32) (x2 : Vec Ideal S1x512 .f32) (x3 : Vec Ideal S1x512 .f32) (x4 : Vec Ideal S512x2048 .bf16) (x5 : Vec Ideal S512x2048 .bf16) (x6 : Vec Ideal S512x2048 .bf16) (x7 : Vec Ideal S512x1024 .bf16) (x8 : Vec Ideal S512x256 .bf16) (x9 : Vec Ideal S512x256 .f32) (x10 : Vec Ideal S512x256 .f32) (r : Fin 512) (p : Fin 2048) :
    out0_11 x0 x1 x2 x3 x4 x5 x6 x7 x8 x9 x10 (ix2 r p) = (RowMath.lin LatRef.d (fun j => x0 (ix2 r j)) (fun j => x2 (ix2 0 j)) (fun j => x4 (ix2 j p)) * x9 (ix2 r (⟨p.val % 256, by omega⟩ : Fin 256))
      + RowMath.lin LatRef.d (fun j => x0 (ix2 r j)) (fun j => x2 (ix2 0 j)) (fun j => x5 (ix2 j p)) * x10 (ix2 r (⟨p.val % 256, by omega⟩ : Fin 256))) * LatRef.bits := by
  canon_tiles z h using Gen.cover0_11 ..
  · idx_vars z
    obtain rfl : r = z0 := Fin.ext h0
    exact pieceq_at x0 x1 x2 x3 x4 x5 x6 x7 x8 x9 x10 _ _ r z1 p (by have : p.val = 1792 + z1.val := h1; omega) (fun k => cut1792 x4 k z1 p h1) (fun k => cut1792 x5 k z1 p h1)
  · idx_vars z
    obtain rfl : r = z0 := Fin.ext h0
    exact pieceq_at x0 x1 x2 x3 x4 x5 x6 x7 x8 x9 x10 _ _ r z1 p (by have : p.val = 1536 + z1.val := h1; omega) (fun k => cut1536 x4 k z1 p h1) (fun k => cut1536 x5 k z1 p h1)
  · idx_vars z
    obtain rfl : r = z0 := Fin.ext h0
    exact pieceq_at x0 x1 x2 x3 x4 x5 x6 x7 x8 x9 x10 _ _ r z1 p (by have : p.val = 1280 + z1.val := h1; omega) (fun k => cut1280 x4 k z1 p h1) (fun k => cut1280 x5 k z1 p h1)
  · idx_vars z
    obtain rfl : r = z0 := Fin.ext h0
    exact pieceq_at x0 x1 x2 x3 x4 x5 x6 x7 x8 x9 x10 _ _ r z1 p (by have : p.val = 1024 + z1.val := h1; omega) (fun k => cut1024 x4 k z1 p h1) (fun k => cut1024 x5 k z1 p h1)
  · idx_vars z
    obtain rfl : r = z0 := Fin.ext h0
    exact pieceq_at x0 x1 x2 x3 x4 x5 x6 x7 x8 x9 x10 _ _ r z1 p (by have : p.val = 768 + z1.val := h1; omega) (fun k => cut768 x4 k z1 p h1) (fun k => cut768 x5 k z1 p h1)
  · idx_vars z
    obtain rfl : r = z0 := Fin.ext h0
    exact pieceq_at x0 x1 x2 x3 x4 x5 x6 x7 x8 x9 x10 _ _ r z1 p (by have : p.val = 512 + z1.val := h1; omega) (fun k => cut512 x4 k z1 p h1) (fun k => cut512 x5 k z1 p h1)
  · idx_vars z
    obtain rfl : r = z0 := Fin.ext h0
    exact pieceq_at x0 x1 x2 x3 x4 x5 x6 x7 x8 x9 x10 _ _ r z1 p (by have : p.val = 256 + z1.val := h1; omega) (fun k => cut256 x4 k z1 p h1) (fun k => cut256 x5 k z1 p h1)
  · idx_vars z
    obtain rfl : r = z0 := Fin.ext h0
    exact pieceq_at x0 x1 x2 x3 x4 x5 x6 x7 x8 x9 x10 _ _ r z1 p (by have : p.val = 0 + z1.val := (h1.trans (Nat.zero_add _).symm); omega) (fun k => cut0 x4 k z1 p (h1.trans (Nat.zero_add _).symm)) (fun k => cut0 x5 k z1 p (h1.trans (Nat.zero_add _).symm))

theorem k_at (x0 : Vec Ideal S512x512 .f32) (x1 : Vec Ideal S512x512 .f32) (x2 : Vec Ideal S1x512 .f32) (x3 : Vec Ideal S1x512 .f32) (x4 : Vec Ideal S512x2048 .bf16) (x5 : Vec Ideal S512x2048 .bf16) (x6 : Vec Ideal S512x2048 .bf16) (x7 : Vec Ideal S512x1024 .bf16) (x8 : Vec Ideal S512x256 .bf16) (x9 : Vec Ideal S512x256 .f32) (x10 : Vec Ideal S512x256 .f32) (r : Fin 512) (p : Fin 2048) :
    out0_12 x0 x1 x2 x3 x4 x5 x6 x7 x8 x9 x10 (ix2 r p) = RowMath.lin LatRef.d (fun j => x1 (ix2 r j)) (fun j => x3 (ix2 0 j)) (fun j => x6 (ix2 j p)) + (x8 (ix2 r (⟨p.val % 256, by omega⟩ : Fin 256)) : EReal) := by
  canon_tiles z h using Gen.cover0_12 ..
  · idx_vars z
    obtain rfl : r = z0 := Fin.ext h0
    exact piecek_at x0 x1 x2 x3 x4 x5 x6 x7 x8 x9 x10 _ r z1 p (by have : p.val = 1792 + z1.val := h1; omega) (fun k => cut1792 x6 k z1 p h1)
  · idx_vars z
    obtain rfl : r = z0 := Fin.ext h0
    exact piecek_at x0 x1 x2 x3 x4 x5 x6 x7 x8 x9 x10 _ r z1 p (by have : p.val = 1536 + z1.val := h1; omega) (fun k => cut1536 x6 k z1 p h1)
  · idx_vars z
    obtain rfl : r = z0 := Fin.ext h0
    exact piecek_at x0 x1 x2 x3 x4 x5 x6 x7 x8 x9 x10 _ r z1 p (by have : p.val = 1280 + z1.val := h1; omega) (fun k => cut1280 x6 k z1 p h1)
  · idx_vars z
    obtain rfl : r = z0 := Fin.ext h0
    exact piecek_at x0 x1 x2 x3 x4 x5 x6 x7 x8 x9 x10 _ r z1 p (by have : p.val = 1024 + z1.val := h1; omega) (fun k => cut1024 x6 k z1 p h1)
  · idx_vars z
    obtain rfl : r = z0 := Fin.ext h0
    exact piecek_at x0 x1 x2 x3 x4 x5 x6 x7 x8 x9 x10 _ r z1 p (by have : p.val = 768 + z1.val := h1; omega) (fun k => cut768 x6 k z1 p h1)
  · idx_vars z
    obtain rfl : r = z0 := Fin.ext h0
    exact piecek_at x0 x1 x2 x3 x4 x5 x6 x7 x8 x9 x10 _ r z1 p (by have : p.val = 512 + z1.val := h1; omega) (fun k => cut512 x6 k z1 p h1)
  · idx_vars z
    obtain rfl : r = z0 := Fin.ext h0
    exact piecek_at x0 x1 x2 x3 x4 x5 x6 x7 x8 x9 x10 _ r z1 p (by have : p.val = 256 + z1.val := h1; omega) (fun k => cut256 x6 k z1 p h1)
  · idx_vars z
    obtain rfl : r = z0 := Fin.ext h0
    exact piecek_at x0 x1 x2 x3 x4 x5 x6 x7 x8 x9 x10 _ r z1 p (by have : p.val = 0 + z1.val := (h1.trans (Nat.zero_add _).symm); omega) (fun k => cut0 x6 k z1 p (h1.trans (Nat.zero_add _).symm))

theorem v_at (x0 : Vec Ideal S512x512 .f32) (x1 : Vec Ideal S512x512 .f32) (x2 : Vec Ideal S1x512 .f32) (x3 : Vec Ideal S1x512 .f32) (x4 : Vec Ideal S512x2048 .bf16) (x5 : Vec Ideal S512x2048 .bf16) (x6 : Vec Ideal S512x2048 .bf16) (x7 : Vec Ideal S512x1024 .bf16) (x8 : Vec Ideal S512x256 .bf16) (x9 : Vec Ideal S512x256 .f32) (x10 : Vec Ideal S512x256 .f32) (r : Fin 512) (p : Fin 1024) :
    out0_13 x0 x1 x2 x3 x4 x5 x6 x7 x8 x9 x10 (ix2 r p) = RowMath.lin LatRef.d (fun j => x1 (ix2 r j)) (fun j => x3 (ix2 0 j)) (fun j => x7 (ix2 j p)) := by
  refine Eq.trans ?_ (Finset.sum_congr rfl fun k _ => congrArg (· * (x7 (ix2 k p) : EReal)) (normk_at x0 x1 x2 x3 x4 x5 x6 x7 x8 x9 x10 r k))
  unfold out0_13
  frame_out
  pointwise [k0_pay2]
  try rfl

end Cert.LatBody

end
-- ==== Proof.LatFinal.lean ====
/-
  The latent's products' result arrays are their reference's.
-/
module

public import proofs.«01_k».proof.Defs
public import proofs.«01_k».proof.Proof.LatBody
public import proofs.«01_k».proof.Proof.LatRef
public import Idealize.ShloMosaic.Adequacy
public import Idealize.ShloMosaic.Init
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.LatFinal

open Cert.Kernel5Ideal Cert.Kernel5Ideal.Gen

/-- The blocks each grid point reads and writes. -/
theorem idx : ∀ t : Fin cfg0.N, win0_0.index t = ![t.val, 0] ∧ win0_1.index t = ![t.val, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![t.val, 0] ∧ win0_9.index t = ![t.val % 16, 0] ∧ win0_10.index t = ![t.val % 16, 0] ∧ win0_11.index t = ![t.val, 0] ∧ win0_12.index t = ![t.val, 0] ∧ win0_13.index t = ![t.val, 0] :=
  (by decide +kernel : ∀ t : Fin grid0.N, _)

variable (m : (ℓ : Loc nD τ sig) → Buf (Elt Ideal) ℓ) (c : Dev nD) (t : Fin cfg0.N)

/-- Row `r` of block `t`. -/
def row (t : Fin cfg0.N) (r : Fin 512) : Fin 16384 := ⟨t.val * 512 + r.val, by have : t.val < 32 := t.isLt; omega⟩

theorem cq_at (r : Fin 512) (k : Fin 512) : iblk m c 0 t (ix2 r k) = m ((c : Thread nD τ).loc main_arg0) (ix2 (row t r) k) := by
  blk_ext [iblk, V, idx t, row]

theorem ckv_at (r : Fin 512) (k : Fin 512) : iblk m c 1 t (ix2 r k) = m ((c : Thread nD τ).loc main_arg1) (ix2 (row t r) k) := by
  blk_ext [iblk, V, idx t, row]

theorem e_at (r : Fin 512) (k : Fin 256) : iblk m c 8 t (ix2 r k) = m ((c : Thread nD τ).loc main_arg8) (ix2 (row t r) k) := by
  blk_ext [iblk, V, idx t, row]

theorem gq_at (k : Fin 512) : iblk m c 2 t (ix2 0 k) = m ((c : Thread nD τ).loc main_arg2) (ix2 0 k) := by
  blk_ext [iblk, V, idx t]

theorem gkv_at (k : Fin 512) : iblk m c 3 t (ix2 0 k) = m ((c : Thread nD τ).loc main_arg3) (ix2 0 k) := by
  blk_ext [iblk, V, idx t]

theorem wa_at (k : Fin 512) (p : Fin 2048) : iblk m c 4 t (ix2 k p) = m ((c : Thread nD τ).loc main_arg4) (ix2 k p) := by
  blk_ext [iblk, V, idx t]

theorem wb_at (k : Fin 512) (p : Fin 2048) : iblk m c 5 t (ix2 k p) = m ((c : Thread nD τ).loc main_arg5) (ix2 k p) := by
  blk_ext [iblk, V, idx t]

theorem wk_at (k : Fin 512) (p : Fin 2048) : iblk m c 6 t (ix2 k p) = m ((c : Thread nD τ).loc main_arg6) (ix2 k p) := by
  blk_ext [iblk, V, idx t]

theorem wv_at (k : Fin 512) (p : Fin 1024) : iblk m c 7 t (ix2 k p) = m ((c : Thread nD τ).loc main_arg7) (ix2 k p) := by
  blk_ext [iblk, V, idx t]

theorem cos_at (r : Fin 512) (q : Fin 256) : iblk m c 9 t (ix2 r q) = m ((c : Thread nD τ).loc main_arg9) (ix2 ⟨(row t r).val % 8192, by omega⟩ q) := by
  blk_ext [iblk, V, idx t, row]

theorem sin_at (r : Fin 512) (q : Fin 256) : iblk m c 10 t (ix2 r q) = m ((c : Thread nD τ).loc main_arg10) (ix2 ⟨(row t r).val % 8192, by omega⟩ q) := by
  blk_ext [iblk, V, idx t, row]

theorem q_emb (r : Fin 512) (p : Fin 2048) : ((cfg0.win 11).blk t).view.emb (ix2 r p) = ix2 (row t r) p := by
  blk_ext [idx t, row]

/-- The rotated queries, in bits. -/
theorem q_final : (dats m 0 c).arrAt 11 cfg0.N = LatRef.Q (m ((c : Thread nD τ).loc main_arg0)) (m ((c : Thread nD τ).loc main_arg2)) (m ((c : Thread nD τ).loc main_arg4)) (m ((c : Thread nD τ).loc main_arg5)) (m ((c : Thread nD τ).loc main_arg9)) (m ((c : Thread nD τ).loc main_arg10)) := by
  refine (dats m 0 c).arrAt_eq_of_covers 11 _ (by decide +kernel) fun t _ y => ?_
  blk_simp
  rw [after0_11]
  idx_vars y
  refine (LatBody.q_at (iblk m c 0 t) (iblk m c 1 t) (iblk m c 2 t) (iblk m c 3 t) (iblk m c 4 t) (iblk m c 5 t) (iblk m c 6 t) (iblk m c 7 t) (iblk m c 8 t) (iblk m c 9 t) (iblk m c 10 t) _ _).trans ?_
  refine Eq.trans ?_ (congrArg (LatRef.Q (m ((c : Thread nD τ).loc main_arg0)) (m ((c : Thread nD τ).loc main_arg2)) (m ((c : Thread nD τ).loc main_arg4)) (m ((c : Thread nD τ).loc main_arg5)) (m ((c : Thread nD τ).loc main_arg9)) (m ((c : Thread nD τ).loc main_arg10))) (q_emb t _ _)).symm
  refine Eq.trans ?_ (LatRef.q_at (m ((c : Thread nD τ).loc main_arg0)) (m ((c : Thread nD τ).loc main_arg2)) (m ((c : Thread nD τ).loc main_arg4)) (m ((c : Thread nD τ).loc main_arg5)) (m ((c : Thread nD τ).loc main_arg9)) (m ((c : Thread nD τ).loc main_arg10)) _ _).symm
  exact congrArg (· * LatRef.bits) (congrArg₂ (· + ·) (congrArg₂ (· * ·) (RowMath.lin_congr (fun j => cq_at m c t _ j) (fun j => gq_at m c t j) (fun j => wa_at m c t j _)) (cos_at m c t _ _)) (congrArg₂ (· * ·) (RowMath.lin_congr (fun j => cq_at m c t _ j) (fun j => gq_at m c t j) (fun j => wb_at m c t j _)) (sin_at m c t _ _)))

theorem k_emb (r : Fin 512) (p : Fin 2048) : ((cfg0.win 12).blk t).view.emb (ix2 r p) = ix2 (row t r) p := by
  blk_ext [idx t, row]

/-- The keys. -/
theorem k_final : (dats m 0 c).arrAt 12 cfg0.N = LatRef.K (m ((c : Thread nD τ).loc main_arg1)) (m ((c : Thread nD τ).loc main_arg3)) (m ((c : Thread nD τ).loc main_arg6)) (m ((c : Thread nD τ).loc main_arg8)) := by
  refine (dats m 0 c).arrAt_eq_of_covers 12 _ (by decide +kernel) fun t _ y => ?_
  blk_simp
  rw [after0_12]
  idx_vars y
  refine (LatBody.k_at (iblk m c 0 t) (iblk m c 1 t) (iblk m c 2 t) (iblk m c 3 t) (iblk m c 4 t) (iblk m c 5 t) (iblk m c 6 t) (iblk m c 7 t) (iblk m c 8 t) (iblk m c 9 t) (iblk m c 10 t) _ _).trans ?_
  refine Eq.trans ?_ (congrArg (LatRef.K (m ((c : Thread nD τ).loc main_arg1)) (m ((c : Thread nD τ).loc main_arg3)) (m ((c : Thread nD τ).loc main_arg6)) (m ((c : Thread nD τ).loc main_arg8))) (k_emb t _ _)).symm
  refine Eq.trans ?_ (LatRef.k_at (m ((c : Thread nD τ).loc main_arg1)) (m ((c : Thread nD τ).loc main_arg3)) (m ((c : Thread nD τ).loc main_arg6)) (m ((c : Thread nD τ).loc main_arg8)) _ _).symm
  exact congrArg₂ (· + ·) (RowMath.lin_congr (fun j => ckv_at m c t _ j) (fun j => gkv_at m c t j) (fun j => wk_at m c t j _)) (e_at m c t _ _)

theorem v_emb (r : Fin 512) (p : Fin 1024) : ((cfg0.win 13).blk t).view.emb (ix2 r p) = ix2 (row t r) p := by
  blk_ext [idx t, row]

/-- The values. -/
theorem v_final : (dats m 0 c).arrAt 13 cfg0.N = LatRef.V (m ((c : Thread nD τ).loc main_arg1)) (m ((c : Thread nD τ).loc main_arg3)) (m ((c : Thread nD τ).loc main_arg7)) := by
  refine (dats m 0 c).arrAt_eq_of_covers 13 _ (by decide +kernel) fun t _ y => ?_
  blk_simp
  rw [after0_13]
  idx_vars y
  refine (LatBody.v_at (iblk m c 0 t) (iblk m c 1 t) (iblk m c 2 t) (iblk m c 3 t) (iblk m c 4 t) (iblk m c 5 t) (iblk m c 6 t) (iblk m c 7 t) (iblk m c 8 t) (iblk m c 9 t) (iblk m c 10 t) _ _).trans ?_
  refine Eq.trans ?_ (congrArg (LatRef.V (m ((c : Thread nD τ).loc main_arg1)) (m ((c : Thread nD τ).loc main_arg3)) (m ((c : Thread nD τ).loc main_arg7))) (v_emb t _ _)).symm
  refine Eq.trans ?_ (LatRef.v_at (m ((c : Thread nD τ).loc main_arg1)) (m ((c : Thread nD τ).loc main_arg3)) (m ((c : Thread nD τ).loc main_arg7)) _ _).symm
  exact RowMath.lin_congr (fun j => ckv_at m c t _ j) (fun j => gkv_at m c t j) (fun j => wv_at m c t j _)

/-- The reference runs, leaves its arguments as they were, and ends with every counter at zero. -/
theorem reference_frame : quiescent_Reference5Ideal (hReference5Ideal := Cert.Reference5Ideal.Gen.facts) := fun m ρ _ =>
  (θ_run _ _ _).mono (fun r h => ⟨fun c => (h c).2.2.2, Idealize.ShloMosaic.sem_eq_zero_of_no_sems (by decide) r.2⟩)
    (Cert.Reference5Ideal.Value.run (F := Ideal) m ρ)

/-- The kernel's results are the reference's. -/
theorem equal_results : algebraic_Kernel5Ideal_Reference5Ideal (hKernel5Ideal := Cert.Kernel5Ideal.Gen.facts)
    (hReference5Ideal := Cert.Reference5Ideal.Gen.facts) := by
  intro m g m' g' _ hagree
  refine ⟨fun c => LatRef.Q (m ((c : Thread nD τ).loc main_arg0)) (m ((c : Thread nD τ).loc main_arg2)) (m ((c : Thread nD τ).loc main_arg4)) (m ((c : Thread nD τ).loc main_arg5)) (m ((c : Thread nD τ).loc main_arg9)) (m ((c : Thread nD τ).loc main_arg10)), fun c => LatRef.K (m ((c : Thread nD τ).loc main_arg1)) (m ((c : Thread nD τ).loc main_arg3)) (m ((c : Thread nD τ).loc main_arg6)) (m ((c : Thread nD τ).loc main_arg8)), fun c => LatRef.V (m ((c : Thread nD τ).loc main_arg1)) (m ((c : Thread nD τ).loc main_arg3)) (m ((c : Thread nD τ).loc main_arg7)), ?_, ?_⟩
  · refine (θ_run _ _ _).mono (fun r h c => ?_) (Cert.Kernel5Ideal.Value.run_blocks m g)
    obtain ⟨hq, hk, hv, hr⟩ := h c
    exact ⟨hq.trans (q_final m c), hk.trans (k_final m c), hv.trans (v_final m c), hr⟩
  · refine (θ_run _ _ _).mono (fun r h c => ?_) (Cert.Reference5Ideal.Value.run (F := Ideal) m' g')
    obtain ⟨a0, a1, a2, a3, a4, a5, a6, a7, a8, a9, a10⟩ := hagree c
    obtain ⟨hq, hk, hv, hr⟩ := h c
    beta_reduce
    rw [← a0, ← a1, ← a2, ← a3, ← a4, ← a5, ← a6, ← a7, ← a8, ← a9, ← a10]
    exact ⟨hq, hk, hv, hr⟩

end Cert.LatFinal

end
-- ==== Proof.OutRef.lean ====
/-
  The reference of the output projection, read at a row and column.
-/
module

public import proofs.«01_k».proof.Proof.Gen.Reference6Ideal.Run
public import proofs.«01_k».proof.Proof.RowMath
public import Idealize.ShloMosaic.Lib.Pointwise
public import Idealize.ShloMosaic.Lib.WordCmp

@[expose] public section

set_option maxRecDepth 16384

noncomputable section

namespace Cert.OutRef

open Cert.Reference6Ideal Cert.Reference6Ideal.Gen
open Idealize.ShloMosaic Idealize.ShloMosaic.TcCoe Idealize.SL.Sem Idealize.ShloMosaic.StableHlo

/-- A mixer's normalized rows. -/
def NORM1 (Y : FVec Ideal S16384x1024 .f32) (G : FVec Ideal S1x1024 .f32) : FVec Ideal S16384x1024 .f32 :=
  mulf (mulf Y (broadcastInDim S16384x1024 ![0, 1] bcast_S16384x1_S16384x1024_0_1 (Host.rsqrt (addf (Host.divf (broadcastInDim S16384x1 ![0] bcast_S16384_S16384x1_0 (Host.reduceAdd (mulf Y Y) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 G)

/-- The rows after the mixers. -/
def X1 (OM OL : FVec Ideal S16384x1024 .f32) (GA GB : FVec Ideal S1x1024 .f32) (WO : FVec Ideal S2048x2048 .bf16) (X : FVec Ideal S16384x2048 .f32) : FVec Ideal S16384x2048 .f32 :=
  addf X (Host.dotGeneral dot_S16384x2048_S2048x2048_S16384x2048_1_0_0_1_n_n none (concatenate S16384x2048 1 [⟨S16384x1024, (NORM1 OM GA)⟩, ⟨S16384x1024, (NORM1 OL GB)⟩] concatenates_S16384x1024_S16384x1024_S16384x2048_d1) (extf .f32 WO bitsLt_bf16_f32))

/-- The normalized rows after the mixers. -/
def NORM2 (Y : FVec Ideal S16384x2048 .f32) (G : FVec Ideal S1x2048 .f32) : FVec Ideal S16384x2048 .f32 :=
  mulf (mulf Y (broadcastInDim S16384x2048 ![0, 1] bcast_S16384x1_S16384x2048_0_1 (Host.rsqrt (addf (Host.divf (broadcastInDim S16384x1 ![0] bcast_S16384_S16384x1_0 (Host.reduceAdd (mulf Y Y) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x3727C5AC#32)))))) (broadcastInDim S16384x2048 ![0, 1] bcast_S1x2048_S16384x2048_0_1 G)

/-- The router's logits. -/
def LOGITS (H : FVec Ideal S16384x2048 .f32) (WH WL : FVec Ideal S2048x128 .bf16) (BR : FVec Ideal S1x128 .f32) : FVec Ideal S16384x128 .f32 :=
  addf (Host.dotGeneral dot_S16384x2048_S2048x128_S16384x128_1_0_0_1_n_n none H (addf (extf .f32 WH bitsLt_bf16_f32) (extf .f32 WL bitsLt_bf16_f32))) (broadcastInDim S16384x128 ![0, 1] bcast_S1x128_S16384x128_0_1 BR)

/-- The normalized rows, rounded. -/
def HB (Y : FVec Ideal S16384x2048 .f32) (G : FVec Ideal S1x2048 .f32) : FVec Ideal S16384x2048 .bf16 :=
  truncf .bf16 (NORM2 Y G) bitsLt_bf16_f32

/-- The length of a mixer's row. -/
def d1 : EReal := Ideal.ofBits .f32 0x44800000#32

/-- The length of a row. -/
def d2 : EReal := Ideal.ofBits .f32 0x45000000#32

theorem norm1_at (Y : FVec Ideal S16384x1024 .f32) (G : FVec Ideal S1x1024 .f32) (R : Fin 16384) (k : Fin 1024) :
    NORM1 Y G (ix2 R k) = RowMath.nrm d1 (fun j => Y (ix2 R j)) (fun j => G (ix2 0 j)) k := by
  pointwise [NORM1]
  rfl

theorem norm2_at (Y : FVec Ideal S16384x2048 .f32) (G : FVec Ideal S1x2048 .f32) (R : Fin 16384) (k : Fin 2048) :
    NORM2 Y G (ix2 R k) = RowMath.nrm d2 (fun j => Y (ix2 R j)) (fun j => G (ix2 0 j)) k := by
  pointwise [NORM2]
  rfl

/-- A row after the mixers, from each mixer's own half of the matrix. -/
theorem x1_at (OM OL : FVec Ideal S16384x1024 .f32) (GA GB : FVec Ideal S1x1024 .f32) (WO : FVec Ideal S2048x2048 .bf16) (X : FVec Ideal S16384x2048 .f32) (R : Fin 16384) (p : Fin 2048) :
    X1 OM OL GA GB WO X (ix2 R p) = RowMath.two d1 (X (ix2 R p)) (fun j => OM (ix2 R j)) (fun j => GA (ix2 0 j)) (fun j => WO (ix2 ⟨j.val, by omega⟩ p))
      (fun j => OL (ix2 R j)) (fun j => GB (ix2 0 j)) (fun j => WO (ix2 ⟨1024 + j.val, by omega⟩ p)) := by
  unfold RowMath.two
  pointwise [X1]
  rw [add_assoc]
  refine congrArg (X (ix2 R p) + ·) ?_
  exact congrArg₂ (· + ·) (Finset.sum_congr rfl fun k _ => congrArg (· * (WO (ix2 ⟨k.val, by omega⟩ p) : EReal)) (norm1_at OM GA R k))
    (Finset.sum_congr rfl fun k _ => congrArg (· * (WO (ix2 ⟨1024 + k.val, by omega⟩ p) : EReal)) (norm1_at OL GB R k))

theorem logits_at (H : FVec Ideal S16384x2048 .f32) (WH WL : FVec Ideal S2048x128 .bf16) (BR : FVec Ideal S1x128 .f32) (R : Fin 16384) (e : Fin 128) :
    LOGITS H WH WL BR (ix2 R e) = (∑ k : Fin 2048, (H (ix2 R k) : EReal) * (WH (ix2 k e) + WL (ix2 k e))) + BR (ix2 0 e) := by
  pointwise [LOGITS]

end Cert.OutRef

end
-- ==== Proof.OutBody.lean ====
/-
  What a block of the output projection stores, at a row and column.
-/
module

public import proofs.«01_k».proof.Proof.Gen.Kernel6Ideal.Value
public import proofs.«01_k».proof.Proof.OutRef
public import Idealize.ShloMosaic.Lib.Pipeline.ValueKit
public import Idealize.ShloMosaic.Lib.Pointwise
public import Idealize.ShloMosaic.Lib.WordCmp

@[expose] public section

set_option maxRecDepth 16384

noncomputable section

namespace Cert.OutBody

open Cert.Kernel6Ideal Cert.Kernel6Ideal.Gen
open Idealize.ShloMosaic Idealize.ShloMosaic.TcCoe Idealize.SL.Sem
open Idealize.ShloMosaic.Pipeline (Dat)

/-- A row after the mixers. -/
theorem sum_at (x0 x1 : Vec Ideal S256x1024 .f32) (x2 x3 : Vec Ideal S1x1024 .f32) (x4 : Vec Ideal S2048x2048 .bf16) (x5 : Vec Ideal S256x2048 .f32) (x6 : Vec Ideal S1x2048 .f32) (x7 x8 : Vec Ideal S2048x128 .bf16) (x9 : Vec Ideal S1x128 .f32) (r : Fin 256) (p : Fin 2048) :
    k0_pay5 x0 x1 x2 x3 x4 x5 x6 x7 x8 x9 (ix2 r p) = RowMath.two OutRef.d1 (x5 (ix2 r p)) (fun j => x0 (ix2 r j)) (fun j => x2 (ix2 0 j)) (fun j => x4 (ix2 ⟨j.val, by omega⟩ p))
      (fun j => x1 (ix2 r j)) (fun j => x3 (ix2 0 j)) (fun j => x4 (ix2 ⟨1024 + j.val, by omega⟩ p)) := by
  pointwise [k0_pay5, k0_pay4]
  try simp only [Nat.zero_add]
  rfl

/-- A normalized entry of a block of rows. -/
theorem norm_at (v : FVec Ideal S256x2048 .f32) (g : Vec Ideal S1x2048 .f32) (r : Fin 256) (k : Fin 2048) :
    k0_pay1 v g (ix2 r k) = RowMath.nrm OutRef.d2 (fun j => v (ix2 r j)) (fun j => g (ix2 0 j)) k := by
  pointwise [k0_pay1]
  rfl

/-- A block's logits, of its normalized rows. -/
theorem dot_at (v : FVec Ideal S256x2048 .f32) (g : Vec Ideal S1x2048 .f32) (a b c : Vec Ideal S2048x128 .bf16) (d : Vec Ideal S1x128 .f32) (r : Fin 256) (e : Fin 128) :
    k0_pay3 v g a b c d (ix2 r e) = (∑ k : Fin 2048, (k0_pay1 v g (ix2 r k) : EReal) * a (ix2 k e))
      + (∑ k : Fin 2048, ((k0_pay1 v g (ix2 r k) : EReal) - k0_pay1 v g (ix2 r k)) * b (ix2 k e))
      + (∑ k : Fin 2048, (k0_pay1 v g (ix2 r k) : EReal) * c (ix2 k e)) + d (ix2 0 e) := by
  pointwise [k0_pay3]

theorem x1_at (x0 x1 : Vec Ideal S256x1024 .f32) (x2 x3 : Vec Ideal S1x1024 .f32) (x4 : Vec Ideal S2048x2048 .bf16) (x5 : Vec Ideal S256x2048 .f32) (x6 : Vec Ideal S1x2048 .f32) (x7 x8 : Vec Ideal S2048x128 .bf16) (x9 : Vec Ideal S1x128 .f32) (r : Fin 256) (p : Fin 2048) :
    out0_10 x0 x1 x2 x3 x4 x5 x6 x7 x8 x9 (ix2 r p) = RowMath.two OutRef.d1 (x5 (ix2 r p)) (fun j => x0 (ix2 r j)) (fun j => x2 (ix2 0 j)) (fun j => x4 (ix2 ⟨j.val, by omega⟩ p))
      (fun j => x1 (ix2 r j)) (fun j => x3 (ix2 0 j)) (fun j => x4 (ix2 ⟨1024 + j.val, by omega⟩ p)) := by
  rw [← sum_at x0 x1 x2 x3 x4 x5 x6 x7 x8 x9]
  unfold out0_10
  frame_out

theorem h_at (x0 x1 : Vec Ideal S256x1024 .f32) (x2 x3 : Vec Ideal S1x1024 .f32) (x4 : Vec Ideal S2048x2048 .bf16) (x5 : Vec Ideal S256x2048 .f32) (x6 : Vec Ideal S1x2048 .f32) (x7 x8 : Vec Ideal S2048x128 .bf16) (x9 : Vec Ideal S1x128 .f32) (r : Fin 256) (k : Fin 2048) :
    out0_11 x0 x1 x2 x3 x4 x5 x6 x7 x8 x9 (ix2 r k) = RowMath.nrm OutRef.d2 (fun p => RowMath.two OutRef.d1 (x5 (ix2 r p)) (fun j => x0 (ix2 r j)) (fun j => x2 (ix2 0 j)) (fun j => x4 (ix2 ⟨j.val, by omega⟩ p))
      (fun j => x1 (ix2 r j)) (fun j => x3 (ix2 0 j)) (fun j => x4 (ix2 ⟨1024 + j.val, by omega⟩ p))) (fun j => x6 (ix2 0 j)) k := by
  refine Eq.trans ?_ ((norm_at (k0_pay5 x0 x1 x2 x3 x4 x5 x6 x7 x8 x9) x6 r k).trans (RowMath.nrm_congr (fun p => sum_at x0 x1 x2 x3 x4 x5 x6 x7 x8 x9 r p) (fun _ => rfl) k))
  unfold out0_11
  frame_out
  pointwise [k0_pay2]

theorem logits_at (x0 x1 : Vec Ideal S256x1024 .f32) (x2 x3 : Vec Ideal S1x1024 .f32) (x4 : Vec Ideal S2048x2048 .bf16) (x5 : Vec Ideal S256x2048 .f32) (x6 : Vec Ideal S1x2048 .f32) (x7 x8 : Vec Ideal S2048x128 .bf16) (x9 : Vec Ideal S1x128 .f32) (r : Fin 256) (e : Fin 128) :
    out0_12 x0 x1 x2 x3 x4 x5 x6 x7 x8 x9 (ix2 r e) = (∑ k : Fin 2048, (k0_pay1 (k0_pay5 x0 x1 x2 x3 x4 x5 x6 x7 x8 x9) x6 (ix2 r k) : EReal) * x7 (ix2 k e))
      + (∑ k : Fin 2048, ((k0_pay1 (k0_pay5 x0 x1 x2 x3 x4 x5 x6 x7 x8 x9) x6 (ix2 r k) : EReal) - k0_pay1 (k0_pay5 x0 x1 x2 x3 x4 x5 x6 x7 x8 x9) x6 (ix2 r k)) * x7 (ix2 k e))
      + (∑ k : Fin 2048, (k0_pay1 (k0_pay5 x0 x1 x2 x3 x4 x5 x6 x7 x8 x9) x6 (ix2 r k) : EReal) * x8 (ix2 k e)) + x9 (ix2 0 e) := by
  rw [← dot_at]
  unfold out0_12
  frame_out

end Cert.OutBody

end
-- ==== Proof.OutFinal.lean ====
/-
  The output projection's result arrays are its reference's, where the rows' scale and the router's lower part are real.
-/
module

public import proofs.«01_k».proof.Defs
public import proofs.«01_k».proof.Proof.OutBody
public import proofs.«01_k».proof.Proof.OutRef
public import proofs.«01_k».proof.Proof.Gen.Pre_finite_router
public import Idealize.ShloMosaic.Adequacy
public import Idealize.ShloMosaic.Init
public import Idealize.ShloMosaic.Lib.Claim
public import Idealize.ShloMosaic.Lib.Quiescent
public import Idealize.ShloMosaic.Lib.ReduceAll

@[expose] public section

set_option maxRecDepth 16384

noncomputable section

open Idealize.ShloMosaic Idealize.ShloMosaic.TcCoe Idealize.SL.Sem
open Idealize.ShloMosaic.Pipeline (Dat)

namespace Cert.OutFinal

open Cert.Kernel6Ideal Cert.Kernel6Ideal.Gen

/-- The blocks each grid point reads and writes. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![0, 0]
    ∧ win0_7.index t = ![0, 0] ∧ win0_8.index t = ![0, 0] ∧ win0_9.index t = ![0, 0] ∧ win0_10.index t = ![t.val, 0]
    ∧ win0_11.index t = ![t.val, 0] ∧ win0_12.index t = ![t.val, 0] :=
  (by decide +kernel : ∀ t : Fin grid0.N, _)

variable (m : (ℓ : Loc nD τ sig) → Buf (Elt Ideal) ℓ) (c : Dev nD) (t : Fin cfg0.N)

/-- Row `r` of block `t`. -/
def row (t : Fin cfg0.N) (r : Fin 256) : Fin 16384 := ⟨t.val * 256 + r.val, by have : t.val < 64 := t.isLt; omega⟩

theorem om_at (r : Fin 256) (k : Fin 1024) : iblk m c 0 t (ix2 r k) = m ((c : Thread nD τ).loc main_arg0) (ix2 (row t r) k) := by
  blk_ext [iblk, V, idx t, row]

theorem ol_at (r : Fin 256) (k : Fin 1024) : iblk m c 1 t (ix2 r k) = m ((c : Thread nD τ).loc main_arg1) (ix2 (row t r) k) := by
  blk_ext [iblk, V, idx t, row]

theorem gm_at (k : Fin 1024) : iblk m c 2 t (ix2 0 k) = m ((c : Thread nD τ).loc main_arg2) (ix2 0 k) := by
  blk_ext [iblk, V, idx t]

theorem gl_at (k : Fin 1024) : iblk m c 3 t (ix2 0 k) = m ((c : Thread nD τ).loc main_arg3) (ix2 0 k) := by
  blk_ext [iblk, V, idx t]

theorem wo_at (k : Fin 2048) (p : Fin 2048) : iblk m c 4 t (ix2 k p) = m ((c : Thread nD τ).loc main_arg4) (ix2 k p) := by
  blk_ext [iblk, V, idx t]

theorem x_at (r : Fin 256) (k : Fin 2048) : iblk m c 5 t (ix2 r k) = m ((c : Thread nD τ).loc main_arg5) (ix2 (row t r) k) := by
  blk_ext [iblk, V, idx t, row]

theorem gf_at (k : Fin 2048) : iblk m c 6 t (ix2 0 k) = m ((c : Thread nD τ).loc main_arg6) (ix2 0 k) := by
  blk_ext [iblk, V, idx t]

theorem wh_at (k : Fin 2048) (p : Fin 128) : iblk m c 7 t (ix2 k p) = m ((c : Thread nD τ).loc main_arg7) (ix2 k p) := by
  blk_ext [iblk, V, idx t]

theorem wl_at (k : Fin 2048) (p : Fin 128) : iblk m c 8 t (ix2 k p) = m ((c : Thread nD τ).loc main_arg8) (ix2 k p) := by
  blk_ext [iblk, V, idx t]

theorem br_at (k : Fin 128) : iblk m c 9 t (ix2 0 k) = m ((c : Thread nD τ).loc main_arg9) (ix2 0 k) := by
  blk_ext [iblk, V, idx t]

/-- A block's row after the mixers is the array's. -/
theorem sum_blk (r : Fin 256) (p : Fin 2048) :
    RowMath.two OutRef.d1 (iblk m c 5 t (ix2 r p)) (fun j => iblk m c 0 t (ix2 r j)) (fun j => iblk m c 2 t (ix2 0 j)) (fun j => iblk m c 4 t (ix2 ⟨j.val, by omega⟩ p))
      (fun j => iblk m c 1 t (ix2 r j)) (fun j => iblk m c 3 t (ix2 0 j)) (fun j => iblk m c 4 t (ix2 ⟨1024 + j.val, by omega⟩ p))
      = (OutRef.X1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (ix2 (row t r) p) := by
  refine Eq.trans ?_ (OutRef.x1_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t r) p).symm
  exact RowMath.two_congr (x_at m c t r p) (fun j => om_at m c t r j) (fun j => gm_at m c t j) (fun j => wo_at m c t _ p)
    (fun j => ol_at m c t r j) (fun j => gl_at m c t j) (fun j => wo_at m c t _ p)

/-- A block's normalized entry is the array's. -/
theorem norm_blk (r : Fin 256) (k : Fin 2048) :
    k0_pay1 (k0_pay5 (iblk m c 0 t) (iblk m c 1 t) (iblk m c 2 t) (iblk m c 3 t) (iblk m c 4 t) (iblk m c 5 t) (iblk m c 6 t) (iblk m c 7 t) (iblk m c 8 t) (iblk m c 9 t)) (iblk m c 6 t) (ix2 r k) = (OutRef.NORM2 (OutRef.X1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))) (ix2 (row t r) k) := by
  refine (OutBody.norm_at _ _ r k).trans ?_
  refine Eq.trans ?_ (OutRef.norm2_at (OutRef.X1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (row t r) k).symm
  exact RowMath.nrm_congr (fun p => (OutBody.sum_at (iblk m c 0 t) (iblk m c 1 t) (iblk m c 2 t) (iblk m c 3 t) (iblk m c 4 t) (iblk m c 5 t) (iblk m c 6 t) (iblk m c 7 t) (iblk m c 8 t) (iblk m c 9 t) r p).trans (sum_blk m c t r p)) (fun j => gf_at m c t j) k

theorem x1_emb (r : Fin 256) (q : Fin 2048) : ((cfg0.win 10).blk t).view.emb (ix2 r q) = ix2 (row t r) q := by
  blk_ext [idx t, row]

/-- The rows after the mixers. -/
theorem x1_final : (dats m 0 c).arrAt 10 cfg0.N = (OutRef.X1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (dats m 0 c).arrAt_eq_of_covers 10 _ (by decide +kernel) fun t _ y => ?_
  blk_simp
  rw [after0_10]
  idx_vars y
  refine (OutBody.x1_at (iblk m c 0 t) (iblk m c 1 t) (iblk m c 2 t) (iblk m c 3 t) (iblk m c 4 t) (iblk m c 5 t) (iblk m c 6 t) (iblk m c 7 t) (iblk m c 8 t) (iblk m c 9 t) _ _).trans ?_
  refine Eq.trans ?_ (congrArg (OutRef.X1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (x1_emb t _ _)).symm
  exact sum_blk m c t _ _

theorem h_emb (r : Fin 256) (q : Fin 2048) : ((cfg0.win 11).blk t).view.emb (ix2 r q) = ix2 (row t r) q := by
  blk_ext [idx t, row]

/-- Their normalized rows. -/
theorem h_final : (dats m 0 c).arrAt 11 cfg0.N = (OutRef.HB (OutRef.X1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))) := by
  refine (dats m 0 c).arrAt_eq_of_covers 11 _ (by decide +kernel) fun t _ y => ?_
  blk_simp
  rw [after0_11]
  idx_vars y
  refine (OutBody.h_at (iblk m c 0 t) (iblk m c 1 t) (iblk m c 2 t) (iblk m c 3 t) (iblk m c 4 t) (iblk m c 5 t) (iblk m c 6 t) (iblk m c 7 t) (iblk m c 8 t) (iblk m c 9 t) _ _).trans ?_
  refine Eq.trans ?_ (congrArg (OutRef.HB (OutRef.X1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))) (h_emb t _ _)).symm
  refine Eq.trans ?_ (OutRef.norm2_at (OutRef.X1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) _ _).symm
  exact RowMath.nrm_congr (fun p => sum_blk m c t _ p) (fun j => gf_at m c t j) _

theorem lg_emb (r : Fin 256) (q : Fin 128) : ((cfg0.win 12).blk t).view.emb (ix2 r q) = ix2 (row t r) q := by
  blk_ext [idx t, row]

theorem d2_pos : ∃ r : ℝ, 0 < r ∧ OutRef.d2 = (r : EReal) := by
  refine ⟨_, ?_, by unfold OutRef.d2; simp [Ideal.ofBits, Ideal.ieee]; rfl⟩
  positivity

/-- The normalized rows' scale and the router's lower part are real. -/
structure Real_args : Prop where
  gf : ∀ j, RowMath.IsReal (m ((c : Thread nD τ).loc main_arg6) j)
  wl : ∀ j, RowMath.IsReal (m ((c : Thread nD τ).loc main_arg8) j)

variable {m c} in
/-- A normalized row is real. -/
theorem Real_args.norm (h : Real_args m c) (R : Fin 16384) (k : Fin 2048) : RowMath.IsReal ((OutRef.NORM2 (OutRef.X1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))) (ix2 R k)) := by
  rw [OutRef.norm2_at]
  exact RowMath.nrm_real d2_pos (fun j => h.gf _) k

/-- The logits. -/
theorem lg_final (h : Real_args m c) : (dats m 0 c).arrAt 12 cfg0.N = (OutRef.LOGITS (OutRef.NORM2 (OutRef.X1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))) (m ((c : Thread nD τ).loc main_arg7)) (m ((c : Thread nD τ).loc main_arg8)) (m ((c : Thread nD τ).loc main_arg9))) := by
  refine (dats m 0 c).arrAt_eq_of_covers 12 _ (by decide +kernel) fun t _ y => ?_
  blk_simp
  rw [after0_12]
  idx_vars y
  refine (OutBody.logits_at (iblk m c 0 t) (iblk m c 1 t) (iblk m c 2 t) (iblk m c 3 t) (iblk m c 4 t) (iblk m c 5 t) (iblk m c 6 t) (iblk m c 7 t) (iblk m c 8 t) (iblk m c 9 t) _ _).trans ?_
  refine Eq.trans ?_ (congrArg (OutRef.LOGITS (OutRef.NORM2 (OutRef.X1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))) (m ((c : Thread nD τ).loc main_arg7)) (m ((c : Thread nD τ).loc main_arg8)) (m ((c : Thread nD τ).loc main_arg9))) (lg_emb t _ _)).symm
  refine Eq.trans ?_ (OutRef.logits_at (OutRef.NORM2 (OutRef.X1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))) (m ((c : Thread nD τ).loc main_arg7)) (m ((c : Thread nD τ).loc main_arg8)) (m ((c : Thread nD τ).loc main_arg9)) _ _).symm
  refine congrArg₂ (· + ·) ?_ (br_at m c t _)
  simp only [norm_blk, wh_at, wl_at]
  exact RowMath.parts (fun k => h.norm _ k) (fun k => h.wl _)

/-- What the precondition says. -/
theorem real_args (h : Cert.Pre_finite_router.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) = fun _ => 1#1) : Real_args m c := by
  obtain ⟨h1, h2⟩ := IntOp.andi_eq_one.1 (congrFun h ix0)
  haveI : Subsingleton Cert.Pre_finite_router.S_.Idx := ⟨fun a b => funext fun k => k.elim0⟩
  exact ⟨fun j => RowMath.isReal_of_size _ (Host.reduce_andi_all _ _ _ _ _ h1 j), fun j => RowMath.isReal_of_size _ (Host.reduce_andi_all _ _ _ _ _ h2 j)⟩

/-- The reference runs, leaves its arguments as they were, and ends with every counter at zero. -/
theorem reference_frame : quiescent_Reference6Ideal (hReference6Ideal := Cert.Reference6Ideal.Gen.facts) := fun m ρ _ =>
  (θ_run _ _ _).mono (fun r h => ⟨fun c => (h c).2.2.2, Idealize.ShloMosaic.sem_eq_zero_of_no_sems (by decide) r.2⟩)
    (Cert.Reference6Ideal.Value.run (F := Ideal) m ρ)

/-- The kernel's results are the reference's, where those two are finite. -/
theorem equal_results : algebraic_Kernel6Ideal_Reference6Ideal_pre_finite_router (hKernel6Ideal := Cert.Kernel6Ideal.Gen.facts)
    (hReference6Ideal := Cert.Reference6Ideal.Gen.facts) (hPre_finite_router := Cert.Pre_finite_router.Gen.facts) := by
  intro m g m' g' hpre hagree
  refine ⟨fun c => (OutRef.X1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))), fun c => (OutRef.HB (OutRef.X1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))), fun c => (OutRef.LOGITS (OutRef.NORM2 (OutRef.X1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))) (m ((c : Thread nD τ).loc main_arg7)) (m ((c : Thread nD τ).loc main_arg8)) (m ((c : Thread nD τ).loc main_arg9))), ?_, ?_⟩
  · refine (θ_run _ _ _).mono (fun r h c => ?_) (Cert.Kernel6Ideal.Value.run_blocks m g)
    obtain ⟨h10, h11, h12, hr⟩ := h c
    exact ⟨h10.trans (x1_final m c), h11.trans (h_final m c), h12.trans (lg_final m c (real_args m c (hpre c))), hr⟩
  · refine (θ_run _ _ _).mono (fun r h c => ?_) (Cert.Reference6Ideal.Value.run (F := Ideal) m' g')
    obtain ⟨a0, a1, a2, a3, a4, a5, a6, a7, a8, a9⟩ := hagree c
    obtain ⟨h10, h11, h12, hr⟩ := h c
    beta_reduce
    rw [← a0, ← a1, ← a2, ← a3, ← a4, ← a5, ← a6, ← a7, ← a8, ← a9]
    exact ⟨h10, h11, h12, hr⟩

end Cert.OutFinal

end
-- ==== Proof.RouteMath.lean ====
/-
  The greatest entries of a row, taken one by one, are the first ones of its stable sort.
-/
module

public import Idealize.ShloMosaic.Lib.SortPrefix
public import Idealize.ShloMosaic.Lib.SortFacts
public import Idealize.ShloMosaic.Lib.SortNet.Extract
public import Idealize.ShloMosaic.Lib.PlanTiles.Rows
public import Idealize.ShloMosaic.PureOps.Ideal

@[expose] public section

set_option maxRecDepth 16384

noncomputable section

namespace Cert.RouteMath

open Idealize.ShloMosaic

/-- Lane `p` is the first of those holding the row's greatest entry. -/
def IsFirst (w : Fin 128 → EReal) (p : Fin 128) : Prop := (∀ l, w l ≤ w p) ∧ ∀ l, w l = w p → p ≤ l

theorem exists_first (w : Fin 128 → EReal) : ∃ p, IsFirst w p := by
  classical
  obtain ⟨q, -, hq⟩ := Finset.exists_max_image Finset.univ w ⟨0, Finset.mem_univ _⟩
  have hne : (Finset.univ.filter fun l => w l = w q).Nonempty := ⟨q, by simp⟩
  obtain ⟨p, hp, hmin⟩ := Finset.exists_min_image _ (fun l : Fin 128 => l) hne
  have hpq : w p = w q := (Finset.mem_filter.mp hp).2
  exact ⟨p, fun l => hpq ▸ hq l (Finset.mem_univ _), fun l hl => hmin l (Finset.mem_filter.mpr ⟨Finset.mem_univ _, hl.trans hpq⟩)⟩

/-- The first lane of the greatest entry. -/
def first (w : Fin 128 → EReal) : Fin 128 := (exists_first w).choose

theorem first_spec (w : Fin 128 → EReal) : IsFirst w (first w) := (exists_first w).choose_spec

/-- The greatest entry, as a fold. -/
theorem fold_top (w : Fin 128 → EReal) (z : EReal) (hz : z = ⊥) : Finset.univ.fold max z w = w (first w) := by
  subst hz
  refine le_antisymm ?_ ?_
  · rw [Finset.fold_max_le]
    exact ⟨bot_le, fun l _ => (first_spec w).1 l⟩
  · rw [Finset.le_fold_max]
    exact Or.inr ⟨first w, Finset.mem_univ _, le_rfl⟩

theorem toInt_fold_minsi {ι : Type} [DecidableEq ι] (s : Finset ι) (g : ι → BitVec 32) (z : BitVec 32) :
    (s.fold IntOp.minsi z g).toInt = s.fold min z.toInt fun l => (g l).toInt := by
  induction s using Finset.induction_on with
  | empty => simp
  | insert a s ha ih => rw [Finset.fold_insert ha, Finset.fold_insert ha, SortNet.toInt_minsi, ih]

theorem toInt_lane (l : Fin 128) : (BitVec.ofNat 32 l.val).toInt = l.val := by
  have := l.isLt
  rw [BitVec.toInt_eq_toNat_cond, BitVec.toNat_ofNat]
  omega

/-- The first lane holding the greatest entry, as the fold of the lanes' words. -/
theorem fold_first (w : Fin 128 → EReal) (M : EReal) (hM : M = w (first w)) :
    Finset.univ.fold IntOp.minsi 2147483647#32 (fun l : Fin 128 => if w l = M then BitVec.ofNat 32 l.val else 128#32) = BitVec.ofNat 32 (first w).val := by
  apply BitVec.eq_of_toInt_eq
  rw [toInt_fold_minsi, toInt_lane]
  refine le_antisymm ?_ ?_
  · rw [Finset.fold_min_le]
    refine Or.inr ⟨first w, Finset.mem_univ _, ?_⟩
    rw [if_pos hM.symm, toInt_lane]
  · rw [Finset.le_fold_min]
    have h128 := (first w).isLt
    refine ⟨?_, fun l _ => ?_⟩
    · have : (2147483647#32).toInt = 2147483647 := by decide
      rw [this]; omega
    · split
      · next h =>
        rw [toInt_lane]
        exact_mod_cast (first_spec w).2 l (h.trans hM)
      · have : (128#32).toInt = 128 := by decide
        rw [this]; omega

/-- The row once its greatest entry is taken. -/
def next (w : Fin 128 → EReal) : Fin 128 → EReal := fun l => if l = first w then ⊥ else w l

/-- The row of the first 32 entries after `r` were taken. -/
def rest (f : Fin 128 → EReal) : ℕ → Fin 128 → EReal
  | 0 => fun l => if l.val < 32 then f l else ⊥
  | r + 1 => next (rest f r)

/-- The lane taken after `r` others. -/
def pick (f : Fin 128 → EReal) (r : ℕ) : Fin 128 := first (rest f r)

/-- A row's exponential of its `j`th entry less its first. -/
def e (f : Fin 128 → EReal) (i : ℕ) : EReal := Ideal.exp (rest f i (pick f i) - rest f 0 (pick f 0))

theorem rest_eq (f : Fin 128 → EReal) (r : ℕ) (l : Fin 128) :
    rest f r l = if l.val < 32 ∧ ∀ i < r, l ≠ pick f i then f l else ⊥ := by
  classical
  induction r with
  | zero => simp [rest]
  | succ r ih =>
    show (if l = pick f r then ⊥ else rest f r l) = _
    rw [ih]
    by_cases h : l = pick f r
    · rw [if_pos h, if_neg]
      exact fun hh => hh.2 r (Nat.lt_succ_self r) h
    · rw [if_neg h]
      refine if_congr (and_congr_right fun _ => ⟨fun hh i hi => ?_, fun hh i hi => hh i (Nat.lt_succ_of_lt hi)⟩) rfl rfl
      rcases Nat.lt_succ_iff_lt_or_eq.mp hi with h' | h'
      · exact hh i h'
      · exact h' ▸ h

variable {f : Fin 128 → EReal} (hf : ∀ l : Fin 128, l.val < 32 → f l ≠ ⊥)
include hf

/-- A lane taken among the first four is one of the 32, and was not taken before. -/
theorem pick_live (r : ℕ) (hr : r < 4) : (pick f r).val < 32 ∧ ∀ i < r, pick f r ≠ pick f i := by
  classical
  obtain ⟨l, hl, hn⟩ : ∃ l : Fin 128, l.val < 32 ∧ ∀ i < r, l ≠ pick f i := by
    by_contra hno
    push Not at hno
    have hsub : (Finset.univ.image fun j : Fin 32 => (⟨j.val, by omega⟩ : Fin 128)) ⊆ (Finset.range r).image (pick f) := by
      intro l hl
      obtain ⟨j, -, rfl⟩ := Finset.mem_image.mp hl
      obtain ⟨i, hi, he⟩ := hno ⟨j.val, by omega⟩ j.isLt
      exact Finset.mem_image.mpr ⟨i, Finset.mem_range.mpr hi, he.symm⟩
    have h1 := Finset.card_le_card hsub
    have h2 : ((Finset.range r).image (pick f)).card ≤ r := Finset.card_image_le.trans (by simp)
    rw [Finset.card_image_of_injective _ (fun a b h => Fin.ext (by simpa using congrArg Fin.val h)), Finset.card_univ, Fintype.card_fin] at h1
    omega
  by_contra hno
  have hb : rest f r (pick f r) = ⊥ := by rw [rest_eq, if_neg hno]
  have hle := (first_spec (rest f r)).1 l
  rw [show rest f r (first (rest f r)) = ⊥ from hb, rest_eq, if_pos ⟨hl, hn⟩] at hle
  exact hf l hl (le_bot_iff.mp hle)

/-- What is taken is the entry. -/
theorem rest_pick (r : ℕ) (hr : r < 4) : rest f r (pick f r) = f (pick f r) := by
  rw [rest_eq, if_pos (pick_live hf r hr)]

/-- An entry still there is not before the one taken. -/
theorem pick_max (r : ℕ) (hr : r < 4) (l : Fin 128) (hl : l.val < 32) (hn : ∀ i < r, l ≠ pick f i) :
    f l ≤ f (pick f r) ∧ (f l = f (pick f r) → pick f r ≤ l) := by
  have h := first_spec (rest f r)
  have e : rest f r l = f l := by rw [rest_eq, if_pos ⟨hl, hn⟩]
  have h1 := h.1 l
  have h2 := h.2 l
  rw [show rest f r (first (rest f r)) = f (pick f r) from rest_pick hf r hr, e] at h1 h2
  exact ⟨h1, h2⟩

/-- The lane taken after `j` others, as one of the 32. -/
def lane (j : Fin 4) : Fin 32 := ⟨(pick f j.val).val, (pick_live hf j.val j.isLt).1⟩

omit hf in
/-- The sorting order of two lanes. -/
def before (g : Fin 32 → EReal) (k k' : Fin 32) : Bool := Ideal.cmp .ogt (g k) (g k') == 1#1

omit hf in
theorem before_iff (g : Fin 32 → EReal) (k k' : Fin 32) : before g k k' = true ↔ g k' < g k := by
  unfold before
  by_cases h : g k' < g k <;> simp [Ideal.cmp, h]

omit hf in
/-- The order with the lane settling ties. -/
def order (g : Fin 32 → EReal) (k k' : Fin 32) : Bool := before g k k' || (decide (g k = g k') && decide (k < k'))

omit hf in
theorem order_total (g : Fin 32 → EReal) : StrictTotalBefore (order g) := by
  classical
  have := StrictTotalBefore.of_key_then_position (n := 32) (fun a b : EReal => decide (b < a)) g
    (by simp) (by simp only [decide_eq_true_eq]; exact fun a b c h h' => h'.trans h)
    (by simp only [decide_eq_true_eq]; exact fun a b => (lt_trichotomy b a).imp id fun h => h.imp Eq.symm id)
  have e : order g = fun k k' : Fin 32 => (fun a b : EReal => decide (b < a)) (g k) (g k') || (decide (g k = g k') && decide (k < k')) := by
    funext k k'
    unfold order
    congr 1
    rw [Bool.eq_iff_iff, before_iff]
    simp
  rw [e]
  exact this

/-- The stable sort's first four lanes are those taken. -/
theorem order_lane (j : Fin 4) :
    sortedFrom (order fun k => f ⟨k.val, by omega⟩) (j.castLE (by decide)) = lane hf j := by
  refine (order_total _).sortedFrom_eq_of_prefix (by decide) (lane hf) ?_ ?_ ?_ j
  · intro a b h
    have h' : pick f a.val = pick f b.val := Fin.ext (Fin.mk.inj h)
    rcases lt_trichotomy a.val b.val with hab | hab | hab
    · exact absurd h'.symm ((pick_live hf b.val b.isLt).2 _ hab)
    · exact Fin.ext hab
    · exact absurd h' ((pick_live hf a.val a.isLt).2 _ hab)
  · intro a b hab
    have hb := pick_live hf b.val b.isLt
    have h := pick_max hf a.val a.isLt (pick f b.val) hb.1 fun i hi => hb.2 i (lt_trans hi hab)
    have hne : pick f b.val ≠ pick f a.val := hb.2 a.val hab
    rw [Bool.eq_false_iff]
    intro ht
    unfold order at ht
    rw [Bool.or_eq_true, before_iff, Bool.and_eq_true, decide_eq_true_eq, decide_eq_true_eq] at ht
    rcases ht with ht | ⟨ht, hlt⟩
    · exact absurd h.1 (not_le.mpr ht)
    · exact absurd (h.2 ht) (not_le.mpr hlt)
  · intro a p hp
    have h := pick_max hf a.val a.isLt ⟨p.val, by omega⟩ p.isLt fun i hi he =>
      hp ⟨i, lt_trans hi a.isLt⟩ (Fin.ext (congrArg Fin.val he).symm)
    rw [Bool.eq_false_iff]
    intro ht
    unfold order at ht
    rw [Bool.or_eq_true, before_iff, Bool.and_eq_true, decide_eq_true_eq, decide_eq_true_eq] at ht
    rcases ht with ht | ⟨ht, hlt⟩
    · exact absurd h.1 (not_le.mpr ht)
    · exact absurd (h.2 ht) (not_le.mpr hlt)

omit hf in
/-- On a list of increasing lanes the stable sort settles ties by the lane. -/
theorem stableSort_before (g : Fin 32 → EReal) (l : List (Fin 32)) (h : l.Pairwise (· < ·)) :
    stableSort (before g) l = stableSort (order g) l := by
  induction l with
  | nil => rfl
  | cons a l ih =>
    rw [List.pairwise_cons] at h
    unfold stableSort
    rw [ih h.2]
    refine insertBefore_congr _ _ a _ fun b hb => ?_
    have hab : a < b := h.1 b ((perm_stableSort _ l).mem_iff.mp hb)
    unfold order
    rw [decide_eq_false (not_lt.mpr hab.le), Bool.and_false, Bool.or_false]

omit hf in
/-- Equal sorts have equal sources. -/
theorem sortedFrom_of_positions {n : ℕ} (B R : Fin n → Fin n → Bool) (h : sortPositions n B = sortPositions n R) :
    sortedFrom B = sortedFrom R := by
  funext k
  unfold sortedFrom
  rw [List.get_of_eq h]
  rfl

omit hf in
theorem sortedFrom_before (g : Fin 32 → EReal) : sortedFrom (before g) = sortedFrom (order g) :=
  sortedFrom_of_positions _ _ (stableSort_before g _ (List.pairwise_lt_finRange 32))

/-- The sort's first four lanes are those taken. -/
theorem before_lane (j : Fin 4) :
    sortedFrom (before fun k => f ⟨k.val, by omega⟩) (j.castLE (by decide)) = lane hf j := by
  rw [sortedFrom_before]
  exact order_lane hf j

/-- The first one taken is the greatest. -/
theorem fold_pick (z : EReal) (hz : z = ⊥) :
    Finset.univ.fold max z (fun j : Fin 4 => f (pick f j.val)) = f (pick f 0) := by
  subst hz
  refine le_antisymm ?_ ?_
  · rw [Finset.fold_max_le]
    refine ⟨bot_le, fun j _ => ?_⟩
    exact (pick_max hf 0 (by decide) (pick f j.val) (pick_live hf j.val j.isLt).1 fun i hi => absurd hi (Nat.not_lt_zero i)).1
  · rw [Finset.le_fold_max]
    exact Or.inr ⟨0, Finset.mem_univ _, le_rfl⟩

/-- The lane is one of a row's four. -/
def hit (f : Fin 128 → EReal) (l : Fin 128) : Prop := ∃ i : Fin 4, l = pick f i.val

open Classical in
/-- One for a row's four lanes, zero for the others. -/
def ind (f : Fin 128 → EReal) (l : Fin 128) : ℕ := if hit f l then 1 else 0

omit hf in
theorem ind_le (f : Fin 128 → EReal) (l : Fin 128) : ind f l ≤ 1 := by
  unfold ind
  split <;> omega

omit hf in
theorem ind_pick (f : Fin 128 → EReal) (j : Fin 4) : ind f (pick f j.val) = 1 := by
  unfold ind
  rw [if_pos ⟨j, rfl⟩]

omit hf in
theorem hit_iff (f : Fin 128 → EReal) (l : Fin 128) : hit f l ↔ l = pick f 0 ∨ l = pick f 1 ∨ l = pick f 2 ∨ l = pick f 3 := by
  constructor
  · rintro ⟨i, hi⟩
    fin_cases i
    · exact Or.inl hi
    · exact Or.inr (Or.inl hi)
    · exact Or.inr (Or.inr (Or.inl hi))
    · exact Or.inr (Or.inr (Or.inr hi))
  · rintro (h | h | h | h)
    · exact ⟨0, h⟩
    · exact ⟨1, h⟩
    · exact ⟨2, h⟩
    · exact ⟨3, h⟩

omit hf in
theorem ind_eq (f : Fin 128 → EReal) (l : Fin 128) :
    ind f l = if l = pick f 0 ∨ l = pick f 1 ∨ l = pick f 2 ∨ l = pick f 3 then 1 else 0 := by
  unfold ind
  by_cases h : hit f l
  · rw [if_pos h, if_pos ((hit_iff f l).mp h)]
  · rw [if_neg h, if_neg fun h' => h ((hit_iff f l).mpr h')]

omit hf in
/-- A natural number read as a word. -/
theorem word_of_nat (n : ℕ) (hn : n < 2 ^ 31) : Ideal.fptosi 32 ((n : ℕ) : EReal) = BitVec.ofNat 32 n := by
  unfold Ideal.fptosi
  have h : Ideal.toIntClamped (-(2 ^ (32 - 1) : Nat)) ((2 ^ (32 - 1) : Nat) - 1) ((n : ℕ) : EReal) = (n : ℤ) := by
    rw [show ((n : ℕ) : EReal) = (((n : ℕ) : ℝ) : EReal) from rfl]
    show max _ (min _ (if (0 : ℝ) ≤ ((n : ℕ) : ℝ) then ⌊((n : ℕ) : ℝ)⌋ else ⌈((n : ℕ) : ℝ)⌉)) = _
    rw [if_pos (Nat.cast_nonneg n), Int.floor_natCast]
    norm_num at hn ⊢
    omega
  rw [h]
  exact BitVec.ofInt_natCast 32 n

end Cert.RouteMath

end
-- ==== Proof.RouteBody.lean ====
/-
  What a block of the router stores of the experts and gates, at a row and column.
-/
module

public import proofs.«01_k».proof.Proof.Gen.Kernel7Ideal.Value
public import proofs.«01_k».proof.Proof.RouteMath
public import Idealize.ShloMosaic.Lib.Pipeline.ValueKit
public import Idealize.ShloMosaic.Lib.Pointwise
public import Idealize.ShloMosaic.Lib.WordCmp

@[expose] public section

set_option maxRecDepth 16384

noncomputable section

namespace Cert.RouteBody

open Cert.Kernel7Ideal Cert.Kernel7Ideal.Gen
open Idealize.ShloMosaic Idealize.ShloMosaic.TcCoe Idealize.SL.Sem
open Idealize.ShloMosaic.Pipeline (Dat)
open Cert.RouteMath

theorem bot : Ideal.ofBits .f32 4286578688#32 = ⊥ := by
  simp [Ideal.ofBits, Ideal.ieee]

variable (x : Vec Ideal S512x128 .f32) (r : Fin 512) (l : Fin 128)

/-- A block's row. -/
def row : Fin 128 → EReal := fun l => x (ix2 r l)

theorem lane_eq (a b : Fin 128) : IntOp.cmpi .eq (BitVec.ofNat 32 a.val) (BitVec.ofNat 32 b.val) = if a = b then 1#1 else 0#1 := by
  have := a.isLt
  have := b.isLt
  by_cases h : a = b
  · subst h; simp [IntOp.cmpi]
  · have hn : BitVec.ofNat 32 a.val ≠ BitVec.ofNat 32 b.val := fun e => h (Fin.ext (by
      have e' := congrArg BitVec.toNat e
      rw [BitVec.toNat_ofNat, BitVec.toNat_ofNat] at e'
      omega))
    rw [if_neg h, show IntOp.cmpi .eq (BitVec.ofNat 32 a.val) (BitVec.ofNat 32 b.val) = BitVec.ofBool (BitVec.ofNat 32 a.val == BitVec.ofNat 32 b.val) from rfl, beq_false_of_ne hn]
    rfl

/-- Taking a lane out. -/
theorem take_at (w : Fin 128 → EReal) (l : Fin 128) :
    Scalar.select (IntOp.cmpi .eq (BitVec.ofNat 32 l.val) (BitVec.ofNat 32 (first w).val)) (Ideal.ofBits .f32 4286578688#32) (w l) = next w l := by
  rw [lane_eq, bot]
  unfold next
  by_cases h : l = first w <;> simp [h, Scalar.select]

theorem pay3_at : k0_pay3 x (ix2 r l) = rest (row x r) 0 l := by
  pointwise [k0_pay3]
  rw [bot]
  unfold rest row
  have hl := l.isLt
  by_cases h : l.val < 32
  · rw [if_pos h, show IntOp.cmpi .slt (BitVec.ofNat 32 l.val) 32#32 = 1#1 by
      rw [show IntOp.cmpi .slt (BitVec.ofNat 32 l.val) 32#32 = BitVec.ofBool ((BitVec.ofNat 32 l.val).slt 32#32) from rfl, BitVec.slt, toInt_lane, decide_eq_true (show (l.val : ℤ) < (32#32).toInt by
        rw [show (32#32).toInt = 32 by decide]; omega)]
      rfl]
    rfl
  · rw [if_neg h, show IntOp.cmpi .slt (BitVec.ofNat 32 l.val) 32#32 = 0#1 by
      rw [show IntOp.cmpi .slt (BitVec.ofNat 32 l.val) 32#32 = BitVec.ofBool ((BitVec.ofNat 32 l.val).slt 32#32) from rfl, BitVec.slt, toInt_lane, decide_eq_false (show ¬ (l.val : ℤ) < (32#32).toInt by
        rw [show (32#32).toInt = 32 by decide]; omega)]
      rfl]
    rfl

theorem pay4_at : k0_pay4 x (ix2 r 0) = rest (row x r) 0 (pick (row x r) 0) := by
  pointwise [k0_pay4]
  simp only [pay3_at]
  exact fold_top _ _ bot

theorem pay5_at : k0_pay5 x (ix2 r 0) = BitVec.ofNat 32 (pick (row x r) 0).val := by
  pointwise [k0_pay5]
  simp only [pay3_at, pay4_at]
  exact fold_first _ _ rfl

theorem pay7_at : k0_pay7 x (ix2 r l) = rest (row x r) 1 l := by
  pointwise [k0_pay7, k0_pay6]
  rw [pay3_at, pay5_at]
  exact take_at _ l

theorem pay8_at : k0_pay8 x (ix2 r 0) = rest (row x r) 1 (pick (row x r) 1) := by
  pointwise [k0_pay8]
  simp only [pay7_at]
  exact fold_top _ _ bot

theorem pay9_at : k0_pay9 x (ix2 r 0) = BitVec.ofNat 32 (pick (row x r) 1).val := by
  pointwise [k0_pay9]
  simp only [pay7_at, pay8_at]
  exact fold_first _ _ rfl

theorem pay11_at : k0_pay11 x (ix2 r l) = rest (row x r) 2 l := by
  pointwise [k0_pay11, k0_pay10]
  rw [pay7_at, pay9_at]
  exact take_at _ l

theorem pay12_at : k0_pay12 x (ix2 r 0) = rest (row x r) 2 (pick (row x r) 2) := by
  pointwise [k0_pay12]
  simp only [pay11_at]
  exact fold_top _ _ bot

theorem pay13_at : k0_pay13 x (ix2 r 0) = BitVec.ofNat 32 (pick (row x r) 2).val := by
  pointwise [k0_pay13]
  simp only [pay11_at, pay12_at]
  exact fold_first _ _ rfl

/-- The lanes' words. -/
def lanes : IVec S512x128 32 := iota .tc S512x128 32 [1] iota_S512x128_d1_w32

theorem lanes_at : lanes (ix2 r l) = BitVec.ofNat 32 l.val := by
  pointwise [lanes]

theorem pay15_at : k0_pay15 lanes (k0_pay11 x) (k0_pay13 x) (ix2 r l) = rest (row x r) 3 l := by
  pointwise [k0_pay15, k0_pay14]
  rw [lanes_at, pay11_at, pay13_at]
  exact take_at _ l

theorem pay16_at : k0_pay16 lanes (k0_pay11 x) (k0_pay13 x) (ix2 r 0) = rest (row x r) 3 (pick (row x r) 3) := by
  pointwise [k0_pay16]
  simp only [pay15_at]
  exact fold_top _ _ bot

theorem pay17_at : k0_pay17 lanes (k0_pay11 x) (k0_pay13 x) (ix2 r 0) = BitVec.ofNat 32 (pick (row x r) 3).val := by
  pointwise [k0_pay17]
  simp only [lanes_at, pay15_at, pay16_at]
  exact fold_first _ _ rfl

/-- The columns' words. -/
def cols : IVec S512x4 32 := iota .tc S512x4 32 [1] iota_S512x4_d1_w32

variable (j : Fin 4)

/-- The experts of a row. -/
theorem idx_at : k0_pay30 (k0_pay13 x) (k0_pay17 lanes (k0_pay11 x) (k0_pay13 x)) cols (k0_pay26 (k0_pay5 x) (k0_pay9 x) cols 0#32) (ix2 r j)
    = BitVec.ofNat 32 (pick (row x r) j.val).val := by
  pointwise [k0_pay30, k0_pay26, cols]
  rw [pay5_at, pay9_at, pay13_at, pay17_at]
  fin_cases j <;> rfl

/-- The gates of a row. -/
theorem gate_at : k0_pay31 (k0_pay21 (k0_pay4 x) (k0_pay12 x)) (k0_pay22 lanes (k0_pay4 x) (k0_pay11 x) (k0_pay13 x))
      (k0_pay23 lanes (k0_pay4 x) (k0_pay8 x) (k0_pay11 x) (k0_pay12 x) (k0_pay13 x)) cols
      (k0_pay27 (k0_pay19 (k0_pay4 x)) (k0_pay20 (k0_pay4 x) (k0_pay8 x)) (k0_pay23 lanes (k0_pay4 x) (k0_pay8 x) (k0_pay11 x) (k0_pay12 x) (k0_pay13 x)) cols) (ix2 r j)
    = Ideal.div (e (row x r) j.val) (e (row x r) 0 + e (row x r) 1 + e (row x r) 2 + e (row x r) 3) := by
  pointwise [k0_pay31, k0_pay27, k0_pay19, k0_pay20, k0_pay21, k0_pay22, k0_pay23, cols]
  rw [pay4_at, pay8_at, pay12_at, pay16_at]
  fin_cases j <;> rfl

/-- The experts the first block stores. -/
theorem out_A_1 (c : Dev nD) (i : grid0.Coords) (arg1 : Memref sig .tc .vmem S512x128 .f32) (harg1 : arg1.IsWhole) (arg2 : Memref sig .tc .vmem S512x4 .i32) (harg2 : arg2.IsWhole) (arg3 : Memref sig .tc .vmem S512x4 .f32) (harg3 : arg3.IsWhole) (arg4 : Memref sig .tc .vmem S512x4 .i32) (harg4 : arg4.IsWhole) (arg5 : Memref sig .tc .vmem S1x128 .f32) (harg5 : arg5.IsWhole) (hc0 : cond0_0 i)
    (x0 : Vec Ideal S512x128 .f32) (r : Fin 512) (j : Fin 4) :
    out0_A_1 c i arg1 harg1 arg2 harg2 arg3 harg3 arg4 harg4 arg5 harg5 hc0 x0 (ix2 r j) = BitVec.ofNat 32 (pick (row x0 r) j.val).val := by
  rw [← idx_at x0 r j]
  unfold out0_A_1
  frame_out
  rfl

/-- The gates the first block stores. -/
theorem out_A_2 (c : Dev nD) (i : grid0.Coords) (arg1 : Memref sig .tc .vmem S512x128 .f32) (harg1 : arg1.IsWhole) (arg2 : Memref sig .tc .vmem S512x4 .i32) (harg2 : arg2.IsWhole) (arg3 : Memref sig .tc .vmem S512x4 .f32) (harg3 : arg3.IsWhole) (arg4 : Memref sig .tc .vmem S512x4 .i32) (harg4 : arg4.IsWhole) (arg5 : Memref sig .tc .vmem S1x128 .f32) (harg5 : arg5.IsWhole) (hc0 : cond0_0 i)
    (x0 : Vec Ideal S512x128 .f32) (r : Fin 512) (j : Fin 4) :
    out0_A_2 c i arg1 harg1 arg2 harg2 arg3 harg3 arg4 harg4 arg5 harg5 hc0 x0 (ix2 r j) = Ideal.div (e (row x0 r) j.val) (e (row x0 r) 0 + e (row x0 r) 1 + e (row x0 r) 2 + e (row x0 r) 3) := by
  rw [← gate_at x0 r j]
  unfold out0_A_2
  frame_out
  rfl

/-- The experts a later block stores. -/
theorem out_B_1 (c : Dev nD) (i : grid0.Coords) (arg1 : Memref sig .tc .vmem S512x128 .f32) (harg1 : arg1.IsWhole) (arg2 : Memref sig .tc .vmem S512x4 .i32) (harg2 : arg2.IsWhole) (arg3 : Memref sig .tc .vmem S512x4 .f32) (harg3 : arg3.IsWhole) (arg4 : Memref sig .tc .vmem S512x4 .i32) (harg4 : arg4.IsWhole) (arg5 : Memref sig .tc .vmem S1x128 .f32) (harg5 : arg5.IsWhole) (hc0 : ¬cond0_0 i)
    (x0 : Vec Ideal S512x128 .f32) (xo4 : Vec Ideal S1x128 .f32) (r : Fin 512) (j : Fin 4) :
    out0_B_1 c i arg1 harg1 arg2 harg2 arg3 harg3 arg4 harg4 arg5 harg5 hc0 x0 xo4 (ix2 r j) = BitVec.ofNat 32 (pick (row x0 r) j.val).val := by
  rw [← idx_at x0 r j]
  unfold out0_B_1
  frame_out
  rfl

/-- The gates a later block stores. -/
theorem out_B_2 (c : Dev nD) (i : grid0.Coords) (arg1 : Memref sig .tc .vmem S512x128 .f32) (harg1 : arg1.IsWhole) (arg2 : Memref sig .tc .vmem S512x4 .i32) (harg2 : arg2.IsWhole) (arg3 : Memref sig .tc .vmem S512x4 .f32) (harg3 : arg3.IsWhole) (arg4 : Memref sig .tc .vmem S512x4 .i32) (harg4 : arg4.IsWhole) (arg5 : Memref sig .tc .vmem S1x128 .f32) (harg5 : arg5.IsWhole) (hc0 : ¬cond0_0 i)
    (x0 : Vec Ideal S512x128 .f32) (xo4 : Vec Ideal S1x128 .f32) (r : Fin 512) (j : Fin 4) :
    out0_B_2 c i arg1 harg1 arg2 harg2 arg3 harg3 arg4 harg4 arg5 harg5 hc0 x0 xo4 (ix2 r j) = Ideal.div (e (row x0 r) j.val) (e (row x0 r) 0 + e (row x0 r) 1 + e (row x0 r) 2 + e (row x0 r) 3) := by
  rw [← gate_at x0 r j]
  unfold out0_B_2
  frame_out
  rfl

end Cert.RouteBody

end
-- ==== Proof.RouteCount.lean ====
/-
  What a block of the router stores of the places and counts.
-/
module

public import proofs.«01_k».proof.Proof.RouteBody

@[expose] public section

set_option maxRecDepth 16384

noncomputable section

namespace Cert.RouteBody

open Cert.Kernel7Ideal Cert.Kernel7Ideal.Gen
open Idealize.ShloMosaic Idealize.ShloMosaic.TcCoe Idealize.SL.Sem
open Idealize.ShloMosaic.Pipeline (Dat)
open Cert.RouteMath

variable (x : Vec Ideal S512x128 .f32) (r : Fin 512) (l : Fin 128)

theorem pick0_at : k0_pay6 x (ix2 r l) = if l = pick (row x r) 0 then 1#1 else 0#1 := by
  pointwise [k0_pay6]
  rw [pay5_at, lane_eq]

theorem pick1_at : k0_pay10 x (ix2 r l) = if l = pick (row x r) 1 then 1#1 else 0#1 := by
  pointwise [k0_pay10]
  rw [pay9_at, lane_eq]

theorem pick2_at : k0_pay14 lanes (k0_pay13 x) (ix2 r l) = if l = pick (row x r) 2 then 1#1 else 0#1 := by
  pointwise [k0_pay14]
  rw [lanes_at, pay13_at, lane_eq]

theorem pick3_at : k0_pay18 lanes (k0_pay11 x) (k0_pay13 x) (ix2 r l) = if l = pick (row x r) 3 then 1#1 else 0#1 := by
  pointwise [k0_pay18]
  rw [lanes_at, pay17_at, lane_eq]

/-- The lanes taken are marked with one. -/
theorem pay24_at : k0_pay24 lanes (k0_pay6 x) (k0_pay10 x) (k0_pay11 x) (k0_pay13 x) (ix2 r l) = ((ind (row x r) l : ℕ) : EReal) := by
  pointwise [k0_pay24]
  rw [pick0_at, pick1_at, pick2_at, pick3_at]
  rw [ind_eq]
  by_cases h0 : l = pick (row x r) 0 <;> by_cases h1 : l = pick (row x r) 1 <;> by_cases h2 : l = pick (row x r) 2
    <;> by_cases h3 : l = pick (row x r) 3 <;> simp only [h0, h1, h2, h3, if_true, if_false, or_true, true_or, or_false, Scalar.select] <;> simp

/-- The lower rows' mark. -/
theorem earlier_at (k : Fin 512) : (FloatOps.sitofp (F := Ideal) .f32 (BitVec.setWidth 32 (IntOp.cmpi .sgt (BitVec.ofNat 32 r.val) (BitVec.ofNat 32 k.val))) : EReal)
    = if k.val < r.val then 1 else 0 := by
  have hk := k.isLt
  have hr := r.isLt
  have h : IntOp.cmpi .sgt (BitVec.ofNat 32 r.val) (BitVec.ofNat 32 k.val) = BitVec.ofBool (decide (k.val < r.val)) := by
    show BitVec.ofBool ((BitVec.ofNat 32 k.val).slt (BitVec.ofNat 32 r.val)) = _
    rw [BitVec.slt]
    congr 1
    rw [BitVec.toInt_eq_toNat_cond, BitVec.toInt_eq_toNat_cond, BitVec.toNat_ofNat, BitVec.toNat_ofNat]
    rw [decide_eq_decide]
    omega
  rw [h]
  by_cases hlt : k.val < r.val
  · rw [if_pos hlt, decide_eq_true hlt]
    show ((((BitVec.setWidth 32 (1#1)).toInt : ℝ)) : EReal) = 1
    rw [show (BitVec.setWidth 32 (1#1)).toInt = 1 by decide]
    simp
  · rw [if_neg hlt, decide_eq_false hlt]
    show ((((BitVec.setWidth 32 (0#1)).toInt : ℝ)) : EReal) = 0
    rw [show (BitVec.setWidth 32 (0#1)).toInt = 0 by decide]
    simp

/-- How many rows of a block before `r` took the lane. -/
def prior : ℕ := ∑ k : Fin 512, if k.val < r.val then ind (row x k) l else 0

/-- How many earlier rows took the lane, after `n` of the blocks before. -/
theorem pay25_at (v : Vec Ideal S1x128 .f32) (n : ℕ) (hv : v (ix2 0 l) = ((n : ℕ) : EReal)) :
    k0_pay25 lanes (k0_pay6 x) (k0_pay10 x) (k0_pay11 x) (k0_pay13 x) v (ix2 r l) = ((prior x r l + n : ℕ) : EReal) := by
  unfold k0_pay25
  generalize hw : k0_pay24 lanes (k0_pay6 x) (k0_pay10 x) (k0_pay11 x) (k0_pay13 x) = w
  pointwise
  rw [hv, Nat.cast_add]
  congr 1
  unfold prior
  rw [Nat.cast_sum]
  refine Finset.sum_congr rfl fun k _ => ?_
  rw [earlier_at, ← hw, pay24_at]
  by_cases hk : k.val < r.val
  · rw [if_pos hk, if_pos hk, one_mul]
  · rw [if_neg hk, if_neg hk, zero_mul, Nat.cast_zero]

/-- A lane's sum with the pick's bits is the value there. -/
theorem sum_pick (p : Fin 128) (b : Fin 128 → BitVec 1) (hb : ∀ l, b l = if l = p then 1#1 else 0#1) (V : Fin 128 → EReal) :
    ∑ l, Scalar.select (b l) (V l) 0 = V p := by
  rw [Finset.sum_eq_single p]
  · rw [hb, if_pos rfl]; rfl
  · intro l _ hl
    rw [hb, if_neg hl]; rfl
  · intro h
    exact absurd (Finset.mem_univ _) h

/-- The places of a row. -/
theorem pos_at (V : FVec Ideal S512x128 .f32) (q : Fin 128 → ℕ) (hq : ∀ l, q l < 2 ^ 31) (hV : ∀ l, V (ix2 r l) = ((q l : ℕ) : EReal)) (j : Fin 4) :
    k0_pay32 (k0_pay18 lanes (k0_pay11 x) (k0_pay13 x)) V cols (k0_pay28 (k0_pay6 x) (k0_pay10 x) V cols) (k0_pay29 (k0_pay14 lanes (k0_pay13 x)) V) (ix2 r j)
      = BitVec.ofNat 32 (q (pick (row x r) j.val)) := by
  rw [← word_of_nat _ (hq _), ← hV]
  pointwise [k0_pay32, k0_pay28, k0_pay29, cols]
  rw [sum_pick _ _ (pick0_at x r), sum_pick _ _ (pick1_at x r), sum_pick _ _ (pick2_at x r), sum_pick _ _ (pick3_at x r)]
  fin_cases j <;> rfl

/-- The lane's count after a block. -/
theorem count_at (v : Vec Ideal S1x128 .f32) (n : ℕ) (hv : v (ix2 0 l) = ((n : ℕ) : EReal)) :
    k0_pay1 (k0_pay24 lanes (k0_pay6 x) (k0_pay10 x) (k0_pay11 x) (k0_pay13 x)) v (ix2 0 l) = ((n + ∑ k : Fin 512, ind (row x k) l : ℕ) : EReal) := by
  pointwise [k0_pay1]
  simp only [pay24_at]
  rw [hv, Nat.cast_add, Nat.cast_sum]

end Cert.RouteBody

end
-- ==== Proof.RouteStore.lean ====
/-
  The places and counts a block of the router stores, read at a row and column.
-/
module

public import proofs.«01_k».proof.Proof.RouteCount

@[expose] public section

set_option maxRecDepth 16384

noncomputable section

namespace Cert.RouteBody

open Cert.Kernel7Ideal Cert.Kernel7Ideal.Gen
open Idealize.ShloMosaic Idealize.ShloMosaic.TcCoe Idealize.SL.Sem
open Idealize.ShloMosaic.Pipeline (Dat)
open Cert.RouteMath

theorem prior_le (x : Vec Ideal S512x128 .f32) (r : Fin 512) (l : Fin 128) : prior x r l ≤ 512 := by
  unfold prior
  refine (Finset.sum_le_sum (g := fun _ => 1) fun k _ => ?_).trans (by simp)
  split
  · exact ind_le _ _
  · exact Nat.zero_le _

theorem zero_at (l : Fin 128) : k0_pay2 (F := Ideal) (ix2 0 l) = ((0 : ℕ) : EReal) := by
  rw [Nat.cast_zero]
  pointwise [k0_pay2]

/-- The places the first block stores. -/
theorem out_A_3 (c : Dev nD) (i : grid0.Coords) (arg1 : Memref sig .tc .vmem S512x128 .f32) (harg1 : arg1.IsWhole) (arg2 : Memref sig .tc .vmem S512x4 .i32) (harg2 : arg2.IsWhole) (arg3 : Memref sig .tc .vmem S512x4 .f32) (harg3 : arg3.IsWhole) (arg4 : Memref sig .tc .vmem S512x4 .i32) (harg4 : arg4.IsWhole) (arg5 : Memref sig .tc .vmem S1x128 .f32) (harg5 : arg5.IsWhole) (hc0 : cond0_0 i)
    (x0 : Vec Ideal S512x128 .f32) (r : Fin 512) (j : Fin 4) :
    out0_A_3 c i arg1 harg1 arg2 harg2 arg3 harg3 arg4 harg4 arg5 harg5 hc0 x0 (ix2 r j) = BitVec.ofNat 32 (prior x0 r (pick (row x0 r) j.val) + 0) := by
  rw [← pos_at x0 r (k0_pay25 lanes (k0_pay6 x0) (k0_pay10 x0) (k0_pay11 x0) (k0_pay13 x0) (k0_pay2 (F := Ideal))) (fun l => prior x0 r l + 0) (fun l => by
    have h1 := prior_le x0 r l
    omega) (fun l => pay25_at x0 r l (k0_pay2 (F := Ideal)) 0 (zero_at l)) j]
  unfold out0_A_3
  frame_out
  rfl

/-- The counts the first block stores. -/
theorem out_A_4 (c : Dev nD) (i : grid0.Coords) (arg1 : Memref sig .tc .vmem S512x128 .f32) (harg1 : arg1.IsWhole) (arg2 : Memref sig .tc .vmem S512x4 .i32) (harg2 : arg2.IsWhole) (arg3 : Memref sig .tc .vmem S512x4 .f32) (harg3 : arg3.IsWhole) (arg4 : Memref sig .tc .vmem S512x4 .i32) (harg4 : arg4.IsWhole) (arg5 : Memref sig .tc .vmem S1x128 .f32) (harg5 : arg5.IsWhole) (hc0 : cond0_0 i)
    (x0 : Vec Ideal S512x128 .f32) (l : Fin 128) :
    out0_A_4 c i arg1 harg1 arg2 harg2 arg3 harg3 arg4 harg4 arg5 harg5 hc0 x0 (ix2 0 l) = ((0 + ∑ k : Fin 512, ind (row x0 k) l : ℕ) : EReal) := by
  rw [← count_at x0 l (k0_pay2 (F := Ideal)) 0 (zero_at l)]
  unfold out0_A_4
  frame_out
  rfl

/-- The places a later block stores. -/
theorem out_B_3 (c : Dev nD) (i : grid0.Coords) (arg1 : Memref sig .tc .vmem S512x128 .f32) (harg1 : arg1.IsWhole) (arg2 : Memref sig .tc .vmem S512x4 .i32) (harg2 : arg2.IsWhole) (arg3 : Memref sig .tc .vmem S512x4 .f32) (harg3 : arg3.IsWhole) (arg4 : Memref sig .tc .vmem S512x4 .i32) (harg4 : arg4.IsWhole) (arg5 : Memref sig .tc .vmem S1x128 .f32) (harg5 : arg5.IsWhole) (hc0 : ¬cond0_0 i)
    (x0 : Vec Ideal S512x128 .f32) (xo4 : Vec Ideal S1x128 .f32) (n : Fin 128 → ℕ) (hn : ∀ l, n l ≤ 16384) (hv : ∀ l, xo4 (ix2 0 l) = ((n l : ℕ) : EReal)) (r : Fin 512) (j : Fin 4) :
    out0_B_3 c i arg1 harg1 arg2 harg2 arg3 harg3 arg4 harg4 arg5 harg5 hc0 x0 xo4 (ix2 r j) = BitVec.ofNat 32 (prior x0 r (pick (row x0 r) j.val) + n (pick (row x0 r) j.val)) := by
  rw [← pos_at x0 r (k0_pay25 lanes (k0_pay6 x0) (k0_pay10 x0) (k0_pay11 x0) (k0_pay13 x0) xo4) (fun l => prior x0 r l + n l) (fun l => by
    have h1 := prior_le x0 r l
    have h2 := hn l
    omega) (fun l => pay25_at x0 r l xo4 (n l) (hv l)) j]
  unfold out0_B_3
  frame_out
  rfl

/-- The counts a later block stores. -/
theorem out_B_4 (c : Dev nD) (i : grid0.Coords) (arg1 : Memref sig .tc .vmem S512x128 .f32) (harg1 : arg1.IsWhole) (arg2 : Memref sig .tc .vmem S512x4 .i32) (harg2 : arg2.IsWhole) (arg3 : Memref sig .tc .vmem S512x4 .f32) (harg3 : arg3.IsWhole) (arg4 : Memref sig .tc .vmem S512x4 .i32) (harg4 : arg4.IsWhole) (arg5 : Memref sig .tc .vmem S1x128 .f32) (harg5 : arg5.IsWhole) (hc0 : ¬cond0_0 i)
    (x0 : Vec Ideal S512x128 .f32) (xo4 : Vec Ideal S1x128 .f32) (n : Fin 128 → ℕ) (hn : ∀ l, n l ≤ 16384) (hv : ∀ l, xo4 (ix2 0 l) = ((n l : ℕ) : EReal)) (l : Fin 128) :
    out0_B_4 c i arg1 harg1 arg2 harg2 arg3 harg3 arg4 harg4 arg5 harg5 hc0 x0 xo4 (ix2 0 l) = ((n l + ∑ k : Fin 512, ind (row x0 k) l : ℕ) : EReal) := by
  rw [← count_at x0 l xo4 (n l) (hv l)]
  unfold out0_B_4
  frame_out
  rfl

end Cert.RouteBody

end
-- ==== Proof.RouteRef.lean ====
/-
  What the router's reference computes, at a row and column.
-/
module

public import proofs.«01_k».proof.Proof.Gen.Reference7Ideal.Run
public import proofs.«01_k».proof.Proof.RouteMath
public import Idealize.ShloMosaic.Lib.Pipeline.ValueKit
public import Idealize.ShloMosaic.Lib.Pointwise
public import Idealize.ShloMosaic.Lib.WordCmp

@[expose] public section

set_option maxRecDepth 16384

noncomputable section

namespace Cert.RouteRef

open Cert.Reference7Ideal Cert.Reference7Ideal.Gen
open Idealize.ShloMosaic Idealize.ShloMosaic.TcCoe Idealize.SL.Sem Idealize.ShloMosaic.StableHlo
open Cert.RouteMath

theorem bot : Ideal.ofBits .f32 4286578688#32 = ⊥ := by
  simp [Ideal.ofBits, Ideal.ieee]

/-- The four greatest of a row's experts. -/
def TOP (x : FVec Ideal S16384x128 .f32) : FVec Ideal S16384x4 .f32 × IVec S16384x4 32 :=
  Host.topK S16384x4 1 (FloatOps.cmpfTotal .gt) (extractStridedSlice S16384x32 ![0, 0] x slices_S16384x128_S16384x32_0_0) sliceFits_S16384x32_S16384x4

/-- Their softmax. -/
def SOFT (v : FVec Ideal S16384x4 .f32) : FVec Ideal S16384x4 .f32 :=
  Host.divf (Host.exp (subf v (broadcastInDim S16384x4 ![0, 1] bcast_S16384x1_S16384x4_0_1 (broadcastInDim S16384x1 ![0] bcast_S16384_S16384x1_0 (Host.reduce FloatOps.maximumf v (constant S_ .f32 0xFF800000#32) reducesTo_S16384x4_S16384_d1 h_S_))))) (broadcastInDim S16384x4 ![0, 1] bcast_S16384x1_S16384x4_0_1 (broadcastInDim S16384x1 ![0] bcast_S16384_S16384x1_0 (Host.reduceAdd (Host.exp (subf v (broadcastInDim S16384x4 ![0, 1] bcast_S16384x1_S16384x4_0_1 (broadcastInDim S16384x1 ![0] bcast_S16384_S16384x1_0 (Host.reduce FloatOps.maximumf v (constant S_ .f32 0xFF800000#32) reducesTo_S16384x4_S16384_d1 h_S_))))) (constant S_ .f32 0x00000000#32) reducesTo_S16384x4_S16384_d1 h_S_)))

/-- A row. -/
def row (x : FVec Ideal S16384x128 .f32) (r : Fin 16384) : Fin 128 → EReal := fun l => x (ix2 r l)

variable (x : FVec Ideal S16384x128 .f32) (r : Fin 16384) (j : Fin 4)

theorem along_row (p k : Fin 32) : (ix2 r p : S16384x32.Idx).along 1 k 0 = r := rfl

theorem along_lane (p k : Fin 32) : (ix2 r p : S16384x32.Idx).along 1 k 1 = k := rfl

theorem order_eq : (fun k k' : Fin 32 => (FloatOps.cmpfTotal (F := Ideal) .gt (x (ix2 r ⟨k.val, by omega⟩)) (x (ix2 r ⟨k'.val, by omega⟩)) : BitVec 1) == 1#1)
    = before fun k : Fin 32 => row x r ⟨k.val, by omega⟩ := rfl

theorem top_at (hf : ∀ l : Fin 128, l.val < 32 → row x r l ≠ ⊥) : (TOP x).2 (ix2 r j) = BitVec.ofNat 32 (pick (row x r) j.val).val := by
  refine Eq.trans ?_ (congrArg (fun k : Fin 32 => BitVec.ofNat 32 k.val) (before_lane hf j))
  pointwise [TOP, Host.topK, Host.sort2]
  simp only [along_row, along_lane]
  rw [order_eq x r]
  rfl

theorem val_at (hf : ∀ l : Fin 128, l.val < 32 → row x r l ≠ ⊥) : (TOP x).1 (ix2 r j) = row x r (pick (row x r) j.val) := by
  refine Eq.trans ?_ (congrArg (fun k : Fin 32 => row x r ⟨k.val, by omega⟩) (before_lane hf j))
  pointwise [TOP, Host.topK, Host.sort2]
  simp only [along_row, along_lane]
  exact congrArg (fun B : Fin 32 → Fin 32 → Bool => x (ix2 r ⟨(sortedFrom B ⟨j.val, by omega⟩).val, by omega⟩)) (order_eq x r)

theorem soft_at (v : FVec Ideal S16384x4 .f32) : SOFT v (ix2 r j)
    = Ideal.div (Ideal.exp (v (ix2 r j) - Finset.univ.fold max (Ideal.ofBits .f32 4286578688#32) (fun i : Fin 4 => v (ix2 r i))))
      (∑ i : Fin 4, Ideal.exp (v (ix2 r i) - Finset.univ.fold max (Ideal.ofBits .f32 4286578688#32) (fun i : Fin 4 => v (ix2 r i)))) := by
  pointwise [SOFT]

/-- A row's gates. -/
theorem gate_at (hf : ∀ l : Fin 128, l.val < 32 → row x r l ≠ ⊥) : SOFT (TOP x).1 (ix2 r j)
    = Ideal.div (e (row x r) j.val) (e (row x r) 0 + e (row x r) 1 + e (row x r) 2 + e (row x r) 3) := by
  rw [soft_at]
  have hv : ∀ i : Fin 4, (TOP x).1 (ix2 r i) = row x r (pick (row x r) i.val) := fun i => val_at x r i hf
  have hE : ∀ i : Fin 4, Ideal.exp ((TOP x).1 (ix2 r i) - Finset.univ.fold max (Ideal.ofBits .f32 4286578688#32) (fun i : Fin 4 => (TOP x).1 (ix2 r i))) = e (row x r) i.val := by
    intro i
    simp only [hv]
    rw [fold_pick hf _ bot]
    unfold e
    rw [rest_pick hf i.val i.isLt, rest_pick hf 0 (by decide)]
  simp only [hE]
  rw [Fin.sum_univ_four]
  rfl

end Cert.RouteRef

end
-- ==== Proof.RouteTally.lean ====
/-
  How many rows take a lane, counted over an array's rows and over the rows of its blocks.
-/
module

public import proofs.«01_k».proof.Proof.RouteRef
public import proofs.«01_k».proof.Proof.RouteBody
public import Idealize.ShloMosaic.Lib.Routing.OpsOne

@[expose] public section

set_option maxRecDepth 16384

noncomputable section

namespace Cert.RouteTally

open Cert.Reference7Ideal Cert.Reference7Ideal.Gen
open Idealize.ShloMosaic Idealize.ShloMosaic.TcCoe Idealize.SL.Sem Idealize.ShloMosaic.StableHlo
open Cert.RouteMath

variable (x : FVec Ideal S16384x128 .f32) (l : Fin 128)

/-- One where a row takes the lane. -/
def taken (R : ℕ) : ℕ := if h : R < 16384 then ind (RouteRef.row x ⟨R, h⟩) l else 0

/-- How many of the first `T` rows take the lane. -/
def upto (T : ℕ) : ℕ := ∑ R ∈ Finset.range T, taken x l R

theorem taken_le (R : ℕ) : taken x l R ≤ 1 := by
  unfold taken
  split
  · exact ind_le _ _
  · exact Nat.zero_le _

theorem taken_at (R : Fin 16384) : taken x l R.val = ind (RouteRef.row x R) l := dif_pos R.isLt

theorem upto_le (T : ℕ) : upto x l T ≤ T := by
  refine (Finset.sum_le_sum fun R _ => taken_le x l R).trans ?_
  simp

theorem upto_succ (T : ℕ) : upto x l (T + 1) = upto x l T + taken x l T := Finset.sum_range_succ _ _

/-- The rows of a block before `r`, after the rows of the blocks before. -/
theorem upto_add (T r : ℕ) (hr : r ≤ 512) : (∑ k : Fin 512, if k.val < r then taken x l (T + k.val) else 0) + upto x l T = upto x l (T + r) := by
  unfold upto
  rw [Finset.sum_range_add, Nat.add_comm]
  refine congrArg (fun s => (∑ R ∈ Finset.range T, taken x l R) + s) ?_
  rw [Fin.sum_univ_eq_sum_range (fun k => if k < r then taken x l (T + k) else 0) 512, ← Finset.sum_filter]
  refine Finset.sum_congr ?_ fun _ _ => rfl
  ext k
  simp only [Finset.mem_filter, Finset.mem_range]
  omega

/-- All the rows of a block. -/
theorem upto_block (T : ℕ) : upto x l T + (∑ k : Fin 512, taken x l (T + k.val)) = upto x l (T + 512) := by
  rw [← upto_add x l T 512 le_rfl, Nat.add_comm]
  refine congrArg (fun s => s + upto x l T) ?_
  exact Finset.sum_congr rfl fun k _ => (if_pos k.isLt).symm

/-- All the rows of the array. -/
theorem upto_all : upto x l 16384 = ∑ R : Fin 16384, ind (RouteRef.row x R) l := by
  unfold upto
  rw [← Fin.sum_univ_eq_sum_range (fun R => taken x l R) 16384]
  exact Finset.sum_congr rfl fun R _ => taken_at x l R

/-- The sum of a list's values is the sum over the range. -/
theorem sum_list (f : ℕ → ℕ) (n : ℕ) : ((List.range n).map f).sum = ∑ i ∈ Finset.range n, f i := by
  induction n with
  | zero => rfl
  | succ n ih => rw [List.range_succ, List.map_append, List.sum_append, ih, Finset.sum_range_succ]; simp

/-- Which lane each pick is. -/
def PICKED (i : IVec S16384x4 32) : IVec S16384x4x128 1 := cmpi .eq (broadcastInDim S16384x4x128 ![0, 1, 2] bcast_S16384x4x1_S16384x4x128_0_1_2 (broadcastInDim S16384x4x1 ![0, 1] bcast_S16384x4_S16384x4x1_0_1 i)) (broadcastInDim S16384x4x128 ![0, 1, 2] bcast_S1x1x128_S16384x4x128_0_1_2 (broadcastInDim S1x1x128 ![2] bcast_S128_S1x1x128_2 (iotaInDim S128 32 0)))

/-- The lanes a row picks. -/
def CHOSEN (i : IVec S16384x4 32) : IVec S16384x128 1 := Host.reduce IntOp.ori (PICKED i) (constantI S_ 1 0#1) reducesTo_S16384x4x128_S16384x128_d1 h_S_

/-- How many rows up to each pick each lane, less one. -/
def EARLIER (i : IVec S16384x4 32) : IVec S16384x128 32 := subi (Host.reduceWindow IntOp.addi ![16384, 1] ![1, 1] ![16383, 0] ![0, 0] (extui 32 (CHOSEN i) natLt_1_32) (broadcastInDim S_ ![] bcast_S_S_ (constantI S_ 32 0#32)) reduceWindows_S16384x128_S16384x128_w16384s1p16383_0_w1s1p0_0 h_S_) (broadcastInDim S16384x128 ![] bcast_S_S16384x128 (constantI S_ 32 1#32))

/-- The place of each pick among its lane's. -/
def POS (i : IVec S16384x4 32) : IVec S16384x4 32 := Host.reduce IntOp.addi (select (PICKED i) (broadcastInDim S16384x4x128 ![0, 1, 2] bcast_S16384x1x128_S16384x4x128_0_1_2 (broadcastInDim S16384x1x128 ![0, 2] bcast_S16384x128_S16384x1x128_0_2 (EARLIER i))) (broadcastInDim S16384x4x128 ![] bcast_S_S16384x4x128 (id (constantI S_ 32 0#32)))) (constantI S_ 32 0#32) reducesTo_S16384x4x128_S16384x4_d2 h_S_

/-- How many rows pick each lane. -/
def COUNT (i : IVec S16384x4 32) : FVec Ideal S1x128 .f32 := broadcastInDim S1x128 ![1] bcast_S128_S1x128_1 (Host.reduceAdd (uitofp .f32 (CHOSEN i)) (constant S_ .f32 0x00000000#32) reducesTo_S16384x128_S128_d0 h_S_)

variable (i : IVec S16384x4 32) (hi : ∀ (R : Fin 16384) (j : Fin 4), i (ix2 R j) = BitVec.ofNat 32 (pick (RouteRef.row x R) j.val).val)

include hi

theorem picked_at (R : Fin 16384) (j : Fin 4) : PICKED i (ix3 R j l) = if l = pick (RouteRef.row x R) j.val then 1#1 else 0#1 := by
  pointwise [PICKED]
  rw [hi, RouteBody.lane_eq]
  exact if_congr eq_comm rfl rfl

omit hi in
theorem fold_four (b : Fin 4 → BitVec 1) : Finset.univ.fold IntOp.ori 0#1 b = b 0 ||| (b 1 ||| (b 2 ||| (b 3 ||| 0#1))) := rfl

omit hi in
theorem any_four (p q r s : Prop) [Decidable p] [Decidable q] [Decidable r] [Decidable s] :
    (if p then 1#1 else 0#1) ||| ((if q then 1#1 else 0#1) ||| ((if r then 1#1 else 0#1) ||| ((if s then 1#1 else 0#1) ||| 0#1)))
      = BitVec.ofNat 1 (if p ∨ q ∨ r ∨ s then 1 else 0) := by
  by_cases hp : p <;> by_cases hq : q <;> by_cases hr : r <;> by_cases hs : s <;> simp [hp, hq, hr, hs]

theorem chosen_at (R : Fin 16384) : CHOSEN i (ix2 R l) = BitVec.ofNat 1 (taken x l R.val) := by
  pointwise [CHOSEN]
  refine (fold_four _).trans ?_
  rw [picked_at x l i hi, picked_at x l i hi, picked_at x l i hi, picked_at x l i hi, taken_at, ind_eq]
  show (if l = pick (RouteRef.row x R) 0 then 1#1 else 0#1) ||| ((if l = pick (RouteRef.row x R) 1 then 1#1 else 0#1) |||
    ((if l = pick (RouteRef.row x R) 2 then 1#1 else 0#1) ||| ((if l = pick (RouteRef.row x R) 3 then 1#1 else 0#1) ||| 0#1))) = _
  exact any_four _ _ _ _

omit hi in
theorem small (n : ℕ) (hn : n ≤ 1) : (BitVec.ofNat 1 n).setWidth 32 = BitVec.ofNat 32 n := by
  interval_cases n <;> rfl

theorem sum_at (R : Fin 16384) : Host.reduceWindow IntOp.addi ![16384, 1] ![1, 1] ![16383, 0] ![0, 0] (extui 32 (CHOSEN i) natLt_1_32) (broadcastInDim S_ ![] bcast_S_S_ (constantI S_ 32 0#32)) reduceWindows_S16384x128_S16384x128_w16384s1p16383_0_w1s1p0_0 h_S_ (ix2 R l)
    = BitVec.ofNat 32 (upto x l (R.val + 1)) := by
  refine (Routing.cumsum_rows (R := 16384) (Rm1 := 16383) (C := 128) (by norm_num) (extui 32 (CHOSEN i) natLt_1_32)
    (fun a c => if h : c < 128 then taken x ⟨c, h⟩ a else 0) (fun a c => ?_) _ rfl _ _ R l).trans ?_
  · rw [dif_pos c.isLt]
    show (CHOSEN i (ix2 a c)).setWidth 32 = _
    rw [chosen_at x c i hi]
    exact small _ (taken_le _ _ _)
  · refine congrArg (BitVec.ofNat 32) ?_
    rw [sum_list]
    refine Finset.sum_congr rfl fun a _ => ?_
    exact dif_pos l.isLt

theorem earlier_at (R : Fin 16384) (hl : taken x l R.val = 1) : EARLIER i (ix2 R l) = BitVec.ofNat 32 (upto x l R.val) := by
  refine (congrArg (fun b : BitVec 32 => b - 1#32) (sum_at x l i hi R)).trans ?_
  rw [upto_succ, hl, BitVec.ofNat_add]
  exact BitVec.add_sub_cancel _ _

omit hi in
theorem fold_words (f : Fin 128 → BitVec 32) : Finset.univ.fold IntOp.addi 0#32 f = ∑ k, f k := rfl

/-- A pick's place is the number of earlier rows with the same pick. -/
theorem pos_at (R : Fin 16384) (j : Fin 4) : POS i (ix2 R j) = BitVec.ofNat 32 (upto x (pick (RouteRef.row x R) j.val) R.val) := by
  rw [← earlier_at x (pick (RouteRef.row x R) j.val) i hi R (by rw [taken_at, ind_pick])]
  pointwise [POS]
  refine (fold_words _).trans ?_
  rw [Finset.sum_eq_single (pick (RouteRef.row x R) j.val)]
  · rw [picked_at x _ i hi, if_pos rfl]; rfl
  · intro k _ hk
    rw [picked_at x _ i hi, if_neg hk]; rfl
  · intro h
    exact absurd (Finset.mem_univ _) h

omit hi in
theorem mark (n : ℕ) (hn : n ≤ 1) : (FloatOps.uitofp (F := Ideal) .f32 (BitVec.ofNat 1 n) : EReal) = ((n : ℕ) : EReal) := by
  show ((((BitVec.ofNat 1 n).toNat : ℝ)) : EReal) = _
  interval_cases n <;> simp

/-- A lane's count is the number of rows that pick it. -/
theorem count_at : COUNT i (ix2 0 l) = ((upto x l 16384 : ℕ) : EReal) := by
  pointwise [COUNT]
  simp only [chosen_at x l i hi]
  unfold upto
  rw [← Fin.sum_univ_eq_sum_range (fun R => taken x l R) 16384, Nat.cast_sum]
  exact Finset.sum_congr rfl fun R _ => mark _ (taken_le _ _ _)

end Cert.RouteTally

end
-- ==== Proof.RouteFinal.lean ====
/-
  The router's results are its reference's, where no expert's logit is minus infinity.
-/
module

public import proofs.«01_k».proof.Defs
public import proofs.«01_k».proof.Proof.RouteStore
public import proofs.«01_k».proof.Proof.RouteTally
public import proofs.«01_k».proof.Proof.Gen.Pre_above_bottom
public import Idealize.ShloMosaic.Adequacy
public import Idealize.ShloMosaic.Init
public import Idealize.ShloMosaic.Lib.Claim
public import Idealize.ShloMosaic.Lib.Quiescent
public import Idealize.ShloMosaic.Lib.ReduceAll

@[expose] public section

set_option maxRecDepth 16384

noncomputable section

open Idealize.ShloMosaic Idealize.ShloMosaic.TcCoe Idealize.SL.Sem
open Idealize.ShloMosaic.Pipeline (Dat)

namespace Cert.RouteFinal

open Cert.Kernel7Ideal Cert.Kernel7Ideal.Gen
open Cert.RouteMath

/-- The blocks each grid point reads and writes. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] :=
  (by decide +kernel : ∀ t : Fin grid0.N, _)

variable (m : (ℓ : Loc nD τ sig) → Buf (Elt Ideal) ℓ) (c : Dev nD) (t : Fin cfg0.N)

/-- Row `r` of block `t`. -/
def row (t : Fin cfg0.N) (r : Fin 512) : Fin 16384 := ⟨t.val * 512 + r.val, by have : t.val < 32 := t.isLt; omega⟩

theorem lg_at (r : Fin 512) (k : Fin 128) : iblk m c 0 t (ix2 r k) = m ((c : Thread nD τ).loc main_arg0) (ix2 (row t r) k) := by
  blk_ext [iblk, V, idx t, row]

/-- A block's row is the array's. -/
theorem row_blk (r : Fin 512) : RouteBody.row (iblk m c 0 t) r = RouteRef.row (m ((c : Thread nD τ).loc main_arg0)) (row t r) :=
  funext fun k => lg_at m c t r k

theorem id_emb (r : Fin 512) (q : Fin 4) : ((cfg0.win 1).blk t).view.emb (ix2 r q) = ix2 (row t r) q := by
  blk_ext [idx t, row]

theorem gate_emb (r : Fin 512) (q : Fin 4) : ((cfg0.win 2).blk t).view.emb (ix2 r q) = ix2 (row t r) q := by
  blk_ext [idx t, row]

theorem pos_emb (r : Fin 512) (q : Fin 4) : ((cfg0.win 3).blk t).view.emb (ix2 r q) = ix2 (row t r) q := by
  blk_ext [idx t, row]

theorem count_emb (q : Fin 1) (l : Fin 128) : ((cfg0.win 4).blk t).view.emb (ix2 q l) = ix2 q l := by
  blk_ext [idx t]

/-- The array's first rows that take a lane. -/
def upto (l : Fin 128) (T : ℕ) : ℕ := RouteTally.upto (m ((c : Thread nD τ).loc main_arg0)) l T

theorem ind_blk (k : Fin 512) (l : Fin 128) : ind (RouteBody.row (iblk m c 0 t) k) l = RouteTally.taken (m ((c : Thread nD τ).loc main_arg0)) l (t.val * 512 + k.val) := by
  rw [row_blk]
  exact (RouteTally.taken_at _ l (row t k)).symm

theorem prior_blk (r : Fin 512) (l : Fin 128) : RouteBody.prior (iblk m c 0 t) r l + upto m c l (t.val * 512) = upto m c l (t.val * 512 + r.val) := by
  refine Eq.trans ?_ (RouteTally.upto_add _ l (t.val * 512) r.val r.isLt.le)
  refine congrArg (fun s => s + upto m c l (t.val * 512)) ?_
  exact Finset.sum_congr rfl fun k _ => if_congr Iff.rfl (ind_blk m c t k l) rfl

theorem sum_blk (l : Fin 128) : upto m c l (t.val * 512) + (∑ k : Fin 512, ind (RouteBody.row (iblk m c 0 t) k) l) = upto m c l (t.val * 512 + 512) := by
  refine Eq.trans ?_ (RouteTally.upto_block _ l (t.val * 512))
  refine congrArg (fun s => upto m c l (t.val * 512) + s) ?_
  exact Finset.sum_congr rfl fun k _ => ind_blk m c t k l

theorem upto_zero (l : Fin 128) : upto m c l 0 = 0 := rfl

/-- What the blocks so far leave as counts. -/
theorem count_blk : ∀ (n : ℕ) (t : Fin cfg0.N), t.val = n → ∀ l : Fin 128,
    (outsAt0 m c t.val t.isLt).2.2.2 (ix2 0 l) = ((upto m c l (t.val * 512 + 512) : ℕ) : EReal)
  | 0, t, hn, l => by
    have h0 : t.val % 32 = 0 := by omega
    rw [outsAt0_A m c t h0, ← sum_blk, show upto m c l (t.val * 512) = 0 by rw [hn]; rfl]
    exact RouteBody.out_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) l
  | n + 1, t, hn, l => by
    have ht : t.val < 32 := t.isLt
    have h0 : ¬ t.val % 32 = 0 := by omega
    have hp : (t.val - 1) * 512 + 512 = t.val * 512 := by omega
    rw [outsAt0_B m c t h0, ← sum_blk]
    dsimp only
    exact RouteBody.out_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (outsAt0 m c (t.val - 1) (Nat.lt_of_le_of_lt (Nat.sub_le _ _) t.isLt)).2.2.2
      (fun l => upto m c l (t.val * 512)) (fun l => (RouteTally.upto_le _ l _).trans (by omega))
      (fun l => hp ▸ count_blk n ⟨t.val - 1, Nat.lt_of_le_of_lt (Nat.sub_le _ _) t.isLt⟩ (by show t.val - 1 = n; omega) l) l

/-- What a block leaves as places, first or not. -/
theorem pos_blk (r : Fin 512) (j : Fin 4) : (outsAt0 m c t.val t.isLt).2.2.1 (ix2 r j)
    = BitVec.ofNat 32 (upto m c (pick (RouteRef.row (m ((c : Thread nD τ).loc main_arg0)) (row t r)) j.val) (t.val * 512 + r.val)) := by
  rw [← row_blk, ← prior_blk]
  by_cases h0 : t.val % 32 = 0
  · have ht : t.val < 32 := t.isLt
    have hz : t.val = 0 := by omega
    rw [outsAt0_A m c t h0, show t.val * 512 = 0 by omega, upto_zero]
    exact RouteBody.out_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) r j
  · have ht : t.val < 32 := t.isLt
    have hp : (t.val - 1) * 512 + 512 = t.val * 512 := by omega
    rw [outsAt0_B m c t h0]
    dsimp only
    exact RouteBody.out_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (outsAt0 m c (t.val - 1) (Nat.lt_of_le_of_lt (Nat.sub_le _ _) t.isLt)).2.2.2
      (fun l => upto m c l (t.val * 512)) (fun l => (RouteTally.upto_le _ l _).trans (by omega))
      (fun l => hp ▸ count_blk m c (t.val - 1) ⟨t.val - 1, Nat.lt_of_le_of_lt (Nat.sub_le _ _) t.isLt⟩ rfl l) r j

/-- What a block leaves as experts, first or not. -/
theorem id_blk (r : Fin 512) (j : Fin 4) :
    (outsAt0 m c t.val t.isLt).1 (ix2 r j) = BitVec.ofNat 32 (pick (RouteRef.row (m ((c : Thread nD τ).loc main_arg0)) (row t r)) j.val).val := by
  rw [← row_blk]
  by_cases h0 : t.val % 32 = 0
  · rw [outsAt0_A m c t h0]
    exact RouteBody.out_A_1 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) r j
  · rw [outsAt0_B m c t h0]
    dsimp only
    exact RouteBody.out_B_1 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (outsAt0 m c (t.val - 1) (Nat.lt_of_le_of_lt (Nat.sub_le _ _) t.isLt)).2.2.2 r j

/-- What a block leaves as gates, first or not. -/
theorem gate_blk (r : Fin 512) (j : Fin 4) :
    (outsAt0 m c t.val t.isLt).2.1 (ix2 r j) = Ideal.div (e (RouteRef.row (m ((c : Thread nD τ).loc main_arg0)) (row t r)) j.val)
      (e (RouteRef.row (m ((c : Thread nD τ).loc main_arg0)) (row t r)) 0 + e (RouteRef.row (m ((c : Thread nD τ).loc main_arg0)) (row t r)) 1
        + e (RouteRef.row (m ((c : Thread nD τ).loc main_arg0)) (row t r)) 2 + e (RouteRef.row (m ((c : Thread nD τ).loc main_arg0)) (row t r)) 3) := by
  rw [← row_blk]
  by_cases h0 : t.val % 32 = 0
  · rw [outsAt0_A m c t h0]
    exact RouteBody.out_A_2 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) r j
  · rw [outsAt0_B m c t h0]
    dsimp only
    exact RouteBody.out_B_2 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (outsAt0 m c (t.val - 1) (Nat.lt_of_le_of_lt (Nat.sub_le _ _) t.isLt)).2.2.2 r j

/-- No expert's logit is minus infinity. -/
def Above : Prop := ∀ (R : Fin 16384) (l : Fin 128), l.val < 32 → RouteRef.row (m ((c : Thread nD τ).loc main_arg0)) R l ≠ ⊥

/-- The experts. -/
theorem id_final (h : Above m c) : (dats m 0 c).arrAt 1 cfg0.N = (RouteRef.TOP (m ((c : Thread nD τ).loc main_arg0))).2 := by
  refine (dats m 0 c).arrAt_eq_of_covers 1 _ (by decide +kernel) fun t _ y => ?_
  blk_simp
  rw [after0_1]
  idx_vars y
  refine (id_blk m c t _ _).trans ?_
  refine Eq.trans ?_ (congrArg (RouteRef.TOP (m ((c : Thread nD τ).loc main_arg0))).2 (id_emb t _ _)).symm
  exact (RouteRef.top_at _ _ _ (h _)).symm

/-- The gates. -/
theorem gate_final (h : Above m c) : (dats m 0 c).arrAt 2 cfg0.N = RouteRef.SOFT (RouteRef.TOP (m ((c : Thread nD τ).loc main_arg0))).1 := by
  refine (dats m 0 c).arrAt_eq_of_covers 2 _ (by decide +kernel) fun t _ y => ?_
  blk_simp
  rw [after0_2]
  idx_vars y
  refine (gate_blk m c t _ _).trans ?_
  refine Eq.trans ?_ (congrArg (RouteRef.SOFT (RouteRef.TOP (m ((c : Thread nD τ).loc main_arg0))).1) (gate_emb t _ _)).symm
  exact (RouteRef.gate_at _ _ _ (h _)).symm

/-- The places. -/
theorem pos_final (h : Above m c) : (dats m 0 c).arrAt 3 cfg0.N = RouteTally.POS (RouteRef.TOP (m ((c : Thread nD τ).loc main_arg0))).2 := by
  refine (dats m 0 c).arrAt_eq_of_covers 3 _ (by decide +kernel) fun t _ y => ?_
  blk_simp
  rw [after0_3]
  idx_vars y
  refine (pos_blk m c t _ _).trans ?_
  refine Eq.trans ?_ (congrArg (RouteTally.POS (RouteRef.TOP (m ((c : Thread nD τ).loc main_arg0))).2) (pos_emb t _ _)).symm
  exact (RouteTally.pos_at _ _ (fun R j => RouteRef.top_at _ R j (h R)) _ _).symm

/-- The block whose counts are written back is the last. -/
theorem last : ∀ t : Fin cfg0.N, (cfg0.win 4).flush t = true → t.val = 31 :=
  (by decide +kernel : ∀ t : Fin grid0.N, win0_4.flush t = true → t.val = 31)

/-- The counts. -/
theorem count_final (h : Above m c) : (dats m 0 c).arrAt 4 cfg0.N = RouteTally.COUNT (RouteRef.TOP (m ((c : Thread nD τ).loc main_arg0))).2 := by
  refine (dats m 0 c).arrAt_eq_of_covers 4 _ (by decide +kernel) fun t hf y => ?_
  have ht := last t hf
  blk_simp
  rw [after0_4]
  idx_vars y
  obtain rfl : y0 = 0 := Subsingleton.elim _ _
  refine (count_blk m c _ t rfl _).trans ?_
  refine Eq.trans ?_ (congrArg (RouteTally.COUNT (RouteRef.TOP (m ((c : Thread nD τ).loc main_arg0))).2) (count_emb t _ _)).symm
  rw [ht]
  exact (RouteTally.count_at _ _ _ (fun R j => RouteRef.top_at _ R j (h R))).symm

/-- What the precondition says. -/
theorem above (h : Cert.Pre_above_bottom.fn (F := Ideal) (m ((c : Thread nD τ).loc main_arg0)) = fun _ => 1#1) : Above m c := by
  intro R l hl
  haveI : Subsingleton Cert.Pre_above_bottom.S_.Idx := ⟨fun a b => funext fun k => k.elim0⟩
  have h1 := Host.reduce_andi_all _ _ _ _ _ (congrFun h ix0) (ix2 R ⟨l.val, hl⟩)
  intro hb
  revert h1
  pointwise
  rw [show m ((c : Thread nD τ).loc main_arg0) (ix2 R l) = (⊥ : EReal) from hb, decide_eq_false (not_lt_bot)]
  decide

/-- The reference runs, leaves its argument as it was, and ends with every counter at zero. -/
theorem reference_frame : quiescent_Reference7Ideal (hReference7Ideal := Cert.Reference7Ideal.Gen.facts) := fun m ρ _ =>
  (θ_run _ _ _).mono (fun r h => ⟨fun c => (h c).2.2.2.2, Idealize.ShloMosaic.sem_eq_zero_of_no_sems (by decide) r.2⟩)
    (Cert.Reference7Ideal.Value.run (F := Ideal) m ρ)

/-- The kernel's results are the reference's, where no expert's logit is minus infinity. -/
theorem equal_results : algebraic_Kernel7Ideal_Reference7Ideal_pre_above_bottom (hKernel7Ideal := Cert.Kernel7Ideal.Gen.facts)
    (hReference7Ideal := Cert.Reference7Ideal.Gen.facts) (hPre_above_bottom := Cert.Pre_above_bottom.Gen.facts) := by
  intro m g m' g' hpre hagree
  refine ⟨fun c => (RouteRef.TOP (m ((c : Thread nD τ).loc main_arg0))).2, fun c => RouteRef.SOFT (RouteRef.TOP (m ((c : Thread nD τ).loc main_arg0))).1,
    fun c => RouteTally.POS (RouteRef.TOP (m ((c : Thread nD τ).loc main_arg0))).2, fun c => RouteTally.COUNT (RouteRef.TOP (m ((c : Thread nD τ).loc main_arg0))).2, ?_, ?_⟩
  · refine (θ_run _ _ _).mono (fun r h c => ?_) (Cert.Kernel7Ideal.Value.run_blocks m g)
    obtain ⟨h1, h2, h3, h4, hr⟩ := h c
    have ha := above m c (hpre c)
    exact ⟨h1.trans (id_final m c ha), h2.trans (gate_final m c ha), h3.trans (pos_final m c ha), h4.trans (count_final m c ha), hr⟩
  · refine (θ_run _ _ _).mono (fun r h c => ?_) (Cert.Reference7Ideal.Value.run (F := Ideal) m' g')
    have a0 := hagree c
    obtain ⟨h1, h2, h3, h4, hr⟩ := h c
    beta_reduce
    rw [← a0]
    exact ⟨h1, h2, h3, h4, hr⟩

end Cert.RouteFinal

end
-- ==== Proof.lean ====
/-
  The certificate's claims, from the frames, the named constant and the equality of the results.
-/
module

public import proofs.«01_k».proof.Proof.Final
public import proofs.«01_k».proof.Proof.Gen.Kernel.Frame
public import proofs.«01_k».proof.Proof.UpBitsFrame
public import proofs.«01_k».proof.Proof.UpFinal
public import proofs.«01_k».proof.Proof.DownBitsFrame
public import proofs.«01_k».proof.Proof.DownFinal
public import proofs.«01_k».proof.Proof.Gen.Reference3Ideal.Run
public import proofs.«01_k».proof.Proof.Gen.Pre_routed_down
public import proofs.«01_k».proof.Proof.Gen.On_used_rows_down
public import proofs.«01_k».proof.Proof.Gen.Kernel4.Frame
public import proofs.«01_k».proof.Proof.InFinal
public import proofs.«01_k».proof.Proof.Gen.Kernel4Ideal.Value
public import proofs.«01_k».proof.Proof.Gen.Reference4Ideal.Run
public import proofs.«01_k».proof.Proof.LatFinal
public import proofs.«01_k».proof.Proof.Gen.Kernel5.Frame
public import proofs.«01_k».proof.Proof.Gen.Kernel5Ideal.Value
public import proofs.«01_k».proof.Proof.Gen.Reference5Ideal.Run
public import proofs.«01_k».proof.Proof.OutFinal
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Pre_finite_router
public import proofs.«01_k».proof.Proof.Gen.Reference2Ideal.Run
public import proofs.«01_k».proof.Proof.RouteFinal
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Pre_above_bottom
public import proofs.«01_k».proof.Proof.Gen.Pre_routed
public import proofs.«01_k».proof.Proof.Gen.On_used_rows
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

/-- The reference runs, leaves its arguments as they were, and ends with every counter at zero. -/
theorem reference_frame : quiescent_ReferenceIdeal (hReferenceIdeal := Cert.ReferenceIdeal.Gen.facts) := fun m ρ _ =>
  (θ_run _ _ _).mono (fun r h => ⟨fun c => (h c).2, Idealize.ShloMosaic.sem_eq_zero_of_no_sems (by decide) r.2⟩)
    (Cert.ReferenceIdeal.Value.run (F := Ideal) m ρ)

/-- The idealized kernel and the idealized reference end with equal results, where queries and keys are finite. -/
theorem equal_results : algebraic_KernelIdeal_ReferenceIdeal_pre_finite_scores (hKernelIdeal := Cert.KernelIdeal.Gen.facts)
    (hReferenceIdeal := Cert.ReferenceIdeal.Gen.facts) (hPre_finite_scores := Cert.Mla.preFacts) := by
  haveI := Cert.Mla.preFacts
  pair_intro
  · run_from Cert.KernelIdeal.Value.run_blocks m g
  · run_from Cert.ReferenceIdeal.Value.run m' g'
    have hfin := Cert.Mla.finite_entries (h := hpre c)
    refine (Cert.Mla.Ref.res_eq m' c).trans ?_
    rw [(hagree c).1, (hagree c).2.1, (hagree c).2.2]
    exact (Cert.Mla.final m c hfin.1 hfin.2).symm

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Mla.preFacts, Cert.Pre_routed.Gen.facts, Cert.Pre_routed_down.Gen.facts, Cert.Pre_finite_router.Gen.facts, Cert.Pre_above_bottom.Gen.facts,
    Cert.On_used_rows.Gen.facts, Cert.On_used_rows_down.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial,
    Cert.UpBits.frame, Cert.UpIdeal.frame, Cert.UpFinal.reference_frame, fun m ρ _ => Cert.UpFinal.reference_frame m ρ trivial,
    Cert.DownBits.frame, Cert.DownIdeal.frame, Cert.DownFinal.reference_frame, fun m ρ _ => Cert.DownFinal.reference_frame m ρ trivial,
    fun m ρ _ => Cert.Kernel4.Gen.frame m ρ, fun m ρ _ => Cert.Kernel4Ideal.Gen.frame m ρ, Cert.InFinal.reference_frame,
    fun m ρ _ => Cert.Kernel5.Gen.frame m ρ, fun m ρ _ => Cert.Kernel5Ideal.Gen.frame m ρ, Cert.LatFinal.reference_frame,
    fun m ρ _ => Cert.Kernel6.Gen.frame m ρ, fun m ρ _ => Cert.Kernel6Ideal.Gen.frame m ρ, fun m ρ _ => Cert.Kernel6Ideal.Gen.frame m ρ,
    Cert.OutFinal.reference_frame, fun m ρ _ => Cert.OutFinal.reference_frame m ρ trivial,
    fun m ρ _ => Cert.Kernel7.Gen.frame m ρ, fun m ρ _ => Cert.Kernel7Ideal.Gen.frame m ρ, fun m ρ _ => Cert.Kernel7Ideal.Gen.frame m ρ,
    Cert.RouteFinal.reference_frame, fun m ρ _ => Cert.RouteFinal.reference_frame m ρ trivial,
    IdealRules.named_const.statement Cert.KernelIdeal.κ "mask" .f32 0xF149F2CA#32 ⊥ rfl, equal_results, trivial, Cert.UpFinal.equal_results,
    trivial, Cert.DownFinal.equal_results,
    trivial, Cert.InFinal.equal_results,
    trivial, Cert.LatFinal.equal_results,
    trivial, Cert.OutFinal.equal_results,
    trivial, Cert.RouteFinal.equal_results⟩

end Cert.Proof

end
